-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scans [hPre_finite_scans : Cert.Pre_finite_scans.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scans.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scans [hPre_finite_scans : Cert.Pre_finite_scans.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scans.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15))) = (fun _ => 1#1)

def Pre_Kernel4 [hPre_routed : Cert.Pre_routed.Facts] (m : (ℓ : Loc Cert.Kernel4.nD Cert.Kernel4.τ Cert.Kernel4.sig) → Buf (Elt Bits) ℓ) : Prop :=
  ∀ c : Dev Cert.Kernel4.nD,
    (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Kernel4Ideal [hPre_routed : Cert.Pre_routed.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_routed [hPre_routed : Cert.Pre_routed.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Kernel3Ideal_pre_finite_scans [hKernel3Ideal : Cert.Kernel3Ideal.Facts] [hPre_finite_scans : Cert.Pre_finite_scans.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scans m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Reference3Ideal_pre_finite_scans [hReference3Ideal : Cert.Reference3Ideal.Facts] [hPre_finite_scans : Cert.Pre_finite_scans.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scans m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] [hPre_routed : Cert.Pre_routed.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_routed : Cert.Pre_routed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_routed [hReference4Ideal : Cert.Reference4Ideal.Facts] [hPre_routed : Cert.Pre_routed.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_routed m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_scans [hKernel3Ideal : Cert.Kernel3Ideal.Facts] [hReference3Ideal : Cert.Reference3Ideal.Facts] [hPre_finite_scans : Cert.Pre_finite_scans.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scans m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v113) = v0 c
          ∧ r.2.mem ((c.tc : Thread Cert.Reference3Ideal.nD Cert.Reference3Ideal.τ).loc Cert.Reference3Ideal.main_v134) = v1 c
          ∧ r.2.mem ((c.tc : Thread Cert.Reference3Ideal.nD Cert.Reference3Ideal.τ).loc Cert.Reference3Ideal.main_v135) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  True

def algebraic_Kernel4Ideal_Reference4Ideal [hKernel4Ideal : Cert.Kernel4Ideal.Facts] [hReference4Ideal : Cert.Reference4Ideal.Facts] [hPre_routed : Cert.Pre_routed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_scans : Cert.Pre_finite_scans.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_scans (hKernel3Ideal := hKernel3Ideal) (hPre_finite_scans := hPre_finite_scans)
    ∧ quiescent_Reference3Ideal (hReference3Ideal := hReference3Ideal)
    ∧ quiescent_Reference3Ideal_pre_finite_scans (hReference3Ideal := hReference3Ideal) (hPre_finite_scans := hPre_finite_scans)
    ∧ quiescent_Kernel4 (hKernel4 := hKernel4) (hPre_routed := hPre_routed)
    ∧ quiescent_Kernel4Ideal (hKernel4Ideal := hKernel4Ideal) (hPre_routed := hPre_routed)
    ∧ quiescent_Reference4Ideal (hReference4Ideal := hReference4Ideal)
    ∧ quiescent_Reference4Ideal_pre_routed (hReference4Ideal := hReference4Ideal) (hPre_routed := hPre_routed)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_scans (hKernel3Ideal := hKernel3Ideal) (hReference3Ideal := hReference3Ideal) (hPre_finite_scans := hPre_finite_scans)
    ∧ preserves_Kernel4_Kernel4Ideal
    ∧ algebraic_Kernel4Ideal_Reference4Ideal (hKernel4Ideal := hKernel4Ideal) (hReference4Ideal := hReference4Ideal) (hPre_routed := hPre_routed)
-- ==== Pre_finite.lean ====
abbrev S4x64 : Shape := ⟨2, ![4, 64]⟩
abbrev S128 : Shape := ⟨1, ![128]⟩
abbrev S4x8192x512 : Shape := ⟨3, ![4, 8192, 512]⟩
abbrev S4x256x512 : Shape := ⟨3, ![4, 256, 512]⟩
abbrev S_ : Shape := ⟨0, ![]⟩

class Facts : Prop where
  bcast_S_S4x64 : S_.BroadcastsInDim S4x64 (![] : Fin 0 → Fin S4x64.rank)
  reducesTo_S4x64_S_d0_1 : S4x64.ReducesTo [0, 1] S_
  h_S_ : 0 < S_.numel
  bcast_S_S4x8192x512 : S_.BroadcastsInDim S4x8192x512 (![] : Fin 0 → Fin S4x8192x512.rank)
  reducesTo_S4x8192x512_S_d0_1_2 : S4x8192x512.ReducesTo [0, 1, 2] S_
  bcast_S_S4x256x512 : S_.BroadcastsInDim S4x256x512 (![] : Fin 0 → Fin S4x256x512.rank)
  reducesTo_S4x256x512_S_d0_1_2 : S4x256x512.ReducesTo [0, 1, 2] S_

variable [Facts]

def fn_part1 {F : FTy → Type} [FloatOps F] (main_arg5 : FVec F S4x256x512 .f32) (main_arg6 : FVec F S4x8192x512 .f32) (main_v13 : IVec S_ 1) (main_v16 : IVec S4x8192x512 1) : IVec S_ 1 :=
  let main_c_5 : IVec S_ 1 := constantI S_ 1 1#1
  let main_v17 : IVec S_ 1 := (fun x v => Host.reduce IntOp.andi x v reducesTo_S4x8192x512_S_d0_1_2 h_S_) main_v16 main_c_5
  let main_v18 : IVec S_ 1 := andi main_v13 main_v17
  let main_v19 : FVec F S4x256x512 .f32 := Host.absf main_arg5
  let main_cst_6 : FVec F S_ .f32 := constant S_ .f32 0x7F800000#32
  let main_v20 : FVec F S4x256x512 .f32 := broadcastInDim S4x256x512 ![] bcast_S_S4x256x512 main_cst_6
  let main_v21 : IVec S4x256x512 1 := cmpf .olt main_v19 main_v20
  let main_c_7 : IVec S_ 1 := constantI S_ 1 1#1
  let main_v22 : IVec S_ 1 := (fun x v => Host.reduce IntOp.andi x v reducesTo_S4x256x512_S_d0_1_2 h_S_) main_v21 main_c_7
  let main_v23 : IVec S_ 1 := andi main_v18 main_v22
  let main_v24 : FVec F S4x8192x512 .f32 := Host.absf main_arg6
  let main_cst_8 : FVec F S_ .f32 := constant S_ .f32 0x7F800000#32
  let main_v25 : FVec F S4x8192x512 .f32 := broadcastInDim S4x8192x512 ![] bcast_S_S4x8192x512 main_cst_8
  let main_v26 : IVec S4x8192x512 1 := cmpf .olt main_v24 main_v25
  let main_c_9 : IVec S_ 1 := constantI S_ 1 1#1
  let main_v27 : IVec S_ 1 := (fun x v => Host.reduce IntOp.andi x v reducesTo_S4x8192x512_S_d0_1_2 h_S_) main_v26 main_c_9
  let main_v28 : IVec S_ 1 := andi main_v23 main_v27
  main_v28

def fn {F : FTy → Type} [FloatOps F] (main_arg0 : FVec F S4x64 .f32) (main_arg1 : FVec F S128 .f32) (main_arg2 : FVec F S4x8192x512 .f32) (main_arg3 : FVec F S4x256x512 .f32) (main_arg4 : FVec F S4x8192x512 .f32) (main_arg5 : FVec F S4x256x512 .f32) (main_arg6 : FVec F S4x8192x512 .f32) : IVec S_ 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_c : IVec S_ 1 := constantI S_ 1 1#1
  let main_v3 : IVec S_ 1 := (fun x v => Host.reduce IntOp.andi x v reducesTo_S4x64_S_d0_1 h_S_) main_v2 main_c
  let main_v4 : FVec F S4x8192x512 .f32 := Host.absf main_arg2
  let main_cst_0 : FVec F S_ .f32 := constant S_ .f32 0x7F800000#32
  let main_v5 : FVec F S4x8192x512 .f32 := broadcastInDim S4x8192x512 ![] bcast_S_S4x8192x512 main_cst_0
  let main_v6 : IVec S4x8192x512 1 := cmpf .olt main_v4 main_v5
  let main_c_1 : IVec S_ 1 := constantI S_ 1 1#1
  let main_v7 : IVec S_ 1 := (fun x v => Host.reduce IntOp.andi x v reducesTo_S4x8192x512_S_d0_1_2 h_S_) main_v6 main_c_1
  let main_v8 : IVec S_ 1 := andi main_v3 main_v7
  let main_v9 : FVec F S4x256x512 .f32 := Host.absf main_arg3
  let main_cst_2 : FVec F S_ .f32 := constant S_ .f32 0x7F800000#32
  let main_v10 : FVec F S4x256x512 .f32 := broadcastInDim S4x256x512 ![] bcast_S_S4x256x512 main_cst_2
  let main_v11 : IVec S4x256x512 1 := cmpf .olt main_v9 main_v10
  let main_c_3 : IVec S_ 1 := constantI S_ 1 1#1
  let main_v12 : IVec S_ 1 := (fun x v => Host.reduce IntOp.andi x v reducesTo_S4x256x512_S_d0_1_2 h_S_) main_v11 main_c_3
  let main_v13 : IVec S_ 1 := andi main_v8 main_v12
  let main_v14 : FVec F S4x8192x512 .f32 := Host.absf main_arg4
  let main_cst_4 : FVec F S_ .f32 := constant S_ .f32 0x7F800000#32
  let main_v15 : FVec F S4x8192x512 .f32 := broadcastInDim S4x8192x512 ![] bcast_S_S4x8192x512 main_cst_4
  let main_v16 : IVec S4x8192x512 1 := cmpf .olt main_v14 main_v15
  fn_part1 (F := F) main_arg5 main_arg6 main_v13 main_v16
-- ==== Pre_finite_scans.lean ====
abbrev S4x8192x512 : Shape := ⟨3, ![4, 8192, 512]⟩
abbrev S4x8448x512 : Shape := ⟨3, ![4, 8448, 512]⟩
abbrev S4x8192x8192 : Shape := ⟨3, ![4, 8192, 8192]⟩
abbrev S4x8192x1024 : Shape := ⟨3, ![4, 8192, 1024]⟩
abbrev S512 : Shape := ⟨1, ![512]⟩
abbrev S3x512 : Shape := ⟨2, ![3, 512]⟩
abbrev S3x512x1024 : Shape := ⟨3, ![3, 512, 1024]⟩
abbrev S1024x1024 : Shape := ⟨2, ![1024, 1024]⟩
abbrev S4x1024 : Shape := ⟨2, ![4, 1024]⟩
abbrev S1024 : Shape := ⟨1, ![1024]⟩
abbrev S_ : Shape := ⟨0, ![]⟩

class Facts : Prop where
  bcast_S_S4x8448x512 : S_.BroadcastsInDim S4x8448x512 (![] : Fin 0 → Fin S4x8448x512.rank)
  reducesTo_S4x8448x512_S_d0_1_2 : S4x8448x512.ReducesTo [0, 1, 2] S_
  h_S_ : 0 < S_.numel

variable [Facts]

def fn {F : FTy → Type} [FloatOps F] (main_arg0 : FVec F S4x8192x512 .bf16) (main_arg1 : FVec F S4x8448x512 .f32) (main_arg2 : FVec F S4x8448x512 .f32) (main_arg3 : FVec F S4x8192x512 .f32) (main_arg4 : FVec F S4x8192x512 .f32) (main_arg5 : FVec F S4x8192x8192 .bf16) (main_arg6 : FVec F S4x8192x1024 .f32) (main_arg7 : FVec F S512 .f32) (main_arg8 : FVec F S512 .f32) (main_arg9 : FVec F S3x512 .f32) (main_arg10 : FVec F S3x512x1024 .f32) (main_arg11 : FVec F S1024x1024 .f32) (main_arg12 : FVec F S4x1024 .f32) (main_arg13 : FVec F S1024 .f32) (main_arg14 : FVec F S4x1024 .f32) (main_arg15 : FVec F S4x1024 .f32) : IVec S_ 1 :=
  let main_v0 : FVec F S4x8448x512 .f32 := Host.absf main_arg1
  let main_cst : FVec F S_ .f32 := constant S_ .f32 0x7F800000#32
  let main_v1 : FVec F S4x8448x512 .f32 := broadcastInDim S4x8448x512 ![] bcast_S_S4x8448x512 main_cst
  let main_v2 : IVec S4x8448x512 1 := cmpf .olt main_v0 main_v1
  let main_c : IVec S_ 1 := constantI S_ 1 1#1
  let main_v3 : IVec S_ 1 := (fun x v => Host.reduce IntOp.andi x v reducesTo_S4x8448x512_S_d0_1_2 h_S_) main_v2 main_c
  let main_v4 : FVec F S4x8448x512 .f32 := Host.absf main_arg2
  let main_cst_0 : FVec F S_ .f32 := constant S_ .f32 0x7F800000#32
  let main_v5 : FVec F S4x8448x512 .f32 := broadcastInDim S4x8448x512 ![] bcast_S_S4x8448x512 main_cst_0
  let main_v6 : IVec S4x8448x512 1 := cmpf .olt main_v4 main_v5
  let main_c_1 : IVec S_ 1 := constantI S_ 1 1#1
  let main_v7 : IVec S_ 1 := (fun x v => Host.reduce IntOp.andi x v reducesTo_S4x8448x512_S_d0_1_2 h_S_) main_v6 main_c_1
  let main_v8 : IVec S_ 1 := andi main_v3 main_v7
  main_v8
-- ==== Pre_routed.lean ====
abbrev S4x16x8192 : Shape := ⟨3, ![4, 16, 8192]⟩
abbrev S4x8192x1024 : Shape := ⟨3, ![4, 8192, 1024]⟩
abbrev S4x16x1024x1024 : Shape := ⟨4, ![4, 16, 1024, 1024]⟩
abbrev S_ : Shape := ⟨0, ![]⟩
abbrev S4x16x1 : Shape := ⟨3, ![4, 16, 1]⟩
abbrev S4x16 : Shape := ⟨2, ![4, 16]⟩
abbrev S4x16x8191 : Shape := ⟨3, ![4, 16, 8191]⟩

class Facts : Prop where
  bcast_S_S4x16x8192 : S_.BroadcastsInDim S4x16x8192 (![] : Fin 0 → Fin S4x16x8192.rank)
  natLt_1_32 : 1 < 32
  reducesTo_S4x16x8192_S_d0_1_2 : S4x16x8192.ReducesTo [0, 1, 2] S_
  h_S_ : 0 < S_.numel
  slices_S4x16x8192_S4x16x1_0_0_0 : S4x16x8192.Slices ![0, 0, 0] S4x16x1
  shapeCasts_S4x16x1_S4x16 : S4x16x1.ShapeCasts S4x16
  bcast_S_S4x16 : S_.BroadcastsInDim S4x16 (![] : Fin 0 → Fin S4x16.rank)
  reducesTo_S4x16_S_d0_1 : S4x16.ReducesTo [0, 1] S_
  slices_S4x16x8192_S4x16x8191_0_0_1 : S4x16x8192.Slices ![0, 0, 1] S4x16x8191
  slices_S4x16x8192_S4x16x8191_0_0_0 : S4x16x8192.Slices ![0, 0, 0] S4x16x8191
  reducesTo_S4x16x8191_S_d0_1_2 : S4x16x8191.ReducesTo [0, 1, 2] S_

variable [Facts]

def fn_part1 {F : FTy → Type} [FloatOps F] (main_arg1 : IVec S4x16x8192 32) (main_v2 : IVec S4x16x8192 32) (main_v11 : IVec S_ 1) (main_v16 : IVec S_ 1) : IVec S_ 1 :=
  let main_v17 : IVec S_ 1 := andi main_v11 main_v16
  let main_c_6 : IVec S_ 32 := constantI S_ 32 1024#32
  let main_v18 : IVec S4x16x8192 32 := broadcastInDim S4x16x8192 ![] bcast_S_S4x16x8192 main_c_6
  let main_v19 : IVec S4x16x8192 1 := cmpi .sle main_arg1 main_v18
  let main_c_7 : IVec S_ 1 := constantI S_ 1 1#1
  let main_v20 : IVec S_ 1 := (fun x v => Host.reduce IntOp.andi x v reducesTo_S4x16x8192_S_d0_1_2 h_S_) main_v19 main_c_7
  let main_v21 : IVec S_ 1 := andi main_v17 main_v20
  let main_v22 : IVec S4x16x8191 32 := (extractStridedSlice S4x16x8191 ![0, 0, 1] · slices_S4x16x8192_S4x16x8191_0_0_1) main_arg1
  let main_v23 : IVec S4x16x8191 32 := (extractStridedSlice S4x16x8191 ![0, 0, 0] · slices_S4x16x8192_S4x16x8191_0_0_0) main_arg1
  let main_v24 : IVec S4x16x8191 32 := (extractStridedSlice S4x16x8191 ![0, 0, 0] · slices_S4x16x8192_S4x16x8191_0_0_0) main_v2
  let main_v25 : IVec S4x16x8191 32 := addi main_v23 main_v24
  let main_v26 : IVec S4x16x8191 1 := cmpi .eq main_v22 main_v25
  let main_c_8 : IVec S_ 1 := constantI S_ 1 1#1
  let main_v27 : IVec S_ 1 := (fun x v => Host.reduce IntOp.andi x v reducesTo_S4x16x8191_S_d0_1_2 h_S_) main_v26 main_c_8
  let main_v28 : IVec S_ 1 := andi main_v21 main_v27
  main_v28

def fn {F : FTy → Type} [FloatOps F] (main_arg0 : IVec S4x16x8192 32) (main_arg1 : IVec S4x16x8192 32) (main_arg2 : FVec F S4x16x8192 .f32) (main_arg3 : FVec F S4x8192x1024 .bf16) (main_arg4 : FVec F S4x16x1024x1024 .f32) (main_arg5 : FVec F S4x16x1024x1024 .f32) (main_arg6 : FVec F S4x16x1024x1024 .f32) : IVec S_ 1 :=
  let main_c : IVec S_ 32 := constantI S_ 32 0#32
  let main_v0 : IVec S4x16x8192 32 := broadcastInDim S4x16x8192 ![] bcast_S_S4x16x8192 main_c
  let main_v1 : IVec S4x16x8192 1 := cmpi .sge main_arg0 main_v0
  let main_v2 : IVec S4x16x8192 32 := (extui 32 · natLt_1_32) main_v1
  let main_v3 : IVec S4x16x8192 1 := cmpi .eq main_arg0 main_arg1
  let main_c_0 : IVec S_ 32 := constantI S_ 32 4294967295#32
  let main_v4 : IVec S4x16x8192 32 := broadcastInDim S4x16x8192 ![] bcast_S_S4x16x8192 main_c_0
  let main_v5 : IVec S4x16x8192 1 := cmpi .eq main_arg0 main_v4
  let main_v6 : IVec S4x16x8192 1 := ori main_v3 main_v5
  let main_c_1 : IVec S_ 1 := constantI S_ 1 1#1
  let main_v7 : IVec S_ 1 := (fun x v => Host.reduce IntOp.andi x v reducesTo_S4x16x8192_S_d0_1_2 h_S_) main_v6 main_c_1
  let main_c_2 : IVec S_ 32 := constantI S_ 32 1024#32
  let main_v8 : IVec S4x16x8192 32 := broadcastInDim S4x16x8192 ![] bcast_S_S4x16x8192 main_c_2
  let main_v9 : IVec S4x16x8192 1 := cmpi .slt main_arg0 main_v8
  let main_c_3 : IVec S_ 1 := constantI S_ 1 1#1
  let main_v10 : IVec S_ 1 := (fun x v => Host.reduce IntOp.andi x v reducesTo_S4x16x8192_S_d0_1_2 h_S_) main_v9 main_c_3
  let main_v11 : IVec S_ 1 := andi main_v7 main_v10
  let main_v12 : IVec S4x16x1 32 := (extractStridedSlice S4x16x1 ![0, 0, 0] · slices_S4x16x8192_S4x16x1_0_0_0) main_arg1
  let main_v13 : IVec S4x16 32 := shapeCast S4x16 main_v12 shapeCasts_S4x16x1_S4x16
  let main_c_4 : IVec S_ 32 := constantI S_ 32 0#32
  let main_v14 : IVec S4x16 32 := broadcastInDim S4x16 ![] bcast_S_S4x16 main_c_4
  let main_v15 : IVec S4x16 1 := cmpi .eq main_v13 main_v14
  let main_c_5 : IVec S_ 1 := constantI S_ 1 1#1
  let main_v16 : IVec S_ 1 := (fun x v => Host.reduce IntOp.andi x v reducesTo_S4x16_S_d0_1 h_S_) main_v15 main_c_5
  fn_part1 (F := F) main_arg1 main_v2 main_v11 main_v16
-- ==== Kernel.lean ====
abbrev S4x64 : Shape := ⟨2, ![4, 64]⟩
abbrev S128 : Shape := ⟨1, ![128]⟩
abbrev S4x8192x512 : Shape := ⟨3, ![4, 8192, 512]⟩
abbrev S4x256x512 : Shape := ⟨3, ![4, 256, 512]⟩
abbrev S4x8448x512 : Shape := ⟨3, ![4, 8448, 512]⟩
abbrev S1x128 : Shape := ⟨2, ![1, 128]⟩
abbrev S1x1024x128 : Shape := ⟨3, ![1, 1024, 128]⟩
abbrev S1x2816x128 : Shape := ⟨3, ![1, 2816, 128]⟩
abbrev S2048x128 : Shape := ⟨2, ![2048, 128]⟩
abbrev S1024x128 : Shape := ⟨2, ![1024, 128]⟩
abbrev S2816x128 : Shape := ⟨2, ![2816, 128]⟩
abbrev S2048x2816 : Shape := ⟨2, ![2048, 2816]⟩
abbrev S2048 : Shape := ⟨1, ![2048]⟩
abbrev S2048x1 : Shape := ⟨2, ![2048, 1]⟩
abbrev S1x64 : Shape := ⟨2, ![1, 64]⟩
abbrev S1 : Shape := ⟨1, ![1]⟩
abbrev S1x1 : Shape := ⟨2, ![1, 1]⟩
abbrev S1024 : Shape := ⟨1, ![1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S4x8192x512, .f32⟩
  | .hbm, ⟨3, _⟩ => ⟨S4x256x512, .f32⟩
  | .hbm, ⟨4, _⟩ => ⟨S4x8192x512, .f32⟩
  | .hbm, ⟨5, _⟩ => ⟨S4x256x512, .f32⟩
  | .hbm, ⟨6, _⟩ => ⟨S4x8192x512, .f32⟩
  | .hbm, ⟨7, _⟩ => ⟨S4x256x512, .bf16⟩
  | .hbm, ⟨8, _⟩ => ⟨S4x8192x512, .bf16⟩
  | .hbm, ⟨9, _⟩ => ⟨S4x8448x512, .bf16⟩
  | .hbm, ⟨10, _⟩ => ⟨S4x256x512, .bf16⟩
  | .hbm, ⟨11, _⟩ => ⟨S4x8192x512, .bf16⟩
  | .hbm, ⟨12, _⟩ => ⟨S4x8448x512, .bf16⟩
  | .hbm, ⟨13, _⟩ => ⟨S1x128, .f32⟩
  | .hbm, ⟨14, _⟩ => ⟨S4x8192x512, .bf16⟩
  | .local _ .vmem, ⟨0, _⟩ => ⟨S4x64, .f32⟩
  | .local _ .vmem, ⟨1, _⟩ => ⟨S1x128, .f32⟩
  | .local _ .vmem, ⟨2, _⟩ => ⟨S1x1024x128, .f32⟩
  | .local _ .vmem, ⟨3, _⟩ => ⟨S1x1024x128, .f32⟩
  | .local _ .vmem, ⟨4, _⟩ => ⟨S1x2816x128, .bf16⟩
  | .local _ .vmem, ⟨5, _⟩ => ⟨S1x2816x128, .bf16⟩
  | .local _ .vmem, ⟨6, _⟩ => ⟨S1x2816x128, .bf16⟩
  | .local _ .vmem, ⟨7, _⟩ => ⟨S1x2816x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![4, 4, 8, 3], ![false, false, false, false]⟩

def k0_cond2 (i : grid0.Coords) : BitVec 1 :=
  let arg3 : BitVec 32 := BitVec.ofNat 32 (i 3).val
  let c2_i32 : BitVec 32 := 2#32
  let v96 : BitVec 1 := Scalar.cmpi .eq arg3 c2_i32
  let v97 : BitVec 32 := Scalar.extui v96
  let c0_i32_26 : BitVec 32 := 0#32
  let v98 : BitVec 1 := Scalar.cmpi .ne v97 c0_i32_26
  v98

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x2816x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S1x2816x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== KernelIdeal.lean ====
variable {F : FTy → Type} [FloatOps F] [Named F]
def κ : String → Option EReal := fun
  | "scale_log2e" => some (((8 * (Real.log 2))⁻¹ : ℝ) : EReal)
  | _ => none
-- ==== ReferenceIdeal.lean ====
abbrev S4x64 : Shape := ⟨2, ![4, 64]⟩
abbrev S128 : Shape := ⟨1, ![128]⟩
abbrev S4x8192x512 : Shape := ⟨3, ![4, 8192, 512]⟩
abbrev S4x256x512 : Shape := ⟨3, ![4, 256, 512]⟩
abbrev S4x8192x4x2x64 : Shape := ⟨5, ![4, 8192, 4, 2, 64]⟩
abbrev S4x8448x512 : Shape := ⟨3, ![4, 8448, 512]⟩
abbrev S4x8448x4x2x64 : Shape := ⟨5, ![4, 8448, 4, 2, 64]⟩
abbrev S4x8448x4x128 : Shape := ⟨4, ![4, 8448, 4, 128]⟩
abbrev S1x64 : Shape := ⟨2, ![1, 64]⟩
abbrev S64 : Shape := ⟨1, ![64]⟩
abbrev S_ : Shape := ⟨0, ![]⟩
abbrev S4x4x2x8192x8448 : Shape := ⟨5, ![4, 4, 2, 8192, 8448]⟩
abbrev S4x4x2x8192 : Shape := ⟨4, ![4, 4, 2, 8192]⟩
abbrev S4x4x2x8192x1 : Shape := ⟨5, ![4, 4, 2, 8192, 1]⟩
abbrev S4x4x1x8192x8448 : Shape := ⟨5, ![4, 4, 1, 8192, 8448]⟩
abbrev S4x4x8192x8448 : Shape := ⟨4, ![4, 4, 8192, 8448]⟩
abbrev S4x4x128x8192 : Shape := ⟨4, ![4, 4, 128, 8192]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S4x8192x512, .f32⟩
  | .hbm, ⟨3, _⟩ => ⟨S4x256x512, .f32⟩
  | .hbm, ⟨4, _⟩ => ⟨S4x8192x512, .f32⟩
  | .hbm, ⟨5, _⟩ => ⟨S4x256x512, .f32⟩
  | .hbm, ⟨6, _⟩ => ⟨S4x8192x512, .f32⟩
  | .hbm, ⟨7, _⟩ => ⟨S4x8192x4x2x64, .f32⟩
  | .hbm, ⟨8, _⟩ => ⟨S4x8448x512, .f32⟩
  | .hbm, ⟨9, _⟩ => ⟨S4x8448x4x2x64, .f32⟩
  | .hbm, ⟨10, _⟩ => ⟨S4x8448x512, .f32⟩
  | .hbm, ⟨11, _⟩ => ⟨S4x8448x4x128, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x4x2x8192x8448, .f32⟩
  | .hbm, ⟨32, _⟩ => ⟨S_, .f32⟩
  | .hbm, ⟨33, _⟩ => ⟨S4x4x2x8192x8448, .f32⟩
  | .hbm, ⟨34, _⟩ => ⟨S4x4x2x8192x8448, .f32⟩
  | .hbm, ⟨35, _⟩ => ⟨S_, .f32⟩
  | .hbm, ⟨36, _⟩ => ⟨S4x4x2x8192, .f32⟩
  | .hbm, ⟨37, _⟩ => ⟨S_, .f32⟩
  | .hbm, ⟨38, _⟩ => ⟨S4x4x2x8192, .f32⟩
  | .hbm, ⟨39, _⟩ => ⟨S4x4x2x8192, .f32⟩
  | .hbm, ⟨40, _⟩ => ⟨S4x4x2x8192x1, .f32⟩
  | .hbm, ⟨41, _⟩ => ⟨S4x4x2x8192x8448, .f32⟩
  | .hbm, ⟨42, _⟩ => ⟨S4x4x2x8192x8448, .f32⟩
  | .hbm, ⟨43, _⟩ => ⟨S4x4x2x8192x8448, .f32⟩
  | .hbm, ⟨44, _⟩ => ⟨S_, .f32⟩
  | .hbm, ⟨45, _⟩ => ⟨S4x4x2x8192, .f32⟩
  | .hbm, ⟨46, _⟩ => ⟨S4x4x2x8192x1, .f32⟩
  | .hbm, ⟨47, _⟩ => ⟨S4x4x2x8192x8448, .f32⟩
  | .hbm, ⟨48, _⟩ => ⟨S4x4x2x8192x8448, .f32⟩
  | .hbm, ⟨49, _⟩ => ⟨S4x4x1x8192x8448, .f32⟩
  | .hbm, ⟨50, _⟩ => ⟨S4x4x8192x8448, .f32⟩
  | .hbm, ⟨51, _⟩ => ⟨S4x4x1x8192x8448, .f32⟩
  | .hbm, ⟨52, _⟩ => ⟨S4x4x8192x8448, .f32⟩
  | .hbm, ⟨53, _⟩ => ⟨S4x4x8192x8448, .f32⟩
  | .hbm, ⟨54, _⟩ => ⟨S4x4x8192x8448, .f32⟩
  | .hbm, ⟨55, _⟩ => ⟨S4x4x8192x8448, .f32⟩
  | .hbm, ⟨56, _⟩ => ⟨S4x4x128x8192, .f32⟩
  | .hbm, ⟨57, _⟩ => ⟨S4x8192x4x128, .f32⟩
  | .hbm, ⟨58, _⟩ => ⟨S4x8192x4x128, .f32⟩
  | .hbm, ⟨59, _⟩ => ⟨S_, .f32⟩
  | .hbm, ⟨60, _⟩ => ⟨S4x8192x4, .f32⟩
  | .hbm, ⟨61, _⟩ => ⟨S4x8192x4x1, .f32⟩
  | .hbm, ⟨62, _⟩ => ⟨S_, .f32⟩
  | .hbm, ⟨63, _⟩ => ⟨S4x8192x4x1, .f32⟩
  | .hbm, ⟨64, _⟩ => ⟨S4x8192x4x1, .f32⟩
  | .hbm, ⟨65, _⟩ => ⟨S_, .f32⟩
  | .hbm, ⟨66, _⟩ => ⟨S4x8192x4x1, .f32⟩
  | .hbm, ⟨67, _⟩ => ⟨S4x8192x4x1, .f32⟩
  | .hbm, ⟨68, _⟩ => ⟨S4x8192x4x1, .f32⟩
  | .hbm, ⟨69, _⟩ => ⟨S4x8192x4x128, .f32⟩
  | .hbm, ⟨70, _⟩ => ⟨S4x8192x4x128, .f32⟩
  | .hbm, ⟨71, _⟩ => ⟨S1x1x1x128, .f32⟩
  | .hbm, ⟨72, _⟩ => ⟨S4x8192x4x128, .f32⟩
  | .hbm, ⟨73, _⟩ => ⟨S4x8192x4x128, .f32⟩
  | .hbm, ⟨74, _⟩ => ⟨S_, .f32⟩
  | .hbm, ⟨75, _⟩ => ⟨S4x8192x4x128, .f32⟩
  | .hbm, ⟨76, _⟩ => ⟨S4x8192x4x128, .f32⟩
  | .hbm, ⟨77, _⟩ => ⟨S4x8192x512, .f32⟩
  | .hbm, ⟨78, _⟩ => ⟨S4x8192x512, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S4x1024 : Shape := ⟨2, ![4, 1024]⟩
abbrev S1024x7936 : Shape := ⟨2, ![1024, 7936]⟩
abbrev S4x1x1024 : Shape := ⟨3, ![4, 1, 1024]⟩
abbrev S_ : Shape := ⟨0, ![]⟩
abbrev S1024x256 : Shape := ⟨2, ![1024, 256]⟩
abbrev S1024x1536 : Shape := ⟨2, ![1024, 1536]⟩
abbrev S1024x3072 : Shape := ⟨2, ![1024, 3072]⟩
abbrev S1024x8192 : Shape := ⟨2, ![1024, 8192]⟩
abbrev S1x1024 : Shape := ⟨2, ![1, 1024]⟩
abbrev S4x8192x8192 : Shape := ⟨3, ![4, 8192, 8192]⟩
abbrev S1x512x1024 : Shape := ⟨3, ![1, 512, 1024]⟩
abbrev S1x1x1024 : Shape := ⟨3, ![1, 1, 1024]⟩
abbrev S1024x4096 : Shape := ⟨2, ![1024, 4096]⟩
abbrev S1x512x4096 : Shape := ⟨3, ![1, 512, 4096]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 18
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x7936, .f32⟩
  | .hbm, ⟨5, _⟩ => ⟨S4x1x1024, .f32⟩
  | .hbm, ⟨6, _⟩ => ⟨S4x1x1024, .f32⟩
  | .hbm, ⟨7, _⟩ => ⟨S_, .f32⟩
  | .hbm, ⟨8, _⟩ => ⟨S1024x256, .f32⟩
  | .hbm, ⟨9, _⟩ => ⟨S1024x1536, .f32⟩
  | .hbm, ⟨10, _⟩ => ⟨S1024x1536, .f32⟩
  | .hbm, ⟨11, _⟩ => ⟨S1024x1536, .f32⟩
  | .hbm, ⟨12, _⟩ => ⟨S1024x256, .f32⟩
  | .hbm, ⟨13, _⟩ => ⟨S1024x3072, .f32⟩
  | .hbm, ⟨14, _⟩ => ⟨S1024x8192, .f32⟩
  | .hbm, ⟨15, _⟩ => ⟨S1024x8192, .bf16⟩
  | .hbm, ⟨16, _⟩ => ⟨S1x1024, .f32⟩
  | .hbm, ⟨17, _⟩ => ⟨S4x8192x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x4096, .bf16⟩
  | .local _ .vmem, ⟨8, _⟩ => ⟨S1024x4096, .bf16⟩
  | .local _ .vmem, ⟨9, _⟩ => ⟨S1x512x4096, .bf16⟩
  | .local _ .vmem, ⟨10, _⟩ => ⟨S1x512x4096, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S4x8192x1024 : Shape := ⟨3, ![4, 8192, 1024]⟩
abbrev S1024 : Shape := ⟨1, ![1024]⟩
abbrev S4x1024 : Shape := ⟨2, ![4, 1024]⟩
abbrev S1024x7936 : Shape := ⟨2, ![1024, 7936]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x7936 : Shape := ⟨3, ![4, 8192, 7936]⟩
abbrev S4x8192x3072 : Shape := ⟨3, ![4, 8192, 3072]⟩
abbrev S4x8192x256 : Shape := ⟨3, ![4, 8192, 256]⟩
abbrev S4x8192x1536 : Shape := ⟨3, ![4, 8192, 1536]⟩
abbrev S4x8192x8192 : Shape := ⟨3, ![4, 8192, 8192]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x7936, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x7936, .f32⟩
  | .hbm, ⟨31, _⟩ => ⟨S4x8192x3072, .f32⟩
  | .hbm, ⟨32, _⟩ => ⟨S4x8192x256, .f32⟩
  | .hbm, ⟨33, _⟩ => ⟨S4x8192x1536, .f32⟩
  | .hbm, ⟨34, _⟩ => ⟨S4x8192x3072, .f32⟩
  | .hbm, ⟨35, _⟩ => ⟨S_, .f32⟩
  | .hbm, ⟨36, _⟩ => ⟨S4x8192x256, .f32⟩
  | .hbm, ⟨37, _⟩ => ⟨S4x8192x8192, .f32⟩
  | .hbm, ⟨38, _⟩ => ⟨S4x8192x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel3.lean ====
abbrev S4x8192x512 : Shape := ⟨3, ![4, 8192, 512]⟩
abbrev S4x8448x512 : Shape := ⟨3, ![4, 8448, 512]⟩
abbrev S4x8192x8192 : Shape := ⟨3, ![4, 8192, 8192]⟩
abbrev S4x8192x1024 : Shape := ⟨3, ![4, 8192, 1024]⟩
abbrev S512 : Shape := ⟨1, ![512]⟩
abbrev S3x512 : Shape := ⟨2, ![3, 512]⟩
abbrev S3x512x1024 : Shape := ⟨3, ![3, 512, 1024]⟩
abbrev S1024x1024 : Shape := ⟨2, ![1024, 1024]⟩
abbrev S4x1024 : Shape := ⟨2, ![4, 1024]⟩
abbrev S1024 : Shape := ⟨1, ![1024]⟩
abbrev S1x512 : Shape := ⟨2, ![1, 512]⟩
abbrev S512x1 : Shape := ⟨2, ![512, 1]⟩
abbrev S512x512 : Shape := ⟨2, ![512, 512]⟩
abbrev S1x1024 : Shape := ⟨2, ![1, 1024]⟩
abbrev S4x1x1024 : Shape := ⟨3, ![4, 1, 1024]⟩
abbrev S1x256x512 : Shape := ⟨3, ![1, 256, 512]⟩
abbrev S1x256x1536 : Shape := ⟨3, ![1, 256, 1536]⟩
abbrev S1x16x1536 : Shape := ⟨3, ![1, 16, 1536]⟩
abbrev S1x256x1024 : Shape := ⟨3, ![1, 256, 1024]⟩
abbrev S1x1x1024 : Shape := ⟨3, ![1, 1, 1024]⟩
abbrev S256x512 : Shape := ⟨2, ![256, 512]⟩
abbrev S256x1536 : Shape := ⟨2, ![256, 1536]⟩
abbrev S16x1536 : Shape := ⟨2, ![16, 1536]⟩
abbrev S1x1536 : Shape := ⟨2, ![1, 1536]⟩
abbrev S256x1 : Shape := ⟨2, ![256, 1]⟩
abbrev S256x1024 : Shape := ⟨2, ![256, 1024]⟩
abbrev S1x512x1024 : Shape := ⟨3, ![1, 512, 1024]⟩
abbrev S512x1024 : Shape := ⟨2, ![512, 1024]⟩
abbrev S256 : Shape := ⟨1, ![256]⟩

abbrev nBuf : Space → Nat
  | .hbm => 35
  | .vmem => 43
  | .smem => 0
  | _ => 0

abbrev bufTy : (tb : Table) → Fin (tcTables nBuf tb) → BufTy
  | .hbm, ⟨0, _⟩ => ⟨S4x8192x512, .bf16⟩
  | .hbm, ⟨1, _⟩ => ⟨S4x8448x512, .f32⟩
  | .hbm, ⟨2, _⟩ => ⟨S4x8448x512, .f32⟩
  | .hbm, ⟨3, _⟩ => ⟨S4x8192x512, .f32⟩
  | .hbm, ⟨4, _⟩ => ⟨S4x8192x512, .f32⟩
  | .hbm, ⟨5, _⟩ => ⟨S4x8192x8192, .bf16⟩
  | .hbm, ⟨6, _⟩ => ⟨S4x8192x1024, .f32⟩
  | .hbm, ⟨7, _⟩ => ⟨S512, .f32⟩
  | .hbm, ⟨8, _⟩ => ⟨S512, .f32⟩
  | .hbm, ⟨9, _⟩ => ⟨S3x512, .f32⟩
  | .hbm, ⟨10, _⟩ => ⟨S3x512x1024, .f32⟩
  | .hbm, ⟨11, _⟩ => ⟨S1024x1024, .f32⟩
  | .hbm, ⟨12, _⟩ => ⟨S4x1024, .f32⟩
  | .hbm, ⟨13, _⟩ => ⟨S1024, .f32⟩
  | .hbm, ⟨14, _⟩ => ⟨S4x1024, .f32⟩
  | .hbm, ⟨15, _⟩ => ⟨S4x1024, .f32⟩
  | .hbm, ⟨16, _⟩ => ⟨S512, .i32⟩
  | .hbm, ⟨17, _⟩ => ⟨S1x512, .f32⟩
  | .hbm, ⟨18, _⟩ => ⟨S1x512, .f32⟩
  | .hbm, ⟨19, _⟩ => ⟨S3x512x1024, .bf16⟩
  | .hbm, ⟨20, _⟩ => ⟨S1024x1024, .bf16⟩
  | .hbm, ⟨21, _⟩ => ⟨S512x1, .i32⟩
  | .hbm, ⟨22, _⟩ => ⟨S1x512, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S512x512, .f32⟩
  | .hbm, ⟨27, _⟩ => ⟨S512x512, .bf16⟩
  | .hbm, ⟨28, _⟩ => ⟨S1x1024, .f32⟩
  | .hbm, ⟨29, _⟩ => ⟨S4x1x1024, .f32⟩
  | .hbm, ⟨30, _⟩ => ⟨S4x1x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x8192x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x1536, .bf16⟩
  | .local _ .vmem, ⟨11, _⟩ => ⟨S1x256x1536, .bf16⟩
  | .local _ .vmem, ⟨12, _⟩ => ⟨S1x16x1536, .bf16⟩
  | .local _ .vmem, ⟨13, _⟩ => ⟨S1x16x1536, .bf16⟩
  | .local _ .vmem, ⟨14, _⟩ => ⟨S1x16x1536, .bf16⟩
  | .local _ .vmem, ⟨15, _⟩ => ⟨S1x16x1536, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .f32⟩
  | .local _ .vmem, ⟨23, _⟩ => ⟨S1x256x1024, .f32⟩
  | .local _ .vmem, ⟨24, _⟩ => ⟨S1x512, .f32⟩
  | .local _ .vmem, ⟨25, _⟩ => ⟨S1x512, .f32⟩
  | .local _ .vmem, ⟨26, _⟩ => ⟨S3x512, .f32⟩
  | .local _ .vmem, ⟨27, _⟩ => ⟨S3x512x1024, .bf16⟩
  | .local _ .vmem, ⟨28, _⟩ => ⟨S1024x1024, .bf16⟩
  | .local _ .vmem, ⟨29, _⟩ => ⟨S512x512, .bf16⟩
  | .local _ .vmem, ⟨30, _⟩ => ⟨S1x1x1024, .f32⟩
  | .local _ .vmem, ⟨31, _⟩ => ⟨S1x1x1024, .f32⟩
  | .local _ .vmem, ⟨32, _⟩ => ⟨S1x1024, .f32⟩
  | .local _ .vmem, ⟨33, _⟩ => ⟨S1x1x1024, .f32⟩
  | .local _ .vmem, ⟨34, _⟩ => ⟨S1x1x1024, .f32⟩
  | .local _ .vmem, ⟨35, _⟩ => ⟨S1x1x1024, .f32⟩
  | .local _ .vmem, ⟨36, _⟩ => ⟨S1x1x1024, .f32⟩
  | .local _ .vmem, ⟨37, _⟩ => ⟨S1x256x1024, .f32⟩
  | .local _ .vmem, ⟨38, _⟩ => ⟨S1x256x1024, .f32⟩
  | .local _ .vmem, ⟨39, _⟩ => ⟨S1x256x1024, .f32⟩
  | .local _ .vmem, ⟨40, _⟩ => ⟨S1x256x1024, .f32⟩
  | .local _ .vmem, ⟨41, _⟩ => ⟨S1x256x1024, .bf16⟩
  | .local _ .vmem, ⟨42, _⟩ => ⟨S1x256x1024, .bf16⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v15_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem18_1 : DmaSem sig := 31
abbrev cc0_sem19_0 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c2_i32 : BitVec 32 := 2#32
  let c0_i32 : BitVec 32 := 0#32
  ![arg0.toNat, v2.toNat, c2_i32.toNat]

def cc0_transform_8 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_9 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_10 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S3x512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x1x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x1x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S1x256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Reference3Ideal.lean ====
abbrev S4x8192x512 : Shape := ⟨3, ![4, 8192, 512]⟩
abbrev S4x8448x512 : Shape := ⟨3, ![4, 8448, 512]⟩
abbrev S4x8192x8192 : Shape := ⟨3, ![4, 8192, 8192]⟩
abbrev S4x8192x1024 : Shape := ⟨3, ![4, 8192, 1024]⟩
abbrev S512 : Shape := ⟨1, ![512]⟩
abbrev S3x512 : Shape := ⟨2, ![3, 512]⟩
abbrev S3x512x1024 : Shape := ⟨3, ![3, 512, 1024]⟩
abbrev S1024x1024 : Shape := ⟨2, ![1024, 1024]⟩
abbrev S4x1024 : Shape := ⟨2, ![4, 1024]⟩
abbrev S1024 : Shape := ⟨1, ![1024]⟩
abbrev S4x8192x8x64 : Shape := ⟨4, ![4, 8192, 8, 64]⟩
abbrev S_ : Shape := ⟨0, ![]⟩
abbrev S4x8192x8 : Shape := ⟨3, ![4, 8192, 8]⟩
abbrev S4x8192x8x1 : Shape := ⟨4, ![4, 8192, 8, 1]⟩
abbrev S8x64 : Shape := ⟨2, ![8, 64]⟩
abbrev S1x1x8x64 : Shape := ⟨4, ![1, 1, 8, 64]⟩
abbrev S4x8194x512 : Shape := ⟨3, ![4, 8194, 512]⟩
abbrev S1x512 : Shape := ⟨2, ![1, 512]⟩
abbrev S1x1x512 : Shape := ⟨3, ![1, 1, 512]⟩
abbrev S4x8192x3072 : Shape := ⟨3, ![4, 8192, 3072]⟩
abbrev S1x512x1024 : Shape := ⟨3, ![1, 512, 1024]⟩
abbrev S512x1024 : Shape := ⟨2, ![512, 1024]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 170
  | .vmem => 0
  | .smem => 0
  | _ => 0

abbrev hbmTy0_0 (i : Nat) : BufTy := match i % 128 with
  | 0 => ⟨S4x8192x512, .bf16⟩
  | 1 => ⟨S4x8448x512, .f32⟩
  | 2 => ⟨S4x8448x512, .f32⟩
  | 3 => ⟨S4x8192x512, .f32⟩
  | 4 => ⟨S4x8192x512, .f32⟩
  | 5 => ⟨S4x8192x8192, .bf16⟩
  | 6 => ⟨S4x8192x1024, .f32⟩
  | 7 => ⟨S512, .f32⟩
  | 8 => ⟨S512, .f32⟩
  | 9 => ⟨S3x512, .f32⟩
  | 10 => ⟨S3x512x1024, .f32⟩
  | 11 => ⟨S1024x1024, .f32⟩
  | 12 => ⟨S4x1024, .f32⟩
  | 13 => ⟨S1024, .f32⟩
  | 14 => ⟨S4x1024, .f32⟩
  | 15 => ⟨S4x1024, .f32⟩
  | 16 => ⟨S4x8192x512, .f32⟩
  | 17 => ⟨S4x8192x8x64, .f32⟩
  | 18 => ⟨S_, .f32⟩
  | 19 => ⟨S4x8192x8, .f32⟩
  | 20 => ⟨S4x8192x8x1, .f32⟩
  | 21 => ⟨S_, .f32⟩
  | 22 => ⟨S4x8192x8x1, .f32⟩
  | 23 => ⟨S4x8192x8x1, .f32⟩
  | 24 => ⟨S4x8192x8x64, .f32⟩
  | 25 => ⟨S4x8192x8x64, .f32⟩
  | 26 => ⟨S4x8192x8x64, .f32⟩
  | 27 => ⟨S_, .f32⟩
  | 28 => ⟨S4x8192x8, .f32⟩
  | 29 => ⟨S4x8192x8x1, .f32⟩
  | 30 => ⟨S_, .f32⟩
  | 31 => ⟨S4x8192x8x1, .f32⟩
  | 32 => ⟨S4x8192x8x1, .f32⟩
  | 33 => ⟨S_, .f32⟩
  | 34 => ⟨S4x8192x8x1, .f32⟩
  | 35 => ⟨S4x8192x8x1, .f32⟩
  | 36 => ⟨S4x8192x8x1, .f32⟩
  | 37 => ⟨S4x8192x8x64, .f32⟩
  | 38 => ⟨S4x8192x8x64, .f32⟩
  | 39 => ⟨S8x64, .f32⟩
  | 40 => ⟨S1x1x8x64, .f32⟩
  | 41 => ⟨S4x8192x8x64, .f32⟩
  | 42 => ⟨S4x8192x8x64, .f32⟩
  | 43 => ⟨S8x64, .f32⟩
  | 44 => ⟨S1x1x8x64, .f32⟩
  | 45 => ⟨S4x8192x8x64, .f32⟩
  | 46 => ⟨S4x8192x8x64, .f32⟩
  | 47 => ⟨S4x8192x512, .f32⟩
  | 48 => ⟨S4x8192x512, .f32⟩
  | 49 => ⟨S4x8192x8x64, .f32⟩
  | 50 => ⟨S_, .f32⟩
  | 51 => ⟨S4x8192x8, .f32⟩
  | 52 => ⟨S4x8192x8x1, .f32⟩
  | 53 => ⟨S_, .f32⟩
  | 54 => ⟨S4x8192x8x1, .f32⟩
  | 55 => ⟨S4x8192x8x1, .f32⟩
  | 56 => ⟨S4x8192x8x64, .f32⟩
  | 57 => ⟨S4x8192x8x64, .f32⟩
  | 58 => ⟨S4x8192x8x64, .f32⟩
  | 59 => ⟨S_, .f32⟩
  | 60 => ⟨S4x8192x8, .f32⟩
  | 61 => ⟨S4x8192x8x1, .f32⟩
  | 62 => ⟨S_, .f32⟩
  | 63 => ⟨S4x8192x8x1, .f32⟩
  | 64 => ⟨S4x8192x8x1, .f32⟩
  | 65 => ⟨S_, .f32⟩
  | 66 => ⟨S4x8192x8x1, .f32⟩
  | 67 => ⟨S4x8192x8x1, .f32⟩
  | 68 => ⟨S4x8192x8x1, .f32⟩
  | 69 => ⟨S4x8192x8x64, .f32⟩
  | 70 => ⟨S4x8192x8x64, .f32⟩
  | 71 => ⟨S8x64, .f32⟩
  | 72 => ⟨S1x1x8x64, .f32⟩
  | 73 => ⟨S4x8192x8x64, .f32⟩
  | 74 => ⟨S4x8192x8x64, .f32⟩
  | 75 => ⟨S8x64, .f32⟩
  | 76 => ⟨S1x1x8x64, .f32⟩
  | 77 => ⟨S4x8192x8x64, .f32⟩
  | 78 => ⟨S4x8192x8x64, .f32⟩
  | 79 => ⟨S4x8192x512, .f32⟩
  | 80 => ⟨S4x8192x512, .f32⟩
  | 81 => ⟨S4x8192x512, .f32⟩
  | 82 => ⟨S4x8192x512, .f32⟩
  | 83 => ⟨S4x8192x8192, .f32⟩
  | 84 => ⟨S4x8192x512, .f32⟩
  | 85 => ⟨S4x8192x512, .f32⟩
  | 86 => ⟨S4x8192x512, .f32⟩
  | 87 => ⟨S4x8192x512, .f32⟩
  | 88 => ⟨S_, .i32⟩
  | 89 => ⟨S_, .f32⟩
  | 90 => ⟨S4x8194x512, .f32⟩
  | 91 => ⟨S1x512, .f32⟩
  | 92 => ⟨S512, .f32⟩
  | 93 => ⟨S4x8192x512, .f32⟩
  | 94 => ⟨S1x1x512, .f32⟩
  | 95 => ⟨S4x8192x512, .f32⟩
  | 96 => ⟨S4x8192x512, .f32⟩
  | 97 => ⟨S1x512, .f32⟩
  | 98 => ⟨S512, .f32⟩
  | 99 => ⟨S4x8192x512, .f32⟩
  | 100 => ⟨S1x1x512, .f32⟩
  | 101 => ⟨S4x8192x512, .f32⟩
  | 102 => ⟨S4x8192x512, .f32⟩
  | 103 => ⟨S4x8192x512, .f32⟩
  | 104 => ⟨S1x512, .f32⟩
  | 105 => ⟨S512, .f32⟩
  | 106 => ⟨S4x8192x512, .f32⟩
  | 107 => ⟨S1x1x512, .f32⟩
  | 108 => ⟨S4x8192x512, .f32⟩
  | 109 => ⟨S4x8192x512, .f32⟩
  | 110 => ⟨S4x8192x512, .f32⟩
  | 111 => ⟨S4x8192x512, .f32⟩
  | 112 => ⟨S4x8192x3072, .f32⟩
  | 113 => ⟨S4x8192x3072, .f32⟩
  | 114 => ⟨S4x8192x3072, .f32⟩
  | 115 => ⟨S_, .f32⟩
  | 116 => ⟨S4x8192x3072, .f32⟩
  | 117 => ⟨S4x8192x3072, .f32⟩
  | 118 => ⟨S_, .f32⟩
  | 119 => ⟨S4x8192x3072, .f32⟩
  | 120 => ⟨S4x8192x3072, .f32⟩
  | 121 => ⟨S4x8192x1024, .f32⟩
  | 122 => ⟨S4x8192x512, .f32⟩
  | 123 => ⟨S1x512x1024, .f32⟩
  | 124 => ⟨S512x1024, .f32⟩
  | 125 => ⟨S4x8192x1024, .f32⟩
  | 126 => ⟨S4x8192x1024, .f32⟩
  | 127 => ⟨S4x8192x1024, .f32⟩
  | _ => ⟨S4x8192x512, .bf16⟩

abbrev hbmTy0_1 (i : Nat) : BufTy := match i % 128 with
  | 0 => ⟨S1x512x1024, .f32⟩
  | 1 => ⟨S512x1024, .f32⟩
  | 2 => ⟨S4x8192x1024, .f32⟩
  | 3 => ⟨S4x8192x1024, .f32⟩
  | 4 => ⟨S4x8192x1024, .f32⟩
  | 5 => ⟨S4x8192x1024, .f32⟩
  | 6 => ⟨S1x512x1024, .f32⟩
  | 7 => ⟨S512x1024, .f32⟩
  | 8 => ⟨S4x8192x1024, .f32⟩
  | 9 => ⟨S4x8192x1024, .f32⟩
  | 10 => ⟨S4x8192x1024, .f32⟩
  | 11 => ⟨S4x1x1024, .f32⟩
  | 12 => ⟨S4x8192x1024, .f32⟩
  | 13 => ⟨S4x8192x1024, .f32⟩
  | 14 => ⟨S4x8192x1024, .f32⟩
  | 15 => ⟨S4x8192x1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S_, .f32⟩
  | 24 => ⟨S4x8192x1, .f32⟩
  | 25 => ⟨S4x8192x1, .f32⟩
  | 26 => ⟨S4x8192x1, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S4x1x1024, .f32⟩
  | 33 => ⟨S_, .f32⟩
  | 34 => ⟨S4x1x1024, .f32⟩
  | 35 => ⟨S4x1x1024, .f32⟩
  | 36 => ⟨S4x8192x1024, .f32⟩
  | 37 => ⟨S4x8192x1024, .f32⟩
  | 38 => ⟨S4x1x1024, .f32⟩
  | 39 => ⟨S4x8192x1024, .f32⟩
  | 40 => ⟨S4x8192x1024, .f32⟩
  | 41 => ⟨S4x8192x1024, .bf16⟩
  | _ => ⟨S4x8192x512, .bf16⟩

abbrev hbmTy (i : Nat) : BufTy := match i / 128 with
  | 0 => hbmTy0_0 i
  | 1 => hbmTy0_1 i
  | _ => ⟨S4x8192x512, .bf16⟩

abbrev bufTy : (tb : Table) → Fin (tcTables nBuf tb) → BufTy
  | .hbm, ⟨i, _⟩ => hbmTy i
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c : Ref sig .tc := ⟨.hbm, 88, rfl⟩
abbrev main_call0_v0 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_9 : Ref sig .tc := ⟨.hbm, 115, rfl⟩
abbrev main_v87 : Ref sig .tc := ⟨.hbm, 116, rfl⟩
abbrev main_v88 : Ref sig .tc := ⟨.hbm, 117, rfl⟩
abbrev main_cst_10 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_11 : Ref sig .tc := ⟨.hbm, 145, rfl⟩
abbrev main_v115 : Ref sig .tc := ⟨.hbm, 146, rfl⟩
abbrev main_v116 : Ref sig .tc := ⟨.hbm, 147, rfl⟩
abbrev main_cst_12 : Ref sig .tc := ⟨.hbm, 148, rfl⟩
abbrev main_v117 : Ref sig .tc := ⟨.hbm, 149, rfl⟩
abbrev main_v118 : Ref sig .tc := ⟨.hbm, 150, rfl⟩
abbrev main_cst_13 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_14 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩

abbrev nD : Nat := 1
abbrev τ : Topo := Topo.v7x

variable {F : FTy → Type} [FloatOps F]
-- ==== Kernel4.lean ====
abbrev S4x16x8192 : Shape := ⟨3, ![4, 16, 8192]⟩
abbrev S4x8192x1024 : Shape := ⟨3, ![4, 8192, 1024]⟩
abbrev S4x16x1024x1024 : Shape := ⟨4, ![4, 16, 1024, 1024]⟩
abbrev S4x16x16 : Shape := ⟨3, ![4, 16, 16]⟩
abbrev S_ : Shape := ⟨0, ![]⟩
abbrev S4x16x1 : Shape := ⟨3, ![4, 16, 1]⟩
abbrev S4x16x17 : Shape := ⟨3, ![4, 16, 17]⟩
abbrev S16x4x17 : Shape := ⟨3, ![16, 4, 17]⟩
abbrev S1088 : Shape := ⟨1, ![1088]⟩
abbrev S4x16x1x8192 : Shape := ⟨4, ![4, 16, 1, 8192]⟩
abbrev S16x4x1024x1024 : Shape := ⟨4, ![16, 4, 1024, 1024]⟩
abbrev S1x1x1x2048 : Shape := ⟨4, ![1, 1, 1, 2048]⟩
abbrev S1x2048x1024 : Shape := ⟨3, ![1, 2048, 1024]⟩
abbrev S1x1x1024x1024 : Shape := ⟨4, ![1, 1, 1024, 1024]⟩
abbrev S1664x1024 : Shape := ⟨2, ![1664, 1024]⟩
abbrev S1664x128 : Shape := ⟨2, ![1664, 128]⟩
abbrev S1024x1024 : Shape := ⟨2, ![1024, 1024]⟩
abbrev S1 : Shape := ⟨1, ![1]⟩
abbrev S128x512 : Shape := ⟨2, ![128, 512]⟩
abbrev S1x2048 : Shape := ⟨2, ![1, 2048]⟩
abbrev S1x512 : Shape := ⟨2, ![1, 512]⟩
abbrev S128x1024 : Shape := ⟨2, ![128, 1024]⟩
abbrev S1x512x1024 : Shape := ⟨3, ![1, 512, 1024]⟩
abbrev S512x1024 : Shape := ⟨2, ![512, 1024]⟩
abbrev S128 : Shape := ⟨1, ![128]⟩
abbrev S128x1 : Shape := ⟨2, ![128, 1]⟩
abbrev S128x128 : Shape := ⟨2, ![128, 128]⟩
abbrev S512x1 : Shape := ⟨2, ![512, 1]⟩
abbrev S1x1x512x1024 : Shape := ⟨4, ![1, 1, 512, 1024]⟩

abbrev nBuf : Space → Nat
  | .hbm => 15
  | .vmem => 16
  | .smem => 1
  | _ => 0

abbrev bufTy : (tb : Table) → Fin (tcTables nBuf tb) → BufTy
  | .hbm, ⟨0, _⟩ => ⟨S4x16x8192, .i32⟩
  | .hbm, ⟨1, _⟩ => ⟨S4x16x8192, .i32⟩
  | .hbm, ⟨2, _⟩ => ⟨S4x16x8192, .f32⟩
  | .hbm, ⟨3, _⟩ => ⟨S4x8192x1024, .bf16⟩
  | .hbm, ⟨4, _⟩ => ⟨S4x16x1024x1024, .f32⟩
  | .hbm, ⟨5, _⟩ => ⟨S4x16x1024x1024, .f32⟩
  | .hbm, ⟨6, _⟩ => ⟨S4x16x1024x1024, .f32⟩
  | .hbm, ⟨7, _⟩ => ⟨S4x16x16, .i32⟩
  | .hbm, ⟨8, _⟩ => ⟨S_, .i32⟩
  | .hbm, ⟨9, _⟩ => ⟨S4x16x1, .i32⟩
  | .hbm, ⟨10, _⟩ => ⟨S4x16x17, .i32⟩
  | .hbm, ⟨11, _⟩ => ⟨S16x4x17, .i32⟩
  | .hbm, ⟨12, _⟩ => ⟨S4x16x1x8192, .i32⟩
  | .hbm, ⟨13, _⟩ => ⟨S4x16x1x8192, .f32⟩
  | .hbm, ⟨14, _⟩ => ⟨S16x4x1024x1024, .bf16⟩
  | .local _ .vmem, ⟨0, _⟩ => ⟨S1x1x1x2048, .i32⟩
  | .local _ .vmem, ⟨1, _⟩ => ⟨S1x1x1x2048, .i32⟩
  | .local _ .vmem, ⟨2, _⟩ => ⟨S1x1x1x2048, .f32⟩
  | .local _ .vmem, ⟨3, _⟩ => ⟨S1x1x1x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .bf16⟩
  | .local _ .vmem, ⟨10, _⟩ => ⟨S1x1x1024x1024, .bf16⟩
  | .local _ .vmem, ⟨11, _⟩ => ⟨S1664x1024, .f32⟩
  | .local _ .vmem, ⟨12, _⟩ => ⟨S1664x128, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .smem, ⟨0, _⟩ => ⟨S1088, .i32⟩
  | _, _ => ⟨S4x16x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![16, 4, 4], ![false, false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v8 : BitVec 32 := Scalar.muli arg0 c4_i32
  let arg1 : BitVec 32 := BitVec.ofNat 32 (i 1).val
  let v9 : BitVec 32 := Scalar.addi v8 arg1
  let c17_i32 : BitVec 32 := 17#32
  let v10 : BitVec 32 := Scalar.muli v9 c17_i32
  let arg2 : BitVec 32 := BitVec.ofNat 32 (i 2).val
  let c4_i32_4 : BitVec 32 := 4#32
  let v11 : BitVec 32 := Scalar.muli arg2 c4_i32_4
  let v12 : BitVec 32 := Scalar.addi v10 v11
  let c0_i32_5 : BitVec 32 := 0#32
  let v13 : BitVec 32 := Scalar.addi v12 c0_i32_5
  let v14 : Index := Scalar.indexCast v13
  ![v14.toNat]
def k0_off2 (i : grid0.Coords) : Fin 1 → Nat :=
  let arg0 : BitVec 32 := BitVec.ofNat 32 (i 0).val
  let c4_i32 : BitVec 32 := 4#32
  let v8 : BitVec 32 := Scalar.muli arg0 c4_i32
  let arg1 : BitVec 32 := BitVec.ofNat 32 (i 1).val
  let v9 : BitVec 32 := Scalar.addi v8 arg1
  let c17_i32 : BitVec 32 := 17#32
  let v10 : BitVec 32 := Scalar.muli v9 c17_i32
  let arg2 : BitVec 32 := BitVec.ofNat 32 (i 2).val
  let c4_i32_4 : BitVec 32 := 4#32
  let v11 : BitVec 32 := Scalar.muli arg2 c4_i32_4
  let v12 : BitVec 32 := Scalar.addi v10 v11
  let c0_i32_5 : BitVec 32 := 0#32
  let v13 : BitVec 32 := Scalar.addi v12 c0_i32_5
  let c1_i32 : BitVec 32 := 1#32
  let v16 : BitVec 32 := Scalar.addi v13 c1_i32
  let v17 : Index := Scalar.indexCast v16
  ![v17.toNat]
def k0_mult1 (v15 : BitVec 32) : BitVec 32 :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c0_i32_13 : BitVec 32 := 0#32
  let v37 : BitVec 32 := Scalar.addi v36 c0_i32_13
  v37

def k0_off3 (v15 : BitVec 32) : Fin 2 → Nat :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c0_i32_13 : BitVec 32 := 0#32
  let v37 : BitVec 32 := Scalar.addi v36 c0_i32_13
  let v38 : BitVec 32 := v37
  let v295 : Index := Scalar.indexCast v38
  let c0_111 : Index := 0#32
  ![v295.toNat, 0]
def k0_cond3 (v15 : BitVec 32) (v18 : BitVec 32) : BitVec 1 :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c0_i32_13 : BitVec 32 := 0#32
  let v37 : BitVec 32 := Scalar.addi v36 c0_i32_13
  let v38 : BitVec 32 := v37
  let v39 : BitVec 1 := Scalar.cmpi .slt v38 v18
  let c128_i32 : BitVec 32 := 128#32
  let v40 : BitVec 32 := Scalar.addi v38 c128_i32
  let v41 : BitVec 1 := Scalar.cmpi .sgt v40 v15
  let v42 : BitVec 1 := Scalar.andi v39 v41
  let v43 : BitVec 32 := Scalar.extui v42
  let c0_i32_14 : BitVec 32 := 0#32
  let v44 : BitVec 1 := Scalar.cmpi .ne v43 c0_i32_14
  v44

def k0_off4 (v15 : BitVec 32) : Fin 2 → Nat :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c0_i32_13 : BitVec 32 := 0#32
  let v37 : BitVec 32 := Scalar.addi v36 c0_i32_13
  let v38 : BitVec 32 := v37
  let v317 : Index := Scalar.indexCast v38
  let c0_122 : Index := 0#32
  ![v317.toNat, 0]
def k0_mult2 (v15 : BitVec 32) : BitVec 32 :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c128_i32_15 : BitVec 32 := 128#32
  let v45 : BitVec 32 := Scalar.addi v36 c128_i32_15
  v45
def k0_off5 (v15 : BitVec 32) : Fin 2 → Nat :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c128_i32_15 : BitVec 32 := 128#32
  let v45 : BitVec 32 := Scalar.addi v36 c128_i32_15
  let v46 : BitVec 32 := v45
  let v295 : Index := Scalar.indexCast v46
  let c0_111 : Index := 0#32
  ![v295.toNat, 0]
def k0_cond4 (v15 : BitVec 32) (v18 : BitVec 32) : BitVec 1 :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c128_i32_15 : BitVec 32 := 128#32
  let v45 : BitVec 32 := Scalar.addi v36 c128_i32_15
  let v46 : BitVec 32 := v45
  let v47 : BitVec 1 := Scalar.cmpi .slt v46 v18
  let c128_i32_16 : BitVec 32 := 128#32
  let v48 : BitVec 32 := Scalar.addi v46 c128_i32_16
  let v49 : BitVec 1 := Scalar.cmpi .sgt v48 v15
  let v50 : BitVec 1 := Scalar.andi v47 v49
  let v51 : BitVec 32 := Scalar.extui v50
  let c0_i32_17 : BitVec 32 := 0#32
  let v52 : BitVec 1 := Scalar.cmpi .ne v51 c0_i32_17
  v52

def k0_off6 (v15 : BitVec 32) : Fin 2 → Nat :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c128_i32_15 : BitVec 32 := 128#32
  let v45 : BitVec 32 := Scalar.addi v36 c128_i32_15
  let v46 : BitVec 32 := v45
  let v317 : Index := Scalar.indexCast v46
  let c0_122 : Index := 0#32
  ![v317.toNat, 0]
def k0_mult3 (v15 : BitVec 32) : BitVec 32 :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c256_i32 : BitVec 32 := 256#32
  let v53 : BitVec 32 := Scalar.addi v36 c256_i32
  v53
def k0_off7 (v15 : BitVec 32) : Fin 2 → Nat :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c256_i32 : BitVec 32 := 256#32
  let v53 : BitVec 32 := Scalar.addi v36 c256_i32
  let v54 : BitVec 32 := v53
  let v295 : Index := Scalar.indexCast v54
  let c0_111 : Index := 0#32
  ![v295.toNat, 0]
def k0_cond5 (v15 : BitVec 32) (v18 : BitVec 32) : BitVec 1 :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c256_i32 : BitVec 32 := 256#32
  let v53 : BitVec 32 := Scalar.addi v36 c256_i32
  let v54 : BitVec 32 := v53
  let v55 : BitVec 1 := Scalar.cmpi .slt v54 v18
  let c128_i32_18 : BitVec 32 := 128#32
  let v56 : BitVec 32 := Scalar.addi v54 c128_i32_18
  let v57 : BitVec 1 := Scalar.cmpi .sgt v56 v15
  let v58 : BitVec 1 := Scalar.andi v55 v57
  let v59 : BitVec 32 := Scalar.extui v58
  let c0_i32_19 : BitVec 32 := 0#32
  let v60 : BitVec 1 := Scalar.cmpi .ne v59 c0_i32_19
  v60

def k0_off8 (v15 : BitVec 32) : Fin 2 → Nat :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c256_i32 : BitVec 32 := 256#32
  let v53 : BitVec 32 := Scalar.addi v36 c256_i32
  let v54 : BitVec 32 := v53
  let v317 : Index := Scalar.indexCast v54
  let c0_122 : Index := 0#32
  ![v317.toNat, 0]
def k0_mult4 (v15 : BitVec 32) : BitVec 32 :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c384_i32 : BitVec 32 := 384#32
  let v61 : BitVec 32 := Scalar.addi v36 c384_i32
  v61
def k0_off9 (v15 : BitVec 32) : Fin 2 → Nat :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c384_i32 : BitVec 32 := 384#32
  let v61 : BitVec 32 := Scalar.addi v36 c384_i32
  let v62 : BitVec 32 := v61
  let v295 : Index := Scalar.indexCast v62
  let c0_111 : Index := 0#32
  ![v295.toNat, 0]
def k0_cond6 (v15 : BitVec 32) (v18 : BitVec 32) : BitVec 1 :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c384_i32 : BitVec 32 := 384#32
  let v61 : BitVec 32 := Scalar.addi v36 c384_i32
  let v62 : BitVec 32 := v61
  let v63 : BitVec 1 := Scalar.cmpi .slt v62 v18
  let c128_i32_20 : BitVec 32 := 128#32
  let v64 : BitVec 32 := Scalar.addi v62 c128_i32_20
  let v65 : BitVec 1 := Scalar.cmpi .sgt v64 v15
  let v66 : BitVec 1 := Scalar.andi v63 v65
  let v67 : BitVec 32 := Scalar.extui v66
  let c0_i32_21 : BitVec 32 := 0#32
  let v68 : BitVec 1 := Scalar.cmpi .ne v67 c0_i32_21
  v68

def k0_off10 (v15 : BitVec 32) : Fin 2 → Nat :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c384_i32 : BitVec 32 := 384#32
  let v61 : BitVec 32 := Scalar.addi v36 c384_i32
  let v62 : BitVec 32 := v61
  let v317 : Index := Scalar.indexCast v62
  let c0_122 : Index := 0#32
  ![v317.toNat, 0]
def k0_mult5 (v15 : BitVec 32) : BitVec 32 :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c512_i32 : BitVec 32 := 512#32
  let v69 : BitVec 32 := Scalar.addi v36 c512_i32
  v69

def k0_chk1 (v15 : BitVec 32) : Prop :=
  (8 ∣ (k0_mult1 v15).toNat) ∧
  (8 ∣ (k0_mult2 v15).toNat) ∧
  (8 ∣ (k0_mult3 v15).toNat) ∧
  (8 ∣ (k0_mult4 v15).toNat) ∧
  (8 ∣ (k0_mult5 v15).toNat)
theorem k0_mult1_dvd : ∀ (v15 : BitVec 32) (k0_hw1 : k0_chk1 v15), 8 ∣ (k0_mult1 v15).toNat := fun v15 k0_hw1 => k0_hw1.1
theorem k0_mult2_dvd : ∀ (v15 : BitVec 32) (k0_hw1 : k0_chk1 v15), 8 ∣ (k0_mult2 v15).toNat := fun v15 k0_hw1 => k0_hw1.2.1
theorem k0_mult3_dvd : ∀ (v15 : BitVec 32) (k0_hw1 : k0_chk1 v15), 8 ∣ (k0_mult3 v15).toNat := fun v15 k0_hw1 => k0_hw1.2.2.1
theorem k0_mult4_dvd : ∀ (v15 : BitVec 32) (k0_hw1 : k0_chk1 v15), 8 ∣ (k0_mult4 v15).toNat := fun v15 k0_hw1 => k0_hw1.2.2.2.1
theorem k0_mult5_dvd : ∀ (v15 : BitVec 32) (k0_hw1 : k0_chk1 v15), 8 ∣ (k0_mult5 v15).toNat := fun v15 k0_hw1 => k0_hw1.2.2.2.2

def k0_off11 (v15 : BitVec 32) : Fin 2 → Nat :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c512_i32 : BitVec 32 := 512#32
  let v69 : BitVec 32 := Scalar.addi v36 c512_i32
  let v70 : BitVec 32 := v69
  let v295 : Index := Scalar.indexCast v70
  let c0_111 : Index := 0#32
  ![v295.toNat, 0]
def k0_cond7 (v15 : BitVec 32) (v18 : BitVec 32) : BitVec 1 :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c512_i32 : BitVec 32 := 512#32
  let v69 : BitVec 32 := Scalar.addi v36 c512_i32
  let v70 : BitVec 32 := v69
  let v71 : BitVec 1 := Scalar.cmpi .slt v70 v18
  let c128_i32_22 : BitVec 32 := 128#32
  let v72 : BitVec 32 := Scalar.addi v70 c128_i32_22
  let v73 : BitVec 1 := Scalar.cmpi .sgt v72 v15
  let v74 : BitVec 1 := Scalar.andi v71 v73
  let v75 : BitVec 32 := Scalar.extui v74
  let c0_i32_23 : BitVec 32 := 0#32
  let v76 : BitVec 1 := Scalar.cmpi .ne v75 c0_i32_23
  v76

def k0_off12 (v15 : BitVec 32) : Fin 2 → Nat :=
  let c0_i32_6 : BitVec 32 := 0#32
  let v20 : BitVec 1 := Scalar.cmpi .sgt v15 c0_i32_6
  let v21 : BitVec 32 := Scalar.extui v20
  let c0_i32_7 : BitVec 32 := 0#32
  let v22 : BitVec 1 := Scalar.cmpi .slt v15 c0_i32_7
  let v23 : BitVec 32 := Scalar.extui v22
  let v24 : BitVec 32 := Scalar.subi v21 v23
  let c8_i32 : BitVec 32 := 8#32
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v15 c8_i32
  let c0_i32_10 : BitVec 32 := 0#32
  let v32 : BitVec 1 := Scalar.cmpi .ne v31 c0_i32_10
  let v33 : BitVec 1 := Scalar.andi v30 v32
  let v19 : BitVec 32 := Scalar.divsi v15 c8_i32
  let c1_i32_11 : BitVec 32 := 1#32
  let v34 : BitVec 32 := Scalar.subi v19 c1_i32_11
  let v35 : BitVec 32 := Scalar.select v33 v34 v19
  let c8_i32_12 : BitVec 32 := 8#32
  let v36 : BitVec 32 := Scalar.muli v35 c8_i32_12
  let c512_i32 : BitVec 32 := 512#32
  let v69 : BitVec 32 := Scalar.addi v36 c512_i32
  let v70 : BitVec 32 := v69
  let v317 : Index := Scalar.indexCast v70
  let c0_122 : Index := 0#32
  ![v317.toNat, 0]

def k0_chk2 (v15 : BitVec 32) (v18 : BitVec 32) : Prop :=
  (∀ (k0_h3 : k0_cond3 v15 v18 = 1#1), ∀ a, (k0_off3 v15) a + S128x1024.size a ≤ S1664x1024.size a) ∧
  (∀ (k0_h3 : k0_cond3 v15 v18 = 1#1), ∀ a, (k0_off4 v15) a + S128x128.size a ≤ S1664x128.size a) ∧
  (∀ (k0_h4 : k0_cond4 v15 v18 = 1#1), ∀ a, (k0_off5 v15) a + S128x1024.size a ≤ S1664x1024.size a) ∧
  (∀ (k0_h4 : k0_cond4 v15 v18 = 1#1), ∀ a, (k0_off6 v15) a + S128x128.size a ≤ S1664x128.size a) ∧
  (∀ (k0_h5 : k0_cond5 v15 v18 = 1#1), ∀ a, (k0_off7 v15) a + S128x1024.size a ≤ S1664x1024.size a) ∧
  (∀ (k0_h5 : k0_cond5 v15 v18 = 1#1), ∀ a, (k0_off8 v15) a + S128x128.size a ≤ S1664x128.size a) ∧
  (∀ (k0_h6 : k0_cond6 v15 v18 = 1#1), ∀ a, (k0_off9 v15) a + S128x1024.size a ≤ S1664x1024.size a) ∧
  (∀ (k0_h6 : k0_cond6 v15 v18 = 1#1), ∀ a, (k0_off10 v15) a + S128x128.size a ≤ S1664x128.size a) ∧
  (∀ (k0_h7 : k0_cond7 v15 v18 = 1#1), ∀ a, (k0_off11 v15) a + S128x1024.size a ≤ S1664x1024.size a) ∧
  (∀ (k0_h7 : k0_cond7 v15 v18 = 1#1), ∀ a, (k0_off12 v15) a + S128x128.size a ≤ S1664x128.size a)
theorem k0_off3_inb : ∀ (v15 : BitVec 32) (v18 : BitVec 32) (k0_hw2 : k0_chk2 v15 v18), ∀ (k0_h3 : k0_cond3 v15 v18 = 1#1), ∀ a, (k0_off3 v15) a + S128x1024.size a ≤ S1664x1024.size a := fun v15 v18 k0_hw2 k0_h3 => k0_hw2.1 k0_h3
theorem k0_off4_inb : ∀ (v15 : BitVec 32) (v18 : BitVec 32) (k0_hw2 : k0_chk2 v15 v18), ∀ (k0_h3 : k0_cond3 v15 v18 = 1#1), ∀ a, (k0_off4 v15) a + S128x128.size a ≤ S1664x128.size a := fun v15 v18 k0_hw2 k0_h3 => k0_hw2.2.1 k0_h3
theorem k0_off5_inb : ∀ (v15 : BitVec 32) (v18 : BitVec 32) (k0_hw2 : k0_chk2 v15 v18), ∀ (k0_h4 : k0_cond4 v15 v18 = 1#1), ∀ a, (k0_off5 v15) a + S128x1024.size a ≤ S1664x1024.size a := fun v15 v18 k0_hw2 k0_h4 => k0_hw2.2.2.1 k0_h4
theorem k0_off6_inb : ∀ (v15 : BitVec 32) (v18 : BitVec 32) (k0_hw2 : k0_chk2 v15 v18), ∀ (k0_h4 : k0_cond4 v15 v18 = 1#1), ∀ a, (k0_off6 v15) a + S128x128.size a ≤ S1664x128.size a := fun v15 v18 k0_hw2 k0_h4 => k0_hw2.2.2.2.1 k0_h4
theorem k0_off7_inb : ∀ (v15 : BitVec 32) (v18 : BitVec 32) (k0_hw2 : k0_chk2 v15 v18), ∀ (k0_h5 : k0_cond5 v15 v18 = 1#1), ∀ a, (k0_off7 v15) a + S128x1024.size a ≤ S1664x1024.size a := fun v15 v18 k0_hw2 k0_h5 => k0_hw2.2.2.2.2.1 k0_h5
theorem k0_off8_inb : ∀ (v15 : BitVec 32) (v18 : BitVec 32) (k0_hw2 : k0_chk2 v15 v18), ∀ (k0_h5 : k0_cond5 v15 v18 = 1#1), ∀ a, (k0_off8 v15) a + S128x128.size a ≤ S1664x128.size a := fun v15 v18 k0_hw2 k0_h5 => k0_hw2.2.2.2.2.2.1 k0_h5
theorem k0_off9_inb : ∀ (v15 : BitVec 32) (v18 : BitVec 32) (k0_hw2 : k0_chk2 v15 v18), ∀ (k0_h6 : k0_cond6 v15 v18 = 1#1), ∀ a, (k0_off9 v15) a + S128x1024.size a ≤ S1664x1024.size a := fun v15 v18 k0_hw2 k0_h6 => k0_hw2.2.2.2.2.2.2.1 k0_h6
theorem k0_off10_inb : ∀ (v15 : BitVec 32) (v18 : BitVec 32) (k0_hw2 : k0_chk2 v15 v18), ∀ (k0_h6 : k0_cond6 v15 v18 = 1#1), ∀ a, (k0_off10 v15) a + S128x128.size a ≤ S1664x128.size a := fun v15 v18 k0_hw2 k0_h6 => k0_hw2.2.2.2.2.2.2.2.1 k0_h6
theorem k0_off11_inb : ∀ (v15 : BitVec 32) (v18 : BitVec 32) (k0_hw2 : k0_chk2 v15 v18), ∀ (k0_h7 : k0_cond7 v15 v18 = 1#1), ∀ a, (k0_off11 v15) a + S128x1024.size a ≤ S1664x1024.size a := fun v15 v18 k0_hw2 k0_h7 => k0_hw2.2.2.2.2.2.2.2.2.1 k0_h7
theorem k0_off12_inb : ∀ (v15 : BitVec 32) (v18 : BitVec 32) (k0_hw2 : k0_chk2 v15 v18), ∀ (k0_h7 : k0_cond7 v15 v18 = 1#1), ∀ a, (k0_off12 v15) a + S128x128.size a ≤ S1664x128.size a := fun v15 v18 k0_hw2 k0_h7 => k0_hw2.2.2.2.2.2.2.2.2.2 k0_h7

def k0_off13 (i : grid0.Coords) : Fin 1 → Nat :=
  let arg0 : BitVec 32 := BitVec.ofNat 32 (i 0).val
  let c4_i32_24 : BitVec 32 := 4#32
  let v77 : BitVec 32 := Scalar.muli arg0 c4_i32_24
  let arg1 : BitVec 32 := BitVec.ofNat 32 (i 1).val
  let v78 : BitVec 32 := Scalar.addi v77 arg1
  let c17_i32_25 : BitVec 32 := 17#32
  let v79 : BitVec 32 := Scalar.muli v78 c17_i32_25
  let arg2 : BitVec 32 := BitVec.ofNat 32 (i 2).val
  let c4_i32_26 : BitVec 32 := 4#32
  let v80 : BitVec 32 := Scalar.muli arg2 c4_i32_26
  let v81 : BitVec 32 := Scalar.addi v79 v80
  let c1_i32_27 : BitVec 32 := 1#32
  let v82 : BitVec 32 := Scalar.addi v81 c1_i32_27
  let v83 : Index := Scalar.indexCast v82
  ![v83.toNat]
def k0_off14 (i : grid0.Coords) : Fin 1 → Nat :=
  let arg0 : BitVec 32 := BitVec.ofNat 32 (i 0).val
  let c4_i32_24 : BitVec 32 := 4#32
  let v77 : BitVec 32 := Scalar.muli arg0 c4_i32_24
  let arg1 : BitVec 32 := BitVec.ofNat 32 (i 1).val
  let v78 : BitVec 32 := Scalar.addi v77 arg1
  let c17_i32_25 : BitVec 32 := 17#32
  let v79 : BitVec 32 := Scalar.muli v78 c17_i32_25
  let arg2 : BitVec 32 := BitVec.ofNat 32 (i 2).val
  let c4_i32_26 : BitVec 32 := 4#32
  let v80 : BitVec 32 := Scalar.muli arg2 c4_i32_26
  let v81 : BitVec 32 := Scalar.addi v79 v80
  let c1_i32_27 : BitVec 32 := 1#32
  let v82 : BitVec 32 := Scalar.addi v81 c1_i32_27
  let c1_i32_28 : BitVec 32 := 1#32
  let v85 : BitVec 32 := Scalar.addi v82 c1_i32_28
  let v86 : Index := Scalar.indexCast v85
  ![v86.toNat]
def k0_mult6 (v84 : BitVec 32) : BitVec 32 :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c0_i32_37 : BitVec 32 := 0#32
  let v106 : BitVec 32 := Scalar.addi v105 c0_i32_37
  v106

def k0_off15 (v84 : BitVec 32) : Fin 2 → Nat :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c0_i32_37 : BitVec 32 := 0#32
  let v106 : BitVec 32 := Scalar.addi v105 c0_i32_37
  let v107 : BitVec 32 := v106
  let v295 : Index := Scalar.indexCast v107
  let c0_111 : Index := 0#32
  ![v295.toNat, 0]
def k0_cond8 (v84 : BitVec 32) (v87 : BitVec 32) : BitVec 1 :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c0_i32_37 : BitVec 32 := 0#32
  let v106 : BitVec 32 := Scalar.addi v105 c0_i32_37
  let v107 : BitVec 32 := v106
  let v108 : BitVec 1 := Scalar.cmpi .slt v107 v87
  let c128_i32_38 : BitVec 32 := 128#32
  let v109 : BitVec 32 := Scalar.addi v107 c128_i32_38
  let v110 : BitVec 1 := Scalar.cmpi .sgt v109 v84
  let v111 : BitVec 1 := Scalar.andi v108 v110
  let v112 : BitVec 32 := Scalar.extui v111
  let c0_i32_39 : BitVec 32 := 0#32
  let v113 : BitVec 1 := Scalar.cmpi .ne v112 c0_i32_39
  v113

def k0_off16 (v84 : BitVec 32) : Fin 2 → Nat :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c0_i32_37 : BitVec 32 := 0#32
  let v106 : BitVec 32 := Scalar.addi v105 c0_i32_37
  let v107 : BitVec 32 := v106
  let v317 : Index := Scalar.indexCast v107
  let c0_121 : Index := 0#32
  ![v317.toNat, 0]
def k0_mult7 (v84 : BitVec 32) : BitVec 32 :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c128_i32_40 : BitVec 32 := 128#32
  let v114 : BitVec 32 := Scalar.addi v105 c128_i32_40
  v114
def k0_off17 (v84 : BitVec 32) : Fin 2 → Nat :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c128_i32_40 : BitVec 32 := 128#32
  let v114 : BitVec 32 := Scalar.addi v105 c128_i32_40
  let v115 : BitVec 32 := v114
  let v295 : Index := Scalar.indexCast v115
  let c0_111 : Index := 0#32
  ![v295.toNat, 0]
def k0_cond9 (v84 : BitVec 32) (v87 : BitVec 32) : BitVec 1 :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c128_i32_40 : BitVec 32 := 128#32
  let v114 : BitVec 32 := Scalar.addi v105 c128_i32_40
  let v115 : BitVec 32 := v114
  let v116 : BitVec 1 := Scalar.cmpi .slt v115 v87
  let c128_i32_41 : BitVec 32 := 128#32
  let v117 : BitVec 32 := Scalar.addi v115 c128_i32_41
  let v118 : BitVec 1 := Scalar.cmpi .sgt v117 v84
  let v119 : BitVec 1 := Scalar.andi v116 v118
  let v120 : BitVec 32 := Scalar.extui v119
  let c0_i32_42 : BitVec 32 := 0#32
  let v121 : BitVec 1 := Scalar.cmpi .ne v120 c0_i32_42
  v121

def k0_off18 (v84 : BitVec 32) : Fin 2 → Nat :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c128_i32_40 : BitVec 32 := 128#32
  let v114 : BitVec 32 := Scalar.addi v105 c128_i32_40
  let v115 : BitVec 32 := v114
  let v317 : Index := Scalar.indexCast v115
  let c0_121 : Index := 0#32
  ![v317.toNat, 0]
def k0_mult8 (v84 : BitVec 32) : BitVec 32 :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c256_i32_43 : BitVec 32 := 256#32
  let v122 : BitVec 32 := Scalar.addi v105 c256_i32_43
  v122
def k0_off19 (v84 : BitVec 32) : Fin 2 → Nat :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c256_i32_43 : BitVec 32 := 256#32
  let v122 : BitVec 32 := Scalar.addi v105 c256_i32_43
  let v123 : BitVec 32 := v122
  let v295 : Index := Scalar.indexCast v123
  let c0_111 : Index := 0#32
  ![v295.toNat, 0]
def k0_cond10 (v84 : BitVec 32) (v87 : BitVec 32) : BitVec 1 :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c256_i32_43 : BitVec 32 := 256#32
  let v122 : BitVec 32 := Scalar.addi v105 c256_i32_43
  let v123 : BitVec 32 := v122
  let v124 : BitVec 1 := Scalar.cmpi .slt v123 v87
  let c128_i32_44 : BitVec 32 := 128#32
  let v125 : BitVec 32 := Scalar.addi v123 c128_i32_44
  let v126 : BitVec 1 := Scalar.cmpi .sgt v125 v84
  let v127 : BitVec 1 := Scalar.andi v124 v126
  let v128 : BitVec 32 := Scalar.extui v127
  let c0_i32_45 : BitVec 32 := 0#32
  let v129 : BitVec 1 := Scalar.cmpi .ne v128 c0_i32_45
  v129

def k0_off20 (v84 : BitVec 32) : Fin 2 → Nat :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c256_i32_43 : BitVec 32 := 256#32
  let v122 : BitVec 32 := Scalar.addi v105 c256_i32_43
  let v123 : BitVec 32 := v122
  let v317 : Index := Scalar.indexCast v123
  let c0_121 : Index := 0#32
  ![v317.toNat, 0]
def k0_mult9 (v84 : BitVec 32) : BitVec 32 :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c384_i32_46 : BitVec 32 := 384#32
  let v130 : BitVec 32 := Scalar.addi v105 c384_i32_46
  v130
def k0_off21 (v84 : BitVec 32) : Fin 2 → Nat :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c384_i32_46 : BitVec 32 := 384#32
  let v130 : BitVec 32 := Scalar.addi v105 c384_i32_46
  let v131 : BitVec 32 := v130
  let v295 : Index := Scalar.indexCast v131
  let c0_111 : Index := 0#32
  ![v295.toNat, 0]
def k0_cond11 (v84 : BitVec 32) (v87 : BitVec 32) : BitVec 1 :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c384_i32_46 : BitVec 32 := 384#32
  let v130 : BitVec 32 := Scalar.addi v105 c384_i32_46
  let v131 : BitVec 32 := v130
  let v132 : BitVec 1 := Scalar.cmpi .slt v131 v87
  let c128_i32_47 : BitVec 32 := 128#32
  let v133 : BitVec 32 := Scalar.addi v131 c128_i32_47
  let v134 : BitVec 1 := Scalar.cmpi .sgt v133 v84
  let v135 : BitVec 1 := Scalar.andi v132 v134
  let v136 : BitVec 32 := Scalar.extui v135
  let c0_i32_48 : BitVec 32 := 0#32
  let v137 : BitVec 1 := Scalar.cmpi .ne v136 c0_i32_48
  v137

def k0_off22 (v84 : BitVec 32) : Fin 2 → Nat :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c384_i32_46 : BitVec 32 := 384#32
  let v130 : BitVec 32 := Scalar.addi v105 c384_i32_46
  let v131 : BitVec 32 := v130
  let v317 : Index := Scalar.indexCast v131
  let c0_121 : Index := 0#32
  ![v317.toNat, 0]
def k0_mult10 (v84 : BitVec 32) : BitVec 32 :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c512_i32_49 : BitVec 32 := 512#32
  let v138 : BitVec 32 := Scalar.addi v105 c512_i32_49
  v138

def k0_chk3 (v84 : BitVec 32) : Prop :=
  (8 ∣ (k0_mult6 v84).toNat) ∧
  (8 ∣ (k0_mult7 v84).toNat) ∧
  (8 ∣ (k0_mult8 v84).toNat) ∧
  (8 ∣ (k0_mult9 v84).toNat) ∧
  (8 ∣ (k0_mult10 v84).toNat)
theorem k0_mult6_dvd : ∀ (v84 : BitVec 32) (k0_hw3 : k0_chk3 v84), 8 ∣ (k0_mult6 v84).toNat := fun v84 k0_hw3 => k0_hw3.1
theorem k0_mult7_dvd : ∀ (v84 : BitVec 32) (k0_hw3 : k0_chk3 v84), 8 ∣ (k0_mult7 v84).toNat := fun v84 k0_hw3 => k0_hw3.2.1
theorem k0_mult8_dvd : ∀ (v84 : BitVec 32) (k0_hw3 : k0_chk3 v84), 8 ∣ (k0_mult8 v84).toNat := fun v84 k0_hw3 => k0_hw3.2.2.1
theorem k0_mult9_dvd : ∀ (v84 : BitVec 32) (k0_hw3 : k0_chk3 v84), 8 ∣ (k0_mult9 v84).toNat := fun v84 k0_hw3 => k0_hw3.2.2.2.1
theorem k0_mult10_dvd : ∀ (v84 : BitVec 32) (k0_hw3 : k0_chk3 v84), 8 ∣ (k0_mult10 v84).toNat := fun v84 k0_hw3 => k0_hw3.2.2.2.2

def k0_off23 (v84 : BitVec 32) : Fin 2 → Nat :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c512_i32_49 : BitVec 32 := 512#32
  let v138 : BitVec 32 := Scalar.addi v105 c512_i32_49
  let v139 : BitVec 32 := v138
  let v295 : Index := Scalar.indexCast v139
  let c0_111 : Index := 0#32
  ![v295.toNat, 0]
def k0_cond12 (v84 : BitVec 32) (v87 : BitVec 32) : BitVec 1 :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c512_i32_49 : BitVec 32 := 512#32
  let v138 : BitVec 32 := Scalar.addi v105 c512_i32_49
  let v139 : BitVec 32 := v138
  let v140 : BitVec 1 := Scalar.cmpi .slt v139 v87
  let c128_i32_50 : BitVec 32 := 128#32
  let v141 : BitVec 32 := Scalar.addi v139 c128_i32_50
  let v142 : BitVec 1 := Scalar.cmpi .sgt v141 v84
  let v143 : BitVec 1 := Scalar.andi v140 v142
  let v144 : BitVec 32 := Scalar.extui v143
  let c0_i32_51 : BitVec 32 := 0#32
  let v145 : BitVec 1 := Scalar.cmpi .ne v144 c0_i32_51
  v145

def k0_off24 (v84 : BitVec 32) : Fin 2 → Nat :=
  let c0_i32_30 : BitVec 32 := 0#32
  let v89 : BitVec 1 := Scalar.cmpi .sgt v84 c0_i32_30
  let v90 : BitVec 32 := Scalar.extui v89
  let c0_i32_31 : BitVec 32 := 0#32
  let v91 : BitVec 1 := Scalar.cmpi .slt v84 c0_i32_31
  let v92 : BitVec 32 := Scalar.extui v91
  let v93 : BitVec 32 := Scalar.subi v90 v92
  let c8_i32_29 : BitVec 32 := 8#32
  let c0_i32_32 : BitVec 32 := 0#32
  let v94 : BitVec 1 := Scalar.cmpi .sgt c8_i32_29 c0_i32_32
  let v95 : BitVec 32 := Scalar.extui v94
  let c0_i32_33 : BitVec 32 := 0#32
  let v96 : BitVec 1 := Scalar.cmpi .slt c8_i32_29 c0_i32_33
  let v97 : BitVec 32 := Scalar.extui v96
  let v98 : BitVec 32 := Scalar.subi v95 v97
  let v99 : BitVec 1 := Scalar.cmpi .ne v93 v98
  let v100 : BitVec 32 := Scalar.remsi v84 c8_i32_29
  let c0_i32_34 : BitVec 32 := 0#32
  let v101 : BitVec 1 := Scalar.cmpi .ne v100 c0_i32_34
  let v102 : BitVec 1 := Scalar.andi v99 v101
  let v88 : BitVec 32 := Scalar.divsi v84 c8_i32_29
  let c1_i32_35 : BitVec 32 := 1#32
  let v103 : BitVec 32 := Scalar.subi v88 c1_i32_35
  let v104 : BitVec 32 := Scalar.select v102 v103 v88
  let c8_i32_36 : BitVec 32 := 8#32
  let v105 : BitVec 32 := Scalar.muli v104 c8_i32_36
  let c512_i32_49 : BitVec 32 := 512#32
  let v138 : BitVec 32 := Scalar.addi v105 c512_i32_49
  let v139 : BitVec 32 := v138
  let v317 : Index := Scalar.indexCast v139
  let c0_121 : Index := 0#32
  ![v317.toNat, 0]

def k0_chk4 (v84 : BitVec 32) (v87 : BitVec 32) : Prop :=
  (∀ (k0_h8 : k0_cond8 v84 v87 = 1#1), ∀ a, (k0_off15 v84) a + S128x1024.size a ≤ S1664x1024.size a) ∧
  (∀ (k0_h8 : k0_cond8 v84 v87 = 1#1), ∀ a, (k0_off16 v84) a + S128x128.size a ≤ S1664x128.size a) ∧
  (∀ (k0_h9 : k0_cond9 v84 v87 = 1#1), ∀ a, (k0_off17 v84) a + S128x1024.size a ≤ S1664x1024.size a) ∧
  (∀ (k0_h9 : k0_cond9 v84 v87 = 1#1), ∀ a, (k0_off18 v84) a + S128x128.size a ≤ S1664x128.size a) ∧
  (∀ (k0_h10 : k0_cond10 v84 v87 = 1#1), ∀ a, (k0_off19 v84) a + S128x1024.size a ≤ S1664x1024.size a) ∧
  (∀ (k0_h10 : k0_cond10 v84 v87 = 1#1), ∀ a, (k0_off20 v84) a + S128x128.size a ≤ S1664x128.size a) ∧
  (∀ (k0_h11 : k0_cond11 v84 v87 = 1#1), ∀ a, (k0_off21 v84) a + S128x1024.size a ≤ S1664x1024.size a) ∧
  (∀ (k0_h11 : k0_cond11 v84 v87 = 1#1), ∀ a, (k0_off22 v84) a + S128x128.size a ≤ S1664x128.size a) ∧
  (∀ (k0_h12 : k0_cond12 v84 v87 = 1#1), ∀ a, (k0_off23 v84) a + S128x1024.size a ≤ S1664x1024.size a) ∧
  (∀ (k0_h12 : k0_cond12 v84 v87 = 1#1), ∀ a, (k0_off24 v84) a + S128x128.size a ≤ S1664x128.size a)
theorem k0_off15_inb : ∀ (v84 : BitVec 32) (v87 : BitVec 32) (k0_hw4 : k0_chk4 v84 v87), ∀ (k0_h8 : k0_cond8 v84 v87 = 1#1), ∀ a, (k0_off15 v84) a + S128x1024.size a ≤ S1664x1024.size a := fun v84 v87 k0_hw4 k0_h8 => k0_hw4.1 k0_h8
theorem k0_off16_inb : ∀ (v84 : BitVec 32) (v87 : BitVec 32) (k0_hw4 : k0_chk4 v84 v87), ∀ (k0_h8 : k0_cond8 v84 v87 = 1#1), ∀ a, (k0_off16 v84) a + S128x128.size a ≤ S1664x128.size a := fun v84 v87 k0_hw4 k0_h8 => k0_hw4.2.1 k0_h8
theorem k0_off17_inb : ∀ (v84 : BitVec 32) (v87 : BitVec 32) (k0_hw4 : k0_chk4 v84 v87), ∀ (k0_h9 : k0_cond9 v84 v87 = 1#1), ∀ a, (k0_off17 v84) a + S128x1024.size a ≤ S1664x1024.size a := fun v84 v87 k0_hw4 k0_h9 => k0_hw4.2.2.1 k0_h9
theorem k0_off18_inb : ∀ (v84 : BitVec 32) (v87 : BitVec 32) (k0_hw4 : k0_chk4 v84 v87), ∀ (k0_h9 : k0_cond9 v84 v87 = 1#1), ∀ a, (k0_off18 v84) a + S128x128.size a ≤ S1664x128.size a := fun v84 v87 k0_hw4 k0_h9 => k0_hw4.2.2.2.1 k0_h9
theorem k0_off19_inb : ∀ (v84 : BitVec 32) (v87 : BitVec 32) (k0_hw4 : k0_chk4 v84 v87), ∀ (k0_h10 : k0_cond10 v84 v87 = 1#1), ∀ a, (k0_off19 v84) a + S128x1024.size a ≤ S1664x1024.size a := fun v84 v87 k0_hw4 k0_h10 => k0_hw4.2.2.2.2.1 k0_h10
theorem k0_off20_inb : ∀ (v84 : BitVec 32) (v87 : BitVec 32) (k0_hw4 : k0_chk4 v84 v87), ∀ (k0_h10 : k0_cond10 v84 v87 = 1#1), ∀ a, (k0_off20 v84) a + S128x128.size a ≤ S1664x128.size a := fun v84 v87 k0_hw4 k0_h10 => k0_hw4.2.2.2.2.2.1 k0_h10
theorem k0_off21_inb : ∀ (v84 : BitVec 32) (v87 : BitVec 32) (k0_hw4 : k0_chk4 v84 v87), ∀ (k0_h11 : k0_cond11 v84 v87 = 1#1), ∀ a, (k0_off21 v84) a + S128x1024.size a ≤ S1664x1024.size a := fun v84 v87 k0_hw4 k0_h11 => k0_hw4.2.2.2.2.2.2.1 k0_h11
theorem k0_off22_inb : ∀ (v84 : BitVec 32) (v87 : BitVec 32) (k0_hw4 : k0_chk4 v84 v87), ∀ (k0_h11 : k0_cond11 v84 v87 = 1#1), ∀ a, (k0_off22 v84) a + S128x128.size a ≤ S1664x128.size a := fun v84 v87 k0_hw4 k0_h11 => k0_hw4.2.2.2.2.2.2.2.1 k0_h11
theorem k0_off23_inb : ∀ (v84 : BitVec 32) (v87 : BitVec 32) (k0_hw4 : k0_chk4 v84 v87), ∀ (k0_h12 : k0_cond12 v84 v87 = 1#1), ∀ a, (k0_off23 v84) a + S128x1024.size a ≤ S1664x1024.size a := fun v84 v87 k0_hw4 k0_h12 => k0_hw4.2.2.2.2.2.2.2.2.1 k0_h12
theorem k0_off24_inb : ∀ (v84 : BitVec 32) (v87 : BitVec 32) (k0_hw4 : k0_chk4 v84 v87), ∀ (k0_h12 : k0_cond12 v84 v87 = 1#1), ∀ a, (k0_off24 v84) a + S128x128.size a ≤ S1664x128.size a := fun v84 v87 k0_hw4 k0_h12 => k0_hw4.2.2.2.2.2.2.2.2.2 k0_h12

def k0_off25 (i : grid0.Coords) : Fin 1 → Nat :=
  let arg0 : BitVec 32 := BitVec.ofNat 32 (i 0).val
  let c4_i32_52 : BitVec 32 := 4#32
  let v146 : BitVec 32 := Scalar.muli arg0 c4_i32_52
  let arg1 : BitVec 32 := BitVec.ofNat 32 (i 1).val
  let v147 : BitVec 32 := Scalar.addi v146 arg1
  let c17_i32_53 : BitVec 32 := 17#32
  let v148 : BitVec 32 := Scalar.muli v147 c17_i32_53
  let arg2 : BitVec 32 := BitVec.ofNat 32 (i 2).val
  let c4_i32_54 : BitVec 32 := 4#32
  let v149 : BitVec 32 := Scalar.muli arg2 c4_i32_54
  let v150 : BitVec 32 := Scalar.addi v148 v149
  let c2_i32 : BitVec 32 := 2#32
  let v151 : BitVec 32 := Scalar.addi v150 c2_i32
  let v152 : Index := Scalar.indexCast v151
  ![v152.toNat]
def k0_off26 (i : grid0.Coords) : Fin 1 → Nat :=
  let arg0 : BitVec 32 := BitVec.ofNat 32 (i 0).val
  let c4_i32_52 : BitVec 32 := 4#32
  let v146 : BitVec 32 := Scalar.muli arg0 c4_i32_52
  let arg1 : BitVec 32 := BitVec.ofNat 32 (i 1).val
  let v147 : BitVec 32 := Scalar.addi v146 arg1
  let c17_i32_53 : BitVec 32 := 17#32
  let v148 : BitVec 32 := Scalar.muli v147 c17_i32_53
  let arg2 : BitVec 32 := BitVec.ofNat 32 (i 2).val
  let c4_i32_54 : BitVec 32 := 4#32
  let v149 : BitVec 32 := Scalar.muli arg2 c4_i32_54
  let v150 : BitVec 32 := Scalar.addi v148 v149
  let c2_i32 : BitVec 32 := 2#32
  let v151 : BitVec 32 := Scalar.addi v150 c2_i32
  let c1_i32_55 : BitVec 32 := 1#32
  let v154 : BitVec 32 := Scalar.addi v151 c1_i32_55
  let v155 : Index := Scalar.indexCast v154
  ![v155.toNat]
def k0_mult11 (v153 : BitVec 32) : BitVec 32 :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c0_i32_64 : BitVec 32 := 0#32
  let v175 : BitVec 32 := Scalar.addi v174 c0_i32_64
  v175

def k0_off27 (v153 : BitVec 32) : Fin 2 → Nat :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c0_i32_64 : BitVec 32 := 0#32
  let v175 : BitVec 32 := Scalar.addi v174 c0_i32_64
  let v176 : BitVec 32 := v175
  let v295 : Index := Scalar.indexCast v176
  let c0_111 : Index := 0#32
  ![v295.toNat, 0]
def k0_cond13 (v153 : BitVec 32) (v156 : BitVec 32) : BitVec 1 :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c0_i32_64 : BitVec 32 := 0#32
  let v175 : BitVec 32 := Scalar.addi v174 c0_i32_64
  let v176 : BitVec 32 := v175
  let v177 : BitVec 1 := Scalar.cmpi .slt v176 v156
  let c128_i32_65 : BitVec 32 := 128#32
  let v178 : BitVec 32 := Scalar.addi v176 c128_i32_65
  let v179 : BitVec 1 := Scalar.cmpi .sgt v178 v153
  let v180 : BitVec 1 := Scalar.andi v177 v179
  let v181 : BitVec 32 := Scalar.extui v180
  let c0_i32_66 : BitVec 32 := 0#32
  let v182 : BitVec 1 := Scalar.cmpi .ne v181 c0_i32_66
  v182

def k0_off28 (v153 : BitVec 32) : Fin 2 → Nat :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c0_i32_64 : BitVec 32 := 0#32
  let v175 : BitVec 32 := Scalar.addi v174 c0_i32_64
  let v176 : BitVec 32 := v175
  let v317 : Index := Scalar.indexCast v176
  let c0_121 : Index := 0#32
  ![v317.toNat, 0]
def k0_mult12 (v153 : BitVec 32) : BitVec 32 :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c128_i32_67 : BitVec 32 := 128#32
  let v183 : BitVec 32 := Scalar.addi v174 c128_i32_67
  v183
def k0_off29 (v153 : BitVec 32) : Fin 2 → Nat :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c128_i32_67 : BitVec 32 := 128#32
  let v183 : BitVec 32 := Scalar.addi v174 c128_i32_67
  let v184 : BitVec 32 := v183
  let v295 : Index := Scalar.indexCast v184
  let c0_111 : Index := 0#32
  ![v295.toNat, 0]
def k0_cond14 (v153 : BitVec 32) (v156 : BitVec 32) : BitVec 1 :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c128_i32_67 : BitVec 32 := 128#32
  let v183 : BitVec 32 := Scalar.addi v174 c128_i32_67
  let v184 : BitVec 32 := v183
  let v185 : BitVec 1 := Scalar.cmpi .slt v184 v156
  let c128_i32_68 : BitVec 32 := 128#32
  let v186 : BitVec 32 := Scalar.addi v184 c128_i32_68
  let v187 : BitVec 1 := Scalar.cmpi .sgt v186 v153
  let v188 : BitVec 1 := Scalar.andi v185 v187
  let v189 : BitVec 32 := Scalar.extui v188
  let c0_i32_69 : BitVec 32 := 0#32
  let v190 : BitVec 1 := Scalar.cmpi .ne v189 c0_i32_69
  v190

def k0_off30 (v153 : BitVec 32) : Fin 2 → Nat :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c128_i32_67 : BitVec 32 := 128#32
  let v183 : BitVec 32 := Scalar.addi v174 c128_i32_67
  let v184 : BitVec 32 := v183
  let v317 : Index := Scalar.indexCast v184
  let c0_121 : Index := 0#32
  ![v317.toNat, 0]
def k0_mult13 (v153 : BitVec 32) : BitVec 32 :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c256_i32_70 : BitVec 32 := 256#32
  let v191 : BitVec 32 := Scalar.addi v174 c256_i32_70
  v191
def k0_off31 (v153 : BitVec 32) : Fin 2 → Nat :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c256_i32_70 : BitVec 32 := 256#32
  let v191 : BitVec 32 := Scalar.addi v174 c256_i32_70
  let v192 : BitVec 32 := v191
  let v295 : Index := Scalar.indexCast v192
  let c0_111 : Index := 0#32
  ![v295.toNat, 0]
def k0_cond15 (v153 : BitVec 32) (v156 : BitVec 32) : BitVec 1 :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c256_i32_70 : BitVec 32 := 256#32
  let v191 : BitVec 32 := Scalar.addi v174 c256_i32_70
  let v192 : BitVec 32 := v191
  let v193 : BitVec 1 := Scalar.cmpi .slt v192 v156
  let c128_i32_71 : BitVec 32 := 128#32
  let v194 : BitVec 32 := Scalar.addi v192 c128_i32_71
  let v195 : BitVec 1 := Scalar.cmpi .sgt v194 v153
  let v196 : BitVec 1 := Scalar.andi v193 v195
  let v197 : BitVec 32 := Scalar.extui v196
  let c0_i32_72 : BitVec 32 := 0#32
  let v198 : BitVec 1 := Scalar.cmpi .ne v197 c0_i32_72
  v198

def k0_off32 (v153 : BitVec 32) : Fin 2 → Nat :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c256_i32_70 : BitVec 32 := 256#32
  let v191 : BitVec 32 := Scalar.addi v174 c256_i32_70
  let v192 : BitVec 32 := v191
  let v317 : Index := Scalar.indexCast v192
  let c0_121 : Index := 0#32
  ![v317.toNat, 0]
def k0_mult14 (v153 : BitVec 32) : BitVec 32 :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c384_i32_73 : BitVec 32 := 384#32
  let v199 : BitVec 32 := Scalar.addi v174 c384_i32_73
  v199
def k0_off33 (v153 : BitVec 32) : Fin 2 → Nat :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c384_i32_73 : BitVec 32 := 384#32
  let v199 : BitVec 32 := Scalar.addi v174 c384_i32_73
  let v200 : BitVec 32 := v199
  let v295 : Index := Scalar.indexCast v200
  let c0_111 : Index := 0#32
  ![v295.toNat, 0]
def k0_cond16 (v153 : BitVec 32) (v156 : BitVec 32) : BitVec 1 :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c384_i32_73 : BitVec 32 := 384#32
  let v199 : BitVec 32 := Scalar.addi v174 c384_i32_73
  let v200 : BitVec 32 := v199
  let v201 : BitVec 1 := Scalar.cmpi .slt v200 v156
  let c128_i32_74 : BitVec 32 := 128#32
  let v202 : BitVec 32 := Scalar.addi v200 c128_i32_74
  let v203 : BitVec 1 := Scalar.cmpi .sgt v202 v153
  let v204 : BitVec 1 := Scalar.andi v201 v203
  let v205 : BitVec 32 := Scalar.extui v204
  let c0_i32_75 : BitVec 32 := 0#32
  let v206 : BitVec 1 := Scalar.cmpi .ne v205 c0_i32_75
  v206

def k0_off34 (v153 : BitVec 32) : Fin 2 → Nat :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c384_i32_73 : BitVec 32 := 384#32
  let v199 : BitVec 32 := Scalar.addi v174 c384_i32_73
  let v200 : BitVec 32 := v199
  let v317 : Index := Scalar.indexCast v200
  let c0_121 : Index := 0#32
  ![v317.toNat, 0]
def k0_mult15 (v153 : BitVec 32) : BitVec 32 :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c512_i32_76 : BitVec 32 := 512#32
  let v207 : BitVec 32 := Scalar.addi v174 c512_i32_76
  v207

def k0_chk5 (v153 : BitVec 32) : Prop :=
  (8 ∣ (k0_mult11 v153).toNat) ∧
  (8 ∣ (k0_mult12 v153).toNat) ∧
  (8 ∣ (k0_mult13 v153).toNat) ∧
  (8 ∣ (k0_mult14 v153).toNat) ∧
  (8 ∣ (k0_mult15 v153).toNat)
theorem k0_mult11_dvd : ∀ (v153 : BitVec 32) (k0_hw5 : k0_chk5 v153), 8 ∣ (k0_mult11 v153).toNat := fun v153 k0_hw5 => k0_hw5.1
theorem k0_mult12_dvd : ∀ (v153 : BitVec 32) (k0_hw5 : k0_chk5 v153), 8 ∣ (k0_mult12 v153).toNat := fun v153 k0_hw5 => k0_hw5.2.1
theorem k0_mult13_dvd : ∀ (v153 : BitVec 32) (k0_hw5 : k0_chk5 v153), 8 ∣ (k0_mult13 v153).toNat := fun v153 k0_hw5 => k0_hw5.2.2.1
theorem k0_mult14_dvd : ∀ (v153 : BitVec 32) (k0_hw5 : k0_chk5 v153), 8 ∣ (k0_mult14 v153).toNat := fun v153 k0_hw5 => k0_hw5.2.2.2.1
theorem k0_mult15_dvd : ∀ (v153 : BitVec 32) (k0_hw5 : k0_chk5 v153), 8 ∣ (k0_mult15 v153).toNat := fun v153 k0_hw5 => k0_hw5.2.2.2.2

def k0_off35 (v153 : BitVec 32) : Fin 2 → Nat :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c512_i32_76 : BitVec 32 := 512#32
  let v207 : BitVec 32 := Scalar.addi v174 c512_i32_76
  let v208 : BitVec 32 := v207
  let v295 : Index := Scalar.indexCast v208
  let c0_111 : Index := 0#32
  ![v295.toNat, 0]
def k0_cond17 (v153 : BitVec 32) (v156 : BitVec 32) : BitVec 1 :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c512_i32_76 : BitVec 32 := 512#32
  let v207 : BitVec 32 := Scalar.addi v174 c512_i32_76
  let v208 : BitVec 32 := v207
  let v209 : BitVec 1 := Scalar.cmpi .slt v208 v156
  let c128_i32_77 : BitVec 32 := 128#32
  let v210 : BitVec 32 := Scalar.addi v208 c128_i32_77
  let v211 : BitVec 1 := Scalar.cmpi .sgt v210 v153
  let v212 : BitVec 1 := Scalar.andi v209 v211
  let v213 : BitVec 32 := Scalar.extui v212
  let c0_i32_78 : BitVec 32 := 0#32
  let v214 : BitVec 1 := Scalar.cmpi .ne v213 c0_i32_78
  v214

def k0_off36 (v153 : BitVec 32) : Fin 2 → Nat :=
  let c0_i32_57 : BitVec 32 := 0#32
  let v158 : BitVec 1 := Scalar.cmpi .sgt v153 c0_i32_57
  let v159 : BitVec 32 := Scalar.extui v158
  let c0_i32_58 : BitVec 32 := 0#32
  let v160 : BitVec 1 := Scalar.cmpi .slt v153 c0_i32_58
  let v161 : BitVec 32 := Scalar.extui v160
  let v162 : BitVec 32 := Scalar.subi v159 v161
  let c8_i32_56 : BitVec 32 := 8#32
  let c0_i32_59 : BitVec 32 := 0#32
  let v163 : BitVec 1 := Scalar.cmpi .sgt c8_i32_56 c0_i32_59
  let v164 : BitVec 32 := Scalar.extui v163
  let c0_i32_60 : BitVec 32 := 0#32
  let v165 : BitVec 1 := Scalar.cmpi .slt c8_i32_56 c0_i32_60
  let v166 : BitVec 32 := Scalar.extui v165
  let v167 : BitVec 32 := Scalar.subi v164 v166
  let v168 : BitVec 1 := Scalar.cmpi .ne v162 v167
  let v169 : BitVec 32 := Scalar.remsi v153 c8_i32_56
  let c0_i32_61 : BitVec 32 := 0#32
  let v170 : BitVec 1 := Scalar.cmpi .ne v169 c0_i32_61
  let v171 : BitVec 1 := Scalar.andi v168 v170
  let v157 : BitVec 32 := Scalar.divsi v153 c8_i32_56
  let c1_i32_62 : BitVec 32 := 1#32
  let v172 : BitVec 32 := Scalar.subi v157 c1_i32_62
  let v173 : BitVec 32 := Scalar.select v171 v172 v157
  let c8_i32_63 : BitVec 32 := 8#32
  let v174 : BitVec 32 := Scalar.muli v173 c8_i32_63
  let c512_i32_76 : BitVec 32 := 512#32
  let v207 : BitVec 32 := Scalar.addi v174 c512_i32_76
  let v208 : BitVec 32 := v207
  let v317 : Index := Scalar.indexCast v208
  let c0_121 : Index := 0#32
  ![v317.toNat, 0]

def k0_chk6 (v153 : BitVec 32) (v156 : BitVec 32) : Prop :=
  (∀ (k0_h13 : k0_cond13 v153 v156 = 1#1), ∀ a, (k0_off27 v153) a + S128x1024.size a ≤ S1664x1024.size a) ∧
  (∀ (k0_h13 : k0_cond13 v153 v156 = 1#1), ∀ a, (k0_off28 v153) a + S128x128.size a ≤ S1664x128.size a) ∧
  (∀ (k0_h14 : k0_cond14 v153 v156 = 1#1), ∀ a, (k0_off29 v153) a + S128x1024.size a ≤ S1664x1024.size a) ∧
  (∀ (k0_h14 : k0_cond14 v153 v156 = 1#1), ∀ a, (k0_off30 v153) a + S128x128.size a ≤ S1664x128.size a) ∧
  (∀ (k0_h15 : k0_cond15 v153 v156 = 1#1), ∀ a, (k0_off31 v153) a + S128x1024.size a ≤ S1664x1024.size a) ∧
  (∀ (k0_h15 : k0_cond15 v153 v156 = 1#1), ∀ a, (k0_off32 v153) a + S128x128.size a ≤ S1664x128.size a) ∧
  (∀ (k0_h16 : k0_cond16 v153 v156 = 1#1), ∀ a, (k0_off33 v153) a + S128x1024.size a ≤ S1664x1024.size a) ∧
  (∀ (k0_h16 : k0_cond16 v153 v156 = 1#1), ∀ a, (k0_off34 v153) a + S128x128.size a ≤ S1664x128.size a) ∧
  (∀ (k0_h17 : k0_cond17 v153 v156 = 1#1), ∀ a, (k0_off35 v153) a + S128x1024.size a ≤ S1664x1024.size a) ∧
  (∀ (k0_h17 : k0_cond17 v153 v156 = 1#1), ∀ a, (k0_off36 v153) a + S128x128.size a ≤ S1664x128.size a)
theorem k0_off27_inb : ∀ (v153 : BitVec 32) (v156 : BitVec 32) (k0_hw6 : k0_chk6 v153 v156), ∀ (k0_h13 : k0_cond13 v153 v156 = 1#1), ∀ a, (k0_off27 v153) a + S128x1024.size a ≤ S1664x1024.size a := fun v153 v156 k0_hw6 k0_h13 => k0_hw6.1 k0_h13
theorem k0_off28_inb : ∀ (v153 : BitVec 32) (v156 : BitVec 32) (k0_hw6 : k0_chk6 v153 v156), ∀ (k0_h13 : k0_cond13 v153 v156 = 1#1), ∀ a, (k0_off28 v153) a + S128x128.size a ≤ S1664x128.size a := fun v153 v156 k0_hw6 k0_h13 => k0_hw6.2.1 k0_h13
theorem k0_off29_inb : ∀ (v153 : BitVec 32) (v156 : BitVec 32) (k0_hw6 : k0_chk6 v153 v156), ∀ (k0_h14 : k0_cond14 v153 v156 = 1#1), ∀ a, (k0_off29 v153) a + S128x1024.size a ≤ S1664x1024.size a := fun v153 v156 k0_hw6 k0_h14 => k0_hw6.2.2.1 k0_h14
theorem k0_off30_inb : ∀ (v153 : BitVec 32) (v156 : BitVec 32) (k0_hw6 : k0_chk6 v153 v156), ∀ (k0_h14 : k0_cond14 v153 v156 = 1#1), ∀ a, (k0_off30 v153) a + S128x128.size a ≤ S1664x128.size a := fun v153 v156 k0_hw6 k0_h14 => k0_hw6.2.2.2.1 k0_h14
theorem k0_off31_inb : ∀ (v153 : BitVec 32) (v156 : BitVec 32) (k0_hw6 : k0_chk6 v153 v156), ∀ (k0_h15 : k0_cond15 v153 v156 = 1#1), ∀ a, (k0_off31 v153) a + S128x1024.size a ≤ S1664x1024.size a := fun v153 v156 k0_hw6 k0_h15 => k0_hw6.2.2.2.2.1 k0_h15
theorem k0_off32_inb : ∀ (v153 : BitVec 32) (v156 : BitVec 32) (k0_hw6 : k0_chk6 v153 v156), ∀ (k0_h15 : k0_cond15 v153 v156 = 1#1), ∀ a, (k0_off32 v153) a + S128x128.size a ≤ S1664x128.size a := fun v153 v156 k0_hw6 k0_h15 => k0_hw6.2.2.2.2.2.1 k0_h15
theorem k0_off33_inb : ∀ (v153 : BitVec 32) (v156 : BitVec 32) (k0_hw6 : k0_chk6 v153 v156), ∀ (k0_h16 : k0_cond16 v153 v156 = 1#1), ∀ a, (k0_off33 v153) a + S128x1024.size a ≤ S1664x1024.size a := fun v153 v156 k0_hw6 k0_h16 => k0_hw6.2.2.2.2.2.2.1 k0_h16
theorem k0_off34_inb : ∀ (v153 : BitVec 32) (v156 : BitVec 32) (k0_hw6 : k0_chk6 v153 v156), ∀ (k0_h16 : k0_cond16 v153 v156 = 1#1), ∀ a, (k0_off34 v153) a + S128x128.size a ≤ S1664x128.size a := fun v153 v156 k0_hw6 k0_h16 => k0_hw6.2.2.2.2.2.2.2.1 k0_h16
theorem k0_off35_inb : ∀ (v153 : BitVec 32) (v156 : BitVec 32) (k0_hw6 : k0_chk6 v153 v156), ∀ (k0_h17 : k0_cond17 v153 v156 = 1#1), ∀ a, (k0_off35 v153) a + S128x1024.size a ≤ S1664x1024.size a := fun v153 v156 k0_hw6 k0_h17 => k0_hw6.2.2.2.2.2.2.2.2.1 k0_h17
theorem k0_off36_inb : ∀ (v153 : BitVec 32) (v156 : BitVec 32) (k0_hw6 : k0_chk6 v153 v156), ∀ (k0_h17 : k0_cond17 v153 v156 = 1#1), ∀ a, (k0_off36 v153) a + S128x128.size a ≤ S1664x128.size a := fun v153 v156 k0_hw6 k0_h17 => k0_hw6.2.2.2.2.2.2.2.2.2 k0_h17

def k0_off37 (i : grid0.Coords) : Fin 1 → Nat :=
  let arg0 : BitVec 32 := BitVec.ofNat 32 (i 0).val
  let c4_i32_79 : BitVec 32 := 4#32
  let v215 : BitVec 32 := Scalar.muli arg0 c4_i32_79
  let arg1 : BitVec 32 := BitVec.ofNat 32 (i 1).val
  let v216 : BitVec 32 := Scalar.addi v215 arg1
  let c17_i32_80 : BitVec 32 := 17#32
  let v217 : BitVec 32 := Scalar.muli v216 c17_i32_80
  let arg2 : BitVec 32 := BitVec.ofNat 32 (i 2).val
  let c4_i32_81 : BitVec 32 := 4#32
  let v218 : BitVec 32 := Scalar.muli arg2 c4_i32_81
  let v219 : BitVec 32 := Scalar.addi v217 v218
  let c3_i32 : BitVec 32 := 3#32
  let v220 : BitVec 32 := Scalar.addi v219 c3_i32
  let v221 : Index := Scalar.indexCast v220
  ![v221.toNat]
def k0_off38 (i : grid0.Coords) : Fin 1 → Nat :=
  let arg0 : BitVec 32 := BitVec.ofNat 32 (i 0).val
  let c4_i32_79 : BitVec 32 := 4#32
  let v215 : BitVec 32 := Scalar.muli arg0 c4_i32_79
  let arg1 : BitVec 32 := BitVec.ofNat 32 (i 1).val
  let v216 : BitVec 32 := Scalar.addi v215 arg1
  let c17_i32_80 : BitVec 32 := 17#32
  let v217 : BitVec 32 := Scalar.muli v216 c17_i32_80
  let arg2 : BitVec 32 := BitVec.ofNat 32 (i 2).val
  let c4_i32_81 : BitVec 32 := 4#32
  let v218 : BitVec 32 := Scalar.muli arg2 c4_i32_81
  let v219 : BitVec 32 := Scalar.addi v217 v218
  let c3_i32 : BitVec 32 := 3#32
  let v220 : BitVec 32 := Scalar.addi v219 c3_i32
  let c1_i32_82 : BitVec 32 := 1#32
  let v223 : BitVec 32 := Scalar.addi v220 c1_i32_82
  let v224 : Index := Scalar.indexCast v223
  ![v224.toNat]
def k0_mult16 (v222 : BitVec 32) : BitVec 32 :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c0_i32_91 : BitVec 32 := 0#32
  let v244 : BitVec 32 := Scalar.addi v243 c0_i32_91
  v244

def k0_off39 (v222 : BitVec 32) : Fin 2 → Nat :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c0_i32_91 : BitVec 32 := 0#32
  let v244 : BitVec 32 := Scalar.addi v243 c0_i32_91
  let v245 : BitVec 32 := v244
  let v295 : Index := Scalar.indexCast v245
  let c0_111 : Index := 0#32
  ![v295.toNat, 0]
def k0_cond18 (v222 : BitVec 32) (v225 : BitVec 32) : BitVec 1 :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c0_i32_91 : BitVec 32 := 0#32
  let v244 : BitVec 32 := Scalar.addi v243 c0_i32_91
  let v245 : BitVec 32 := v244
  let v246 : BitVec 1 := Scalar.cmpi .slt v245 v225
  let c128_i32_92 : BitVec 32 := 128#32
  let v247 : BitVec 32 := Scalar.addi v245 c128_i32_92
  let v248 : BitVec 1 := Scalar.cmpi .sgt v247 v222
  let v249 : BitVec 1 := Scalar.andi v246 v248
  let v250 : BitVec 32 := Scalar.extui v249
  let c0_i32_93 : BitVec 32 := 0#32
  let v251 : BitVec 1 := Scalar.cmpi .ne v250 c0_i32_93
  v251

def k0_off40 (v222 : BitVec 32) : Fin 2 → Nat :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c0_i32_91 : BitVec 32 := 0#32
  let v244 : BitVec 32 := Scalar.addi v243 c0_i32_91
  let v245 : BitVec 32 := v244
  let v317 : Index := Scalar.indexCast v245
  let c0_121 : Index := 0#32
  ![v317.toNat, 0]
def k0_mult17 (v222 : BitVec 32) : BitVec 32 :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c128_i32_94 : BitVec 32 := 128#32
  let v252 : BitVec 32 := Scalar.addi v243 c128_i32_94
  v252
def k0_off41 (v222 : BitVec 32) : Fin 2 → Nat :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c128_i32_94 : BitVec 32 := 128#32
  let v252 : BitVec 32 := Scalar.addi v243 c128_i32_94
  let v253 : BitVec 32 := v252
  let v295 : Index := Scalar.indexCast v253
  let c0_111 : Index := 0#32
  ![v295.toNat, 0]
def k0_cond19 (v222 : BitVec 32) (v225 : BitVec 32) : BitVec 1 :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c128_i32_94 : BitVec 32 := 128#32
  let v252 : BitVec 32 := Scalar.addi v243 c128_i32_94
  let v253 : BitVec 32 := v252
  let v254 : BitVec 1 := Scalar.cmpi .slt v253 v225
  let c128_i32_95 : BitVec 32 := 128#32
  let v255 : BitVec 32 := Scalar.addi v253 c128_i32_95
  let v256 : BitVec 1 := Scalar.cmpi .sgt v255 v222
  let v257 : BitVec 1 := Scalar.andi v254 v256
  let v258 : BitVec 32 := Scalar.extui v257
  let c0_i32_96 : BitVec 32 := 0#32
  let v259 : BitVec 1 := Scalar.cmpi .ne v258 c0_i32_96
  v259

def k0_off42 (v222 : BitVec 32) : Fin 2 → Nat :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c128_i32_94 : BitVec 32 := 128#32
  let v252 : BitVec 32 := Scalar.addi v243 c128_i32_94
  let v253 : BitVec 32 := v252
  let v317 : Index := Scalar.indexCast v253
  let c0_121 : Index := 0#32
  ![v317.toNat, 0]
def k0_mult18 (v222 : BitVec 32) : BitVec 32 :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c256_i32_97 : BitVec 32 := 256#32
  let v260 : BitVec 32 := Scalar.addi v243 c256_i32_97
  v260
def k0_off43 (v222 : BitVec 32) : Fin 2 → Nat :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c256_i32_97 : BitVec 32 := 256#32
  let v260 : BitVec 32 := Scalar.addi v243 c256_i32_97
  let v261 : BitVec 32 := v260
  let v295 : Index := Scalar.indexCast v261
  let c0_111 : Index := 0#32
  ![v295.toNat, 0]
def k0_cond20 (v222 : BitVec 32) (v225 : BitVec 32) : BitVec 1 :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c256_i32_97 : BitVec 32 := 256#32
  let v260 : BitVec 32 := Scalar.addi v243 c256_i32_97
  let v261 : BitVec 32 := v260
  let v262 : BitVec 1 := Scalar.cmpi .slt v261 v225
  let c128_i32_98 : BitVec 32 := 128#32
  let v263 : BitVec 32 := Scalar.addi v261 c128_i32_98
  let v264 : BitVec 1 := Scalar.cmpi .sgt v263 v222
  let v265 : BitVec 1 := Scalar.andi v262 v264
  let v266 : BitVec 32 := Scalar.extui v265
  let c0_i32_99 : BitVec 32 := 0#32
  let v267 : BitVec 1 := Scalar.cmpi .ne v266 c0_i32_99
  v267

def k0_off44 (v222 : BitVec 32) : Fin 2 → Nat :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c256_i32_97 : BitVec 32 := 256#32
  let v260 : BitVec 32 := Scalar.addi v243 c256_i32_97
  let v261 : BitVec 32 := v260
  let v317 : Index := Scalar.indexCast v261
  let c0_121 : Index := 0#32
  ![v317.toNat, 0]
def k0_mult19 (v222 : BitVec 32) : BitVec 32 :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c384_i32_100 : BitVec 32 := 384#32
  let v268 : BitVec 32 := Scalar.addi v243 c384_i32_100
  v268
def k0_off45 (v222 : BitVec 32) : Fin 2 → Nat :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c384_i32_100 : BitVec 32 := 384#32
  let v268 : BitVec 32 := Scalar.addi v243 c384_i32_100
  let v269 : BitVec 32 := v268
  let v295 : Index := Scalar.indexCast v269
  let c0_111 : Index := 0#32
  ![v295.toNat, 0]
def k0_cond21 (v222 : BitVec 32) (v225 : BitVec 32) : BitVec 1 :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c384_i32_100 : BitVec 32 := 384#32
  let v268 : BitVec 32 := Scalar.addi v243 c384_i32_100
  let v269 : BitVec 32 := v268
  let v270 : BitVec 1 := Scalar.cmpi .slt v269 v225
  let c128_i32_101 : BitVec 32 := 128#32
  let v271 : BitVec 32 := Scalar.addi v269 c128_i32_101
  let v272 : BitVec 1 := Scalar.cmpi .sgt v271 v222
  let v273 : BitVec 1 := Scalar.andi v270 v272
  let v274 : BitVec 32 := Scalar.extui v273
  let c0_i32_102 : BitVec 32 := 0#32
  let v275 : BitVec 1 := Scalar.cmpi .ne v274 c0_i32_102
  v275

def k0_off46 (v222 : BitVec 32) : Fin 2 → Nat :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c384_i32_100 : BitVec 32 := 384#32
  let v268 : BitVec 32 := Scalar.addi v243 c384_i32_100
  let v269 : BitVec 32 := v268
  let v317 : Index := Scalar.indexCast v269
  let c0_121 : Index := 0#32
  ![v317.toNat, 0]
def k0_mult20 (v222 : BitVec 32) : BitVec 32 :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c512_i32_103 : BitVec 32 := 512#32
  let v276 : BitVec 32 := Scalar.addi v243 c512_i32_103
  v276

def k0_chk7 (v222 : BitVec 32) : Prop :=
  (8 ∣ (k0_mult16 v222).toNat) ∧
  (8 ∣ (k0_mult17 v222).toNat) ∧
  (8 ∣ (k0_mult18 v222).toNat) ∧
  (8 ∣ (k0_mult19 v222).toNat) ∧
  (8 ∣ (k0_mult20 v222).toNat)
theorem k0_mult16_dvd : ∀ (v222 : BitVec 32) (k0_hw7 : k0_chk7 v222), 8 ∣ (k0_mult16 v222).toNat := fun v222 k0_hw7 => k0_hw7.1
theorem k0_mult17_dvd : ∀ (v222 : BitVec 32) (k0_hw7 : k0_chk7 v222), 8 ∣ (k0_mult17 v222).toNat := fun v222 k0_hw7 => k0_hw7.2.1
theorem k0_mult18_dvd : ∀ (v222 : BitVec 32) (k0_hw7 : k0_chk7 v222), 8 ∣ (k0_mult18 v222).toNat := fun v222 k0_hw7 => k0_hw7.2.2.1
theorem k0_mult19_dvd : ∀ (v222 : BitVec 32) (k0_hw7 : k0_chk7 v222), 8 ∣ (k0_mult19 v222).toNat := fun v222 k0_hw7 => k0_hw7.2.2.2.1
theorem k0_mult20_dvd : ∀ (v222 : BitVec 32) (k0_hw7 : k0_chk7 v222), 8 ∣ (k0_mult20 v222).toNat := fun v222 k0_hw7 => k0_hw7.2.2.2.2

def k0_off47 (v222 : BitVec 32) : Fin 2 → Nat :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c512_i32_103 : BitVec 32 := 512#32
  let v276 : BitVec 32 := Scalar.addi v243 c512_i32_103
  let v277 : BitVec 32 := v276
  let v295 : Index := Scalar.indexCast v277
  let c0_111 : Index := 0#32
  ![v295.toNat, 0]
def k0_cond22 (v222 : BitVec 32) (v225 : BitVec 32) : BitVec 1 :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c512_i32_103 : BitVec 32 := 512#32
  let v276 : BitVec 32 := Scalar.addi v243 c512_i32_103
  let v277 : BitVec 32 := v276
  let v278 : BitVec 1 := Scalar.cmpi .slt v277 v225
  let c128_i32_104 : BitVec 32 := 128#32
  let v279 : BitVec 32 := Scalar.addi v277 c128_i32_104
  let v280 : BitVec 1 := Scalar.cmpi .sgt v279 v222
  let v281 : BitVec 1 := Scalar.andi v278 v280
  let v282 : BitVec 32 := Scalar.extui v281
  let c0_i32_105 : BitVec 32 := 0#32
  let v283 : BitVec 1 := Scalar.cmpi .ne v282 c0_i32_105
  v283

def k0_off48 (v222 : BitVec 32) : Fin 2 → Nat :=
  let c0_i32_84 : BitVec 32 := 0#32
  let v227 : BitVec 1 := Scalar.cmpi .sgt v222 c0_i32_84
  let v228 : BitVec 32 := Scalar.extui v227
  let c0_i32_85 : BitVec 32 := 0#32
  let v229 : BitVec 1 := Scalar.cmpi .slt v222 c0_i32_85
  let v230 : BitVec 32 := Scalar.extui v229
  let v231 : BitVec 32 := Scalar.subi v228 v230
  let c8_i32_83 : BitVec 32 := 8#32
  let c0_i32_86 : BitVec 32 := 0#32
  let v232 : BitVec 1 := Scalar.cmpi .sgt c8_i32_83 c0_i32_86
  let v233 : BitVec 32 := Scalar.extui v232
  let c0_i32_87 : BitVec 32 := 0#32
  let v234 : BitVec 1 := Scalar.cmpi .slt c8_i32_83 c0_i32_87
  let v235 : BitVec 32 := Scalar.extui v234
  let v236 : BitVec 32 := Scalar.subi v233 v235
  let v237 : BitVec 1 := Scalar.cmpi .ne v231 v236
  let v238 : BitVec 32 := Scalar.remsi v222 c8_i32_83
  let c0_i32_88 : BitVec 32 := 0#32
  let v239 : BitVec 1 := Scalar.cmpi .ne v238 c0_i32_88
  let v240 : BitVec 1 := Scalar.andi v237 v239
  let v226 : BitVec 32 := Scalar.divsi v222 c8_i32_83
  let c1_i32_89 : BitVec 32 := 1#32
  let v241 : BitVec 32 := Scalar.subi v226 c1_i32_89
  let v242 : BitVec 32 := Scalar.select v240 v241 v226
  let c8_i32_90 : BitVec 32 := 8#32
  let v243 : BitVec 32 := Scalar.muli v242 c8_i32_90
  let c512_i32_103 : BitVec 32 := 512#32
  let v276 : BitVec 32 := Scalar.addi v243 c512_i32_103
  let v277 : BitVec 32 := v276
  let v317 : Index := Scalar.indexCast v277
  let c0_121 : Index := 0#32
  ![v317.toNat, 0]

def k0_chk8 (v222 : BitVec 32) (v225 : BitVec 32) : Prop :=
  (∀ (k0_h18 : k0_cond18 v222 v225 = 1#1), ∀ a, (k0_off39 v222) a + S128x1024.size a ≤ S1664x1024.size a) ∧
  (∀ (k0_h18 : k0_cond18 v222 v225 = 1#1), ∀ a, (k0_off40 v222) a + S128x128.size a ≤ S1664x128.size a) ∧
  (∀ (k0_h19 : k0_cond19 v222 v225 = 1#1), ∀ a, (k0_off41 v222) a + S128x1024.size a ≤ S1664x1024.size a) ∧
  (∀ (k0_h19 : k0_cond19 v222 v225 = 1#1), ∀ a, (k0_off42 v222) a + S128x128.size a ≤ S1664x128.size a) ∧
  (∀ (k0_h20 : k0_cond20 v222 v225 = 1#1), ∀ a, (k0_off43 v222) a + S128x1024.size a ≤ S1664x1024.size a) ∧
  (∀ (k0_h20 : k0_cond20 v222 v225 = 1#1), ∀ a, (k0_off44 v222) a + S128x128.size a ≤ S1664x128.size a) ∧
  (∀ (k0_h21 : k0_cond21 v222 v225 = 1#1), ∀ a, (k0_off45 v222) a + S128x1024.size a ≤ S1664x1024.size a) ∧
  (∀ (k0_h21 : k0_cond21 v222 v225 = 1#1), ∀ a, (k0_off46 v222) a + S128x128.size a ≤ S1664x128.size a) ∧
  (∀ (k0_h22 : k0_cond22 v222 v225 = 1#1), ∀ a, (k0_off47 v222) a + S128x1024.size a ≤ S1664x1024.size a) ∧
  (∀ (k0_h22 : k0_cond22 v222 v225 = 1#1), ∀ a, (k0_off48 v222) a + S128x128.size a ≤ S1664x128.size a)
theorem k0_off39_inb : ∀ (v222 : BitVec 32) (v225 : BitVec 32) (k0_hw8 : k0_chk8 v222 v225), ∀ (k0_h18 : k0_cond18 v222 v225 = 1#1), ∀ a, (k0_off39 v222) a + S128x1024.size a ≤ S1664x1024.size a := fun v222 v225 k0_hw8 k0_h18 => k0_hw8.1 k0_h18
theorem k0_off40_inb : ∀ (v222 : BitVec 32) (v225 : BitVec 32) (k0_hw8 : k0_chk8 v222 v225), ∀ (k0_h18 : k0_cond18 v222 v225 = 1#1), ∀ a, (k0_off40 v222) a + S128x128.size a ≤ S1664x128.size a := fun v222 v225 k0_hw8 k0_h18 => k0_hw8.2.1 k0_h18
theorem k0_off41_inb : ∀ (v222 : BitVec 32) (v225 : BitVec 32) (k0_hw8 : k0_chk8 v222 v225), ∀ (k0_h19 : k0_cond19 v222 v225 = 1#1), ∀ a, (k0_off41 v222) a + S128x1024.size a ≤ S1664x1024.size a := fun v222 v225 k0_hw8 k0_h19 => k0_hw8.2.2.1 k0_h19
theorem k0_off42_inb : ∀ (v222 : BitVec 32) (v225 : BitVec 32) (k0_hw8 : k0_chk8 v222 v225), ∀ (k0_h19 : k0_cond19 v222 v225 = 1#1), ∀ a, (k0_off42 v222) a + S128x128.size a ≤ S1664x128.size a := fun v222 v225 k0_hw8 k0_h19 => k0_hw8.2.2.2.1 k0_h19
theorem k0_off43_inb : ∀ (v222 : BitVec 32) (v225 : BitVec 32) (k0_hw8 : k0_chk8 v222 v225), ∀ (k0_h20 : k0_cond20 v222 v225 = 1#1), ∀ a, (k0_off43 v222) a + S128x1024.size a ≤ S1664x1024.size a := fun v222 v225 k0_hw8 k0_h20 => k0_hw8.2.2.2.2.1 k0_h20
theorem k0_off44_inb : ∀ (v222 : BitVec 32) (v225 : BitVec 32) (k0_hw8 : k0_chk8 v222 v225), ∀ (k0_h20 : k0_cond20 v222 v225 = 1#1), ∀ a, (k0_off44 v222) a + S128x128.size a ≤ S1664x128.size a := fun v222 v225 k0_hw8 k0_h20 => k0_hw8.2.2.2.2.2.1 k0_h20
theorem k0_off45_inb : ∀ (v222 : BitVec 32) (v225 : BitVec 32) (k0_hw8 : k0_chk8 v222 v225), ∀ (k0_h21 : k0_cond21 v222 v225 = 1#1), ∀ a, (k0_off45 v222) a + S128x1024.size a ≤ S1664x1024.size a := fun v222 v225 k0_hw8 k0_h21 => k0_hw8.2.2.2.2.2.2.1 k0_h21
theorem k0_off46_inb : ∀ (v222 : BitVec 32) (v225 : BitVec 32) (k0_hw8 : k0_chk8 v222 v225), ∀ (k0_h21 : k0_cond21 v222 v225 = 1#1), ∀ a, (k0_off46 v222) a + S128x128.size a ≤ S1664x128.size a := fun v222 v225 k0_hw8 k0_h21 => k0_hw8.2.2.2.2.2.2.2.1 k0_h21
theorem k0_off47_inb : ∀ (v222 : BitVec 32) (v225 : BitVec 32) (k0_hw8 : k0_chk8 v222 v225), ∀ (k0_h22 : k0_cond22 v222 v225 = 1#1), ∀ a, (k0_off47 v222) a + S128x1024.size a ≤ S1664x1024.size a := fun v222 v225 k0_hw8 k0_h22 => k0_hw8.2.2.2.2.2.2.2.2.1 k0_h22
theorem k0_off48_inb : ∀ (v222 : BitVec 32) (v225 : BitVec 32) (k0_hw8 : k0_chk8 v222 v225), ∀ (k0_h22 : k0_cond22 v222 v225 = 1#1), ∀ a, (k0_off48 v222) a + S128x128.size a ≤ S1664x128.size a := fun v222 v225 k0_hw8 k0_h22 => k0_hw8.2.2.2.2.2.2.2.2.2 k0_h22

def k0_cond23 (i : grid0.Coords) : BitVec 1 :=
  let arg2 : BitVec 32 := BitVec.ofNat 32 (i 2).val
  let c3_i32_106 : BitVec 32 := 3#32
  let v284 : BitVec 1 := Scalar.cmpi .eq arg2 c3_i32_106
  let v285 : BitVec 32 := Scalar.extui v284
  let c0_i32_107 : BitVec 32 := 0#32
  let v286 : BitVec 1 := Scalar.cmpi .ne v285 c0_i32_107
  v286

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1x1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 1 → Memref sig .tc .vmem S1x1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 2 → Memref sig .tc .vmem S1x1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference4Ideal.lean ====
abbrev S4x16x8192 : Shape := ⟨3, ![4, 16, 8192]⟩
abbrev S4x8192x1024 : Shape := ⟨3, ![4, 8192, 1024]⟩
abbrev S4x16x1024x1024 : Shape := ⟨4, ![4, 16, 1024, 1024]⟩
abbrev S4x16x1x8192 : Shape := ⟨4, ![4, 16, 1, 8192]⟩
abbrev S1024 : Shape := ⟨1, ![1024]⟩
abbrev S1024x1 : Shape := ⟨2, ![1024, 1]⟩
abbrev S1x1x1024x1 : Shape := ⟨4, ![1, 1, 1024, 1]⟩
abbrev S4x16x1024x8192 : Shape := ⟨4, ![4, 16, 1024, 8192]⟩
abbrev S_ : Shape := ⟨0, ![]⟩
abbrev S4x16x1024 : Shape := ⟨3, ![4, 16, 1024]⟩
abbrev S1x16x1024x1024 : Shape := ⟨4, ![1, 16, 1024, 1024]⟩
abbrev S16x1024x1024 : Shape := ⟨3, ![16, 1024, 1024]⟩
abbrev S16x1024x4x1024 : Shape := ⟨4, ![16, 1024, 4, 1024]⟩
abbrev S4x16x1024x1 : Shape := ⟨4, ![4, 16, 1024, 1]⟩
abbrev S16x4x1024x1024 : Shape := ⟨4, ![16, 4, 1024, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4x16x8192, .i32⟩
  | .hbm, ⟨1, _⟩ => ⟨S4x16x8192, .i32⟩
  | .hbm, ⟨2, _⟩ => ⟨S4x16x8192, .f32⟩
  | .hbm, ⟨3, _⟩ => ⟨S4x8192x1024, .bf16⟩
  | .hbm, ⟨4, _⟩ => ⟨S4x16x1024x1024, .f32⟩
  | .hbm, ⟨5, _⟩ => ⟨S4x16x1024x1024, .f32⟩
  | .hbm, ⟨6, _⟩ => ⟨S4x16x1024x1024, .f32⟩
  | .hbm, ⟨7, _⟩ => ⟨S4x16x1x8192, .i32⟩
  | .hbm, ⟨8, _⟩ => ⟨S1024, .i32⟩
  | .hbm, ⟨9, _⟩ => ⟨S1024x1, .i32⟩
  | .hbm, ⟨10, _⟩ => ⟨S1x1x1024x1, .i32⟩
  | .hbm, ⟨11, _⟩ => ⟨S4x16x1024x8192, .i32⟩
  | .hbm, ⟨12, _⟩ => ⟨S4x16x1024x8192, .i32⟩
  | .hbm, ⟨13, _⟩ => ⟨S4x16x1024x8192, .i1⟩
  | .hbm, ⟨14, _⟩ => ⟨S4x16x1024x8192, .f32⟩
  | .hbm, ⟨15, _⟩ => ⟨S4x8192x1024, .f32⟩
  | .hbm, ⟨16, _⟩ => ⟨S4x16x1024x1024, .f32⟩
  | .hbm, ⟨17, _⟩ => ⟨S4x16x1x8192, .f32⟩
  | .hbm, ⟨18, _⟩ => ⟨S_, .f32⟩
  | .hbm, ⟨19, _⟩ => ⟨S_, .f32⟩
  | .hbm, ⟨20, _⟩ => ⟨S4x16x1024x8192, .f32⟩
  | .hbm, ⟨21, _⟩ => ⟨S4x16x1024x8192, .f32⟩
  | .hbm, ⟨22, _⟩ => ⟨S4x16x1024x8192, .f32⟩
  | .hbm, ⟨23, _⟩ => ⟨S_, .f32⟩
  | .hbm, ⟨24, _⟩ => ⟨S4x16x1024, .f32⟩
  | .hbm, ⟨25, _⟩ => ⟨S1x16x1024x1024, .f32⟩
  | .hbm, ⟨26, _⟩ => ⟨S16x1024x1024, .f32⟩
  | .hbm, ⟨27, _⟩ => ⟨S16x1024x4x1024, .f32⟩
  | .hbm, ⟨28, _⟩ => ⟨S4x16x1024x1024, .f32⟩
  | .hbm, ⟨29, _⟩ => ⟨S4x16x1024x1024, .f32⟩
  | .hbm, ⟨30, _⟩ => ⟨S4x16x1024x1024, .f32⟩
  | .hbm, ⟨31, _⟩ => ⟨S_, .f32⟩
  | .hbm, ⟨32, _⟩ => ⟨S4x16x1024x1024, .f32⟩
  | .hbm, ⟨33, _⟩ => ⟨S4x16x1024x1024, .f32⟩
  | .hbm, ⟨34, _⟩ => ⟨S_, .f32⟩
  | .hbm, ⟨35, _⟩ => ⟨S4x16x1024x1024, .f32⟩
  | .hbm, ⟨36, _⟩ => ⟨S4x16x1024x1024, .f32⟩
  | .hbm, ⟨37, _⟩ => ⟨S4x16x1024x1024, .f32⟩
  | .hbm, ⟨38, _⟩ => ⟨S1x16x1024x1024, .f32⟩
  | .hbm, ⟨39, _⟩ => ⟨S16x1024x1024, .f32⟩
  | .hbm, ⟨40, _⟩ => ⟨S16x1024x4x1024, .f32⟩
  | .hbm, ⟨41, _⟩ => ⟨S4x16x1024x1024, .f32⟩
  | .hbm, ⟨42, _⟩ => ⟨S4x16x1024x1024, .f32⟩
  | .hbm, ⟨43, _⟩ => ⟨S1x16x1024x1024, .f32⟩
  | .hbm, ⟨44, _⟩ => ⟨S16x1024x1024, .f32⟩
  | .hbm, ⟨45, _⟩ => ⟨S16x1024x4x1024, .f32⟩
  | .hbm, ⟨46, _⟩ => ⟨S4x16x1024x1024, .f32⟩
  | .hbm, ⟨47, _⟩ => ⟨S4x16x1024x1, .f32⟩
  | .hbm, ⟨48, _⟩ => ⟨S4x16x1024x1024, .f32⟩
  | .hbm, ⟨49, _⟩ => ⟨S4x16x1024x1024, .f32⟩
  | .hbm, ⟨50, _⟩ => ⟨S16x4x1024x1024, .f32⟩
  | .hbm, ⟨51, _⟩ => ⟨S16x4x1024x1024, .bf16⟩
  | _, _ => ⟨S4x16x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Proof.Attn.Real.lean ====
module

public import Idealize.ShloMosaic.Lib.Pipeline.ValueKit
public import Idealize.ShloMosaic.Lib.Pointwise

@[expose] public section

set_option maxRecDepth 16384

noncomputable section

namespace Cert.AttnReal

open Idealize.ShloMosaic

/-- A sum of real numbers, taken among the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken among the extended reals. -/
theorem coe_max (a b : ℝ) : max (a : EReal) (b : EReal) = ((max a b : ℝ) : EReal) :=
  (EReal.coe_strictMono.monotone.map_max).symm

/-- A maximum of at least one real number is a real number. -/
theorem fold_real {ι : Type*} (s : Finset ι) (f : ι → EReal) (hs : s.Nonempty) (hf : ∀ i, ∃ r : ℝ, f i = r) :
    ∃ M : ℝ, s.fold max ⊥ f = M := by
  classical
  have key : ∀ s : Finset ι, s.fold max ⊥ f = ⊥ ∧ s = ∅ ∨ ∃ M : ℝ, s.fold max ⊥ f = M := by
    intro s
    induction s using Finset.induction_on with
    | empty => exact .inl ⟨Finset.fold_empty, rfl⟩
    | insert a s ha ih =>
      obtain ⟨r, hr⟩ := hf a
      rw [Finset.fold_insert ha, hr]
      rcases ih with ⟨h, _⟩ | ⟨M, h⟩
      · exact .inr ⟨r, by rw [h]; exact max_eq_left bot_le⟩
      · exact .inr ⟨max r M, by rw [h, coe_max]⟩
  rcases key s with ⟨_, h⟩ | h
  · exact absurd h hs.ne_empty
  · exact h

/-- The maximum over one axis of an array of real numbers is a real number. -/
theorem maxRed_real {s t : Shape} {a : Fin s.rank} {φ : FTy} (src : FVec Ideal s φ) (acc : BitVec φ.bits)
    (h : s.Reduces [a] t) (hφ : FKind.Formats φ) (hacc : acc = FKind.maximumf.neutral φ hφ) (hb : (FloatOps.ofBits φ acc : Ideal φ) = (⊥ : EReal))
    (hn : 0 < s.size a) (hx : ∀ i, ∃ r : ℝ, src i = (r : EReal)) (j : t.Idx) :
    ∃ M : ℝ, multiReduction .maximumf [a] t src acc h hφ hacc j = (M : EReal) := by
  rw [Ideal.multiReduction_maximumf_single, hb]
  exact fold_real _ _ ⟨⟨0, hn⟩, Finset.mem_univ _⟩ fun i => hx _

/-- The host's maximum over one axis of an array of real numbers is a real number. -/
theorem hostMax_real {s t u : Shape} {a : Fin s.rank} {φ : FTy} (x : FVec Ideal s φ) (init : FVec Ideal u φ) (h' : s.ReducesTo [a] t)
    (h : s.Reduces [a] t) (hu : 0 < u.numel) (hb : ∀ i, init i = (⊥ : EReal)) (hn : 0 < s.size a)
    (hx : ∀ i, ∃ r : ℝ, x i = (r : EReal)) (j : t.Idx) :
    ∃ M : ℝ, Host.reduce FloatOps.maximumf x init h' hu j = (M : EReal) := by
  rw [Host.reduce_eq_fold_single _ _ _ h' h, hb]
  exact fold_real _ _ ⟨⟨0, hn⟩, Finset.mem_univ _⟩ fun i => hx _

/-- The word of minus infinity. -/
theorem neg_inf : Ideal.ofBits .f32 0xFF800000#32 = ⊥ := by
  simp [Ideal.ofBits, Ideal.ieee]

/-- The word of one eighth. -/
theorem eighth : Ideal.ofBits .f32 0x3E000000#32 = ((1 / 8 : ℝ) : EReal) := by
  simp [Ideal.ofBits, Ideal.ieee, -EReal.coe_mul]; norm_num

/-- The word of the first layer's starting lambda is some real number. -/
theorem lam_real : ∃ r : ℝ, Ideal.ofBits .f32 0x3E4CCCCD#32 = (r : EReal) :=
  ⟨_, by simp [Ideal.ofBits, Ideal.ieee, -EReal.coe_mul]; rfl⟩

/-- Dividing two real numbers, the divisor positive. -/
theorem div_real (a b : ℝ) (h : 0 < b) : Ideal.div (a : EReal) (b : EReal) = ((a / b : ℝ) : EReal) := by
  rw [Ideal.div_coe h.ne', ← EReal.coe_mul, mul_one_div]

end Cert.AttnReal
end
-- ==== Proof.Attn.Softmax.lean ====
module

public import proofs.«01_k».proof.Proof.Attn.Real

@[expose] public section

set_option maxRecDepth 16384

noncomputable section

namespace Cert.AttnSoftmax

open Idealize.ShloMosaic Cert.AttnReal

/-- `2` to a real power. -/
def pow2 (x : ℝ) : ℝ := Real.rpow 2 x

/-- A power of two is positive. -/
theorem pow2_pos (x : ℝ) : 0 < pow2 x := Real.rpow_pos_of_pos two_pos x

/-- The power of two of a real number is real. -/
theorem exp2_real (x : ℝ) : Ideal.exp2 (x : EReal) = ((pow2 x : ℝ) : EReal) := rfl

/-- Moving the number the exponents are measured from. -/
theorem pow2_move (M M' x : ℝ) : pow2 (M - M') * pow2 (x - M) = pow2 (x - M') := by
  unfold pow2
  have := (Real.rpow_add two_pos (M - M') (x - M)).symm
  refine this.trans ?_
  congr 1
  ring

/-- The power of a difference is a product. -/
theorem pow2_sub (x M : ℝ) : pow2 (x - M) = pow2 x * pow2 (-M) := by
  have := Real.rpow_add two_pos x (-M)
  exact this

/-- The running state of a query row after its first `n` blocks of keys: a real number `M` in every lane, in lane `i` the sum of the
    powers `2 ^ (x - M)` over the scores `x` of that lane, and in feature `e` the sum of the powers times the values. -/
def State (x : ℕ → Fin 2816 → ℝ) (v : ℕ → Fin 2816 → Fin 128 → ℝ) (n : ℕ) (m l a : Fin 128 → EReal) : Prop :=
  ∃ M : ℝ, (∀ i, m i = (M : EReal))
    ∧ (∀ i : Fin 128, l i = ((∑ b ∈ Finset.range n, ∑ c : Fin 22, pow2 (x b ⟨c.val * 128 + i.val, by omega⟩ - M) : ℝ) : EReal))
    ∧ ∀ e, a e = ((∑ b ∈ Finset.range n, ∑ k, pow2 (x b k - M) * v b k e : ℝ) : EReal)

/-- One step of the state, as the kernel's block takes it: a new maximum, then the old sums rescaled and the block's own added. -/
structure Step (x : Fin 2816 → ℝ) (v : Fin 2816 → Fin 128 → ℝ) (m l a m' l' a' : Fin 128 → EReal) : Prop where
  top : ∃ N : ℝ, ∀ i, m' i = max (m i) (N : EReal)
  lane : ∀ i : Fin 128, l' i = Ideal.exp2 (m i - m' i) * l i + ∑ c : Fin 22, Ideal.exp2 ((x ⟨c.val * 128 + i.val, by omega⟩ : EReal) - m' i)
  feat : ∀ e, a' e = Ideal.exp2 (m e - m' e) * a e + ∑ k, Ideal.exp2 ((x k : EReal) - m' e) * (v k e : EReal)

/-- The sum of a lane over finite scores is real. -/
theorem lanes_real (x : Fin 2816 → ℝ) (M : ℝ) (i : Fin 128) :
    (∑ c : Fin 22, Ideal.exp2 ((x ⟨c.val * 128 + i.val, by omega⟩ : EReal) - (M : EReal)))
      = ((∑ c : Fin 22, pow2 (x ⟨c.val * 128 + i.val, by omega⟩ - M) : ℝ) : EReal) := by
  rw [← coe_sum]
  exact Finset.sum_congr rfl fun c _ => by rw [← EReal.coe_sub, exp2_real]

/-- The weighted sum over finite scores and values is real. -/
theorem feats_real (x : Fin 2816 → ℝ) (v : Fin 2816 → Fin 128 → ℝ) (M : ℝ) (e : Fin 128) :
    (∑ k, Ideal.exp2 ((x k : EReal) - (M : EReal)) * (v k e : EReal)) = ((∑ k, pow2 (x k - M) * v k e : ℝ) : EReal) := by
  rw [← coe_sum]
  exact Finset.sum_congr rfl fun c _ => by rw [← EReal.coe_sub, exp2_real, EReal.coe_mul]

/-- The first block, from a maximum of minus infinity and sums of zero. -/
theorem State.first (x : ℕ → Fin 2816 → ℝ) (v : ℕ → Fin 2816 → Fin 128 → ℝ) (m l a m' l' a' : Fin 128 → EReal)
    (hm : ∀ i, m i = ⊥) (hl : ∀ i, l i = 0) (ha : ∀ i, a i = 0) (h : Step (x 0) (v 0) m l a m' l' a') : State x v 1 m' l' a' := by
  obtain ⟨⟨N, hN⟩, hL, hA⟩ := h
  have hM : ∀ i, m' i = (N : EReal) := fun i => by rw [hN, hm]; exact max_eq_right bot_le
  refine ⟨N, hM, fun i => ?_, fun e => ?_⟩
  · rw [hL, hl, mul_zero, zero_add, hM, lanes_real, Finset.sum_range_one]
  · rw [hA, ha, mul_zero, zero_add, hM, feats_real, Finset.sum_range_one]

/-- Every further block. -/
theorem State.next (x : ℕ → Fin 2816 → ℝ) (v : ℕ → Fin 2816 → Fin 128 → ℝ) (n : ℕ) (m l a m' l' a' : Fin 128 → EReal)
    (hS : State x v n m l a) (h : Step (x n) (v n) m l a m' l' a') : State x v (n + 1) m' l' a' := by
  obtain ⟨M, hm, hl, ha⟩ := hS
  obtain ⟨⟨N, hN⟩, hL, hA⟩ := h
  have hM : ∀ i, m' i = ((max M N : ℝ) : EReal) := fun i => by rw [hN, hm, coe_max]
  refine ⟨max M N, hM, fun i => ?_, fun e => ?_⟩
  · rw [hL, hl, hm, hM, lanes_real, ← EReal.coe_sub, exp2_real, ← EReal.coe_mul, ← EReal.coe_add, Finset.sum_range_succ, Finset.mul_sum]
    simp only [Finset.mul_sum, pow2_move]
  · rw [hA, ha, hm, hM, feats_real, ← EReal.coe_sub, exp2_real, ← EReal.coe_mul, ← EReal.coe_add, Finset.sum_range_succ, Finset.mul_sum]
    simp only [Finset.mul_sum, ← mul_assoc, pow2_move]

/-- The sum over a block's keys, lane by lane. -/
theorem lanes_all (f : Fin 2816 → ℝ) : (∑ i : Fin 128, ∑ c : Fin 22, f ⟨c.val * 128 + i.val, by omega⟩) = ∑ k, f k := by
  rw [Finset.sum_comm, Fin.sum_univ_tiles 22 128 rfl f]

/-- What the last block leaves: the weighted mean of the values, whatever the number the exponents were measured from. -/
theorem State.mean (x : ℕ → Fin 2816 → ℝ) (v : ℕ → Fin 2816 → Fin 128 → ℝ) (n : ℕ) (m l a : Fin 128 → EReal)
    (hn : 0 < n) (hS : State x v n m l a) (e : Fin 128) :
    Ideal.div (a e) (∑ i, l i)
      = (((∑ b ∈ Finset.range n, ∑ k, pow2 (x b k) * v b k e) / (∑ b ∈ Finset.range n, ∑ k, pow2 (x b k)) : ℝ) : EReal) := by
  obtain ⟨M, hm, hl, ha⟩ := hS
  have hs : (∑ i, l i) = (((∑ b ∈ Finset.range n, ∑ k, pow2 (x b k)) * pow2 (-M) : ℝ) : EReal) := by
    rw [Finset.sum_congr rfl fun i _ => hl i, coe_sum, Finset.sum_comm, Finset.sum_mul]
    congr 1
    refine Finset.sum_congr rfl fun b _ => ?_
    rw [lanes_all fun k => pow2 (x b k - M), Finset.sum_mul]
    exact Finset.sum_congr rfl fun k _ => pow2_sub _ _
  have hp : 0 < ∑ b ∈ Finset.range n, ∑ k, pow2 (x b k) :=
    Finset.sum_pos (fun b _ => Finset.sum_pos (fun k _ => pow2_pos _) ⟨0, Finset.mem_univ _⟩) ⟨0, Finset.mem_range.2 hn⟩
  rw [hs, ha, div_real _ _ (mul_pos hp (pow2_pos _))]
  congr 1
  refine Eq.trans ?_ (mul_div_mul_right _ _ (pow2_pos (-M)).ne')
  congr 1
  rw [Finset.sum_mul]
  refine Finset.sum_congr rfl fun b _ => ?_
  rw [Finset.sum_mul]
  exact Finset.sum_congr rfl fun k _ => by rw [pow2_sub]; ring

/-- The position of key `k` of block `b` in the joined keys. -/
abbrev pos (b : ℕ) (k : Fin 2816) : Fin 8448 := ⟨(b * 2816 + k.val) % 8448, by omega⟩

/-- The values' mean, weighted by the exponentials of an eighth of the dot products. -/
def smean (S V : Fin 8448 → ℝ) : ℝ := (∑ t, Real.exp (S t * (1 / 8)) * V t) / ∑ t, Real.exp (S t * (1 / 8))

/-- The three blocks of keys are all the keys. -/
theorem blocks_all (f : Fin 8448 → ℝ) : (∑ b ∈ Finset.range 3, ∑ k, f (pos b k)) = ∑ t, f t := by
  rw [Fin.sum_univ_tiles 3 2816 rfl f, Finset.sum_range]
  refine Finset.sum_congr rfl fun b _ => Finset.sum_congr rfl fun k _ => ?_
  congr 1
  exact Fin.ext (Nat.mod_eq_of_lt (by omega))

/-- A power of two whose exponent was scaled by the named constant is an exponential. -/
theorem pow2_scaled (s : ℝ) : pow2 (s * (8 * Real.log 2)⁻¹) = Real.exp (s * (1 / 8)) := by
  have h2 : Real.log 2 ≠ 0 := (Real.log_pos one_lt_two).ne'
  have : pow2 (s * (8 * Real.log 2)⁻¹) = Real.exp (Real.log 2 * (s * (8 * Real.log 2)⁻¹)) := Real.rpow_def_of_pos two_pos _
  rw [this]
  congr 1
  field_simp

/-- The kernel's weighted mean over three blocks. -/
theorem State.smean (S : Fin 8448 → ℝ) (V : Fin 8448 → Fin 128 → ℝ) (m l a : Fin 128 → EReal)
    (hS : State (fun b k => S (pos b k) * (8 * Real.log 2)⁻¹) (fun b k e => V (pos b k) e) 3 m l a) (e : Fin 128) :
    Ideal.div (a e) (∑ i, l i) = ((AttnSoftmax.smean S (fun t => V t e) : ℝ) : EReal) := by
  rw [hS.mean _ _ _ _ _ _ (by decide)]
  simp only [pow2_scaled]
  rw [blocks_all fun t => Real.exp (S t * (1 / 8)) * V t e, blocks_all fun t => Real.exp (S t * (1 / 8))]
  rfl

/-- One entry of the softmax, measured from any real number. -/
theorem soft_real (y : Fin 8448 → ℝ) (M : ℝ) (t : Fin 8448) :
    Ideal.div (Ideal.exp ((y t : EReal) - (M : EReal))) (∑ u, Ideal.exp ((y u : EReal) - (M : EReal)))
      = ((Real.exp (y t) / ∑ u, Real.exp (y u) : ℝ) : EReal) := by
  have he : ∀ u, Ideal.exp ((y u : EReal) - (M : EReal)) = ((Real.exp (y u) * Real.exp (-M) : ℝ) : EReal) := fun u => by
    rw [← EReal.coe_sub, Ideal.exp_coe, sub_eq_add_neg, Real.exp_add]
  have hp : 0 < ∑ u, Real.exp (y u) := Finset.sum_pos (fun u _ => Real.exp_pos _) ⟨0, Finset.mem_univ _⟩
  simp only [he]
  rw [coe_sum, ← Finset.sum_mul, div_real _ _ (mul_pos hp (Real.exp_pos _)), mul_div_mul_right _ _ (Real.exp_pos _).ne']

/-- The difference of two softmax maps applied to the values is the difference of the two weighted means. -/
theorem diff_real (S0 S1 V : Fin 8448 → ℝ) (lam : ℝ) :
    (∑ t, (V t : EReal) * (((Real.exp (S0 t * (1 / 8)) / ∑ u, Real.exp (S0 u * (1 / 8)) : ℝ) : EReal)
        - (lam : EReal) * ((Real.exp (S1 t * (1 / 8)) / ∑ u, Real.exp (S1 u * (1 / 8)) : ℝ) : EReal)))
      = ((smean S0 V : ℝ) : EReal) - (lam : EReal) * ((smean S1 V : ℝ) : EReal) := by
  simp only [← EReal.coe_mul, ← EReal.coe_sub]
  rw [coe_sum]
  congr 1
  unfold smean
  rw [Finset.sum_div, Finset.sum_div, Finset.mul_sum, ← Finset.sum_sub_distrib]
  exact Finset.sum_congr rfl fun t _ => by ring

/-- The number the second map is subtracted with. -/
def lamOf (dl : Fin 4 → Fin 64 → EReal) : EReal :=
  Ideal.exp (∑ x : Fin 64, dl 0 x * dl 1 x) - Ideal.exp (∑ x : Fin 64, dl 2 x * dl 3 x) + Ideal.ofBits .f32 0x3E4CCCCD#32

/-- It is a real number when its vectors are. -/
theorem lamOf_real (dl : Fin 4 → Fin 64 → EReal) (d : Fin 4 → Fin 64 → ℝ) (h : ∀ a x, dl a x = (d a x : EReal)) :
    ∃ r : ℝ, lamOf dl = (r : EReal) := by
  obtain ⟨c, hc⟩ := lam_real
  unfold lamOf
  simp only [h, ← EReal.coe_mul, coe_sum, hc, Ideal.exp_coe, ← EReal.coe_sub, ← EReal.coe_add]
  exact ⟨_, rfl⟩

/-- A head's row after its norm, gain and scale. -/
def epi (o : Fin 128 → EReal) (g : EReal) (e : Fin 128) : EReal :=
  o e * Ideal.rsqrt (Ideal.div (∑ x : Fin 128, o x * o x) (Ideal.ofBits .f32 0x43000000#32) + Ideal.ofBits .f32 0x358637BD#32) * g * Ideal.ofBits .f32 0x3F4CCCCD#32

/-- Feature `d` of head `h`. -/
abbrev col (h : Fin 4) (d : Fin 128) : Fin 512 := ⟨h.val * 128 + d.val, by omega⟩

/-- The dot products of one query with every key, for map `a` of head `h`. -/
def dots (Q : Fin 4 → Fin 8192 → Fin 512 → ℝ) (K : Fin 4 → Fin 8448 → Fin 512 → ℝ) (b h : Fin 4) (a : Fin 2) (s : Fin 8192) (t : Fin 8448) : ℝ :=
  ∑ d : Fin 64, Q b s (col h ⟨a.val * 64 + d.val, by omega⟩) * K b t (col h ⟨a.val * 64 + d.val, by omega⟩)

/-- The difference of the two maps' means of the values. -/
def headRow (L : EReal) (Q : Fin 4 → Fin 8192 → Fin 512 → ℝ) (K W : Fin 4 → Fin 8448 → Fin 512 → ℝ) (b h : Fin 4) (s : Fin 8192) (e : Fin 128) : EReal :=
  ((smean (dots Q K b h 0 s) (fun t => W b t (col h e)) : ℝ) : EReal) - L * ((smean (dots Q K b h 1 s) (fun t => W b t (col h e)) : ℝ) : EReal)

end Cert.AttnSoftmax
end
-- ==== Proof.Attn.Block.lean ====
module

public import proofs.«01_k».proof.Proof.Gen.KernelIdeal.Skeleton
public import proofs.«01_k».proof.Proof.Attn.Softmax

@[expose] public section

set_option maxRecDepth 16384

noncomputable section

namespace Cert.KernelIdeal.Attn

open Cert.AttnReal Cert.AttnSoftmax Cert.KernelIdeal Cert.KernelIdeal.Gen Idealize.ShloMosaic Idealize.ShloMosaic.TcCoe Idealize.SL.Sem

variable (q : FVec Ideal S1x1024x128 .f32) (k v : FVec Ideal S1x2816x128 .bf16) (m0 l0 a0 : FVec Ideal S2048x128 .f32)

/-- The larger of two tables, entry by entry, the second being a column repeated over the lanes. -/
theorem max_pure (y : FVec Ideal S2048 .f32) (r : Fin 2048) (l : Fin 128) :
   maximumf m0 (broadcastTo S2048x128 (shapeCast S2048x1 y shapeCasts_S2048_S2048x1) broadcasts_S2048x1_S2048x128) (ix2 r l)
    = max (m0 (ix2 r l)) (y (ix1 r)) := by
  pointwise

/-- The new row maximum: the larger of the old one and of the largest score of the block. -/
theorem max_at (r : Fin 2048) (l : Fin 128) : k0_pay9 (F := Ideal) q k m0 (ix2 r l)
    = max (m0 (ix2 r l)) ((multiReduction .maximumf [1] S2048 (k0_pay8 (F := Ideal) q k) 0xFF800000#32 reduces_S2048x2816_S2048 (.inl rfl) rfl) (ix1 r)) :=
  max_pure _ _ _ _

/-- A lane table repeated 22 times: column `j` is lane `j % 128`. -/
theorem tile_at (x : FVec Ideal S2048x128 .f32) (h) (r : Fin 2048) (j : Fin 2816) :
  concatenate S2048x2816 1 (List.replicate 22 (⟨S2048x128, x⟩ : (s : Shape) × (s.Idx → Ideal .f32))) h (ix2 r j) = x (ix2 r ⟨j.val % 128, by omega⟩) := by
  refine concatenate_replicate_apply 1 22 x h rfl _ _ ?_ ?_
  · rfl
  · intro b hb
    match b with
    | ⟨0, _⟩ => rfl
    | ⟨1, _⟩ => exact absurd rfl hb

/-- The shapes of the 22 repeated tables add up. -/
theorem rep_ok {x : FVec Ideal S2048x128 .f32} : Shape.Concatenates (List.map (fun x => x.fst) (List.replicate 22 (⟨S2048x128, x⟩ : (s : Shape) × (s.Idx → Ideal .f32)))) S2048x2816 1 := by
  simp only [List.map_replicate]
  decide

/-- A weight: two to the score less the row maximum. -/
theorem p_at (r : Fin 2048) (j : Fin 2816) (M : EReal) (hM : ∀ l, k0_pay9 (F := Ideal) q k m0 (ix2 r l) = M) : k0_pay11 (F := Ideal) q k m0 (ix2 r j)
    = Ideal.exp2 (k0_pay8 (F := Ideal) q k (ix2 r j) - M) := by
  rw [← hM ⟨j.val % 128, by omega⟩, ← tile_at (k0_pay9 (F := Ideal) q k m0) rep_ok r j]
  rfl

/-- row `1024·h + r` -/
abbrev row (h : Fin 2) (r : Fin 1024) : Fin 2048 := ⟨h.val * 1024 + r.val, by omega⟩

/-- The value of the named constant. -/
theorem named_scale : (Named.named κ "scale_log2e" 0x3E38AA3B#32 : Ideal .f32) = (((8 * Real.log 2)⁻¹ : ℝ) : EReal) :=
  IdealRules.named_const.ideal_named_scalar _ _ _ _ rfl

/-- The lanes of the first map are below 64. -/
theorem lane_lt (x : Fin 64) : IntOp.cmpi .slt (BitVec.ofNat 32 x.val) 64#32 = 1#1 := by
  revert x; decide
/-- The lanes of the first map are not 64 or more. -/
theorem lane_not_ge (x : Fin 64) : IntOp.cmpi .sge (BitVec.ofNat 32 x.val) 64#32 = 0#1 := by
  revert x; decide
/-- The lanes of the second map are not below 64. -/
theorem lane_not_lt (x : Fin 64) : IntOp.cmpi .slt (BitVec.ofNat 32 (64 + x.val)) 64#32 = 0#1 := by
  revert x; decide
/-- The lanes of the second map are 64 or more. -/
theorem lane_ge (x : Fin 64) : IntOp.cmpi .sge (BitVec.ofNat 32 (64 + x.val)) 64#32 = 1#1 := by
  revert x; decide

/-- A score of the first map, over its 64 features. -/
theorem sc_at0 (r : Fin 1024) (j : Fin 2816) : k0_pay8 (F := Ideal) q k (ix2 (row 0 r) j)
    = ∑ d : Fin 64, q (ix3 0 r ⟨d.val, by omega⟩) * (((8 * Real.log 2)⁻¹ : ℝ) : EReal) * k (ix3 0 j ⟨d.val, by omega⟩) := by
  pointwise [k0_pay8]
  rw [Fin.sum_univ_two_halves 64 64 rfl]
  simp only [named_scale, lane_lt, lane_not_ge, lane_not_lt, lane_ge]
  simp [Scalar.select]

/-- A score of the second map, over its 64 features. -/
theorem sc_at1 (r : Fin 1024) (j : Fin 2816) : k0_pay8 (F := Ideal) q k (ix2 (row 1 r) j)
    = ∑ d : Fin 64, q (ix3 0 r ⟨64 + d.val, by omega⟩) * (((8 * Real.log 2)⁻¹ : ℝ) : EReal) * k (ix3 0 j ⟨64 + d.val, by omega⟩) := by
  pointwise [k0_pay8]
  rw [Fin.sum_univ_two_halves 64 64 rfl]
  simp only [named_scale, lane_lt, lane_not_ge, lane_not_lt, lane_ge]
  simp [Scalar.select]

/-- The new running sum of a lane: the old one rescaled, and the 22 weights of that lane. -/
theorem l_at (r : Fin 2048) (l : Fin 128) : k0_pay14 (F := Ideal) (k0_pay11 q k m0) (k0_pay12 q k m0 l0) (k0_pay13 q k m0) (ix2 r l)
    = k0_pay10 (F := Ideal) q k m0 (ix2 r l) * l0 (ix2 r l) + ∑ b : Fin 22, k0_pay11 (F := Ideal) q k m0 (ix2 r ⟨b.val * 128 + l.val, by omega⟩) := by
  pointwise [k0_pay14, k0_pay12, k0_pay13]
  generalize k0_pay11 (F := Ideal) q k m0 = p
  generalize k0_pay10 (F := Ideal) q k m0 (ix2 r l) * l0 (ix2 r l) = a
  refine congrArg (a + ·) ?_
  simp only [Fin.sum_univ_castSucc, Fin.sum_univ_zero, zero_add, Fin.val_castSucc, Fin.val_last, Nat.reduceMul, Nat.zero_mul]
  done

/-- A score of either map. -/
theorem sc_at (h : Fin 2) (r : Fin 1024) (j : Fin 2816) : k0_pay8 (F := Ideal) q k (ix2 (row h r) j)
    = ∑ d : Fin 64, q (ix3 0 r ⟨h.val * 64 + d.val, by omega⟩) * (((8 * Real.log 2)⁻¹ : ℝ) : EReal) * k (ix3 0 j ⟨h.val * 64 + d.val, by omega⟩) := by
  match h with
  | 0 => simpa using sc_at0 q k r j
  | 1 => simpa using sc_at1 q k r j

/-- The new weighted sum of the values: the old one rescaled, and the products of the block. -/
theorem acc_at (r : Fin 2048) (e : Fin 128) :
    k0_pay1 (F := Ideal) (k0_pay15 (k0_pay10 q k m0) a0) (k0_pay16 (k0_pay11 q k m0)) (k0_pay17 v) (constant S2048x128 .f32 0x00000000#32) (ix2 r e)
      = k0_pay10 (F := Ideal) q k m0 (ix2 r e) * a0 (ix2 r e) + ∑ j : Fin 2816, k0_pay11 (F := Ideal) q k m0 (ix2 r j) * v (ix3 0 j e) := by
  pointwise [k0_pay1, k0_pay15, k0_pay16, k0_pay17]

/-- The factor that rescales the old sums. -/
theorem alpha_at (r : Fin 2048) (l : Fin 128) : k0_pay10 (F := Ideal) q k m0 (ix2 r l)
    = Ideal.exp2 (m0 (ix2 r l) - k0_pay9 (F := Ideal) q k m0 (ix2 r l)) := rfl

/-- The stored maximum is the new maximum. -/
theorem pay2_eq (x : FVec Ideal S2048x128 .f32) : k0_pay2 (F := Ideal) x = x := by
  funext i
  idx_vars i
  pointwise [k0_pay2]

/-- The row maximum begins at minus infinity. -/
theorem init_max (r : Fin 2048) (l : Fin 128) : k0_pay5 (F := Ideal) (ix2 r l) = ⊥ := by
  pointwise [k0_pay5]
  exact neg_inf

/-- The running sum begins at zero. -/
theorem init_sum (r : Fin 2048) (l : Fin 128) : k0_pay6 (F := Ideal) (ix2 r l) = 0 := by
  pointwise [k0_pay6]

/-- The weighted sum begins at zero. -/
theorem init_acc (r : Fin 2048) (l : Fin 128) : k0_pay7 (F := Ideal) (ix2 r l) = 0 := by
  pointwise [k0_pay7]

/-- An entry of the block written at the last block of keys. -/
theorem out_at (dl : FVec Ideal S4x64 .f32) (g : FVec Ideal S1x128 .f32) (r : Fin 1024) (e : Fin 128) :
    k0_pay3 (F := Ideal) (k0_pay4 dl a0 l0 g) (ix3 0 r e)
      = epi (fun x => Ideal.div (a0 (ix2 (row 0 r) x)) (∑ i, l0 (ix2 (row 0 r) i)) - lamOf (fun a x => dl (ix2 a x)) * Ideal.div (a0 (ix2 (row 1 r) x)) (∑ i, l0 (ix2 (row 1 r) i))) (g (ix2 0 e)) e := by
  pointwise [k0_pay3, k0_pay4, epi, lamOf]
  have h0 : row 0 r = ⟨r.val, by omega⟩ := Fin.ext (by simp)
  have h1 : row 1 r = ⟨1024 + r.val, by omega⟩ := Fin.ext (by simp)
  rw [h0, h1]

/-- The scores of a block of real queries and keys are real. -/
theorem sc_real (qr : Fin 1024 → Fin 128 → ℝ) (kr : Fin 2816 → Fin 128 → ℝ)
    (hq : ∀ r d, q (ix3 0 r d) = (qr r d : EReal)) (hk : ∀ j d, k (ix3 0 j d) = (kr j d : EReal)) (h : Fin 2) (r : Fin 1024) (j : Fin 2816) :
    k0_pay8 (F := Ideal) q k (ix2 (row h r) j)
      = (((∑ d : Fin 64, qr r ⟨h.val * 64 + d.val, by omega⟩ * kr j ⟨h.val * 64 + d.val, by omega⟩) * (8 * Real.log 2)⁻¹ : ℝ) : EReal) := by
  rw [sc_at, Finset.sum_mul, ← coe_sum]
  refine Finset.sum_congr rfl fun d _ => ?_
  rw [hq, hk, ← EReal.coe_mul, ← EReal.coe_mul]
  congr 1
  ring

/-- Every stacked row is a row of the first or of the second map. -/
theorem row_cases (R : Fin 2048) : ∃ (h : Fin 2) (r : Fin 1024), R = row h r :=
  ⟨⟨R.val / 1024, by omega⟩, ⟨R.val % 1024, by omega⟩, Fin.ext (by simp only [row]; omega)⟩

/-- What one block of keys does to the state of a query row. -/
theorem block_step (qr : Fin 1024 → Fin 128 → ℝ) (kr vr : Fin 2816 → Fin 128 → ℝ)
    (hq : ∀ r d, q (ix3 0 r d) = (qr r d : EReal)) (hk : ∀ j d, k (ix3 0 j d) = (kr j d : EReal))
    (hv : ∀ j d, v (ix3 0 j d) = (vr j d : EReal)) (h : Fin 2) (r : Fin 1024) (w : EReal) (hw : ∀ i, m0 (ix2 (row h r) i) = w) :
    Step (fun j => (∑ d : Fin 64, qr r ⟨h.val * 64 + d.val, by omega⟩ * kr j ⟨h.val * 64 + d.val, by omega⟩) * (8 * Real.log 2)⁻¹) vr
      (fun i => m0 (ix2 (row h r) i)) (fun i => l0 (ix2 (row h r) i)) (fun i => a0 (ix2 (row h r) i))
      (fun i => k0_pay2 (F := Ideal) (k0_pay9 q k m0) (ix2 (row h r) i))
      (fun i => k0_pay14 (F := Ideal) (k0_pay11 q k m0) (k0_pay12 q k m0 l0) (k0_pay13 q k m0) (ix2 (row h r) i))
      (fun i => k0_pay1 (F := Ideal) (k0_pay15 (k0_pay10 q k m0) a0) (k0_pay16 (k0_pay11 q k m0)) (k0_pay17 v) (constant S2048x128 .f32 0x00000000#32) (ix2 (row h r) i)) := by
  have hs : ∀ i : S2048x2816.Idx, ∃ x : ℝ, k0_pay8 (F := Ideal) q k i = (x : EReal) := fun i => by
    idx_vars i
    obtain ⟨h', r', hR⟩ := row_cases i0
    rw [hR]
    exact ⟨_, sc_real q k qr kr hq hk h' r' i1⟩
  obtain ⟨N, hN⟩ := maxRed_real (k0_pay8 (F := Ideal) q k) 0xFF800000#32 reduces_S2048x2816_S2048 (.inl rfl) rfl neg_inf (by decide) hs (ix1 (row h r))
  have hM : ∀ i, k0_pay9 (F := Ideal) q k m0 (ix2 (row h r) i) = max w (N : EReal) := fun i => by
    rw [max_at, hN, hw]
  refine ⟨⟨N, fun i => ?_⟩, fun i => ?_, fun e => ?_⟩
  · rw [pay2_eq, max_at, hN]
  · rw [l_at, alpha_at, pay2_eq, hM]
    refine congrArg (_ + ·) (Finset.sum_congr rfl fun c _ => ?_)
    rw [p_at q k m0 _ _ _ hM, sc_real q k qr kr hq hk]
  · rw [acc_at, alpha_at, pay2_eq, hM]
    refine congrArg (_ + ·) (Finset.sum_congr rfl fun j _ => ?_)
    rw [p_at q k m0 _ _ _ hM, sc_real q k qr kr hq hk, hv]

end Cert.KernelIdeal.Attn
end
-- ==== Proof.Attn.State.lean ====
module

public import proofs.«01_k».proof.Proof.Gen.KernelIdeal.Value
public import proofs.«01_k».proof.Proof.Attn.Block
public import Idealize.ShloMosaic.Lib.Pipeline.ReadBack

@[expose] public section

set_option maxRecDepth 16384

noncomputable section

namespace Cert.KernelIdeal.Attn

open Cert.AttnReal Cert.AttnSoftmax Cert.KernelIdeal Cert.KernelIdeal.Gen Idealize.ShloMosaic Idealize.ShloMosaic.TcCoe Idealize.SL.Sem

variable (m : (ℓ : Loc nD τ sig) → Buf (Elt Ideal) ℓ) (c : Dev nD)

/-- The step before a step is a step. -/
theorem before (t : Fin cfg0.N) : t.val - 1 < cfg0.N := lt_of_le_of_lt (Nat.sub_le _ _) t.isLt

/-- After the first block of keys, the running maxima. -/
theorem max_first (t : Fin cfg0.N) (h0 : t.val % 3 = 0) :
    (outsAt0 m c t.val t.isLt).2.1 = k0_pay2 (F := Ideal) (k0_pay9 (iblk m c 2 t) (iblk m c 3 t) (k0_pay5 (F := Ideal))) := by
  have h1 : ¬ t.val % 3 = 2 := by omega
  rw [outsAt0_A m c t h0 h1]
  funext y
  frame_out

/-- After the first block of keys, the running sums. -/
theorem sum_first (t : Fin cfg0.N) (h0 : t.val % 3 = 0) :
    (outsAt0 m c t.val t.isLt).2.2.1 = k0_pay14 (F := Ideal) (k0_pay11 (iblk m c 2 t) (iblk m c 3 t) (k0_pay5 (F := Ideal))) (k0_pay12 (iblk m c 2 t) (iblk m c 3 t) (k0_pay5 (F := Ideal)) (k0_pay6 (F := Ideal))) (k0_pay13 (iblk m c 2 t) (iblk m c 3 t) (k0_pay5 (F := Ideal))) := by
  have h1 : ¬ t.val % 3 = 2 := by omega
  rw [outsAt0_A m c t h0 h1]
  funext y
  frame_out

/-- After the first block of keys, the running weighted values. -/
theorem acc_first (t : Fin cfg0.N) (h0 : t.val % 3 = 0) :
    (outsAt0 m c t.val t.isLt).2.2.2 = k0_pay1 (F := Ideal) (k0_pay15 (k0_pay10 (iblk m c 2 t) (iblk m c 3 t) (k0_pay5 (F := Ideal))) (k0_pay7 (F := Ideal))) (k0_pay16 (k0_pay11 (iblk m c 2 t) (iblk m c 3 t) (k0_pay5 (F := Ideal)))) (k0_pay17 (iblk m c 4 t)) (constant S2048x128 .f32 0x00000000#32) := by
  have h1 : ¬ t.val % 3 = 2 := by omega
  rw [outsAt0_A m c t h0 h1]
  funext y
  frame_out

/-- After a later block of keys, the running maxima. -/
theorem max_next (t : Fin cfg0.N) (h0 : ¬ t.val % 3 = 0) :
    (outsAt0 m c t.val t.isLt).2.1 = k0_pay2 (F := Ideal) (k0_pay9 (iblk m c 2 t) (iblk m c 3 t) (outsAt0 m c (t.val - 1) (before t)).2.1) := by
  by_cases h1 : t.val % 3 = 2
  · rw [outsAt0_C m c t h0 h1]
    funext y
    frame_out
    simp only [read_unread_whole]
  · rw [outsAt0_B m c t h0 h1]
    funext y
    frame_out
    simp only [read_unread_whole]

/-- After a later block of keys, the running sums. -/
theorem sum_next (t : Fin cfg0.N) (h0 : ¬ t.val % 3 = 0) :
    (outsAt0 m c t.val t.isLt).2.2.1 = k0_pay14 (F := Ideal) (k0_pay11 (iblk m c 2 t) (iblk m c 3 t) (outsAt0 m c (t.val - 1) (before t)).2.1) (k0_pay12 (iblk m c 2 t) (iblk m c 3 t) (outsAt0 m c (t.val - 1) (before t)).2.1 (outsAt0 m c (t.val - 1) (before t)).2.2.1) (k0_pay13 (iblk m c 2 t) (iblk m c 3 t) (outsAt0 m c (t.val - 1) (before t)).2.1) := by
  by_cases h1 : t.val % 3 = 2
  · rw [outsAt0_C m c t h0 h1]
    funext y
    frame_out
    simp only [read_unread_whole]
  · rw [outsAt0_B m c t h0 h1]
    funext y
    frame_out
    simp only [read_unread_whole]

/-- After a later block of keys, the running weighted values. -/
theorem acc_next (t : Fin cfg0.N) (h0 : ¬ t.val % 3 = 0) :
    (outsAt0 m c t.val t.isLt).2.2.2 = k0_pay1 (F := Ideal) (k0_pay15 (k0_pay10 (iblk m c 2 t) (iblk m c 3 t) (outsAt0 m c (t.val - 1) (before t)).2.1) (outsAt0 m c (t.val - 1) (before t)).2.2.2) (k0_pay16 (k0_pay11 (iblk m c 2 t) (iblk m c 3 t) (outsAt0 m c (t.val - 1) (before t)).2.1)) (k0_pay17 (iblk m c 4 t)) (constant S2048x128 .f32 0x00000000#32) := by
  by_cases h1 : t.val % 3 = 2
  · rw [outsAt0_C m c t h0 h1]
    funext y
    frame_out
    simp only [read_unread_whole]
  · rw [outsAt0_B m c t h0 h1]
    funext y
    frame_out
    simp only [read_unread_whole]

/-- What the last block of keys writes out. -/
theorem out_last (t : Fin cfg0.N) (h1 : t.val % 3 = 2) :
    (outsAt0 m c t.val t.isLt).1 = k0_pay3 (F := Ideal) (k0_pay4 (iblk m c 0 t) (outsAt0 m c t.val t.isLt).2.2.2 (outsAt0 m c t.val t.isLt).2.2.1 (iblk m c 1 t)) := by
  have h0 : ¬ t.val % 3 = 0 := by omega
  rw [sum_next m c t h0, acc_next m c t h0, outsAt0_C m c t h0 h1]
  funext y
  frame_out
  simp only [read_unread_whole]

end Cert.KernelIdeal.Attn
end
-- ==== Proof.Attn.Reads.lean ====
module

public import proofs.«01_k».proof.Proof.Gen.KernelIdeal.Value
public import proofs.«01_k».proof.Proof.Attn.Softmax
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Attn

open Cert.AttnSoftmax Cert.KernelIdeal Cert.KernelIdeal.Gen Idealize.ShloMosaic Idealize.ShloMosaic.TcCoe Idealize.SL.Sem

variable (m : (ℓ : Loc nD τ sig) → Buf (Elt Ideal) ℓ) (c : Dev nD)

/-- Which block every window reads or writes at each grid point. -/
theorem idx : ∀ t : Fin cfg0.N, win0_0.index t = ![0, 0] ∧ win0_1.index t = ![0, 0]
    ∧ win0_2.index t = ![t.val / 96, t.val / 3 % 8, t.val / 24 % 4] ∧ win0_3.index t = ![t.val / 96, t.val % 3, t.val / 24 % 4]
    ∧ win0_4.index t = ![t.val / 96, t.val % 3, t.val / 24 % 4] ∧ win0_5.index t = ![t.val / 96, t.val / 3 % 8, t.val / 24 % 4] :=
  (by decide +kernel : ∀ t : Fin grid0.N, _)

/-- There are 384 steps. -/
theorem t_lt (t : Fin cfg0.N) : t.val < 384 := lt_of_lt_of_eq t.isLt (show cfg0.N = 384 from N_0)

/-- The batch entry of a grid point. -/
abbrev bOf (t : Fin cfg0.N) : Fin 4 := ⟨t.val / 96, by have := t_lt t; omega⟩
/-- The head of a grid point. -/
abbrev hOf (t : Fin cfg0.N) : Fin 4 := ⟨t.val / 24 % 4, by omega⟩
/-- The position of a grid point's query row `r`. -/
abbrev sOf (t : Fin cfg0.N) (r : Fin 1024) : Fin 8192 := ⟨t.val / 3 % 8 * 1024 + r.val, by omega⟩
/-- The block of differential weights. -/
theorem dl_read (t : Fin cfg0.N) (a : Fin 4) (x : Fin 64) :
    iblk m c 0 t (ix2 a x) = m ((c : Thread nD τ).loc main_arg0) (ix2 a x) := by
  blk_ext [iblk, V, idx t]

/-- The block of gains. -/
theorem g_read (t : Fin cfg0.N) (x : Fin 128) :
    iblk m c 1 t (ix2 0 x) = m ((c : Thread nD τ).loc main_arg1) (ix1 x) := by
  blk_simp [iblk]
  entry_read
  pointwise
  blk_ext [idx t]

/-- The block of queries. -/
theorem q_read (t : Fin cfg0.N) (r : Fin 1024) (d : Fin 128) :
    iblk m c 2 t (ix3 0 r d) = m ((c : Thread nD τ).loc main_arg2) (ix3 (bOf t) (sOf t r) (col (hOf t) d)) := by
  have := t_lt t
  blk_ext [iblk, V, idx t]

/-- The two parts of the keys (or values) joined, at a position. -/
def joinedAt (x : FVec Ideal S4x256x512 .f32) (y : FVec Ideal S4x8192x512 .f32) (b : Fin 4) (t : Fin 8448) (e : Fin 512) : EReal :=
  if h : t.val < 256 then x (ix3 b ⟨t.val, h⟩ e) else y (ix3 b ⟨t.val - 256, by omega⟩ e)

/-- An entry of the joined keys. -/
theorem k_entry (b : Fin 4) (t : Fin 8448) (e : Fin 512) :
    V m c main_v2 (ix3 b t e) = joinedAt (m ((c : Thread nD τ).loc main_arg3)) (m ((c : Thread nD τ).loc main_arg4)) b t e := by
  entry_read
  pointwise [joinedAt]

/-- An entry of the joined values. -/
theorem v_entry (b : Fin 4) (t : Fin 8448) (e : Fin 512) :
    V m c main_v5 (ix3 b t e) = joinedAt (m ((c : Thread nD τ).loc main_arg5)) (m ((c : Thread nD τ).loc main_arg6)) b t e := by
  entry_read
  pointwise [joinedAt]

/-- The block of keys. -/
theorem k_read (t : Fin cfg0.N) (j : Fin 2816) (d : Fin 128) :
    iblk m c 3 t (ix3 0 j d) = joinedAt (m ((c : Thread nD τ).loc main_arg3)) (m ((c : Thread nD τ).loc main_arg4)) (bOf t) (pos (t.val % 3) j) (col (hOf t) d) := by
  rw [← k_entry]
  have := t_lt t
  have : (t.val % 3 * 2816 + j.val) % 8448 = t.val % 3 * 2816 + j.val := Nat.mod_eq_of_lt (by omega)
  blk_ext [iblk, idx t]

/-- The block of values. -/
theorem v_read (t : Fin cfg0.N) (j : Fin 2816) (d : Fin 128) :
    iblk m c 4 t (ix3 0 j d) = joinedAt (m ((c : Thread nD τ).loc main_arg5)) (m ((c : Thread nD τ).loc main_arg6)) (bOf t) (pos (t.val % 3) j) (col (hOf t) d) := by
  rw [← v_entry]
  have := t_lt t
  have : (t.val % 3 * 2816 + j.val) % 8448 = t.val % 3 * 2816 + j.val := Nat.mod_eq_of_lt (by omega)
  blk_ext [iblk, idx t]

end Cert.KernelIdeal.Attn
end
-- ==== Proof.Attn.Kernel.lean ====
module

public import proofs.«01_k».proof.Proof.Attn.State
public import proofs.«01_k».proof.Proof.Attn.Reads

@[expose] public section

set_option maxRecDepth 16384

noncomputable section

namespace Cert.KernelIdeal.Attn

open Cert.AttnReal Cert.AttnSoftmax Cert.KernelIdeal Cert.KernelIdeal.Gen Idealize.ShloMosaic Idealize.ShloMosaic.TcCoe Idealize.SL.Sem

variable (m : (ℓ : Loc nD τ sig) → Buf (Elt Ideal) ℓ) (c : Dev nD)
  (Q : Fin 4 → Fin 8192 → Fin 512 → ℝ) (K W : Fin 4 → Fin 8448 → Fin 512 → ℝ)

/-- The state of a query row at a grid point whose block of keys is the `n`th less one. -/
abbrev StateAt (t : Fin cfg0.N) (n : ℕ) (b h : Fin 4) (s : Fin 1024 → Fin 8192) (a : Fin 2) (r : Fin 1024) : Prop :=
  State (fun j k => dots Q K b h a (s r) (pos j k) * (8 * Real.log 2)⁻¹) (fun j k e => W b (pos j k) (col h e)) n
    (fun i => (outsAt0 m c t.val t.isLt).2.1 (ix2 (row a r) i)) (fun i => (outsAt0 m c t.val t.isLt).2.2.1 (ix2 (row a r) i))
    (fun i => (outsAt0 m c t.val t.isLt).2.2.2 (ix2 (row a r) i))

variable (hq : ∀ b s x, m ((c : Thread nD τ).loc main_arg2) (ix3 b s x) = (Q b s x : EReal))
  (hk : ∀ b t e, joinedAt (m ((c : Thread nD τ).loc main_arg3)) (m ((c : Thread nD τ).loc main_arg4)) b t e = (K b t e : EReal))
  (hv : ∀ b t e, joinedAt (m ((c : Thread nD τ).loc main_arg5)) (m ((c : Thread nD τ).loc main_arg6)) b t e = (W b t e : EReal))

include hq hk hv

/-- One block of keys takes the state of a row to the next. -/
theorem step_at (t : Fin cfg0.N) (a : Fin 2) (r : Fin 1024) (m0 l0 a0 : FVec Ideal S2048x128 .f32) (w : EReal)
    (hw : ∀ i, m0 (ix2 (row a r) i) = w) :
    Step (fun k => dots Q K (bOf t) (hOf t) a (sOf t r) (pos (t.val % 3) k) * (8 * Real.log 2)⁻¹) (fun k e => W (bOf t) (pos (t.val % 3) k) (col (hOf t) e))
      (fun i => m0 (ix2 (row a r) i)) (fun i => l0 (ix2 (row a r) i)) (fun i => a0 (ix2 (row a r) i))
      (fun i => k0_pay2 (F := Ideal) (k0_pay9 (iblk m c 2 t) (iblk m c 3 t) m0) (ix2 (row a r) i))
      (fun i => k0_pay14 (F := Ideal) (k0_pay11 (iblk m c 2 t) (iblk m c 3 t) m0) (k0_pay12 (iblk m c 2 t) (iblk m c 3 t) m0 l0) (k0_pay13 (iblk m c 2 t) (iblk m c 3 t) m0) (ix2 (row a r) i))
      (fun i => k0_pay1 (F := Ideal) (k0_pay15 (k0_pay10 (iblk m c 2 t) (iblk m c 3 t) m0) a0) (k0_pay16 (k0_pay11 (iblk m c 2 t) (iblk m c 3 t) m0)) (k0_pay17 (iblk m c 4 t)) (constant S2048x128 .f32 0x00000000#32) (ix2 (row a r) i)) :=
  block_step (iblk m c 2 t) (iblk m c 3 t) (iblk m c 4 t) m0 l0 a0
    (fun r d => Q (bOf t) (sOf t r) (col (hOf t) d)) (fun j d => K (bOf t) (pos (t.val % 3) j) (col (hOf t) d))
    (fun j d => W (bOf t) (pos (t.val % 3) j) (col (hOf t) d))
    (fun r d => (q_read m c t r d).trans (hq _ _ _)) (fun j d => (k_read m c t j d).trans (hk _ _ _))
    (fun j d => (v_read m c t j d).trans (hv _ _ _)) a r w hw

/-- After the first block of keys the state is that of one block. -/
theorem state_first (t : Fin cfg0.N) (h0 : t.val % 3 = 0) (a : Fin 2) (r : Fin 1024) :
    StateAt m c Q K W t 1 (bOf t) (hOf t) (sOf t) a r := by
  have hs := step_at m c Q K W hq hk hv t a r (k0_pay5 (F := Ideal)) (k0_pay6 (F := Ideal)) (k0_pay7 (F := Ideal)) ⊥ fun i => init_max _ _
  rw [← max_first m c t h0, ← sum_first m c t h0, ← acc_first m c t h0] at hs
  refine State.first _ _ _ _ _ _ _ _ (fun i => init_max (row a r) i) (fun i => init_sum (row a r) i) (fun i => init_acc (row a r) i) ?_
  rw [h0] at hs
  exact hs

/-- A further block of keys extends the state by one block. -/
theorem state_next (t : Fin cfg0.N) (h0 : ¬ t.val % 3 = 0) (a : Fin 2) (r : Fin 1024)
    (ih : StateAt m c Q K W ⟨t.val - 1, before t⟩ (t.val % 3) (bOf t) (hOf t) (sOf t) a r) :
    StateAt m c Q K W t (t.val % 3 + 1) (bOf t) (hOf t) (sOf t) a r := by
  obtain ⟨M, hM, -⟩ := id ih
  have hs := step_at m c Q K W hq hk hv t a r (outsAt0 m c (t.val - 1) (before t)).2.1 (outsAt0 m c (t.val - 1) (before t)).2.2.1
    (outsAt0 m c (t.val - 1) (before t)).2.2.2 M hM
  rw [← max_next m c t h0, ← sum_next m c t h0, ← acc_next m c t h0] at hs
  exact State.next _ _ _ _ _ _ _ _ _ ih hs

omit hq hk hv in
/-- The step before, when it is not the first block of keys, has the same batch row, head and queries. -/
theorem back (t : Fin cfg0.N) (h0 : ¬ t.val % 3 = 0) :
    bOf ⟨t.val - 1, before t⟩ = bOf t ∧ hOf ⟨t.val - 1, before t⟩ = hOf t ∧ sOf ⟨t.val - 1, before t⟩ = sOf t := by
  have := t_lt t
  refine ⟨Fin.ext ?_, Fin.ext ?_, funext fun r => Fin.ext ?_⟩ <;> dsimp only <;> omega

/-- The state at the last block of keys. -/
theorem state_last (t : Fin cfg0.N) (h : t.val % 3 = 2) (a : Fin 2) (r : Fin 1024) :
    StateAt m c Q K W t 3 (bOf t) (hOf t) (sOf t) a r := by
  have h0 : ¬ t.val % 3 = 0 := by omega
  obtain ⟨e1, e2, e3⟩ := back t h0
  have h1 : ¬ (⟨t.val - 1, before t⟩ : Fin cfg0.N).val % 3 = 0 := by dsimp only; omega
  obtain ⟨f1, f2, f3⟩ := back ⟨t.val - 1, before t⟩ h1
  have s0 := state_first m c Q K W hq hk hv ⟨t.val - 1 - 1, before ⟨t.val - 1, before t⟩⟩ (by dsimp only; omega) a r
  rw [f1, f2, f3] at s0
  have s1 := state_next m c Q K W hq hk hv ⟨t.val - 1, before t⟩ h1 a r (by
    have e : (⟨t.val - 1, before t⟩ : Fin cfg0.N).val % 3 = 1 := by dsimp only; omega
    rw [e]; exact s0)
  rw [e1, e2, e3] at s1
  have s2 := state_next m c Q K W hq hk hv t h0 a r (by
    have e : (⟨t.val - 1, before t⟩ : Fin cfg0.N).val % 3 + 1 = t.val % 3 := by dsimp only; omega
    rw [e] at s1; exact s1)
  rw [h] at s2
  exact s2

/-- What the kernel writes out at the last block of keys. -/
theorem out_block (t : Fin cfg0.N) (h : t.val % 3 = 2) (r : Fin 1024) (e : Fin 128) :
    (outsAt0 m c t.val t.isLt).1 (ix3 0 r e)
      = epi (headRow (lamOf fun a x => m ((c : Thread nD τ).loc main_arg0) (ix2 a x)) Q K W (bOf t) (hOf t) (sOf t r))
          (m ((c : Thread nD τ).loc main_arg1) (ix1 e)) e := by
  rw [out_last m c t h]
  refine (out_at _ _ _ _ _ _).trans ?_
  rw [g_read]
  have hl : (lamOf fun a x => iblk m c 0 t (ix2 a x)) = lamOf fun a x => m ((c : Thread nD τ).loc main_arg0) (ix2 a x) :=
    congrArg lamOf (funext fun a => funext fun x => dl_read m c t a x)
  have hh : ∀ a x, Ideal.div ((outsAt0 m c t.val t.isLt).2.2.2 (ix2 (row a r) x)) (∑ i, (outsAt0 m c t.val t.isLt).2.2.1 (ix2 (row a r) i))
      = ((smean (dots Q K (bOf t) (hOf t) a (sOf t r)) (fun u => W (bOf t) u (col (hOf t) x)) : ℝ) : EReal) := fun a x =>
    State.smean _ (fun u x => W (bOf t) u (col (hOf t) x)) _ _ _ (state_last m c Q K W hq hk hv t h a r) x
  refine congrArg (fun o => epi o _ e) (funext fun x => ?_)
  rw [hh, hh, hl]
  rfl

/-- The array the kernel leaves. -/
def target (L : EReal) (Q : Fin 4 → Fin 8192 → Fin 512 → ℝ) (K W : Fin 4 → Fin 8448 → Fin 512 → ℝ) (g : FVec Ideal S128 .f32) : FVec Ideal S4x8192x512 .bf16 :=
  fun i => epi (headRow L Q K W (i 0) ⟨(i 2).val / 128, by have : (i 2).val < 512 := (i 2).isLt; omega⟩ (i 1))
    (g (ix1 ⟨(i 2).val % 128, by omega⟩)) ⟨(i 2).val % 128, by omega⟩

omit hq hk hv in
/-- An entry of the target is the normalised difference of the two maps. -/
theorem target_at (L : EReal) (g : FVec Ideal S128 .f32) (b h : Fin 4) (s : Fin 8192) (e : Fin 128) :
    target L Q K W g (ix3 b s (col h e)) = epi (headRow L Q K W b h s) (g (ix1 e)) e := by
  have h1 : (⟨(h.val * 128 + e.val) / 128, by omega⟩ : Fin 4) = h := Fin.ext (by dsimp only; omega)
  have h2 : (⟨(h.val * 128 + e.val) % 128, by omega⟩ : Fin 128) = e := Fin.ext (by dsimp only; omega)
  show epi (headRow L Q K W b ⟨(h.val * 128 + e.val) / 128, _⟩ s) (g (ix1 ⟨(h.val * 128 + e.val) % 128, _⟩)) ⟨(h.val * 128 + e.val) % 128, _⟩ = _
  rw [h1, h2]

/-- The kernel's result, every entry of it. -/
theorem final :
    (dats m 0 c).arrAt 5 cfg0.N = target (lamOf fun a x => m ((c : Thread nD τ).loc main_arg0) (ix2 a x)) Q K W (m ((c : Thread nD τ).loc main_arg1)) := by
  refine (dats m 0 c).arrAt_eq_of_covers 5 _ (by decide +kernel) fun t hf y => ?_
  blk_simp
  rw [after0_5]
  have h2 : t.val % 3 = 2 := (flush0_5 t).mp hf
  have := t_lt t
  have key : ∀ y : S1x1024x128.Idx, (outsAt0 m c t.val t.isLt).1 y
      = target (lamOf fun a x => m ((c : Thread nD τ).loc main_arg0) (ix2 a x)) Q K W (m ((c : Thread nD τ).loc main_arg1))
          (ix3 (bOf t) (sOf t (y 1)) (col (hOf t) (y 2))) := fun y => by
    idx_vars y
    obtain rfl : y0 = 0 := Subsingleton.elim _ _
    refine (out_block m c Q K W hq hk hv t h2 y1 y2).trans ?_
    exact (target_at Q K W _ _ _ _ _ _).symm
  refine (key y).trans (congrArg _ ?_)
  blk_ext [idx t]

end Cert.KernelIdeal.Attn
end
-- ==== Proof.Attn.Ref.lean ====
module

public import proofs.«01_k».proof.Proof.Gen.ReferenceIdeal.Run
public import proofs.«01_k».proof.Proof.Attn.Softmax

@[expose] public section

set_option maxRecDepth 16384

noncomputable section

namespace Cert.ReferenceIdeal.Attn

open Cert.AttnReal Cert.AttnSoftmax Cert.ReferenceIdeal Cert.ReferenceIdeal.Gen Idealize.ShloMosaic Idealize.ShloMosaic.TcCoe Idealize.SL.Sem

variable (dl : FVec Ideal S4x64 .f32) (g : FVec Ideal S128 .f32) (ql : FVec Ideal S4x8192x512 .f32)
  (c : FVec Ideal S4x256x512 .f32) (l : FVec Ideal S4x8192x512 .f32)

/-- The context rows and the latent rows of the keys (or values), joined. -/
def joined : FVec Ideal S4x8448x512 .f32 :=
  concatenate S4x8448x512 1 [⟨S4x256x512, c⟩, ⟨S4x8192x512, l⟩] concatenates_S4x256x512_S4x8192x512_S4x8448x512_d1

/-- The scaled scores. -/
def scores (kk : FVec Ideal S4x8448x512 .f32) : FVec Ideal S4x4x2x8192x8448 .f32 :=
  mulf (Host.dotGeneral dot_S4x8192x4x2x64_S4x8448x4x2x64_S4x4x2x8192x8448_4_4_1_1_023_023 none (shapeCast _ ql shapeCasts_S4x8192x512_S4x8192x4x2x64) (shapeCast _ kk shapeCasts_S4x8448x512_S4x8448x4x2x64)) (broadcastInDim S4x4x2x8192x8448 ![] bcast_S_S4x4x2x8192x8448 (constant S_ .f32 0x3E000000#32))

/-- Each row's maximum. -/
def rowMax (s : FVec Ideal S4x4x2x8192x8448 .f32) : FVec Ideal S4x4x2x8192 .f32 :=
  maximumf (broadcastInDim S4x4x2x8192 ![] bcast_S_S4x4x2x8192 (constant S_ .f32 0xFF800000#32)) (Host.reduce FloatOps.maximumf s (constant S_ .f32 0xFF800000#32) reducesTo_S4x4x2x8192x8448_S4x4x2x8192_d4 h_S_)

/-- The exponentials of a row's scores less the row's number. -/
def expo (s : FVec Ideal S4x4x2x8192x8448 .f32) (mx : FVec Ideal S4x4x2x8192 .f32) : FVec Ideal S4x4x2x8192x8448 .f32 :=
  Host.exp (subf s (broadcastInDim S4x4x2x8192x8448 ![0, 1, 2, 3, 4] bcast_S4x4x2x8192x1_S4x4x2x8192x8448_0_1_2_3_4 (broadcastInDim S4x4x2x8192x1 ![0, 1, 2, 3] bcast_S4x4x2x8192_S4x4x2x8192x1_0_1_2_3 mx)))

/-- The exponentials over their row's sum. -/
def soft (e : FVec Ideal S4x4x2x8192x8448 .f32) : FVec Ideal S4x4x2x8192x8448 .f32 :=
  Host.divf e (broadcastInDim S4x4x2x8192x8448 ![0, 1, 2, 3, 4] bcast_S4x4x2x8192x1_S4x4x2x8192x8448_0_1_2_3_4 (broadcastInDim S4x4x2x8192x1 ![0, 1, 2, 3] bcast_S4x4x2x8192_S4x4x2x8192x1_0_1_2_3 (Host.reduceAdd e (constant S_ .f32 0x00000000#32) reducesTo_S4x4x2x8192x8448_S4x4x2x8192_d4 h_S_)))

/-- The number the second map is subtracted with. -/
def lam : FVec Ideal S_ .f32 :=
  addf (subf (Host.exp (Host.reduceAdd (mulf (shapeCast _ (extractStridedSlice S1x64 ![0, 0] dl slices_S4x64_S1x64_0_0) shapeCasts_S1x64_S64) (shapeCast _ (extractStridedSlice S1x64 ![1, 0] dl slices_S4x64_S1x64_1_0) shapeCasts_S1x64_S64)) (constant S_ .f32 0x00000000#32) reducesTo_S64_S_d0 h_S_)) (Host.exp (Host.reduceAdd (mulf (shapeCast _ (extractStridedSlice S1x64 ![2, 0] dl slices_S4x64_S1x64_2_0) shapeCasts_S1x64_S64) (shapeCast _ (extractStridedSlice S1x64 ![3, 0] dl slices_S4x64_S1x64_3_0) shapeCasts_S1x64_S64)) (constant S_ .f32 0x00000000#32) reducesTo_S64_S_d0 h_S_))) (constant S_ .f32 0x3E4CCCCD#32)

/-- The difference of the two maps. -/
def weights (p : FVec Ideal S4x4x2x8192x8448 .f32) (lm : FVec Ideal S_ .f32) : FVec Ideal S4x4x8192x8448 .f32 :=
  subf (shapeCast _ (extractStridedSlice S4x4x1x8192x8448 ![0, 0, 0, 0, 0] p slices_S4x4x2x8192x8448_S4x4x1x8192x8448_0_0_0_0_0) shapeCasts_S4x4x1x8192x8448_S4x4x8192x8448) (mulf (broadcastInDim S4x4x8192x8448 ![] bcast_S_S4x4x8192x8448 lm) (shapeCast _ (extractStridedSlice S4x4x1x8192x8448 ![0, 0, 1, 0, 0] p slices_S4x4x2x8192x8448_S4x4x1x8192x8448_0_0_1_0_0) shapeCasts_S4x4x1x8192x8448_S4x4x8192x8448))

/-- The weighted values. -/
def heads (w : FVec Ideal S4x4x8192x8448 .f32) (vv : FVec Ideal S4x8448x512 .f32) : FVec Ideal S4x8192x4x128 .f32 :=
  transpose S4x8192x4x128 [0, 3, 1, 2] (Host.dotGeneral dot_S4x8448x4x128_S4x4x8192x8448_S4x4x128x8192_1_3_3_2_02_01 none (shapeCast _ vv shapeCasts_S4x8448x512_S4x8448x4x128) w) transposes_S4x4x128x8192_S4x8192x4x128_0_3_1_2

/-- The sub-layer norm of each head's row, its gain and its scale, the heads side by side. -/
def normed (o : FVec Ideal S4x8192x4x128 .f32) : FVec Ideal S4x8192x512 .bf16 :=
  truncf .bf16 (shapeCast _ (mulf (mulf (mulf o (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf o o) (constant S_ .f32 0x00000000#32) reducesTo_S4x8192x4x128_S4x8192x4_d3 h_S_)) (broadcastInDim S4x8192x4x1 ![] bcast_S_S4x8192x4x1 (constant S_ .f32 0x43000000#32))) (broadcastInDim S4x8192x4x1 ![] bcast_S_S4x8192x4x1 (constant S_ .f32 0x358637BD#32)))))) (broadcastInDim S4x8192x4x128 ![0, 1, 2, 3] bcast_S1x1x1x128_S4x8192x4x128_0_1_2_3 (broadcastInDim S1x1x1x128 ![3] bcast_S128_S1x1x1x128_3 g))) (broadcastInDim S4x8192x4x128 ![] bcast_S_S4x8192x4x128 (constant S_ .f32 0x3F4CCCCD#32))) shapeCasts_S4x8192x4x128_S4x8192x512) bitsLt_bf16_f32

/-- What the reference computes, by its steps. -/
theorem res_eq (m : (ℓ : Loc nD τ sig) → Buf (Elt Ideal) ℓ) (c : Dev nD) :
    Cert.ReferenceIdeal.Value.res_main_v60 m c
      = normed (m ((c.tc : Thread nD τ).loc main_arg1)) (heads
          (weights (soft (expo (scores (m ((c.tc : Thread nD τ).loc main_arg2)) (joined (m ((c.tc : Thread nD τ).loc main_arg3)) (m ((c.tc : Thread nD τ).loc main_arg4))))
              (rowMax (scores (m ((c.tc : Thread nD τ).loc main_arg2)) (joined (m ((c.tc : Thread nD τ).loc main_arg3)) (m ((c.tc : Thread nD τ).loc main_arg4)))))))
            (lam (m ((c.tc : Thread nD τ).loc main_arg0))))
          (joined (m ((c.tc : Thread nD τ).loc main_arg5)) (m ((c.tc : Thread nD τ).loc main_arg6)))) := rfl

/-- An entry of the joined context and latents. -/
theorem joined_at (b : Fin 4) (t : Fin 8448) (x : Fin 512) : joined c l (ix3 b t x)
    = if h : t.val < 256 then c (ix3 b ⟨t.val, h⟩ x) else l (ix3 b ⟨t.val - 256, by omega⟩ x) := by
  pointwise [joined]

/-- A score of the reference. -/
theorem scores_at (kk : FVec Ideal S4x8448x512 .f32) (b h : Fin 4) (m : Fin 2) (s : Fin 8192) (t : Fin 8448) :
    scores ql kk (ix5 b h m s t)
      = (∑ d : Fin 64, ql (ix3 b s ⟨h.val * 128 + m.val * 64 + d.val, by omega⟩) * kk (ix3 b t ⟨h.val * 128 + m.val * 64 + d.val, by omega⟩)) * Ideal.ofBits .f32 0x3E000000#32 := by
  pointwise [scores]

/-- An exponential of the reference. -/
theorem expo_at (x : FVec Ideal S4x4x2x8192x8448 .f32) (mx : FVec Ideal S4x4x2x8192 .f32) (b h : Fin 4) (m : Fin 2) (s : Fin 8192) (t : Fin 8448) :
    expo x mx (ix5 b h m s t) = Ideal.exp (x (ix5 b h m s t) - mx (ix4 b h m s)) := by
  pointwise [expo]

/-- A weight of the reference: an exponential over the sum of its row. -/
theorem soft_at (x : FVec Ideal S4x4x2x8192x8448 .f32) (b h : Fin 4) (m : Fin 2) (s : Fin 8192) (t : Fin 8448) :
    soft x (ix5 b h m s t) = Ideal.div (x (ix5 b h m s t)) (∑ u : Fin 8448, x (ix5 b h m s u)) := by
  pointwise [soft]

/-- The difference of the two maps. -/
theorem weights_at (p : FVec Ideal S4x4x2x8192x8448 .f32) (lm : FVec Ideal S_ .f32) (b h : Fin 4) (s : Fin 8192) (t : Fin 8448) :
    weights p lm (ix4 b h s t) = p (ix5 b h 0 s t) - lm ix0 * p (ix5 b h 1 s t) := by
  pointwise [weights]

/-- The weighted sum of the values. -/
theorem heads_at (w : FVec Ideal S4x4x8192x8448 .f32) (vv : FVec Ideal S4x8448x512 .f32) (b h : Fin 4) (s : Fin 8192) (e : Fin 128) :
    heads w vv (ix4 b s h e) = ∑ t : Fin 8448, vv (ix3 b t ⟨h.val * 128 + e.val, by omega⟩) * w (ix4 b h s t) := by
  pointwise [heads]

/-- The factor of the second map. -/
theorem lam_at : lam dl ix0 = Ideal.exp (∑ x : Fin 64, dl (ix2 0 x) * dl (ix2 1 x)) - Ideal.exp (∑ x : Fin 64, dl (ix2 2 x) * dl (ix2 3 x)) + Ideal.ofBits .f32 0x3E4CCCCD#32 := by
  pointwise [lam]

/-- The normalised head. -/
theorem normed_at (o : FVec Ideal S4x8192x4x128 .f32) (b h : Fin 4) (s : Fin 8192) (e : Fin 128) :
    normed g o (ix3 b s ⟨h.val * 128 + e.val, by omega⟩)
      = o (ix4 b s h e) * Ideal.rsqrt (Ideal.div (∑ x : Fin 128, o (ix4 b s h x) * o (ix4 b s h x)) (Ideal.ofBits .f32 0x43000000#32) + Ideal.ofBits .f32 0x358637BD#32) * g (ix1 e) * Ideal.ofBits .f32 0x3F4CCCCD#32 := by
  pointwise [normed]

/-- The larger of two tables, entry by entry. -/
theorem max_pure (a y : FVec Ideal S4x4x2x8192 .f32) (i : S4x4x2x8192.Idx) : maximumf a y i = max (a i) (y i) := rfl

/-- The constant minus infinity. -/
theorem bottom_at (i : S4x4x2x8192.Idx) :
    broadcastInDim S4x4x2x8192 ![] bcast_S_S4x4x2x8192 (constant (F := Ideal) S_ .f32 0xFF800000#32) i = ⊥ := neg_inf

/-- The maximum of a row of real numbers is a real number. -/
theorem rowMax_real (x : FVec Ideal S4x4x2x8192x8448 .f32) (hx : ∀ i, ∃ r : ℝ, x i = (r : EReal)) (i : S4x4x2x8192.Idx) :
    ∃ M : ℝ, rowMax x i = (M : EReal) := by
  obtain ⟨M, hM⟩ := hostMax_real x (constant S_ .f32 0xFF800000#32) reducesTo_S4x4x2x8192x8448_S4x4x2x8192_d4
    (by decide) h_S_ (fun _ => neg_inf) (by decide) hx i
  refine ⟨M, ?_⟩
  unfold rowMax
  rw [max_pure, hM, bottom_at]
  exact max_eq_right bot_le

end Cert.ReferenceIdeal.Attn
end
-- ==== Proof.Attn.RefValue.lean ====
module

public import proofs.«01_k».proof.Proof.Attn.Ref

@[expose] public section

set_option maxRecDepth 16384

noncomputable section

namespace Cert.ReferenceIdeal.Attn

open Cert.AttnReal Cert.AttnSoftmax Cert.ReferenceIdeal Cert.ReferenceIdeal.Gen Idealize.ShloMosaic Idealize.ShloMosaic.TcCoe Idealize.SL.Sem

variable (dl : FVec Ideal S4x64 .f32) (g : FVec Ideal S128 .f32) (ql : FVec Ideal S4x8192x512 .f32) (kk vv : FVec Ideal S4x8448x512 .f32)
  (d : Fin 4 → Fin 64 → ℝ) (Q : Fin 4 → Fin 8192 → Fin 512 → ℝ) (K W : Fin 4 → Fin 8448 → Fin 512 → ℝ)
  (hd : ∀ a x, dl (ix2 a x) = (d a x : EReal))
  (hq : ∀ b s x, ql (ix3 b s x) = (Q b s x : EReal)) (hk : ∀ b t e, kk (ix3 b t e) = (K b t e : EReal))
  (hv : ∀ b t e, vv (ix3 b t e) = (W b t e : EReal))

include hq hk in
/-- The reference's scores are the dot products' eighths. -/
theorem scores_real (b h : Fin 4) (a : Fin 2) (s : Fin 8192) (t : Fin 8448) :
    scores ql kk (ix5 b h a s t) = ((dots Q K b h a s t * (1 / 8) : ℝ) : EReal) := by
  rw [scores_at, eighth, EReal.coe_mul]
  refine congrArg (· * _) ?_
  unfold dots
  rw [← coe_sum]
  refine Finset.sum_congr rfl fun x _ => ?_
  rw [hq, hk, ← EReal.coe_mul]
  simp only [col, add_assoc]

include hq hk in
/-- The reference's softmax at an entry. -/
theorem soft_value (b h : Fin 4) (a : Fin 2) (s : Fin 8192) (t : Fin 8448) :
    soft (expo (scores ql kk) (rowMax (scores ql kk))) (ix5 b h a s t)
      = ((Real.exp (dots Q K b h a s t * (1 / 8)) / ∑ u, Real.exp (dots Q K b h a s u * (1 / 8)) : ℝ) : EReal) := by
  obtain ⟨M, hM⟩ := rowMax_real (scores ql kk) (fun i => by
    idx_vars i
    exact ⟨_, scores_real ql kk Q K hq hk _ _ _ _ _⟩) (ix4 b h a s)
  rw [soft_at]
  simp only [expo_at, hM, scores_real ql kk Q K hq hk]
  exact soft_real (fun u => dots Q K b h a s u * (1 / 8)) M t

include hd hq hk hv in
/-- One head's row of the reference. -/
theorem heads_value (b h : Fin 4) (s : Fin 8192) (e : Fin 128) :
    heads (weights (soft (expo (scores ql kk) (rowMax (scores ql kk)))) (lam dl)) vv (ix4 b s h e)
      = headRow (lamOf fun a x => dl (ix2 a x)) Q K W b h s e := by
  obtain ⟨L, hL⟩ := lamOf_real (fun a x => dl (ix2 a x)) d hd
  rw [heads_at]
  simp only [weights_at, soft_value ql kk Q K hq hk, hv]
  have hl : lam dl ix0 = (L : EReal) := (lam_at dl).trans hL
  rw [hl, hL]
  exact diff_real (dots Q K b h 0 s) (dots Q K b h 1 s) (fun t => W b t (col h e)) L

include hd hq hk hv in
/-- The reference's result, every entry of it. -/
theorem ref_value (b h : Fin 4) (s : Fin 8192) (e : Fin 128) :
    normed g (heads (weights (soft (expo (scores ql kk) (rowMax (scores ql kk)))) (lam dl)) vv) (ix3 b s (col h e))
      = epi (headRow (lamOf fun a x => dl (ix2 a x)) Q K W b h s) (g (ix1 e)) e := by
  refine (normed_at g _ b h s e).trans ?_
  have hh : (fun e => heads (weights (soft (expo (scores ql kk) (rowMax (scores ql kk)))) (lam dl)) vv (ix4 b s h e))
      = headRow (lamOf fun a x => dl (ix2 a x)) Q K W b h s := funext fun e => heads_value dl ql kk vv d Q K W hd hq hk hv b h s e
  rw [← hh]
  rfl

end Cert.ReferenceIdeal.Attn
end
-- ==== Proof.Attn.Finite.lean ====
module

public import proofs.«01_k».proof.Proof.Gen.Pre_finite
public import Idealize.ShloMosaic.Lib.ReduceAll
public import Idealize.ShloMosaic.Lib.Pointwise

@[expose] public section

set_option maxRecDepth 16384

noncomputable section

namespace Cert.AttnFinite

open Idealize.ShloMosaic Cert.Pre_finite Cert.Pre_finite.Gen

/-- A number whose absolute value is below plus infinity is real. -/
theorem real_of_abs (x : EReal) (h : FloatOps.cmpf (F := Ideal) (φ := .f32) .olt (FloatOps.absf (F := Ideal) (φ := .f32) x) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x with
  | bot => exact absurd h (by simp [FloatOps.cmpf, FloatOps.absf, Ideal.cmp])
  | top => exact absurd h (by simp [FloatOps.cmpf, FloatOps.absf, Ideal.cmp])
  | coe r => exact ⟨r, rfl⟩

/-- An array all of whose entries pass that test is an array of real numbers. -/
theorem real_of_all {s : Shape} {axes : List (Fin s.rank)} (x : FVec Ideal s .f32) (b : (⟨0, ![]⟩ : Shape).BroadcastsInDim s (![] : Fin 0 → Fin s.rank)) (hr : s.ReducesTo axes (⟨0, ![]⟩ : Shape)) (hu : 0 < (⟨0, ![]⟩ : Shape).numel)
    (j : (⟨0, ![]⟩ : Shape).Idx)
    (h : Host.reduce IntOp.andi (cmpf .olt (Host.absf x) (broadcastInDim s ![] b (constant ⟨0, ![]⟩ .f32 0x7F800000#32))) (constantI ⟨0, ![]⟩ 1 1#1) hr hu j = 1#1) (i : s.Idx) :
    ∃ r : ℝ, x i = (r : EReal) :=
  real_of_abs (x i) (Host.reduce_andi_all _ _ hr hu j h i)

/-- A conjunction that holds holds on both sides. -/
theorem and_split (a b : IVec S_ 1) (h : andi a b ix0 = 1#1) : a ix0 = 1#1 ∧ b ix0 = 1#1 := IntOp.andi_eq_one.1 h

variable (a0 : FVec Ideal S4x64 .f32) (a1 : FVec Ideal S128 .f32) (a2 : FVec Ideal S4x8192x512 .f32) (a3 : FVec Ideal S4x256x512 .f32)
  (a4 : FVec Ideal S4x8192x512 .f32) (a5 : FVec Ideal S4x256x512 .f32) (a6 : FVec Ideal S4x8192x512 .f32)

/-- What the precondition says: the six arrays hold real numbers. -/
theorem reals (h : Cert.Pre_finite.fn (F := Ideal) a0 a1 a2 a3 a4 a5 a6 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have h0 := congrFun h ix0
  obtain ⟨h0, h6⟩ := and_split _ _ h0
  obtain ⟨h0, h5⟩ := and_split _ _ h0
  obtain ⟨h0, h4⟩ := and_split _ _ h0
  obtain ⟨h0, h3⟩ := and_split _ _ h0
  obtain ⟨h0, h2⟩ := and_split _ _ h0
  exact ⟨fun i => real_of_all a0 _ _ _ _ h0 i, fun i => real_of_all a2 _ _ _ _ h2 i, fun i => real_of_all a3 _ _ _ _ h3 i,
    fun i => real_of_all a4 _ _ _ _ h4 i, fun i => real_of_all a5 _ _ _ _ h5 i, fun i => real_of_all a6 _ _ _ _ h6 i⟩

end Cert.AttnFinite
end
-- ==== Proof.Attn.Value.lean ====
module

public import proofs.«01_k».proof.Defs
public import proofs.«01_k».proof.Proof.Attn.Kernel
public import proofs.«01_k».proof.Proof.Attn.RefValue
public import proofs.«01_k».proof.Proof.Attn.Finite
public import Idealize.ShloMosaic.Lib.Claim

@[expose] public section

set_option maxRecDepth 16384

noncomputable section

namespace Cert.AttnValue

open Idealize.ShloMosaic Idealize.SL.Sem Cert.AttnSoftmax

/-- Under the precondition the kernel's array is the reference's. -/
theorem final (m : (ℓ : Loc Cert.KernelIdeal.nD Cert.KernelIdeal.τ Cert.KernelIdeal.sig) → Buf (Elt Ideal) ℓ) (c : Dev Cert.KernelIdeal.nD)
    (hpre : Cert.Pre_KernelIdeal_finite m) :
    (Cert.KernelIdeal.Gen.dats m 0 c).arrAt 5 Cert.KernelIdeal.cfg0.N
      = Cert.ReferenceIdeal.Attn.normed (m ((c.tc : Thread _ _).loc Cert.KernelIdeal.main_arg1)) (Cert.ReferenceIdeal.Attn.heads
          (Cert.ReferenceIdeal.Attn.weights (Cert.ReferenceIdeal.Attn.soft (Cert.ReferenceIdeal.Attn.expo
              (Cert.ReferenceIdeal.Attn.scores (m ((c.tc : Thread _ _).loc Cert.KernelIdeal.main_arg2)) (Cert.ReferenceIdeal.Attn.joined (m ((c.tc : Thread _ _).loc Cert.KernelIdeal.main_arg3)) (m ((c.tc : Thread _ _).loc Cert.KernelIdeal.main_arg4))))
              (Cert.ReferenceIdeal.Attn.rowMax (Cert.ReferenceIdeal.Attn.scores (m ((c.tc : Thread _ _).loc Cert.KernelIdeal.main_arg2)) (Cert.ReferenceIdeal.Attn.joined (m ((c.tc : Thread _ _).loc Cert.KernelIdeal.main_arg3)) (m ((c.tc : Thread _ _).loc Cert.KernelIdeal.main_arg4)))))))
            (Cert.ReferenceIdeal.Attn.lam (m ((c.tc : Thread _ _).loc Cert.KernelIdeal.main_arg0))))
          (Cert.ReferenceIdeal.Attn.joined (m ((c.tc : Thread _ _).loc Cert.KernelIdeal.main_arg5)) (m ((c.tc : Thread _ _).loc Cert.KernelIdeal.main_arg6)))) := by
  obtain ⟨r0, r2, r3, r4, r5, r6⟩ := Cert.AttnFinite.reals _ _ _ _ _ _ _ (hpre c)
  choose d hd using r0
  choose q hq using r2
  choose k3 hk3 using r3
  choose k4 hk4 using r4
  choose v5 hv5 using r5
  choose v6 hv6 using r6
  have hQ : ∀ b s x, m ((c.tc : Thread _ _).loc Cert.KernelIdeal.main_arg2) (ix3 b s x) = ((q (ix3 b s x) : ℝ) : EReal) := fun b s x => hq _
  have hj : ∀ (x : FVec Ideal Cert.KernelIdeal.S4x256x512 .f32) (y : FVec Ideal Cert.KernelIdeal.S4x8192x512 .f32) (x' : Cert.KernelIdeal.S4x256x512.Idx → ℝ) (y' : Cert.KernelIdeal.S4x8192x512.Idx → ℝ)
      (hx : ∀ i, x i = ((x' i : ℝ) : EReal)) (hy : ∀ i, y i = ((y' i : ℝ) : EReal)) (b : Fin 4) (t : Fin 8448) (e : Fin 512),
      Cert.KernelIdeal.Attn.joinedAt x y b t e = ((if h : t.val < 256 then x' (ix3 b ⟨t.val, h⟩ e) else y' (ix3 b ⟨t.val - 256, by omega⟩ e) : ℝ) : EReal) := by
    intro x y x' y' hx hy b t e
    unfold Cert.KernelIdeal.Attn.joinedAt
    split
    · exact hx _
    · exact hy _
  have hK := hj _ _ k3 k4 hk3 hk4
  have hW := hj _ _ v5 v6 hv5 hv6
  rw [Cert.KernelIdeal.Attn.final m c (fun b s x => q (ix3 b s x)) _ _ hQ hK hW]
  funext i
  idx_vars i
  obtain ⟨h, e, rfl⟩ : ∃ (h : Fin 4) (e : Fin 128), i2 = col h e :=
    ⟨⟨i2.val / 128, by omega⟩, ⟨i2.val % 128, by omega⟩, Fin.ext (by dsimp only [col]; omega)⟩
  refine (Cert.KernelIdeal.Attn.target_at _ _ _ _ _ i0 h i1 e).trans ?_
  refine (Cert.ReferenceIdeal.Attn.ref_value _ _ _ _ _ (fun a x => d (ix2 a x)) _ _ _ (fun a x => hd _) hQ
    (fun b t e => (Cert.ReferenceIdeal.Attn.joined_at _ _ b t e).trans (hK b t e))
    (fun b t e => (Cert.ReferenceIdeal.Attn.joined_at _ _ b t e).trans (hW b t e)) i0 h i1 e).symm

end Cert.AttnValue
end
-- ==== Proof.Attn.Claim.lean ====
module

public import proofs.«01_k».proof.Defs
public import proofs.«01_k».proof.Proof.Attn.Value
public import Idealize.ShloMosaic.Lib.Claim

@[expose] public section

set_option maxRecDepth 16384

noncomputable section

namespace Cert.AttnClaim

open Idealize.ShloMosaic Idealize.SL.Sem

instance : Cert.KernelIdeal.Facts := Cert.KernelIdeal.Gen.facts
instance : Cert.ReferenceIdeal.Facts := Cert.ReferenceIdeal.Gen.facts
instance : Cert.Pre_finite.Facts := Cert.Pre_finite.Gen.facts

/-- The attention kernel and the plain attention, run from the same finite arguments, end with the same result. -/
theorem algebraic : Cert.algebraic_KernelIdeal_ReferenceIdeal_pre_finite := by
  pair_intro
  · run_from Cert.KernelIdeal.Gen.run_main m g
  · run_from Cert.ReferenceIdeal.Value.run m' g'
    obtain ⟨h0, h1, h2, h3, h4, h5, h6⟩ := hagree c
    rw [Cert.ReferenceIdeal.Attn.res_eq, h0, h1, h2, h3, h4, h5, h6]
    exact (Cert.AttnValue.final m c hpre).symm

end Cert.AttnClaim

end
-- ==== Proof.Proj.Spec.lean ====
module

public import Idealize.ShloMosaic.Lib.Pointwise

@[expose] public section

set_option maxRecDepth 16384

noncomputable section

namespace Cert.ProjSpec

open Idealize.ShloMosaic

/-- An entry of a modulated, normed row. -/
def mod (x : Fin 1024 → EReal) (g sc sh : EReal) (d : Fin 1024) : EReal :=
  x d * Ideal.rsqrt (Ideal.div (∑ k : Fin 1024, x k * x k) (Ideal.ofBits .f32 0x44800000#32) + Ideal.ofBits .f32 0x358637BD#32) * g
    * (Ideal.ofBits .f32 0x3F800000#32 + sc) + sh

/-- The column of the weights that column `j` of the result belongs to; none for the columns that are not used. -/
def source (j : Fin 8192) : Option (Fin 7936) :=
  if h : j.val < 3072 then some ⟨j.val, by omega⟩
  else if h : j.val < 4608 then some ⟨j.val + 256, by omega⟩
  else if h : j.val < 4864 then some ⟨j.val - 1536, by omega⟩
  else if h : j.val < 5120 then none
  else some ⟨j.val - 256, by omega⟩

/-- An entry of the projection: the row times the column it belongs to, or zero. -/
def entry (h : Fin 1024 → EReal) (w : Fin 1024 → Fin 7936 → EReal) : Option (Fin 7936) → EReal
  | some k => ∑ d : Fin 1024, h d * w d k
  | none => 0

/-- An entry of the reordered weights. -/
def weight (w : Fin 1024 → Fin 7936 → EReal) (d : Fin 1024) : Option (Fin 7936) → EReal
  | some k => w d k
  | none => 0

/-- A row times a column of the reordered weights. -/
theorem sum_weight (h : Fin 1024 → EReal) (w : Fin 1024 → Fin 7936 → EReal) (o : Option (Fin 7936)) :
    ∑ d : Fin 1024, h d * weight w d o = entry h w o := by
  cases o with
  | some k => rfl
  | none => exact Finset.sum_eq_zero fun d _ => mul_zero _

/-- The pieces side by side are the reordered weights. -/
theorem pieces (w : Fin 1024 → Fin 7936 → EReal) (d : Fin 1024) (j : Fin 8192) :
    (if h : j.val < 1536 then w d ⟨j.val, by omega⟩
    else if h : j.val - 1536 < 1536 then w d ⟨1536 + (j.val - 1536), by omega⟩
    else if h : j.val - 1536 - 1536 < 1536 then w d ⟨3328 + (j.val - 1536 - 1536), by omega⟩
    else if h : j.val - 1536 - 1536 - 1536 < 256 then w d ⟨3072 + (j.val - 1536 - 1536 - 1536), by omega⟩
    else if h : j.val - 1536 - 1536 - 1536 - 256 < 256 then 0
    else w d ⟨4864 + (j.val - 1536 - 1536 - 1536 - 256 - 256), by omega⟩) = weight w d (source j) := by
  unfold source
  split_ifs <;> simp only [weight] <;> first
    | (exfalso; omega)
    | exact congrArg (w d) (Fin.ext (by dsimp only; omega))

/-- The pieces of the projection side by side are its entries in the order of the reordered weights. -/
theorem pieces_entry (h : Fin 1024 → EReal) (w : Fin 1024 → Fin 7936 → EReal) (j : Fin 8192) :
    (if q : j.val < 3072 then ∑ d, h d * w d ⟨j.val, by omega⟩
    else if q : j.val - 3072 < 1536 then ∑ d, h d * w d ⟨3328 + (j.val - 3072), by omega⟩
    else if q : j.val - 3072 - 1536 < 256 then ∑ d, h d * w d ⟨3072 + (j.val - 3072 - 1536), by omega⟩
    else if q : j.val - 3072 - 1536 - 256 < 256 then 0
    else ∑ d, h d * w d ⟨4864 + (j.val - 3072 - 1536 - 256 - 256), by omega⟩) = entry h w (source j) := by
  unfold source
  split_ifs <;> simp only [entry] <;> first
    | (exfalso; omega)
    | exact congrArg (fun k => ∑ d, h d * w d k) (Fin.ext (by dsimp only; omega))

end Cert.ProjSpec
end
-- ==== Proof.Proj.Weights.lean ====
module

public import proofs.«01_k».proof.Proof.Gen.Kernel2Ideal.Value
public import proofs.«01_k».proof.Proof.Proj.Spec
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Proj

open Cert.ProjSpec Cert.Kernel2Ideal Cert.Kernel2Ideal.Gen Idealize.ShloMosaic Idealize.ShloMosaic.TcCoe Idealize.SL.Sem

variable {F : FTy → Type} [FloatOps F]

/-- The pieces of the weights side by side. -/
def joined (u0 : (main_v3 : Ref sig .tc).ty.Contents (Elt F)) (u1 : (main_v4 : Ref sig .tc).ty.Contents (Elt F)) (u2 : (main_v5 : Ref sig .tc).ty.Contents (Elt F)) (u3 : (main_v6 : Ref sig .tc).ty.Contents (Elt F)) (u4 : (main_v2 : Ref sig .tc).ty.Contents (Elt F)) (u5 : (main_v7 : Ref sig .tc).ty.Contents (Elt F)) : (main_v8 : Ref sig .tc).ty.Contents (Elt F) :=
  (concatenate S1024x8192 1 [⟨S1024x1536, (u0 : (⟨S1024x1536, .f32⟩ : BufTy).Contents (Elt F))⟩, ⟨S1024x1536, (u1 : (⟨S1024x1536, .f32⟩ : BufTy).Contents (Elt F))⟩, ⟨S1024x1536, (u2 : (⟨S1024x1536, .f32⟩ : BufTy).Contents (Elt F))⟩, ⟨S1024x256, (u3 : (⟨S1024x256, .f32⟩ : BufTy).Contents (Elt F))⟩, ⟨S1024x256, (u4 : (⟨S1024x256, .f32⟩ : BufTy).Contents (Elt F))⟩, ⟨S1024x3072, (u5 : (⟨S1024x3072, .f32⟩ : BufTy).Contents (Elt F))⟩] concatenates_S1024x1536_S1024x1536_S1024x1536_S1024x256_S1024x256_S1024x3072_S1024x8192_d1 : (⟨S1024x8192, .f32⟩ : BufTy).Contents (Elt F))

/-- The host operations before the kernel, the joining of the pieces by its name. -/
abbrev hostOps : List (HloOp τ sig (Elt F)) :=
  [ StableHlo.unary main_arg2 main_v0 (broadcastInDim S4x1x1024 ![0, 2] bcast_S4x1024_S4x1x1024_0_2 : (⟨S4x1024, .f32⟩ : BufTy).Contents (Elt F) → (⟨S4x1x1024, .f32⟩ : BufTy).Contents (Elt F)),
    StableHlo.unary main_arg3 main_v1 (broadcastInDim S4x1x1024 ![0, 2] bcast_S4x1024_S4x1x1024_0_2 : (⟨S4x1024, .f32⟩ : BufTy).Contents (Elt F) → (⟨S4x1x1024, .f32⟩ : BufTy).Contents (Elt F)),
    StableHlo.nullary main_cst (constant S_ .f32 0x00000000#32),
    StableHlo.unary main_cst main_v2 (broadcastInDim S1024x256 ![] bcast_S_S1024x256 : (⟨S_, .f32⟩ : BufTy).Contents (Elt F) → (⟨S1024x256, .f32⟩ : BufTy).Contents (Elt F)),
    StableHlo.unary main_arg4 main_v3 ((extractStridedSlice S1024x1536 ![0, 0] · slices_S1024x7936_S1024x1536_0_0) : (⟨S1024x7936, .f32⟩ : BufTy).Contents (Elt F) → (⟨S1024x1536, .f32⟩ : BufTy).Contents (Elt F)),
    StableHlo.unary main_arg4 main_v4 ((extractStridedSlice S1024x1536 ![0, 1536] · slices_S1024x7936_S1024x1536_0_1536) : (⟨S1024x7936, .f32⟩ : BufTy).Contents (Elt F) → (⟨S1024x1536, .f32⟩ : BufTy).Contents (Elt F)),
    StableHlo.unary main_arg4 main_v5 ((extractStridedSlice S1024x1536 ![0, 3328] · slices_S1024x7936_S1024x1536_0_3328) : (⟨S1024x7936, .f32⟩ : BufTy).Contents (Elt F) → (⟨S1024x1536, .f32⟩ : BufTy).Contents (Elt F)),
    StableHlo.unary main_arg4 main_v6 ((extractStridedSlice S1024x256 ![0, 3072] · slices_S1024x7936_S1024x256_0_3072) : (⟨S1024x7936, .f32⟩ : BufTy).Contents (Elt F) → (⟨S1024x256, .f32⟩ : BufTy).Contents (Elt F)),
    StableHlo.unary main_arg4 main_v7 ((extractStridedSlice S1024x3072 ![0, 4864] · slices_S1024x7936_S1024x3072_0_4864) : (⟨S1024x7936, .f32⟩ : BufTy).Contents (Elt F) → (⟨S1024x3072, .f32⟩ : BufTy).Contents (Elt F)),
    StableHlo.nary ![main_v3, main_v4, main_v5, main_v6, main_v2, main_v7] main_v8 (fun u => joined (F := F) (u 0) (u 1) (u 2) (u 3) (u 4) (u 5)),
    StableHlo.unary main_v8 main_v9 ((truncf .bf16 · bitsLt_bf16_f32) : (⟨S1024x8192, .f32⟩ : BufTy).Contents (Elt F) → (⟨S1024x8192, .bf16⟩ : BufTy).Contents (Elt F)),
    StableHlo.reshape main_arg1 main_v10 (rfl : (.f32 : EltTy) = .f32) shapeCasts_S1024_S1x1024 ]

/-- The operations are the program's. -/
theorem hostOps_eq : (hostOps : List (HloOp τ sig (Elt F))) = hostOps0 := rfl

variable (m : (ℓ : Loc nD τ sig) → Buf (Elt Ideal) ℓ) (c : Dev nD)

/-- The reordered weights the kernel reads. -/
theorem w_array : V m c main_v9
    = (truncf (F := Ideal) (s := S1024x8192) (φ := .f32) .bf16 (joined (F := Ideal) (extractStridedSlice S1024x1536 ![0, 0] (m ((c : Thread nD τ).loc main_arg4)) slices_S1024x7936_S1024x1536_0_0)
      (extractStridedSlice S1024x1536 ![0, 1536] (m ((c : Thread nD τ).loc main_arg4)) slices_S1024x7936_S1024x1536_0_1536)
      (extractStridedSlice S1024x1536 ![0, 3328] (m ((c : Thread nD τ).loc main_arg4)) slices_S1024x7936_S1024x1536_0_3328)
      (extractStridedSlice S1024x256 ![0, 3072] (m ((c : Thread nD τ).loc main_arg4)) slices_S1024x7936_S1024x256_0_3072)
      (broadcastInDim S1024x256 ![] bcast_S_S1024x256 (constant (F := Ideal) S_ .f32 0x00000000#32))
      (extractStridedSlice S1024x3072 ![0, 4864] (m ((c : Thread nD τ).loc main_arg4)) slices_S1024x7936_S1024x3072_0_4864)) bitsLt_bf16_f32 : FVec Ideal S1024x8192 .bf16) := by
  show StableHlo.after hostOps (fun b => m (c, b)) (Proc.devRef .tc main_v9) = _
  after_results_simp
  dsimp only [Matrix.cons_val]
  after_results_simp

/-- An entry of the reordered weights. -/
theorem w_entry (d : Fin 1024) (j : Fin 8192) :
    V m c main_v9 (ix2 d j) = weight (fun d k => m ((c : Thread nD τ).loc main_arg4) (ix2 d k)) d (source j) := by
  rw [w_array]
  refine Eq.trans ?_ (pieces _ d j)
  pointwise [joined]

end Cert.Kernel2Ideal.Proj
end
-- ==== Proof.Proj.Reads.lean ====
module

public import proofs.«01_k».proof.Proof.Gen.Kernel2Ideal.Value
public import proofs.«01_k».proof.Proof.Proj.Weights
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Proj

open Cert.ProjSpec Cert.Kernel2Ideal Cert.Kernel2Ideal.Gen Idealize.ShloMosaic Idealize.ShloMosaic.TcCoe Idealize.SL.Sem

/-- An entry of the block the kernel writes out. -/
theorem pay_at (x : FVec Ideal S1x512x1024 .f32) (g : FVec Ideal S1x1024 .f32) (sc sh : FVec Ideal S1x1x1024 .f32) (w : FVec Ideal S1024x4096 .bf16)
    (r : Fin 512) (j : Fin 4096) :
    k0_pay1 (F := Ideal) x g sc sh w (ix3 0 r j)
      = ∑ d : Fin 1024, mod (fun k => x (ix3 0 r k)) (g (ix2 0 d)) (sc (ix3 0 0 d)) (sh (ix3 0 0 d)) d * w (ix2 d j) := by
  pointwise [k0_pay1, mod]

variable (m : (ℓ : Loc nD τ sig) → Buf (Elt Ideal) ℓ) (c : Dev nD)

/-- Which block every window reads or writes at each grid point. -/
theorem idx : ∀ t : Fin cfg0.N, win0_0.index t = ![t.val / 16 % 4, t.val % 16, 0] ∧ win0_1.index t = ![0, 0]
    ∧ win0_2.index t = ![t.val / 16 % 4, 0, 0] ∧ win0_3.index t = ![t.val / 16 % 4, 0, 0]
    ∧ win0_4.index t = ![0, t.val / 64] ∧ win0_5.index t = ![t.val / 16 % 4, t.val % 16, t.val / 64] :=
  (by decide +kernel : ∀ t : Fin grid0.N, _)

/-- The number of grid points. -/
theorem t_lt (t : Fin cfg0.N) : t.val < 128 := lt_of_lt_of_eq t.isLt (show cfg0.N = 128 from N_0)

/-- The batch entry of a grid point. -/
abbrev bOf (t : Fin cfg0.N) : Fin 4 := ⟨t.val / 16 % 4, by omega⟩
/-- The position of a grid point's row `r`. -/
abbrev sOf (t : Fin cfg0.N) (r : Fin 512) : Fin 8192 := ⟨t.val % 16 * 512 + r.val, by omega⟩
/-- The column of the result of a grid point's column `j`. -/
abbrev jOf (t : Fin cfg0.N) (j : Fin 4096) : Fin 8192 := ⟨t.val / 64 * 4096 + j.val, by have := t_lt t; omega⟩

/-- A block of the rows. -/
theorem x_read (t : Fin cfg0.N) (r : Fin 512) (d : Fin 1024) :
    iblk m c 0 t (ix3 0 r d) = m ((c : Thread nD τ).loc main_arg0) (ix3 (bOf t) (sOf t r) d) := by
  blk_ext [iblk, V, idx t]

/-- The gain. -/
theorem g_read (t : Fin cfg0.N) (d : Fin 1024) :
    iblk m c 1 t (ix2 0 d) = m ((c : Thread nD τ).loc main_arg1) (ix1 d) := by
  blk_simp [iblk]
  entry_read
  pointwise
  blk_ext [idx t]

/-- The scale of the block's batch entry. -/
theorem sc_read (t : Fin cfg0.N) (d : Fin 1024) :
    iblk m c 2 t (ix3 0 0 d) = m ((c : Thread nD τ).loc main_arg2) (ix2 (bOf t) d) := by
  blk_simp [iblk]
  entry_read
  pointwise
  blk_ext [idx t]

/-- The shift of the block's batch entry. -/
theorem sh_read (t : Fin cfg0.N) (d : Fin 1024) :
    iblk m c 3 t (ix3 0 0 d) = m ((c : Thread nD τ).loc main_arg3) (ix2 (bOf t) d) := by
  blk_simp [iblk]
  entry_read
  pointwise
  blk_ext [idx t]

/-- A block of the reordered weights. -/
theorem w_read (t : Fin cfg0.N) (d : Fin 1024) (j : Fin 4096) :
    iblk m c 4 t (ix2 d j) = weight (fun d k => m ((c : Thread nD τ).loc main_arg4) (ix2 d k)) d (source (jOf t j)) := by
  rw [← w_entry]
  have := t_lt t
  blk_ext [iblk, idx t]

end Cert.Kernel2Ideal.Proj
end
-- ==== Proof.Proj.Kernel.lean ====
module

public import proofs.«01_k».proof.Proof.Proj.Reads

@[expose] public section

set_option maxRecDepth 16384

noncomputable section

namespace Cert.Kernel2Ideal.Proj

open Cert.ProjSpec Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The projection, every entry of it. -/
def target (x : FVec Ideal S4x8192x1024 .f32) (g : FVec Ideal S1024 .f32) (sc sh : FVec Ideal S4x1024 .f32) (w : FVec Ideal S1024x7936 .f32) :
    FVec Ideal S4x8192x8192 .bf16 :=
  fun i => entry (fun d => mod (fun k => x (ix3 (i 0) (i 1) k)) (g (ix1 d)) (sc (ix2 (i 0) d)) (sh (ix2 (i 0) d)) d) (fun d k => w (ix2 d k)) (source (i 2))

/-- What the kernel writes out at a grid point. -/
theorem out_block (t : Fin cfg0.N) (r : Fin 512) (j : Fin 4096) :
    k0_pay1 (F := Ideal) (iblk m c 0 t) (iblk m c 1 t) (iblk m c 2 t) (iblk m c 3 t) (iblk m c 4 t) (ix3 0 r j)
      = target (m ((c : Thread nD τ).loc main_arg0)) (m ((c : Thread nD τ).loc main_arg1)) (m ((c : Thread nD τ).loc main_arg2))
          (m ((c : Thread nD τ).loc main_arg3)) (m ((c : Thread nD τ).loc main_arg4)) (ix3 (bOf t) (sOf t r) (jOf t j)) := by
  refine (pay_at _ _ _ _ _ _ _).trans ?_
  refine Eq.trans (Finset.sum_congr rfl fun d _ => ?_) (sum_weight _ _ _)
  rw [w_read, g_read, sc_read, sh_read]
  simp only [x_read]
  rfl

/-- The kernel's result, every entry of it. -/
theorem final :
    (dats m 0 c).arrAt 5 cfg0.N = target (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp
  rw [after0_5]
  have := t_lt t
  have key : ∀ y : S1x512x4096.Idx, out0_5 (F := Ideal) (iblk m c 0 t) (iblk m c 1 t) (iblk m c 2 t) (iblk m c 3 t) (iblk m c 4 t) y
      = target (m ((c : Thread nD τ).loc main_arg0)) (m ((c : Thread nD τ).loc main_arg1)) (m ((c : Thread nD τ).loc main_arg2))
          (m ((c : Thread nD τ).loc main_arg3)) (m ((c : Thread nD τ).loc main_arg4)) (ix3 (bOf t) (sOf t (y 1)) (jOf t (y 2))) := fun y => by
    idx_vars y
    obtain rfl : y0 = 0 := Subsingleton.elim _ _
    frame_out [out0_5]
    exact out_block m c t y1 y2
  refine (key y).trans (congrArg _ ?_)
  blk_ext [idx t]

end Cert.Kernel2Ideal.Proj
end
-- ==== Proof.Proj.Ref.lean ====
module

public import proofs.«01_k».proof.Proof.Gen.Reference2Ideal.Run
public import proofs.«01_k».proof.Proof.Proj.Spec

@[expose] public section

set_option maxRecDepth 16384

noncomputable section

namespace Cert.Reference2Ideal.Proj

open Cert.ProjSpec Cert.Reference2Ideal Cert.Reference2Ideal.Gen Idealize.ShloMosaic Idealize.ShloMosaic.TcCoe Idealize.SL.Sem

variable (x : FVec Ideal S4x8192x1024 .f32) (g : FVec Ideal S1024 .f32) (sc sh : FVec Ideal S4x1024 .f32) (w : FVec Ideal S1024x7936 .f32)

/-- The modulated, normed rows. -/
def rows : FVec Ideal S4x8192x1024 .f32 :=
  (addf (mulf (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 sc)))) (broadcastInDim S4x8192x1024 ![0, 1, 2] bcast_S4x1x1024_S4x8192x1024_0_1_2 (broadcastInDim S4x1x1024 ![0, 2] bcast_S4x1024_S4x1x1024_0_2 sh)))

/-- The rows times the weights. -/
def product (h : FVec Ideal S4x8192x1024 .f32) : FVec Ideal S4x8192x7936 .f32 :=
  (Host.dotGeneral dot_S4x8192x1024_S1024x7936_S4x8192x7936_2_0_01_1_n_n none h w)

/-- The columns in the order the layer keeps them. -/
def ordered (p : FVec Ideal S4x8192x7936 .f32) : FVec Ideal S4x8192x8192 .bf16 :=
  truncf .bf16 ((concatenate S4x8192x8192 2 [⟨S4x8192x3072, ((extractStridedSlice S4x8192x3072 ![0, 0, 0] p slices_S4x8192x7936_S4x8192x3072_0_0_0) : (⟨S4x8192x3072, .f32⟩ : BufTy).Contents (Elt Ideal))⟩, ⟨S4x8192x1536, ((extractStridedSlice S4x8192x1536 ![0, 0, 3328] p slices_S4x8192x7936_S4x8192x1536_0_0_3328) : (⟨S4x8192x1536, .f32⟩ : BufTy).Contents (Elt Ideal))⟩, ⟨S4x8192x256, ((extractStridedSlice S4x8192x256 ![0, 0, 3072] p slices_S4x8192x7936_S4x8192x256_0_0_3072) : (⟨S4x8192x256, .f32⟩ : BufTy).Contents (Elt Ideal))⟩, ⟨S4x8192x256, ((broadcastInDim S4x8192x256 ![] bcast_S_S4x8192x256 (constant (F := Ideal) S_ .f32 0x00000000#32)) : (⟨S4x8192x256, .f32⟩ : BufTy).Contents (Elt Ideal))⟩, ⟨S4x8192x3072, ((extractStridedSlice S4x8192x3072 ![0, 0, 4864] p slices_S4x8192x7936_S4x8192x3072_0_0_4864) : (⟨S4x8192x3072, .f32⟩ : BufTy).Contents (Elt Ideal))⟩] concatenates_S4x8192x3072_S4x8192x1536_S4x8192x256_S4x8192x256_S4x8192x3072_S4x8192x8192_d2 : (⟨S4x8192x8192, .f32⟩ : BufTy).Contents (Elt Ideal))) bitsLt_bf16_f32

/-- What the reference computes, by its steps. -/
theorem res_eq (m : (ℓ : Loc nD τ sig) → Buf (Elt Ideal) ℓ) (c : Dev nD) :
    Cert.Reference2Ideal.Value.res_main_v28 m c
      = ordered (product (m ((c.tc : Thread nD τ).loc main_arg4)) (rows (m ((c.tc : Thread nD τ).loc main_arg0)) (m ((c.tc : Thread nD τ).loc main_arg1)) (m ((c.tc : Thread nD τ).loc main_arg2)) (m ((c.tc : Thread nD τ).loc main_arg3)))) := rfl

/-- An entry of the modulated, normed rows. -/
theorem rows_at (b : Fin 4) (s : Fin 8192) (d : Fin 1024) :
    rows x g sc sh (ix3 b s d) = mod (fun k => x (ix3 b s k)) (g (ix1 d)) (sc (ix2 b d)) (sh (ix2 b d)) d := by
  pointwise [rows, mod]

/-- An entry of the product. -/
theorem product_at (h : FVec Ideal S4x8192x1024 .f32) (b : Fin 4) (s : Fin 8192) (k : Fin 7936) :
    product w h (ix3 b s k) = ∑ d : Fin 1024, h (ix3 b s d) * w (ix2 d k) := by
  pointwise [product]

/-- An entry of the result, from the product's. -/
theorem ordered_at (p : FVec Ideal S4x8192x7936 .f32) (b : Fin 4) (s : Fin 8192) (j : Fin 8192) :
    ordered p (ix3 b s j)
      = if q : j.val < 3072 then p (ix3 b s ⟨j.val, by omega⟩)
        else if q : j.val - 3072 < 1536 then p (ix3 b s ⟨3328 + (j.val - 3072), by omega⟩)
        else if q : j.val - 3072 - 1536 < 256 then p (ix3 b s ⟨3072 + (j.val - 3072 - 1536), by omega⟩)
        else if q : j.val - 3072 - 1536 - 256 < 256 then 0
        else p (ix3 b s ⟨4864 + (j.val - 3072 - 1536 - 256 - 256), by omega⟩) := by
  pointwise [ordered]

/-- An entry of the reference's result. -/
theorem value (b : Fin 4) (s : Fin 8192) (j : Fin 8192) :
    ordered (product w (rows x g sc sh)) (ix3 b s j)
      = entry (fun d => mod (fun k => x (ix3 b s k)) (g (ix1 d)) (sc (ix2 b d)) (sh (ix2 b d)) d) (fun d k => w (ix2 d k)) (source j) := by
  rw [ordered_at]
  simp only [product_at, rows_at]
  exact pieces_entry _ (fun d k => w (ix2 d k)) j

end Cert.Reference2Ideal.Proj
end
-- ==== Proof.Proj.Claim.lean ====
module

public import proofs.«01_k».proof.Defs
public import proofs.«01_k».proof.Proof.Gen.Kernel2Ideal.Frame
public import proofs.«01_k».proof.Proof.Proj.Kernel
public import proofs.«01_k».proof.Proof.Proj.Ref
public import Idealize.ShloMosaic.Lib.Claim

@[expose] public section

set_option maxRecDepth 16384

noncomputable section

namespace Cert.ProjClaim

open Idealize.ShloMosaic Idealize.SL.Sem

instance : Cert.Kernel2Ideal.Facts := Cert.Kernel2Ideal.Gen.facts
instance : Cert.Reference2Ideal.Facts := Cert.Reference2Ideal.Gen.facts

/-- The plain projection is the one the kernel computes, entry by entry. -/
theorem reference_target (x : FVec Ideal Cert.Kernel2Ideal.S4x8192x1024 .f32) (g : FVec Ideal Cert.Kernel2Ideal.S1024 .f32)
    (sc sh : FVec Ideal Cert.Kernel2Ideal.S4x1024 .f32) (w : FVec Ideal Cert.Kernel2Ideal.S1024x7936 .f32) :
    Cert.Reference2Ideal.Proj.ordered (Cert.Reference2Ideal.Proj.product w (Cert.Reference2Ideal.Proj.rows x g sc sh))
      = Cert.Kernel2Ideal.Proj.target x g sc sh w := by
  funext i
  idx_vars i
  exact Cert.Reference2Ideal.Proj.value x g sc sh w i0 i1 i2

/-- The projection kernel and the plain projection, run from the same arguments, end with the same result. -/
theorem algebraic : Cert.algebraic_Kernel2Ideal_Reference2Ideal := by
  pair_intro
  · run_from Cert.Kernel2Ideal.Gen.run_main m g
  · run_from Cert.Reference2Ideal.Value.run m' g'
    obtain ⟨h0, h1, h2, h3, h4⟩ := hagree c
    rw [Cert.Reference2Ideal.Proj.res_eq, h0, h1, h2, h3, h4]
    exact (reference_target _ _ _ _ _).trans (Cert.Kernel2Ideal.Proj.final m c).symm

end Cert.ProjClaim

end
-- ==== Proof.Merge.RunI.lean ====
module

public import proofs.«01_k».proof.Proof.Gen.Kernel3Ideal.Frame.Runs

@[expose] public section

set_option maxRecDepth 16384

noncomputable section

namespace Cert.Kernel3Ideal.Merge

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 3000000 in
/-- What the body's stores leave in each output's buffer, with the proof that the body, called on whole buffers holding the
    input blocks, runs to its end, leaves the inputs as they were and writes those stores. -/
noncomputable def kernelRun0_A (c : Dev nD) (i : grid0.Coords) (arg2 : Memref sig .tc .vmem S1x256x512 .bf16) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x1536 .bf16) (harg7 : arg7.IsWhole) (arg8 : Memref sig .tc .vmem S1x16x1536 .bf16) (harg8 : arg8.IsWhole) (arg9 : Memref sig .tc .vmem S1x16x1536 .bf16) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S1x256x1024 .bf16) (harg12 : arg12.IsWhole) (arg13 : Memref sig .tc .vmem S1x256x1024 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S3x512x1024 .bf16) (harg17 : arg17.IsWhole) (arg18 : Memref sig .tc .vmem S1024x1024 .bf16) (harg18 : arg18.IsWhole) (arg19 : Memref sig .tc .vmem S512x512 .bf16) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1x1024 .f32) (harg22 : arg22.IsWhole) (arg23 : Memref sig .tc .vmem S1x1x1024 .f32) (harg23 : arg23.IsWhole) (arg24 : Memref sig .tc .vmem S1x256x1024 .f32) (harg24 : arg24.IsWhole) (arg25 : Memref sig .tc .vmem S1x256x1024 .f32) (harg25 : arg25.IsWhole) (arg26 : Memref sig .tc .vmem S1x256x1024 .bf16) (harg26 : arg26.IsWhole)
    (x0 : Vec F S1x256x512 .bf16) (x1 : Vec F S1x256x512 .f32) (x2 : Vec F S1x256x512 .f32) (x3 : Vec F S1x256x512 .f32) (x4 : Vec F S1x256x512 .f32) (x5 : Vec F S1x256x1536 .bf16) (x6 : Vec F S1x16x1536 .bf16) (x7 : Vec F S1x16x1536 .bf16) (x8 : Vec F S1x256x1024 .bf16) (x9 : Vec F S1x256x1024 .bf16) (x10 : Vec F S1x256x1024 .bf16) (x11 : Vec F S1x256x1024 .f32) (x12 : Vec F S1x512 .f32) (x13 : Vec F S1x512 .f32) (x14 : Vec F S3x512 .f32) (x15 : Vec F S3x512x1024 .bf16) (x16 : Vec F S1024x1024 .bf16) (x17 : Vec F S512x512 .bf16) (x18 : Vec F S1x1x1024 .f32) (x19 : Vec F S1x1024 .f32) (x20 : Vec F S1x1x1024 .f32) (x21 : Vec F S1x1x1024 .f32) :
    Σ' (L22 : List (View.Piece (Elt F) S1x256x1024 .f32)), Σ' (L23 : List (View.Piece (Elt F) S1x256x1024 .f32)), { L24 : List (View.Piece (Elt F) S1x256x1024 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24)) -∗ K ⟨⟩))
          ⊢ wp frame (wpE (defs₀ (F := F)) Variants.none c none) E (cc0_merge_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, fun E K => ?run⟩
  case run =>
    simp only [cc0_merge_mixers_eq_skeleton]; unfold cc0_merge_mixers_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]; · iexists _; iexact H22
    isplitl [H23]; · iexists _; iexact H23
    iexists _; iexact H24

end Cert.Kernel3Ideal.Merge

end
-- ==== Proof.Merge.LaunchI.lean ====
module

public import proofs.«01_k».proof.Proof.Merge.RunI
public import Idealize.ShloMosaic.Lib.Claim

@[expose] public section

set_option maxRecDepth 16384

noncomputable section

namespace Cert.Kernel3Ideal.Merge

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section

variable (c : Dev nD) (i : grid0.Coords) (arg2 : Memref sig .tc .vmem S1x256x512 .bf16) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x1536 .bf16) (harg7 : arg7.IsWhole) (arg8 : Memref sig .tc .vmem S1x16x1536 .bf16) (harg8 : arg8.IsWhole) (arg9 : Memref sig .tc .vmem S1x16x1536 .bf16) (harg9 : arg9.IsWhole) (arg10 : Memref sig .tc .vmem S1x256x1024 .bf16) (harg10 : arg10.IsWhole) (arg11 : Memref sig .tc .vmem S1x256x1024 .bf16) (harg11 : arg11.IsWhole) (arg12 : Memref sig .tc .vmem S1x256x1024 .bf16) (harg12 : arg12.IsWhole) (arg13 : Memref sig .tc .vmem S1x256x1024 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x512 .f32) (harg16 : arg16.IsWhole) (arg17 : Memref sig .tc .vmem S3x512x1024 .bf16) (harg17 : arg17.IsWhole) (arg18 : Memref sig .tc .vmem S1024x1024 .bf16) (harg18 : arg18.IsWhole) (arg19 : Memref sig .tc .vmem S512x512 .bf16) (harg19 : arg19.IsWhole) (arg20 : Memref sig .tc .vmem S1x1x1024 .f32) (harg20 : arg20.IsWhole) (arg21 : Memref sig .tc .vmem S1x1024 .f32) (harg21 : arg21.IsWhole) (arg22 : Memref sig .tc .vmem S1x1x1024 .f32) (harg22 : arg22.IsWhole) (arg23 : Memref sig .tc .vmem S1x1x1024 .f32) (harg23 : arg23.IsWhole) (arg24 : Memref sig .tc .vmem S1x256x1024 .f32) (harg24 : arg24.IsWhole) (arg25 : Memref sig .tc .vmem S1x256x1024 .f32) (harg25 : arg25.IsWhole) (arg26 : Memref sig .tc .vmem S1x256x1024 .bf16) (harg26 : arg26.IsWhole)
    (x0 : Vec F S1x256x512 .bf16) (x1 : Vec F S1x256x512 .f32) (x2 : Vec F S1x256x512 .f32) (x3 : Vec F S1x256x512 .f32) (x4 : Vec F S1x256x512 .f32) (x5 : Vec F S1x256x1536 .bf16) (x6 : Vec F S1x16x1536 .bf16) (x7 : Vec F S1x16x1536 .bf16) (x8 : Vec F S1x256x1024 .bf16) (x9 : Vec F S1x256x1024 .bf16) (x10 : Vec F S1x256x1024 .bf16) (x11 : Vec F S1x256x1024 .f32) (x12 : Vec F S1x512 .f32) (x13 : Vec F S1x512 .f32) (x14 : Vec F S3x512 .f32) (x15 : Vec F S3x512x1024 .bf16) (x16 : Vec F S1024x1024 .bf16) (x17 : Vec F S512x512 .bf16) (x18 : Vec F S1x1x1024 .f32) (x19 : Vec F S1x1024 .f32) (x20 : Vec F S1x1x1024 .f32) (x21 : Vec F S1x1x1024 .f32)

/-- The stores into output 22 cover its block. -/
theorem cover0_A_22 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21).1 S1x256x1024.size (by sl_kernel_rfl) y

/-- What the body leaves in output 22's buffer. -/
def out0_A_22 : Vec F S1x256x1024 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21).1)

/-- The stores into output 23 cover its block. -/
theorem cover0_A_23 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21).2.1 S1x256x1024.size (by sl_kernel_rfl) y

/-- What the body leaves in output 23's buffer. -/
def out0_A_23 : Vec F S1x256x1024 .f32 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21).2.1)

/-- The stores into output 24 cover its block. -/
theorem cover0_A_24 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21).2.2.1 S1x256x1024.size (by sl_kernel_rfl) y

/-- What the body leaves in output 24's buffer. -/
def out0_A_24 : Vec F S1x256x1024 .bf16 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21).2.2.1)

end

/-! ## What the outputs hold after each point -/

/-- What the three outputs' buffers hold after the body at grid point `t`. -/
def outsAt0 (c : Dev nD) (t : Fin cfg0.N) : Vec F S1x256x1024 .f32 × Vec F S1x256x1024 .f32 × Vec F S1x256x1024 .bf16 :=
  (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (X0_5 m c t) (X0_6 m c t) (X0_7 m c t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (X0_5 m c t) (X0_6 m c t) (X0_7 m c t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (X0_5 m c t) (X0_6 m c t) (X0_7 m c t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t))

/-! ## The pipeline's proof data -/

/-- What the pipeline's arrays and buffers hold on core `c`: the arrays as the host code leaves them; after grid point `t` each
    input's buffer at its block and the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => X0_6 m c t
    | ⟨7, _⟩ => X0_7 m c t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t).1
    | ⟨23, _⟩ => (outsAt0 m c t).2.1
    | ⟨24, _⟩ => (outsAt0 m c t).2.2
    | ⟨_ + 25, h⟩ => absurd h (Nat.not_lt.2 (Nat.le_add_left _ _))
  Φ _ := Pipeline.ΦA spec0 c
  q w := Pipeline.shareOf spec0 w
  owed _ := 0

/-- The arrays are as the host code leaves them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- What window 1 holds after a step. -/
theorem after0_1 (c : Dev nD) (t : Fin cfg0.N) : (dats m 0 c).after 1 t = iblk m c 1 t := by dsimp only [dats]
/-- What window 2 holds after a step. -/
theorem after0_2 (c : Dev nD) (t : Fin cfg0.N) : (dats m 0 c).after 2 t = iblk m c 2 t := by dsimp only [dats]
/-- What window 3 holds after a step. -/
theorem after0_3 (c : Dev nD) (t : Fin cfg0.N) : (dats m 0 c).after 3 t = iblk m c 3 t := by dsimp only [dats]
/-- What window 4 holds after a step. -/
theorem after0_4 (c : Dev nD) (t : Fin cfg0.N) : (dats m 0 c).after 4 t = iblk m c 4 t := by dsimp only [dats]
/-- What window 5 holds after a step. -/
theorem after0_5 (c : Dev nD) (t : Fin cfg0.N) : (dats m 0 c).after 5 t = X0_5 m c t := by dsimp only [dats]
/-- What window 6 holds after a step. -/
theorem after0_6 (c : Dev nD) (t : Fin cfg0.N) : (dats m 0 c).after 6 t = X0_6 m c t := by dsimp only [dats]
/-- What window 7 holds after a step. -/
theorem after0_7 (c : Dev nD) (t : Fin cfg0.N) : (dats m 0 c).after 7 t = X0_7 m c t := by dsimp only [dats]
/-- What window 8 holds after a step. -/
theorem after0_8 (c : Dev nD) (t : Fin cfg0.N) : (dats m 0 c).after 8 t = iblk m c 8 t := by dsimp only [dats]
/-- What window 9 holds after a step. -/
theorem after0_9 (c : Dev nD) (t : Fin cfg0.N) : (dats m 0 c).after 9 t = iblk m c 9 t := by dsimp only [dats]
/-- What window 10 holds after a step. -/
theorem after0_10 (c : Dev nD) (t : Fin cfg0.N) : (dats m 0 c).after 10 t = iblk m c 10 t := by dsimp only [dats]
/-- What window 11 holds after a step. -/
theorem after0_11 (c : Dev nD) (t : Fin cfg0.N) : (dats m 0 c).after 11 t = iblk m c 11 t := by dsimp only [dats]
/-- What window 12 holds after a step. -/
theorem after0_12 (c : Dev nD) (t : Fin cfg0.N) : (dats m 0 c).after 12 t = iblk m c 12 t := by dsimp only [dats]
/-- What window 13 holds after a step. -/
theorem after0_13 (c : Dev nD) (t : Fin cfg0.N) : (dats m 0 c).after 13 t = iblk m c 13 t := by dsimp only [dats]
/-- What window 14 holds after a step. -/
theorem after0_14 (c : Dev nD) (t : Fin cfg0.N) : (dats m 0 c).after 14 t = iblk m c 14 t := by dsimp only [dats]
/-- What window 15 holds after a step. -/
theorem after0_15 (c : Dev nD) (t : Fin cfg0.N) : (dats m 0 c).after 15 t = iblk m c 15 t := by dsimp only [dats]
/-- What window 16 holds after a step. -/
theorem after0_16 (c : Dev nD) (t : Fin cfg0.N) : (dats m 0 c).after 16 t = iblk m c 16 t := by dsimp only [dats]
/-- What window 17 holds after a step. -/
theorem after0_17 (c : Dev nD) (t : Fin cfg0.N) : (dats m 0 c).after 17 t = iblk m c 17 t := by dsimp only [dats]
/-- What window 18 holds after a step. -/
theorem after0_18 (c : Dev nD) (t : Fin cfg0.N) : (dats m 0 c).after 18 t = iblk m c 18 t := by dsimp only [dats]
/-- What window 19 holds after a step. -/
theorem after0_19 (c : Dev nD) (t : Fin cfg0.N) : (dats m 0 c).after 19 t = iblk m c 19 t := by dsimp only [dats]
/-- What window 20 holds after a step. -/
theorem after0_20 (c : Dev nD) (t : Fin cfg0.N) : (dats m 0 c).after 20 t = iblk m c 20 t := by dsimp only [dats]
/-- What window 21 holds after a step. -/
theorem after0_21 (c : Dev nD) (t : Fin cfg0.N) : (dats m 0 c).after 21 t = iblk m c 21 t := by dsimp only [dats]
/-- What window 22 holds after a step. -/
theorem after0_22 (c : Dev nD) (t : Fin cfg0.N) : (dats m 0 c).after 22 t = (outsAt0 m c t).1 := by dsimp only [dats]
/-- What window 23 holds after a step. -/
theorem after0_23 (c : Dev nD) (t : Fin cfg0.N) : (dats m 0 c).after 23 t = (outsAt0 m c t).2.1 := by dsimp only [dats]
/-- What window 24 holds after a step. -/
theorem after0_24 (c : Dev nD) (t : Fin cfg0.N) : (dats m 0 c).after 24 t = (outsAt0 m c t).2.2 := by dsimp only [dats]

/-- Each input's buffer holds its block at every grid point. -/
theorem before0_0 (c : Dev nD) (t : Fin cfg0.N) (d) : (dats m 0 c).before 0 t d = iblk m c 0 t :=
  before0_0_of m (dats m 0 c) (A_eq m c 0) (after0_0 m c) t d
/-- What window 1 holds before a step. -/
theorem before0_1 (c : Dev nD) (t : Fin cfg0.N) (d) : (dats m 0 c).before 1 t d = iblk m c 1 t :=
  before0_1_of m (dats m 0 c) (A_eq m c 1) (after0_1 m c) t d
/-- What window 2 holds before a step. -/
theorem before0_2 (c : Dev nD) (t : Fin cfg0.N) (d) : (dats m 0 c).before 2 t d = iblk m c 2 t :=
  before0_2_of m (dats m 0 c) (A_eq m c 2) (after0_2 m c) t d
/-- What window 3 holds before a step. -/
theorem before0_3 (c : Dev nD) (t : Fin cfg0.N) (d) : (dats m 0 c).before 3 t d = iblk m c 3 t :=
  before0_3_of m (dats m 0 c) (A_eq m c 3) (after0_3 m c) t d
/-- What window 4 holds before a step. -/
theorem before0_4 (c : Dev nD) (t : Fin cfg0.N) (d) : (dats m 0 c).before 4 t d = iblk m c 4 t :=
  before0_4_of m (dats m 0 c) (A_eq m c 4) (after0_4 m c) t d
/-- What window 5 holds before a step. -/
theorem before0_5 (c : Dev nD) (t : Fin cfg0.N) (d) : (dats m 0 c).before 5 t d = X0_5 m c t :=
  before0_5_of m (dats m 0 c) (A_eq m c 5) (after0_5 m c) t d
/-- What window 6 holds before a step. -/
theorem before0_6 (c : Dev nD) (t : Fin cfg0.N) (d) : (dats m 0 c).before 6 t d = X0_6 m c t :=
  before0_6_of m (dats m 0 c) (A_eq m c 6) (after0_6 m c) t d
/-- What window 7 holds before a step. -/
theorem before0_7 (c : Dev nD) (t : Fin cfg0.N) (d) : (dats m 0 c).before 7 t d = X0_7 m c t :=
  before0_7_of m (dats m 0 c) (A_eq m c 7) (after0_7 m c) t d
/-- What window 8 holds before a step. -/
theorem before0_8 (c : Dev nD) (t : Fin cfg0.N) (d) : (dats m 0 c).before 8 t d = iblk m c 8 t :=
  before0_8_of m (dats m 0 c) (A_eq m c 8) (after0_8 m c) t d
/-- What window 9 holds before a step. -/
theorem before0_9 (c : Dev nD) (t : Fin cfg0.N) (d) : (dats m 0 c).before 9 t d = iblk m c 9 t :=
  before0_9_of m (dats m 0 c) (A_eq m c 9) (after0_9 m c) t d
/-- What window 10 holds before a step. -/
theorem before0_10 (c : Dev nD) (t : Fin cfg0.N) (d) : (dats m 0 c).before 10 t d = iblk m c 10 t :=
  before0_10_of m (dats m 0 c) (A_eq m c 10) (after0_10 m c) t d
/-- What window 11 holds before a step. -/
theorem before0_11 (c : Dev nD) (t : Fin cfg0.N) (d) : (dats m 0 c).before 11 t d = iblk m c 11 t :=
  before0_11_of m (dats m 0 c) (A_eq m c 11) (after0_11 m c) t d
/-- What window 12 holds before a step. -/
theorem before0_12 (c : Dev nD) (t : Fin cfg0.N) (d) : (dats m 0 c).before 12 t d = iblk m c 12 t :=
  before0_12_of m (dats m 0 c) (A_eq m c 12) (after0_12 m c) t d
/-- What window 13 holds before a step. -/
theorem before0_13 (c : Dev nD) (t : Fin cfg0.N) (d) : (dats m 0 c).before 13 t d = iblk m c 13 t :=
  before0_13_of m (dats m 0 c) (A_eq m c 13) (after0_13 m c) t d
/-- What window 14 holds before a step. -/
theorem before0_14 (c : Dev nD) (t : Fin cfg0.N) (d) : (dats m 0 c).before 14 t d = iblk m c 14 t :=
  before0_14_of m (dats m 0 c) (A_eq m c 14) (after0_14 m c) t d
/-- What window 15 holds before a step. -/
theorem before0_15 (c : Dev nD) (t : Fin cfg0.N) (d) : (dats m 0 c).before 15 t d = iblk m c 15 t :=
  before0_15_of m (dats m 0 c) (A_eq m c 15) (after0_15 m c) t d
/-- What window 16 holds before a step. -/
theorem before0_16 (c : Dev nD) (t : Fin cfg0.N) (d) : (dats m 0 c).before 16 t d = iblk m c 16 t :=
  before0_16_of m (dats m 0 c) (A_eq m c 16) (after0_16 m c) t d
/-- What window 17 holds before a step. -/
theorem before0_17 (c : Dev nD) (t : Fin cfg0.N) (d) : (dats m 0 c).before 17 t d = iblk m c 17 t :=
  before0_17_of m (dats m 0 c) (A_eq m c 17) (after0_17 m c) t d
/-- What window 18 holds before a step. -/
theorem before0_18 (c : Dev nD) (t : Fin cfg0.N) (d) : (dats m 0 c).before 18 t d = iblk m c 18 t :=
  before0_18_of m (dats m 0 c) (A_eq m c 18) (after0_18 m c) t d
/-- What window 19 holds before a step. -/
theorem before0_19 (c : Dev nD) (t : Fin cfg0.N) (d) : (dats m 0 c).before 19 t d = iblk m c 19 t :=
  before0_19_of m (dats m 0 c) (A_eq m c 19) (after0_19 m c) t d
/-- What window 20 holds before a step. -/
theorem before0_20 (c : Dev nD) (t : Fin cfg0.N) (d) : (dats m 0 c).before 20 t d = iblk m c 20 t :=
  before0_20_of m (dats m 0 c) (A_eq m c 20) (after0_20 m c) t d
/-- What window 21 holds before a step. -/
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at grid point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- What the body returns at grid point `t`. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 2400000 in
/-- The body at any grid point: called with the input blocks, it returns them and the outputs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  unfold outsAt0
  unfold out0_A_22 out0_A_23 out0_A_24; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (X0_5 m c t) (X0_6 m c t) (X0_7 m c t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, ⟨%e22, H22⟩, ⟨%e23, H23⟩, ⟨%e24, H24⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H24
  ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body at grid point `t` is called on that point's buffers. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs to its end: the arrays hold what the pipeline leaves, and every semaphore counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The program runs to its end: the arrays hold what the pipeline leaves. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays hold in the one memory what they hold in the other. -/
abbrev Kept (m m' : (ℓ : Loc nD τ sig) → Buf (Elt F) ℓ) (c : Dev nD) : Prop :=
  m' ((c.tc : Thread nD τ).loc main_arg0) = m ((c.tc : Thread nD τ).loc main_arg0)
      ∧ m' ((c.tc : Thread nD τ).loc main_arg1) = m ((c.tc : Thread nD τ).loc main_arg1)
      ∧ m' ((c.tc : Thread nD τ).loc main_arg2) = m ((c.tc : Thread nD τ).loc main_arg2)
      ∧ m' ((c.tc : Thread nD τ).loc main_arg3) = m ((c.tc : Thread nD τ).loc main_arg3)
      ∧ m' ((c.tc : Thread nD τ).loc main_arg4) = m ((c.tc : Thread nD τ).loc main_arg4)
      ∧ m' ((c.tc : Thread nD τ).loc main_arg5) = m ((c.tc : Thread nD τ).loc main_arg5)
      ∧ m' ((c.tc : Thread nD τ).loc main_arg6) = m ((c.tc : Thread nD τ).loc main_arg6)
      ∧ m' ((c.tc : Thread nD τ).loc main_arg7) = m ((c.tc : Thread nD τ).loc main_arg7)
      ∧ m' ((c.tc : Thread nD τ).loc main_arg8) = m ((c.tc : Thread nD τ).loc main_arg8)
      ∧ m' ((c.tc : Thread nD τ).loc main_arg9) = m ((c.tc : Thread nD τ).loc main_arg9)
      ∧ m' ((c.tc : Thread nD τ).loc main_arg10) = m ((c.tc : Thread nD τ).loc main_arg10)
      ∧ m' ((c.tc : Thread nD τ).loc main_arg11) = m ((c.tc : Thread nD τ).loc main_arg11)
      ∧ m' ((c.tc : Thread nD τ).loc main_arg12) = m ((c.tc : Thread nD τ).loc main_arg12)
      ∧ m' ((c.tc : Thread nD τ).loc main_arg13) = m ((c.tc : Thread nD τ).loc main_arg13)
      ∧ m' ((c.tc : Thread nD τ).loc main_arg14) = m ((c.tc : Thread nD τ).loc main_arg14)
      ∧ m' ((c.tc : Thread nD τ).loc main_arg15) = m ((c.tc : Thread nD τ).loc main_arg15)

/-- The argument arrays end unchanged. -/
theorem unchanged : θ_run defs (onTc (τ := τ) (main (F := F))) ⟨m, fun _ => 0, ρ⟩ (fun r => ∀ c : Dev nD, Kept m r.2.mem c) :=
  frame_of m ρ (dats m) (A_eq m) (run_main m ρ)

/-- The argument arrays end unchanged and every semaphore counter ends at zero. -/
theorem frame : θ_run defs (onTc (τ := τ) (main (F := F))) ⟨m, fun _ => 0, ρ⟩ (fun r => (∀ c : Dev nD, Kept m r.2.mem c) ∧ r.2.sem = fun _ => 0) :=
  θ_run_and (unchanged m ρ) ((θ_run defs _ _).mono (fun _ h => h.2) (run_main_quiescent m ρ))

end Cert.Kernel3Ideal.Merge

end
-- ==== Proof.Merge.Spec.lean ====
module

public import proofs.«01_k».proof.Proof.Attn.Real
public import proofs.«01_k».proof.Proof.Proj.Spec

@[expose] public section

set_option maxRecDepth 16384

noncomputable section

namespace Cert.MergeSpec

open Idealize.ShloMosaic

/-- The mean of the group of 64 channels that channel `c` belongs to. -/
def gmean (t : Fin 512 → EReal) (c : Fin 512) : EReal :=
  Ideal.div (∑ e : Fin 64, t ⟨c.val / 64 * 64 + e.val, by omega⟩) (Ideal.ofBits .f32 0x42800000#32)

/-- A channel less its group's mean. -/
def centred (t : Fin 512 → EReal) (c : Fin 512) : EReal := t c - gmean t c

/-- A channel of the normed row: its group has mean zero and variance one before gain and bias. -/
def gnorm (t g b : Fin 512 → EReal) (c : Fin 512) : EReal :=
  centred t c * Ideal.rsqrt (gmean (fun k => centred t k * centred t k) c + Ideal.ofBits .f32 0x3A27C5AC#32) * g c + b c

/-- The table of ones: one where two channels share a group, zero elsewhere. -/
def ones (j c : Fin 512) : EReal :=
  Ideal.ofBits .f32 (if j.val / 64 = c.val / 64 then 0x3F800000#32 else 0x00000000#32)

/-- The group mean by two products with a table: one of the row, one of what its rounding leaves, then times 1/64. -/
def kmean (t : Fin 512 → EReal) (M : Fin 512 → Fin 512 → EReal) (c : Fin 512) : EReal :=
  ((∑ j : Fin 512, t j * M j c) + ∑ j : Fin 512, (t j - t j) * M j c) * Ideal.ofBits .f32 0x3C800000#32

/-- The normed row by those means. -/
def knorm (t : Fin 512 → EReal) (M M' : Fin 512 → Fin 512 → EReal) (g b : Fin 512 → EReal) (c : Fin 512) : EReal :=
  (t c - kmean t M c) * Ideal.rsqrt (kmean (fun k => (t k - kmean t M k) * (t k - kmean t M k)) M' c + Ideal.ofBits .f32 0x3A27C5AC#32)
    * g c + b c

/-- The word of one. -/
theorem one_word : Ideal.ofBits .f32 0x3F800000#32 = ((1 : ℝ) : EReal) := by
  simp [Ideal.ofBits, Ideal.ieee, -EReal.coe_mul]; norm_num

/-- The word of zero. -/
theorem zero_word : Ideal.ofBits .f32 0x00000000#32 = ((0 : ℝ) : EReal) := by
  simp [Ideal.ofBits, Ideal.ieee]

/-- The word of sixty-four. -/
theorem w64 : Ideal.ofBits .f32 0x42800000#32 = ((64 : ℝ) : EReal) := by
  simp [Ideal.ofBits, Ideal.ieee, -EReal.coe_mul]; norm_num

/-- The word of one sixty-fourth. -/
theorem w64inv : Ideal.ofBits .f32 0x3C800000#32 = ((1 / 64 : ℝ) : EReal) := by
  simp [Ideal.ofBits, Ideal.ieee, -EReal.coe_mul]; norm_num

/-- An entry of the table of ones, as a real number. -/
theorem ones_eq (j c : Fin 512) : ones j c = ((if j.val / 64 = c.val / 64 then (1 : ℝ) else 0 : ℝ) : EReal) := by
  unfold ones
  split_ifs
  · exact one_word
  · exact zero_word

/-- The channels of a group, summed with the table, are the group's 64 channels. -/
theorem group_sum (f : Fin 512 → ℝ) (c : Fin 512) :
    (∑ j : Fin 512, f j * (if j.val / 64 = c.val / 64 then (1 : ℝ) else 0)) = ∑ e : Fin 64, f ⟨c.val / 64 * 64 + e.val, by omega⟩ := by
  simp only [mul_ite, mul_one, mul_zero]
  rw [← Finset.sum_filter]
  symm
  refine Finset.sum_bij (fun e _ => ⟨c.val / 64 * 64 + e.val, by omega⟩) ?_ ?_ ?_ ?_
  · intro e _
    simp only [Finset.mem_filter, Finset.mem_univ, true_and]
    omega
  · intro a _ b _ h
    have := congrArg Fin.val h
    dsimp only at this
    exact Fin.ext (by omega)
  · intro j hj
    simp only [Finset.mem_filter, Finset.mem_univ, true_and] at hj
    exact ⟨⟨j.val % 64, by omega⟩, Finset.mem_univ _, Fin.ext (by dsimp only; omega)⟩
  · intro e _
    rfl

/-- The group mean of real numbers is real, and it is what the products with the table of ones give. -/
theorem gmean_coe (f : Fin 512 → ℝ) (c : Fin 512) :
    gmean (fun k => (f k : EReal)) c = (((∑ e : Fin 64, f ⟨c.val / 64 * 64 + e.val, by omega⟩) / 64 : ℝ) : EReal) := by
  unfold gmean
  rw [Cert.AttnReal.coe_sum, w64, Cert.AttnReal.div_real _ _ (by norm_num)]

/-- On real numbers the two products with the table of ones give the group mean. -/
theorem kmean_ones (t : Fin 512 → EReal) (h : ∀ k, ∃ r : ℝ, t k = (r : EReal)) (c : Fin 512) : kmean t ones c = gmean t c := by
  choose f hf using h
  obtain rfl : t = fun k => (f k : EReal) := funext hf
  rw [gmean_coe]
  unfold kmean
  simp only [ones_eq, ← EReal.coe_sub, ← EReal.coe_mul, sub_self, zero_mul]
  rw [Cert.AttnReal.coe_sum, Cert.AttnReal.coe_sum, group_sum, w64inv, Finset.sum_const_zero, ← EReal.coe_add, ← EReal.coe_mul]
  congr 1
  ring

/-- A real row less its group means is real. -/
theorem centred_real (t : Fin 512 → EReal) (h : ∀ k, ∃ r : ℝ, t k = (r : EReal)) (c : Fin 512) : ∃ r : ℝ, centred t c = (r : EReal) := by
  choose f hf using h
  obtain rfl : t = fun k => (f k : EReal) := funext hf
  unfold centred
  rw [gmean_coe, ← EReal.coe_sub]
  exact ⟨_, rfl⟩

/-- On real rows the norm by products with the table of ones is the group norm. -/
theorem knorm_ones (t g b : Fin 512 → EReal) (h : ∀ k, ∃ r : ℝ, t k = (r : EReal)) (c : Fin 512) : knorm t ones ones g b c = gnorm t g b c := by
  have hs : ∀ k, ∃ r : ℝ, centred t k * centred t k = (r : EReal) := fun k => by
    obtain ⟨r, hr⟩ := centred_real t h k
    exact ⟨r * r, by rw [hr, ← EReal.coe_mul]⟩
  unfold knorm gnorm
  simp only [kmean_ones t h]
  change centred t c * Ideal.rsqrt (kmean (fun k => centred t k * centred t k) ones c + _) * g c + b c = _
  rw [kmean_ones _ hs]

/-- The logistic function. -/
def sigma (x : EReal) : EReal := Ideal.logistic x

/-- The logistic function spelt out. -/
theorem sigma_eq (x : EReal) :
    sigma x = Ideal.div (Ideal.ofBits .f32 0x3F800000#32) (Ideal.ofBits .f32 0x3F800000#32 + Ideal.exp (-x)) := by
  rw [one_word, EReal.coe_one]
  rfl

/-- The merge of the three branches, a column of it. -/
def mixed (a yb yc : Fin 512 → EReal) (w : Fin 3 → Fin 512 → EReal) (ga gb gc : EReal) : EReal :=
  sigma ga * (∑ k : Fin 512, a k * w 0 k) + sigma gb * (∑ k : Fin 512, yb k * w 1 k) + sigma gc * ∑ k : Fin 512, yc k * w 2 k

/-- The gated convolution of three rows, a channel of it. -/
def conv (bg prev cur next w0 w1 w2 : EReal) : EReal := bg * (w0 * prev + w1 * cur + w2 * next)

end Cert.MergeSpec
end
-- ==== Proof.Merge.Pay.lean ====
module

public import proofs.«01_k».proof.Proof.Gen.Kernel3Ideal.Skeleton
public import proofs.«01_k».proof.Proof.Merge.Spec
public import Idealize.ShloMosaic.Lib.Pipeline.ValueKit
public import Idealize.ShloMosaic.Lib.Pointwise

@[expose] public section

set_option maxRecDepth 16384

noncomputable section

namespace Cert.Kernel3Ideal.Merge

open Cert.MergeSpec Cert.Kernel3Ideal Cert.Kernel3Ideal.Gen Idealize.ShloMosaic Idealize.ShloMosaic.TcCoe Idealize.SL.Sem

/-- A choice by whether two small numbers are the same. -/
theorem choose_eq {α : Type} (n k : Nat) (hn : n < 1024) (hk : k < 1024) (a b : α) :
    Scalar.select (IntOp.cmpi .eq (BitVec.ofNat 32 n) (BitVec.ofNat 32 k)) a b = if n = k then a else b := by
  have h : (BitVec.ofNat 32 n = BitVec.ofNat 32 k) ↔ n = k := by
    constructor
    · intro h
      have := congrArg BitVec.toNat h
      simpa [BitVec.toNat_ofNat, Nat.mod_eq_of_lt (show n < 4294967296 by omega), Nat.mod_eq_of_lt (show k < 4294967296 by omega)] using this
    · rintro rfl; rfl
  by_cases e : n = k
  · subst e; simp [Scalar.select, IntOp.cmpi]
  · have e' := mt h.1 e
    have hb : (BitVec.ofNat 32 n == BitVec.ofNat 32 k) = false := beq_eq_false_iff_ne.mpr e'
    simp [Scalar.select, IntOp.cmpi, e, hb]

/-- The first scan's normed row, an entry of it. -/
theorem pay4_at (x : FVec Ideal S1x256x512 .f32) (M M' : FVec Ideal S512x512 .bf16) (g b : FVec Ideal S1x512 .f32) (r : Fin 256) (c : Fin 512) :
    k0_pay4 (F := Ideal) x M M' g b (ix2 r c)
      = knorm (fun k => x (ix3 0 r k)) (fun j k => M (ix2 j k)) (fun j k => M' (ix2 j k)) (fun k => g (ix2 0 k)) (fun k => b (ix2 0 k)) c := by
  pointwise [k0_pay4, knorm, kmean]

/-- The two scans' normed rows added, an entry. -/
theorem pay5_at (v : FVec Ideal S256x512 .f32) (x : FVec Ideal S1x256x512 .f32) (M M' : FVec Ideal S512x512 .bf16) (g b : FVec Ideal S1x512 .f32)
    (r : Fin 256) (c : Fin 512) :
    k0_pay5 (F := Ideal) v x M M' g b (ix2 r c) = v (ix2 r c)
      + knorm (fun k => x (ix3 0 r k)) (fun j k => M (ix2 j k)) (fun j k => M' (ix2 j k)) (fun k => g (ix2 0 k)) (fun k => b (ix2 0 k)) c := by
  pointwise [k0_pay5, knorm, kmean]

/-- The read-out: the bonus added, then the gate. -/
theorem pay7_at (v : FVec Ideal S256x512 .f32) (w g : FVec Ideal S1x256x512 .f32) (r : Fin 256) (c : Fin 512) :
    k0_pay7 (F := Ideal) v (k0_pay6 w) g (ix2 r c) = (v (ix2 r c) + w (ix3 0 r c)) * g (ix3 0 r c) := by
  pointwise [k0_pay7, k0_pay6]

/-- The convolution's output gate. -/
theorem pay10_at (x : FVec Ideal S1x256x1536 .bf16) (r : Fin 256) (c : Fin 512) :
    k0_pay10 (F := Ideal) x (ix2 r c) = x (ix3 0 r ⟨c.val, by omega⟩) := by
  pointwise [k0_pay10, k0_pay8]

/-- The convolution's input. -/
theorem pay11_at (x : FVec Ideal S1x256x1536 .bf16) (r : Fin 256) (c : Fin 512) :
    k0_pay11 (F := Ideal) x (ix2 r c) = x (ix3 0 r ⟨512 + c.val, by omega⟩) * x (ix3 0 r ⟨1024 + c.val, by omega⟩) := by
  pointwise [k0_pay11, k0_pay8]

/-- The input's row after the block; zero after the last block. -/
theorem pay9_at (i : Fin 32) (x : FVec Ideal S1x16x1536 .bf16) (c : Fin 512) :
    k0_pay9 (F := Ideal) (BitVec.ofNat 32 i.val) x (ix2 0 c)
      = if i.val = 31 then 0 else x (ix3 0 0 ⟨512 + c.val, by omega⟩) * x (ix3 0 0 ⟨1024 + c.val, by omega⟩) := by
  pointwise [k0_pay9]
  exact choose_eq _ 31 (by omega) (by norm_num) _ _

/-- The input's rows moved down by one, with the row before the block in front; zero before the first block. -/
theorem pay12_at (i : Fin 32) (x : FVec Ideal S1x256x1536 .bf16) (y : FVec Ideal S1x16x1536 .bf16) (r : Fin 256) (c : Fin 512) :
    k0_pay12 (F := Ideal) (BitVec.ofNat 32 i.val) x y (ix2 r c)
      = if h : r.val = 0 then (if i.val = 0 then 0 else y (ix3 0 15 ⟨512 + c.val, by omega⟩) * y (ix3 0 15 ⟨1024 + c.val, by omega⟩))
        else k0_pay11 (F := Ideal) x (ix2 ⟨r.val - 1, by omega⟩ c) := by
  pointwise [k0_pay12]
  refine (choose_eq _ 0 (by omega) (by norm_num) _ _).trans ?_
  split_ifs with h0 h1
  · exact (choose_eq _ 0 (by omega) (by norm_num) _ _).trans (if_pos h1)
  · exact (choose_eq _ 0 (by omega) (by norm_num) _ _).trans (if_neg h1)
  · exact congrArg (fun q : Fin 256 => k0_pay11 (F := Ideal) x (ix2 q c)) (Fin.ext (by dsimp only; omega))

/-- The gated convolution, an entry of it. -/
theorem pay14_at (nx : FVec Ideal S1x512 .f32) (bg u pr : FVec Ideal S256x512 .f32) (w : FVec Ideal S3x512 .f32) (r : Fin 256) (c : Fin 512) :
    k0_pay14 (F := Ideal) nx bg u (iota .tc S256x1 32 [0] iota_S256x1_d0_w32) pr k0_pay13 w (ix2 r c)
      = conv (bg (ix2 r c)) (pr (ix2 r c)) (u (ix2 r c)) (if h : r.val = 255 then nx (ix2 0 c) else u (ix2 ⟨r.val + 1, by omega⟩ c))
          (w (ix2 0 c)) (w (ix2 1 c)) (w (ix2 2 c)) := by
  pointwise [k0_pay14, k0_pay13, conv]
  have e : Scalar.select (IntOp.cmpi CmpIPredicate.eq (BitVec.ofNat 32 r.val) 255#32) (nx (ix2 0 c))
      (u (ix2 (⟨(r.val + 256 - 255) % 256, Nat.mod_lt _ (by norm_num)⟩ : Fin 256) c))
      = if h : r.val = 255 then nx (ix2 0 c) else u (ix2 ⟨r.val + 1, by omega⟩ c) := by
    refine (choose_eq _ 255 (by omega) (by norm_num) _ _).trans ?_
    split_ifs with h0
    · rfl
    · exact congrArg (fun q => u (ix2 q c)) (Fin.ext (by dsimp only; omega))
  exact congrArg _ (congrArg _ (congrArg _ e))

/-- The first branch, gated. -/
theorem pay15_at (a : FVec Ideal S1x256x512 .bf16) (ga : FVec Ideal S1x256x1024 .bf16) (w : FVec Ideal S1x512x1024 .bf16) (r : Fin 256) (j : Fin 1024) :
    k0_pay15 (F := Ideal) a ga w (ix2 r j) = sigma (ga (ix3 0 r j)) * ∑ k : Fin 512, a (ix3 0 r k) * w (ix3 0 k j) := by
  pointwise [k0_pay15, sigma]

/-- The residual after the merge, an entry of it. -/
theorem pay19_at (yc : FVec Ideal S256x512 .f32) (va : FVec Ideal S256x1024 .f32) (gb : FVec Ideal S1x256x1024 .bf16) (yb : FVec Ideal S256x512 .f32)
    (wb : FVec Ideal S1x512x1024 .bf16) (gc : FVec Ideal S1x256x1024 .bf16) (wc : FVec Ideal S1x512x1024 .bf16) (wo : FVec Ideal S1024x1024 .bf16)
    (x : FVec Ideal S1x256x1024 .f32) (g1 : FVec Ideal S1x1x1024 .f32) (r : Fin 256) (d : Fin 1024) :
    k0_pay19 (F := Ideal) yc va (k0_pay16 gb) (k0_pay17 yb) (k0_pay18 wb) (constant S256x1024 .f32 0x00000000#32) gc wc wo x g1 (ix2 r d)
      = x (ix3 0 r d) + g1 (ix3 0 0 d) * ∑ j : Fin 1024, (va (ix2 r j) + sigma (gb (ix3 0 r j)) * (∑ k : Fin 512, yb (ix2 r k) * wb (ix3 0 k j))
          + sigma (gc (ix3 0 r j)) * ∑ k : Fin 512, yc (ix2 r k) * wc (ix3 0 k j)) * wo (ix2 j d) := by
  pointwise [k0_pay19, k0_pay16, k0_pay17, k0_pay18, sigma]

/-- The residual as it is written out. -/
theorem pay20_at (yc : FVec Ideal S256x512 .f32) (va vb : FVec Ideal S256x1024 .f32) (yb : FVec Ideal S256x512 .bf16) (wb : FVec Ideal S512x1024 .bf16)
    (z : FVec Ideal S256x1024 .f32) (gc : FVec Ideal S1x256x1024 .bf16) (wc : FVec Ideal S1x512x1024 .bf16) (wo : FVec Ideal S1024x1024 .bf16)
    (x : FVec Ideal S1x256x1024 .f32) (g1 : FVec Ideal S1x1x1024 .f32) (r : Fin 256) (d : Fin 1024) :
    k0_pay20 (F := Ideal) yc va vb yb wb z gc wc wo x g1 (ix3 0 r d) = k0_pay19 (F := Ideal) yc va vb yb wb z gc wc wo x g1 (ix2 r d) := by
  pointwise [k0_pay20]

/-- The residual's row divided by its root mean square. -/
theorem pay21_at (yc : FVec Ideal S256x512 .f32) (va vb : FVec Ideal S256x1024 .f32) (yb : FVec Ideal S256x512 .bf16) (wb : FVec Ideal S512x1024 .bf16)
    (z : FVec Ideal S256x1024 .f32) (gc : FVec Ideal S1x256x1024 .bf16) (wc : FVec Ideal S1x512x1024 .bf16) (wo : FVec Ideal S1024x1024 .bf16)
    (x : FVec Ideal S1x256x1024 .f32) (g1 : FVec Ideal S1x1x1024 .f32) (r : Fin 256) (d : Fin 1024) :
    k0_pay21 (F := Ideal) yc va vb yb wb z gc wc wo x g1 (ix2 r d) = k0_pay19 (F := Ideal) yc va vb yb wb z gc wc wo x g1 (ix2 r d)
      * Ideal.rsqrt (Ideal.div (∑ k : Fin 1024, k0_pay19 (F := Ideal) yc va vb yb wb z gc wc wo x g1 (ix2 r k) * k0_pay19 (F := Ideal) yc va vb yb wb z gc wc wo x g1 (ix2 r k))
          (Ideal.ofBits .f32 0x44800000#32) + Ideal.ofBits .f32 0x358637BD#32) := by
  pointwise [k0_pay21]

/-- The modulated, normed row as it is written out. -/
theorem pay2_at (v : FVec Ideal S256x1024 .f32) (n : FVec Ideal S1x1024 .f32) (sc sh : FVec Ideal S1x1x1024 .f32) (r : Fin 256) (d : Fin 1024) :
    k0_pay2 (F := Ideal) v n sc sh (ix3 0 r d)
      = v (ix2 r d) * n (ix2 0 d) * (Ideal.ofBits .f32 0x3F800000#32 + sc (ix3 0 0 d)) + sh (ix3 0 0 d) := by
  pointwise [k0_pay2, k0_pay1]

/-- The same row rounded. -/
theorem pay3_at (v : FVec Ideal S256x1024 .f32) (n : FVec Ideal S1x1024 .f32) (sc sh : FVec Ideal S1x1x1024 .f32) (r : Fin 256) (d : Fin 1024) :
    k0_pay3 (F := Ideal) v n sc sh (ix3 0 r d)
      = v (ix2 r d) * n (ix2 0 d) * (Ideal.ofBits .f32 0x3F800000#32 + sc (ix3 0 0 d)) + sh (ix3 0 0 d) := by
  pointwise [k0_pay3, k0_pay1]

end Cert.Kernel3Ideal.Merge
end
-- ==== Proof.Merge.Ones.lean ====
module

public import proofs.«01_k».proof.Kernel3Ideal
public import proofs.«01_k».proof.Proof.Merge.Spec

@[expose] public section

set_option maxRecDepth 16384

noncomputable section

namespace Cert.Kernel3Ideal.Ones

open Cert.Kernel3Ideal Idealize.ShloMosaic

/-- The number the program keeps for a column is the number of its head. -/
theorem head_eq : ∀ n : Fin 512, lit0t n.val = BitVec.ofNat 32 (n.val / 64) := by
  decide +kernel

/-- The numbers of two heads are equal when the heads are. -/
theorem head_inj (j k : Fin 512) : BitVec.ofNat 32 (j.val / 64) = BitVec.ofNat 32 (k.val / 64) ↔ j.val / 64 = k.val / 64 := by
  constructor
  · intro h
    have h' := congrArg BitVec.toNat h
    simp only [BitVec.toNat_ofNat] at h'
    omega
  · intro h
    rw [h]

end Cert.Kernel3Ideal.Ones
end
-- ==== Proof.Merge.Target.lean ====
module

public import proofs.«01_k».proof.Proof.Merge.Spec
public import Idealize.ShloMosaic.Lib.Pointwise

@[expose] public section

set_option maxRecDepth 16384

noncomputable section

namespace Cert.MergeSpec

open Idealize.ShloMosaic

/-- The read-out of the two scans: each normed by groups, added, the bonus added, then the gate. -/
def readOut (o0 o1 lng lnb bonus g : Fin 512 → EReal) (k : Fin 512) : EReal :=
  (gnorm o0 lng lnb k + gnorm o1 lng lnb k + bonus k) * g k

/-- The convolution's input at position `s`, from the projection's columns. -/
def input (p : Fin 8192 → Fin 8192 → EReal) (k : Fin 512) (s : Fin 8192) : EReal :=
  p s ⟨3584 + k.val, by omega⟩ * p s ⟨4096 + k.val, by omega⟩

/-- The gated convolution along the positions: the rows before the first and after the last are zero. -/
def gated (p : Fin 8192 → Fin 8192 → EReal) (w : Fin 3 → Fin 512 → EReal) (s : Fin 8192) (k : Fin 512) : EReal :=
  conv (p s ⟨3072 + k.val, by omega⟩) (if h : s.val = 0 then 0 else input p k ⟨s.val - 1, by omega⟩) (input p k s)
    (if h : s.val = 8191 then 0 else input p k ⟨s.val + 1, by omega⟩) (w 0 k) (w 1 k) (w 2 k)

/-- A row of the merge: the three branches, each times its weights, gated and added. -/
def merged (a yb : Fin 512 → EReal) (p : Fin 8192 → Fin 8192 → EReal) (cw : Fin 3 → Fin 512 → EReal) (w : Fin 3 → Fin 512 → Fin 1024 → EReal)
    (s : Fin 8192) (j : Fin 1024) : EReal :=
  mixed a yb (gated p cw s) (fun i k => w i k j) (p s ⟨5120 + j.val, by omega⟩) (p s ⟨6144 + j.val, by omega⟩) (p s ⟨7168 + j.val, by omega⟩)

/-- A position's row in the scans, which begin with the 256 context rows. -/
abbrev past (s : Fin 8192) : Fin 8448 := ⟨256 + s.val, by omega⟩

/-- The residual after the merge, an entry of it. -/
def resid (x g1 : EReal) (mix wo : Fin 1024 → EReal) : EReal := x + g1 * ∑ j : Fin 1024, mix j * wo j

end Cert.MergeSpec
end
-- ==== Proof.Merge.Reads.lean ====
module

public import proofs.«01_k».proof.Proof.Merge.LaunchI
public import proofs.«01_k».proof.Proof.Merge.Pay
public import proofs.«01_k».proof.Proof.Merge.Ones
public import proofs.«01_k».proof.Proof.Merge.Target
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Merge

open Cert.MergeSpec Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The number of grid points. -/
theorem t_lt (t : Fin cfg0.N) : t.val < 128 := lt_of_lt_of_eq t.isLt (show cfg0.N = 128 from N_0)

/-- The block of rows of a grid point, as the body is told it. -/
theorem coord : ∀ t : Fin cfg0.N, (grid0.coords t 1).val = t.val % 32 := (by decide +kernel : ∀ t : Fin grid0.N, _)

/-- Which block each window of rows reads or writes at each grid point. -/
theorem idx : ∀ t : Fin cfg0.N, win0_0.index t = ![t.val / 32 % 4, t.val % 32, 0] ∧ win0_1.index t = ![t.val / 32 % 4, t.val % 32 + 1, 0]
    ∧ win0_2.index t = ![t.val / 32 % 4, t.val % 32 + 1, 0] ∧ win0_3.index t = ![t.val / 32 % 4, t.val % 32, 0]
    ∧ win0_4.index t = ![t.val / 32 % 4, t.val % 32, 0] ∧ win0_5.index t = ![t.val / 32 % 4, t.val % 32, 2]
    ∧ win0_6.index t = ![t.val / 32 % 4, t.val % 32 * 16 - 1, 2] ∧ win0_7.index t = ![t.val / 32 % 4, min (t.val % 32 * 16 + 16) 511, 2]
    ∧ win0_8.index t = ![t.val / 32 % 4, t.val % 32, 5] ∧ win0_9.index t = ![t.val / 32 % 4, t.val % 32, 6]
    ∧ win0_10.index t = ![t.val / 32 % 4, t.val % 32, 7] ∧ win0_11.index t = ![t.val / 32 % 4, t.val % 32, 0]
    ∧ win0_22.index t = ![t.val / 32 % 4, t.val % 32, 0] ∧ win0_23.index t = ![t.val / 32 % 4, t.val % 32, 0]
    ∧ win0_24.index t = ![t.val / 32 % 4, t.val % 32, 0] :=
  (by decide +kernel : ∀ t : Fin grid0.N, _)

/-- Which block each window of weights reads at each grid point. -/
theorem idx' : ∀ t : Fin cfg0.N, win0_12.index t = ![0, 0] ∧ win0_13.index t = ![0, 0] ∧ win0_14.index t = ![0, 0] ∧ win0_15.index t = ![0, 0, 0]
    ∧ win0_16.index t = ![0, 0] ∧ win0_17.index t = ![0, 0] ∧ win0_18.index t = ![t.val / 32 % 4, 0, 0] ∧ win0_19.index t = ![0, 0]
    ∧ win0_20.index t = ![t.val / 32 % 4, 0, 0] ∧ win0_21.index t = ![t.val / 32 % 4, 0, 0] :=
  (by decide +kernel : ∀ t : Fin grid0.N, _)

/-- The batch entry of a grid point. -/
abbrev bOf (t : Fin cfg0.N) : Fin 4 := ⟨t.val / 32 % 4, by omega⟩
/-- The position of a grid point's row `r`. -/
abbrev sOf (t : Fin cfg0.N) (r : Fin 256) : Fin 8192 := ⟨t.val % 32 * 256 + r.val, by omega⟩
/-- The same position in the scans, which begin with the 256 context rows. -/
abbrev uOf (t : Fin cfg0.N) (r : Fin 256) : Fin 8448 := past (sOf t r)

/-- A block of the attention's rows. -/
theorem a_read (t : Fin cfg0.N) (r : Fin 256) (k : Fin 512) :
    iblk m c 0 t (ix3 0 r k) = m ((c : Thread nD τ).loc main_arg0) (ix3 (bOf t) (sOf t r) k) := by
  blk_ext [iblk, V, idx t]

/-- A block of the first scan's rows. -/
theorem o0_read (t : Fin cfg0.N) (r : Fin 256) (k : Fin 512) :
    iblk m c 1 t (ix3 0 r k) = m ((c : Thread nD τ).loc main_arg1) (ix3 (bOf t) (uOf t r) k) := by
  blk_ext [iblk, V, idx t]

/-- A block of the second scan's rows. -/
theorem o1_read (t : Fin cfg0.N) (r : Fin 256) (k : Fin 512) :
    iblk m c 2 t (ix3 0 r k) = m ((c : Thread nD τ).loc main_arg2) (ix3 (bOf t) (uOf t r) k) := by
  blk_ext [iblk, V, idx t]

/-- A block of the bonus. -/
theorem bonus_read (t : Fin cfg0.N) (r : Fin 256) (k : Fin 512) :
    iblk m c 3 t (ix3 0 r k) = m ((c : Thread nD τ).loc main_arg3) (ix3 (bOf t) (sOf t r) k) := by
  blk_ext [iblk, V, idx t]

/-- A block of the scans' gate. -/
theorem g_read (t : Fin cfg0.N) (r : Fin 256) (k : Fin 512) :
    iblk m c 4 t (ix3 0 r k) = m ((c : Thread nD τ).loc main_arg4) (ix3 (bOf t) (sOf t r) k) := by
  blk_ext [iblk, V, idx t]

/-- A block of the convolution's columns of the projection. -/
theorem cv_read (t : Fin cfg0.N) (r : Fin 256) (k : Fin 1536) :
    X0_5 m c t (ix3 0 r k) = m ((c : Thread nD τ).loc main_arg5) (ix3 (bOf t) (sOf t r) ⟨3072 + k.val, by omega⟩) := by
  unfold X0_5 Pipeline.Window.fill
  rw [dif_pos (moved0_5 t _)]
  blk_ext [iblk, V, idx t]

/-- The row before the block, when there is one. -/
theorem prev_read (t : Fin cfg0.N) (k : Fin 1536) (s : Fin 8192) (hs : s.val + 1 = t.val % 32 * 256) :
    X0_6 m c t (ix3 0 15 k) = m ((c : Thread nD τ).loc main_arg5) (ix3 (bOf t) s ⟨3072 + k.val, by omega⟩) := by
  unfold X0_6 Pipeline.Window.fill
  rw [dif_pos (moved0_6 t _)]
  blk_ext [iblk, V, idx t]

/-- The row after the block, when there is one. -/
theorem next_read (t : Fin cfg0.N) (k : Fin 1536) (s : Fin 8192) (hs : s.val = t.val % 32 * 256 + 256) :
    X0_7 m c t (ix3 0 0 k) = m ((c : Thread nD τ).loc main_arg5) (ix3 (bOf t) s ⟨3072 + k.val, by omega⟩) := by
  unfold X0_7 Pipeline.Window.fill
  rw [dif_pos (moved0_7 t _)]
  blk_ext [iblk, V, idx t]

/-- A block of the first branch's gate. -/
theorem ga_read (t : Fin cfg0.N) (r : Fin 256) (j : Fin 1024) :
    iblk m c 8 t (ix3 0 r j) = m ((c : Thread nD τ).loc main_arg5) (ix3 (bOf t) (sOf t r) ⟨5120 + j.val, by omega⟩) := by
  blk_ext [iblk, V, idx t]

/-- A block of the second branch's gate. -/
theorem gb_read (t : Fin cfg0.N) (r : Fin 256) (j : Fin 1024) :
    iblk m c 9 t (ix3 0 r j) = m ((c : Thread nD τ).loc main_arg5) (ix3 (bOf t) (sOf t r) ⟨6144 + j.val, by omega⟩) := by
  blk_ext [iblk, V, idx t]

/-- A block of the third branch's gate. -/
theorem gc_read (t : Fin cfg0.N) (r : Fin 256) (j : Fin 1024) :
    iblk m c 10 t (ix3 0 r j) = m ((c : Thread nD τ).loc main_arg5) (ix3 (bOf t) (sOf t r) ⟨7168 + j.val, by omega⟩) := by
  blk_ext [iblk, V, idx t]

/-- A block of the residual's rows. -/
theorem x_read (t : Fin cfg0.N) (r : Fin 256) (d : Fin 1024) :
    iblk m c 11 t (ix3 0 r d) = m ((c : Thread nD τ).loc main_arg6) (ix3 (bOf t) (sOf t r) d) := by
  blk_ext [iblk, V, idx t]

end Cert.Kernel3Ideal.Merge
end
-- ==== Proof.Merge.Weights.lean ====
module

public import proofs.«01_k».proof.Proof.Merge.Reads

@[expose] public section

set_option maxRecDepth 16384

noncomputable section

namespace Cert.Kernel3Ideal.Merge

open Cert.MergeSpec Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The scans' gain. -/
theorem lng_read (t : Fin cfg0.N) (k : Fin 512) :
    iblk m c 12 t (ix2 0 k) = m ((c : Thread nD τ).loc main_arg7) (ix1 k) := by
  blk_simp [iblk]
  entry_read
  pointwise
  blk_ext [idx' t]

/-- The scans' bias. -/
theorem lnb_read (t : Fin cfg0.N) (k : Fin 512) :
    iblk m c 13 t (ix2 0 k) = m ((c : Thread nD τ).loc main_arg8) (ix1 k) := by
  blk_simp [iblk]
  entry_read
  pointwise
  blk_ext [idx' t]

/-- The convolution's weights. -/
theorem cw_read (t : Fin cfg0.N) (j : Fin 3) (k : Fin 512) :
    iblk m c 14 t (ix2 j k) = m ((c : Thread nD τ).loc main_arg9) (ix2 j k) := by
  blk_ext [iblk, V, idx' t]

/-- The branches' weights. -/
theorem wb_read (t : Fin cfg0.N) (i : Fin 3) (k : Fin 512) (j : Fin 1024) :
    iblk m c 15 t (ix3 i k j) = m ((c : Thread nD τ).loc main_arg10) (ix3 i k j) := by
  blk_simp [iblk]
  entry_read
  pointwise
  blk_ext [idx' t]

/-- The output weights. -/
theorem wo_read (t : Fin cfg0.N) (j d : Fin 1024) :
    iblk m c 16 t (ix2 j d) = m ((c : Thread nD τ).loc main_arg11) (ix2 j d) := by
  blk_simp [iblk]
  entry_read
  pointwise
  blk_ext [idx' t]

/-- The gate of the residual. -/
theorem g1_read (t : Fin cfg0.N) (d : Fin 1024) :
    iblk m c 18 t (ix3 0 0 d) = m ((c : Thread nD τ).loc main_arg12) (ix2 (bOf t) d) := by
  blk_simp [iblk]
  entry_read
  pointwise
  blk_ext [idx' t]

/-- The second norm's gain. -/
theorem n2_read (t : Fin cfg0.N) (d : Fin 1024) :
    iblk m c 19 t (ix2 0 d) = m ((c : Thread nD τ).loc main_arg13) (ix1 d) := by
  blk_simp [iblk]
  entry_read
  pointwise
  blk_ext [idx' t]

/-- The second norm's scale. -/
theorem sc_read (t : Fin cfg0.N) (d : Fin 1024) :
    iblk m c 20 t (ix3 0 0 d) = m ((c : Thread nD τ).loc main_arg14) (ix2 (bOf t) d) := by
  blk_simp [iblk]
  entry_read
  pointwise
  blk_ext [idx' t]

/-- The second norm's shift. -/
theorem sh_read (t : Fin cfg0.N) (d : Fin 1024) :
    iblk m c 21 t (ix3 0 0 d) = m ((c : Thread nD τ).loc main_arg15) (ix2 (bOf t) d) := by
  blk_simp [iblk]
  entry_read
  pointwise
  blk_ext [idx' t]

end Cert.Kernel3Ideal.Merge
end
-- ==== Proof.Merge.Table.lean ====
module

public import proofs.«01_k».proof.Proof.Merge.Reads

@[expose] public section

set_option maxRecDepth 16384

noncomputable section

namespace Cert.Kernel3Ideal.Merge

open Cert.MergeSpec Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The place of a column in the list of columns. -/
theorem place (j : Fin 512) : (S512.rowMajor (ix1 j)).val = j.val :=
  Shape.rowMajor_val_one (d := ![512]) (ix1 j)

/-- The number the program keeps for a column. -/
theorem word (j : Fin 512) : lit0 (S512.rowMajor (ix1 j)) = BitVec.ofNat 32 (j.val / 64) :=
  (congrArg lit0t (place j)).trans (Ones.head_eq j)

/-- The table the kernel reads is the table of ones. -/
theorem ones_read (t : Fin cfg0.N) (j k : Fin 512) : iblk m c 17 t (ix2 j k) = ones j k := by
  have e : V m c main_v10 (ix2 j k) = FloatOps.uitofp (F := Ideal) .f32 (IntOp.cmpi .eq (lit0 (S512.rowMajor (ix1 j))) (lit0 (S512.rowMajor (ix1 k)))) := by
    entry_read
    rfl
  refine Eq.trans ?_ (e.trans ?_)
  · blk_ext [iblk, idx' t]
  · rw [word, word]
    by_cases h : j.val / 64 = k.val / 64
    · rw [(Ones.head_inj j k).2 h, ones, if_pos h, one_word]
      simp [IntOp.cmpi, FloatOps.uitofp]
    · have hb : ((BitVec.ofNat 32 (j.val / 64) == BitVec.ofNat 32 (k.val / 64)) : Bool) = false :=
        beq_eq_false_iff_ne.2 (fun e => h ((Ones.head_inj j k).1 e))
      rw [ones, if_neg h, zero_word]
      simp [IntOp.cmpi, FloatOps.uitofp, hb]

end Cert.Kernel3Ideal.Merge
end
-- ==== Proof.Merge.Block.lean ====
module

public import proofs.«01_k».proof.Proof.Merge.Weights
public import proofs.«01_k».proof.Proof.Merge.Table
public import proofs.«01_k».proof.Proof.Merge.Target

@[expose] public section

set_option maxRecDepth 16384

noncomputable section

namespace Cert.Kernel3Ideal.Merge

open Cert.MergeSpec Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The scans' read-out over a block, an entry. -/
theorem read_out_at (t : Fin cfg0.N) (r : Fin 256) (k : Fin 512)
    (h0 : ∀ i, ∃ q : ℝ, m ((c : Thread nD τ).loc main_arg1) i = (q : EReal)) (h1 : ∀ i, ∃ q : ℝ, m ((c : Thread nD τ).loc main_arg2) i = (q : EReal)) :
    k0_pay7 (F := Ideal) (k0_pay5 (k0_pay4 (iblk m c 1 t) (iblk m c 17 t) (iblk m c 17 t) (iblk m c 12 t) (iblk m c 13 t)) (iblk m c 2 t) (iblk m c 17 t)
        (iblk m c 17 t) (iblk m c 12 t) (iblk m c 13 t)) (k0_pay6 (iblk m c 3 t)) (iblk m c 4 t) (ix2 r k)
      = readOut (fun k => m ((c : Thread nD τ).loc main_arg1) (ix3 (bOf t) (uOf t r) k)) (fun k => m ((c : Thread nD τ).loc main_arg2) (ix3 (bOf t) (uOf t r) k))
          (fun k => m ((c : Thread nD τ).loc main_arg7) (ix1 k)) (fun k => m ((c : Thread nD τ).loc main_arg8) (ix1 k))
          (fun k => m ((c : Thread nD τ).loc main_arg3) (ix3 (bOf t) (sOf t r) k)) (fun k => m ((c : Thread nD τ).loc main_arg4) (ix3 (bOf t) (sOf t r) k)) k := by
  refine (pay7_at _ _ _ _ _).trans ?_
  rw [pay5_at, pay4_at]
  simp only [ones_read, o0_read, o1_read, lng_read, lnb_read, bonus_read, g_read]
  unfold readOut
  rw [← knorm_ones _ _ _ (fun _ => h0 _), ← knorm_ones _ _ _ (fun _ => h1 _)]

/-- The convolution's input over a block, an entry. -/
theorem input_at (t : Fin cfg0.N) (r : Fin 256) (k : Fin 512) :
    k0_pay11 (F := Ideal) (X0_5 m c t) (ix2 r k) = input (fun s j => m ((c : Thread nD τ).loc main_arg5) (ix3 (bOf t) s j)) k (sOf t r) := by
  refine (pay11_at _ _ _).trans ?_
  rw [cv_read, cv_read]
  unfold input
  congr 3 <;> exact Fin.ext (by dsimp only; omega)

/-- The rows that end just before the block. -/
abbrev rowsBefore (t : Fin cfg0.N) : FVec Ideal S1x16x1536 .bf16 := X0_6 m c t
/-- The rows that begin just after the block. -/
abbrev rowsAfter (t : Fin cfg0.N) : FVec Ideal S1x16x1536 .bf16 := X0_7 m c t

/-- The gated convolution over a block, an entry. -/
theorem gated_at (t : Fin cfg0.N) (r : Fin 256) (k : Fin 512) :
    k0_pay14 (F := Ideal) (k0_pay9 (BitVec.ofNat 32 (grid0.coords t 1).val) (X0_7 m c t)) (k0_pay10 (X0_5 m c t)) (k0_pay11 (X0_5 m c t))
        (iota .tc S256x1 32 [0] iota_S256x1_d0_w32) (k0_pay12 (BitVec.ofNat 32 (grid0.coords t 1).val) (X0_5 m c t) (X0_6 m c t)) k0_pay13 (iblk m c 14 t) (ix2 r k)
      = gated (fun s j => m ((c : Thread nD τ).loc main_arg5) (ix3 (bOf t) s j)) (fun j k => m ((c : Thread nD τ).loc main_arg9) (ix2 j k)) (sOf t r) k := by
  have ht := t_lt t
  have hc := coord t
  refine (pay14_at _ _ _ _ _ _ _).trans ?_
  have e9 := pay9_at ⟨t.val % 32, by omega⟩ (X0_7 m c t) k
  have e12 := pay12_at ⟨t.val % 32, by omega⟩ (X0_5 m c t) (X0_6 m c t) r k
  rw [hc]
  dsimp only at e9 e12
  rw [e9, e12, pay10_at, cv_read, cw_read, cw_read, cw_read]
  simp only [input_at]
  unfold gated
  have ep : (if h : r.val = 0 then (if t.val % 32 = 0 then 0 else rowsBefore m c t (ix3 0 15 ⟨512 + k.val, by omega⟩) * rowsBefore m c t (ix3 0 15 ⟨1024 + k.val, by omega⟩))
        else input (fun s j => m ((c : Thread nD τ).loc main_arg5) (ix3 (bOf t) s j)) k (sOf t ⟨r.val - 1, by omega⟩))
      = (if h : (sOf t r).val = 0 then 0 else input (fun s j => m ((c : Thread nD τ).loc main_arg5) (ix3 (bOf t) s j)) k ⟨(sOf t r).val - 1, by omega⟩) := by
    by_cases h : r.val = 0
    · rw [dif_pos h]
      by_cases h' : t.val % 32 = 0
      · rw [if_pos h', dif_pos (by dsimp only; omega)]
      · unfold rowsBefore
        rw [if_neg h', dif_neg (by dsimp only; omega), prev_read m c t _ ⟨(sOf t r).val - 1, by omega⟩ (by dsimp only; omega),
          prev_read m c t _ ⟨(sOf t r).val - 1, by omega⟩ (by dsimp only; omega)]
        unfold input
        congr 3 <;> exact Fin.ext (by dsimp only; omega)
    · rw [dif_neg h, dif_neg (by dsimp only; omega)]
      exact congrArg _ (Fin.ext (by dsimp only; omega))
  have en : (if h : r.val = 255 then (if t.val % 32 = 31 then 0 else rowsAfter m c t (ix3 0 0 ⟨512 + k.val, by omega⟩) * rowsAfter m c t (ix3 0 0 ⟨1024 + k.val, by omega⟩))
        else input (fun s j => m ((c : Thread nD τ).loc main_arg5) (ix3 (bOf t) s j)) k (sOf t ⟨r.val + 1, by omega⟩))
      = (if h : (sOf t r).val = 8191 then 0 else input (fun s j => m ((c : Thread nD τ).loc main_arg5) (ix3 (bOf t) s j)) k ⟨(sOf t r).val + 1, by omega⟩) := by
    by_cases h : r.val = 255
    · rw [dif_pos h]
      by_cases h' : t.val % 32 = 31
      · rw [if_pos h', dif_pos (by dsimp only; omega)]
      · unfold rowsAfter
        rw [if_neg h', dif_neg (by dsimp only; omega), next_read m c t _ ⟨(sOf t r).val + 1, by dsimp only; omega⟩ (by dsimp only; omega),
          next_read m c t _ ⟨(sOf t r).val + 1, by dsimp only; omega⟩ (by dsimp only; omega)]
        unfold input
        congr 3 <;> exact Fin.ext (by dsimp only; omega)
    · rw [dif_neg h, dif_neg (by dsimp only; omega)]
      exact congrArg _ (Fin.ext (by dsimp only; omega))
  rw [ep, en]

end Cert.Kernel3Ideal.Merge
end
-- ==== Proof.Merge.Kernel.lean ====
module

public import proofs.«01_k».proof.Proof.Merge.Block
import Idealize.ShloMosaic.Lib.Pipeline.ReadBack

@[expose] public section

set_option maxRecDepth 16384

noncomputable section

namespace Cert.Kernel3Ideal.Merge

open Cert.MergeSpec Cert.Kernel3Ideal Cert.Kernel3Ideal.Gen Idealize.ShloMosaic Idealize.ShloMosaic.TcCoe Idealize.SL.Sem

/-- The residual after the merge, every entry of it. -/
def target1 (a : FVec Ideal S4x8192x512 .bf16) (o0 o1 : FVec Ideal S4x8448x512 .f32) (bonus g : FVec Ideal S4x8192x512 .f32) (p : FVec Ideal S4x8192x8192 .bf16)
    (x : FVec Ideal S4x8192x1024 .f32) (lng lnb : FVec Ideal S512 .f32) (cw : FVec Ideal S3x512 .f32) (wb : FVec Ideal S3x512x1024 .f32)
    (wo : FVec Ideal S1024x1024 .f32) (g1 : FVec Ideal S4x1024 .f32) : FVec Ideal S4x8192x1024 .f32 :=
  fun i => resid (x (ix3 (i 0) (i 1) (i 2))) (g1 (ix2 (i 0) (i 2)))
    (merged (fun k => a (ix3 (i 0) (i 1) k))
      (readOut (fun k => o0 (ix3 (i 0) (past (i 1)) k)) (fun k => o1 (ix3 (i 0) (past (i 1)) k)) (fun k => lng (ix1 k)) (fun k => lnb (ix1 k))
        (fun k => bonus (ix3 (i 0) (i 1) k)) (fun k => g (ix3 (i 0) (i 1) k)))
      (fun s j => p (ix3 (i 0) s j)) (fun j k => cw (ix2 j k)) (fun n k j => wb (ix3 n k j)) (i 1))
    (fun j => wo (ix2 j (i 2)))

/-- The modulated norm of the residual, every entry of it. -/
def target2 (x1 : FVec Ideal S4x8192x1024 .f32) (n2 : FVec Ideal S1024 .f32) (sc sh : FVec Ideal S4x1024 .f32) : FVec Ideal S4x8192x1024 .f32 :=
  fun i => Cert.ProjSpec.mod (fun k => x1 (ix3 (i 0) (i 1) k)) (n2 (ix1 (i 2))) (sc (ix2 (i 0) (i 2))) (sh (ix2 (i 0) (i 2))) (i 2)

/-- The same, rounded, which changes no value. -/
def target3 (x1 : FVec Ideal S4x8192x1024 .f32) (n2 : FVec Ideal S1024 .f32) (sc sh : FVec Ideal S4x1024 .f32) : FVec Ideal S4x8192x1024 .bf16 :=
  fun i => target2 x1 n2 sc sh i

variable (m : (ℓ : Loc nD τ sig) → Buf (Elt Ideal) ℓ) (c : Dev nD)

/-- The residual from the kernel's arguments. -/
def res1 : FVec Ideal S4x8192x1024 .f32 :=
  target1 (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12))

/-- The modulated norm of the residual from the kernel's arguments. -/
def res2 : FVec Ideal S4x8192x1024 .f32 :=
  target2 (res1 m c) (m ((c : Thread nD τ).loc main_arg13)) (m ((c : Thread nD τ).loc main_arg14)) (m ((c : Thread nD τ).loc main_arg15))

/-- The scans hold real numbers. -/
def RealScans : Prop :=
  (∀ i, ∃ q : ℝ, m ((c : Thread nD τ).loc main_arg1) i = (q : EReal)) ∧ (∀ i, ∃ q : ℝ, m ((c : Thread nD τ).loc main_arg2) i = (q : EReal))

/-- The scans' read-out over a block. -/
abbrev yb (t : Fin cfg0.N) : FVec Ideal S256x512 .f32 :=
  k0_pay7 (F := Ideal) (k0_pay5 (k0_pay4 (iblk m c 1 t) (iblk m c 17 t) (iblk m c 17 t) (iblk m c 12 t) (iblk m c 13 t)) (iblk m c 2 t) (iblk m c 17 t)
    (iblk m c 17 t) (iblk m c 12 t) (iblk m c 13 t)) (k0_pay6 (iblk m c 3 t)) (iblk m c 4 t)

/-- The gated convolution over a block. -/
abbrev yc (t : Fin cfg0.N) : FVec Ideal S256x512 .f32 :=
  k0_pay14 (F := Ideal) (k0_pay9 (BitVec.ofNat 32 (grid0.coords t 1).val) (X0_7 m c t)) (k0_pay10 (X0_5 m c t)) (k0_pay11 (X0_5 m c t))
    (iota .tc S256x1 32 [0] iota_S256x1_d0_w32) (k0_pay12 (BitVec.ofNat 32 (grid0.coords t 1).val) (X0_5 m c t) (X0_6 m c t)) k0_pay13 (iblk m c 14 t)

/-- The first branch's weights. -/
abbrev wb0 (t : Fin cfg0.N) : FVec Ideal S1x512x1024 .bf16 := View.ld (iblk m c 15 t) (Rect.unit ![0, 0, 0] ![1, 512, 1024] inb_S3x512x1024_S1x512x1024_0_0_0)
/-- The second branch's weights. -/
abbrev wb1 (t : Fin cfg0.N) : FVec Ideal S1x512x1024 .bf16 := View.ld (iblk m c 15 t) (Rect.unit ![1, 0, 0] ![1, 512, 1024] inb_S3x512x1024_S1x512x1024_1_0_0)
/-- The third branch's weights. -/
abbrev wb2 (t : Fin cfg0.N) : FVec Ideal S1x512x1024 .bf16 := View.ld (iblk m c 15 t) (Rect.unit ![2, 0, 0] ![1, 512, 1024] inb_S3x512x1024_S1x512x1024_2_0_0)

/-- The first of three matrices, an entry. -/
theorem slice0 (x : Vec Ideal S3x512x1024 .bf16) (k : Fin 512) (j : Fin 1024) :
    (View.ld x (Rect.unit ![0, 0, 0] ![1, 512, 1024] inb_S3x512x1024_S1x512x1024_0_0_0) : Vec Ideal S1x512x1024 .bf16) (ix3 0 k j) = x (ix3 0 k j) := by
  refine congrArg x ?_
  funext a
  match a with
  | ⟨0, _⟩ => rfl
  | ⟨1, _⟩ => exact Fin.ext (by show 0 + 1 * k.val = k.val; omega)
  | ⟨2, _⟩ => exact Fin.ext (by show 0 + 1 * j.val = j.val; omega)

/-- The second of three matrices, an entry. -/
theorem slice1 (x : Vec Ideal S3x512x1024 .bf16) (k : Fin 512) (j : Fin 1024) :
    (View.ld x (Rect.unit ![1, 0, 0] ![1, 512, 1024] inb_S3x512x1024_S1x512x1024_1_0_0) : Vec Ideal S1x512x1024 .bf16) (ix3 0 k j) = x (ix3 1 k j) := by
  refine congrArg x ?_
  funext a
  match a with
  | ⟨0, _⟩ => rfl
  | ⟨1, _⟩ => exact Fin.ext (by show 0 + 1 * k.val = k.val; omega)
  | ⟨2, _⟩ => exact Fin.ext (by show 0 + 1 * j.val = j.val; omega)

/-- The third of three matrices, an entry. -/
theorem slice2 (x : Vec Ideal S3x512x1024 .bf16) (k : Fin 512) (j : Fin 1024) :
    (View.ld x (Rect.unit ![2, 0, 0] ![1, 512, 1024] inb_S3x512x1024_S1x512x1024_2_0_0) : Vec Ideal S1x512x1024 .bf16) (ix3 0 k j) = x (ix3 2 k j) := by
  refine congrArg x ?_
  funext a
  match a with
  | ⟨0, _⟩ => rfl
  | ⟨1, _⟩ => exact Fin.ext (by show 0 + 1 * k.val = k.val; omega)
  | ⟨2, _⟩ => exact Fin.ext (by show 0 + 1 * j.val = j.val; omega)

/-- An entry of the first branch's weights. -/
theorem wb0_at (t : Fin cfg0.N) (k : Fin 512) (j : Fin 1024) : wb0 m c t (ix3 0 k j) = m ((c : Thread nD τ).loc main_arg10) (ix3 0 k j) :=
  (slice0 _ k j).trans (wb_read m c t 0 k j)

/-- An entry of the second branch's weights. -/
theorem wb1_at (t : Fin cfg0.N) (k : Fin 512) (j : Fin 1024) : wb1 m c t (ix3 0 k j) = m ((c : Thread nD τ).loc main_arg10) (ix3 1 k j) :=
  (slice1 _ k j).trans (wb_read m c t 1 k j)

/-- An entry of the third branch's weights. -/
theorem wb2_at (t : Fin cfg0.N) (k : Fin 512) (j : Fin 1024) : wb2 m c t (ix3 0 k j) = m ((c : Thread nD τ).loc main_arg10) (ix3 2 k j) :=
  (slice2 _ k j).trans (wb_read m c t 2 k j)

/-- The residual over a block, an entry. -/
theorem res_at (hr : RealScans m c) (t : Fin cfg0.N) (r : Fin 256) (d : Fin 1024) :
    k0_pay19 (F := Ideal) (yc m c t) (k0_pay15 (iblk m c 0 t) (iblk m c 8 t) (wb0 m c t)) (k0_pay16 (iblk m c 9 t)) (k0_pay17 (yb m c t)) (k0_pay18 (wb1 m c t))
        (constant S256x1024 .f32 0x00000000#32) (iblk m c 10 t) (wb2 m c t) (iblk m c 16 t) (iblk m c 11 t) (iblk m c 18 t) (ix2 r d)
      = res1 m c (ix3 (bOf t) (sOf t r) d) := by
  refine (pay19_at _ _ _ _ _ _ _ _ _ _ _ _).trans ?_
  simp only [pay15_at, wb0_at, wb1_at, wb2_at, x_read, g1_read, wo_read, ga_read, gb_read, gc_read, a_read, gated_at, read_out_at m c t r _ hr.1 hr.2]
  rfl

end Cert.Kernel3Ideal.Merge
end
-- ==== Proof.Merge.Final.lean ====
module

public import proofs.«01_k».proof.Proof.Merge.Kernel
import Idealize.ShloMosaic.Lib.Pipeline.ReadBack

@[expose] public section

set_option maxRecDepth 16384

noncomputable section

namespace Cert.Kernel3Ideal.Merge

open Cert.MergeSpec Cert.Kernel3Ideal Cert.Kernel3Ideal.Gen Idealize.ShloMosaic Idealize.ShloMosaic.TcCoe Idealize.SL.Sem

variable (m : (ℓ : Loc nD τ sig) → Buf (Elt Ideal) ℓ) (c : Dev nD)

/-- A block of the residual divided by its root mean square. -/
abbrev normed (t : Fin cfg0.N) : FVec Ideal S256x1024 .f32 :=
  k0_pay21 (F := Ideal) (yc m c t) (k0_pay15 (iblk m c 0 t) (iblk m c 8 t) (wb0 m c t)) (k0_pay16 (iblk m c 9 t)) (k0_pay17 (yb m c t)) (k0_pay18 (wb1 m c t))
    (constant S256x1024 .f32 0x00000000#32) (iblk m c 10 t) (wb2 m c t) (iblk m c 16 t) (iblk m c 11 t) (iblk m c 18 t)

/-- The modulated norm over a block, an entry, from the residual's. -/
theorem modulated_at (hr : RealScans m c) (t : Fin cfg0.N) (r : Fin 256) (d : Fin 1024) :
    normed m c t (ix2 r d) * m ((c : Thread nD τ).loc main_arg13) (ix1 d)
        * (Ideal.ofBits .f32 0x3F800000#32 + m ((c : Thread nD τ).loc main_arg14) (ix2 (bOf t) d)) + m ((c : Thread nD τ).loc main_arg15) (ix2 (bOf t) d)
      = res2 m c (ix3 (bOf t) (sOf t r) d) := by
  unfold normed
  rw [pay21_at]
  simp only [res_at m c hr]
  rfl

/-- What the kernel leaves in the first output after a grid point. -/
theorem block1 (hr : RealScans m c) (t : Fin cfg0.N) (y : S1x256x1024.Idx) :
    (outsAt0 m c t).1 y = res1 m c (ix3 (bOf t) (sOf t (y 1)) (y 2)) := by
  unfold outsAt0
  dsimp only
  idx_vars y
  obtain rfl : y0 = 0 := Subsingleton.elim _ _
  frame_out [out0_A_22]
  exact (pay20_at _ _ _ _ _ _ _ _ _ _ _ _ _).trans (res_at m c hr t y1 y2)

/-- What the kernel leaves in the second output after a grid point. -/
theorem block2 (hr : RealScans m c) (t : Fin cfg0.N) (y : S1x256x1024.Idx) :
    (outsAt0 m c t).2.1 y = res2 m c (ix3 (bOf t) (sOf t (y 1)) (y 2)) := by
  unfold outsAt0
  dsimp only
  idx_vars y
  obtain rfl : y0 = 0 := Subsingleton.elim _ _
  frame_out [out0_A_23]
  refine (pay2_at _ _ _ _ _ _).trans ?_
  rw [n2_read, sc_read, sh_read]
  exact modulated_at m c hr t y1 y2

/-- What the kernel leaves in the third output after a grid point. -/
theorem block3 (hr : RealScans m c) (t : Fin cfg0.N) (y : S1x256x1024.Idx) :
    (outsAt0 m c t).2.2 y = res2 m c (ix3 (bOf t) (sOf t (y 1)) (y 2)) := by
  unfold outsAt0
  dsimp only
  idx_vars y
  obtain rfl : y0 = 0 := Subsingleton.elim _ _
  frame_out [out0_A_24]
  refine (pay3_at _ _ _ _ _ _).trans ?_
  rw [n2_read, sc_read, sh_read]
  exact modulated_at m c hr t y1 y2

/-- The kernel's first result, every entry of it: the residual. -/
theorem final1 (hr : RealScans m c) : (dats m 0 c).arrAt 22 cfg0.N = res1 m c := by
  refine (dats m 0 c).arrAt_eq_of_covers 22 _ (by decide +kernel) fun t hf y => ?_
  blk_simp
  rw [after0_22]
  refine (block1 m c hr t y).trans (congrArg _ ?_)
  blk_ext [idx t]

/-- The kernel's second result, every entry of it: the modulated norm of the residual. -/
theorem final2 (hr : RealScans m c) : (dats m 0 c).arrAt 23 cfg0.N = res2 m c := by
  refine (dats m 0 c).arrAt_eq_of_covers 23 _ (by decide +kernel) fun t hf y => ?_
  blk_simp
  rw [after0_23]
  refine (block2 m c hr t y).trans (congrArg _ ?_)
  blk_ext [idx t]

/-- The kernel's third result, every entry of it: the second one rounded. -/
theorem final3 (hr : RealScans m c) : (dats m 0 c).arrAt 24 cfg0.N
    = target3 (res1 m c) (m ((c : Thread nD τ).loc main_arg13)) (m ((c : Thread nD τ).loc main_arg14)) (m ((c : Thread nD τ).loc main_arg15)) := by
  refine (dats m 0 c).arrAt_eq_of_covers 24 _ (by decide +kernel) fun t hf y => ?_
  blk_simp
  rw [after0_24]
  refine (block3 m c hr t y).trans ?_
  show res2 m c _ = res2 m c _
  refine congrArg _ ?_
  blk_ext [idx t]

end Cert.Kernel3Ideal.Merge
end
-- ==== Proof.Merge.Ref.lean ====
module

public import proofs.«01_k».proof.Proof.Gen.Reference3Ideal.Run
public import proofs.«01_k».proof.Proof.Merge.Target

@[expose] public section

set_option maxRecDepth 16384

noncomputable section

namespace Cert.Reference3Ideal.Merge

open Cert.MergeSpec Cert.Reference3Ideal Cert.Reference3Ideal.Gen Idealize.ShloMosaic Idealize.ShloMosaic.TcCoe Idealize.SL.Sem

/-- The rows of a scan after its context, by heads. -/
def heads (o : FVec Ideal S4x8448x512 .f32) : FVec Ideal S4x8192x8x64 .f32 :=
  (shapeCast _ (extractStridedSlice S4x8192x512 ![0, 256, 0] o slices_S4x8448x512_S4x8192x512_0_256_0) shapeCasts_S4x8192x512_S4x8192x8x64)

/-- The means over each head. -/
def means (y : FVec Ideal S4x8192x8x64 .f32) : FVec Ideal S4x8192x8x1 .f32 :=
  (Host.divf (broadcastInDim S4x8192x8x1 ![0, 1, 2] bcast_S4x8192x8_S4x8192x8x1_0_1_2 (Host.reduceAdd y (constant (F := Ideal) S_ .f32 0x00000000#32) reducesTo_S4x8192x8x64_S4x8192x8_d3 h_S_)) (broadcastInDim S4x8192x8x1 ![] bcast_S_S4x8192x8x1 (constant (F := Ideal) S_ .f32 0x42800000#32)))

/-- The rows less their heads' means. -/
def centre (o : FVec Ideal S4x8448x512 .f32) : FVec Ideal S4x8192x8x64 .f32 :=
  subf (heads o) (broadcastInDim S4x8192x8x64 ![0, 1, 2, 3] bcast_S4x8192x8x1_S4x8192x8x64_0_1_2_3 (means (heads o)))

/-- The rows of a scan, normed by heads. -/
def norm (o : FVec Ideal S4x8448x512 .f32) (lng lnb : FVec Ideal S512 .f32) : FVec Ideal S4x8192x512 .f32 :=
  (shapeCast _ (addf (mulf (mulf (centre o) (broadcastInDim S4x8192x8x64 ![0, 1, 2, 3] bcast_S4x8192x8x1_S4x8192x8x64_0_1_2_3 (Host.rsqrt (addf (means (mulf (centre o) (centre o))) (broadcastInDim S4x8192x8x1 ![] bcast_S_S4x8192x8x1 (constant (F := Ideal) S_ .f32 0x3A27C5AC#32)))))) (broadcastInDim S4x8192x8x64 ![0, 1, 2, 3] bcast_S1x1x8x64_S4x8192x8x64_0_1_2_3 (broadcastInDim S1x1x8x64 ![2, 3] bcast_S8x64_S1x1x8x64_2_3 (shapeCast _ lng shapeCasts_S512_S8x64)))) (broadcastInDim S4x8192x8x64 ![0, 1, 2, 3] bcast_S1x1x8x64_S4x8192x8x64_0_1_2_3 (broadcastInDim S1x1x8x64 ![2, 3] bcast_S8x64_S1x1x8x64_2_3 (shapeCast _ lnb shapeCasts_S512_S8x64)))) shapeCasts_S4x8192x8x64_S4x8192x512)

/-- The logistic gates. -/
def gates (p : FVec Ideal S4x8192x8192 .bf16) : FVec Ideal S4x8192x3072 .f32 :=
  (Host.divf (broadcastInDim S4x8192x3072 ![] bcast_S_S4x8192x3072 (constant (F := Ideal) S_ .f32 0x3F800000#32)) (addf (broadcastInDim S4x8192x3072 ![] bcast_S_S4x8192x3072 (constant (F := Ideal) S_ .f32 0x3F800000#32)) (Host.exp (Host.negf (extractStridedSlice S4x8192x3072 ![0, 0, 5120] (extf .f32 p bitsLt_bf16_f32) slices_S4x8192x8192_S4x8192x3072_0_0_5120)))))

/-- The convolution's input, with a zero row before and after. -/
def padded (p : FVec Ideal S4x8192x8192 .bf16) : FVec Ideal S4x8194x512 .f32 :=
  (pad S4x8194x512 ![0, 1, 0] ![0, 1, 0] ![0, 0, 0] (mulf (extractStridedSlice S4x8192x512 ![0, 0, 3584] (extf .f32 p bitsLt_bf16_f32) slices_S4x8192x8192_S4x8192x512_0_0_3584) (extractStridedSlice S4x8192x512 ![0, 0, 4096] (extf .f32 p bitsLt_bf16_f32) slices_S4x8192x8192_S4x8192x512_0_0_4096)) (sitofp .f32 (constantI S_ 32 0#32)) pads_S4x8192x512_S4x8194x512_000_110_000 h_S_)

/-- The gated convolution. -/
def convolved (p : FVec Ideal S4x8192x8192 .bf16) (cw : FVec Ideal S3x512 .f32) : FVec Ideal S4x8192x512 .f32 :=
  (mulf (extractStridedSlice S4x8192x512 ![0, 0, 3072] (extf .f32 p bitsLt_bf16_f32) slices_S4x8192x8192_S4x8192x512_0_0_3072) (addf (addf (mulf (broadcastInDim S4x8192x512 ![0, 1, 2] bcast_S1x1x512_S4x8192x512_0_1_2 (broadcastInDim S1x1x512 ![2] bcast_S512_S1x1x512_2 (shapeCast _ (extractStridedSlice S1x512 ![0, 0] cw slices_S3x512_S1x512_0_0) shapeCasts_S1x512_S512))) (extractStridedSlice S4x8192x512 ![0, 0, 0] (padded p) slices_S4x8194x512_S4x8192x512_0_0_0)) (mulf (broadcastInDim S4x8192x512 ![0, 1, 2] bcast_S1x1x512_S4x8192x512_0_1_2 (broadcastInDim S1x1x512 ![2] bcast_S512_S1x1x512_2 (shapeCast _ (extractStridedSlice S1x512 ![1, 0] cw slices_S3x512_S1x512_1_0) shapeCasts_S1x512_S512))) (extractStridedSlice S4x8192x512 ![0, 1, 0] (padded p) slices_S4x8194x512_S4x8192x512_0_1_0))) (mulf (broadcastInDim S4x8192x512 ![0, 1, 2] bcast_S1x1x512_S4x8192x512_0_1_2 (broadcastInDim S1x1x512 ![2] bcast_S512_S1x1x512_2 (shapeCast _ (extractStridedSlice S1x512 ![2, 0] cw slices_S3x512_S1x512_2_0) shapeCasts_S1x512_S512))) (extractStridedSlice S4x8192x512 ![0, 2, 0] (padded p) slices_S4x8194x512_S4x8192x512_0_2_0))))

variable (a : FVec Ideal S4x8192x512 .bf16) (o0 o1 : FVec Ideal S4x8448x512 .f32) (bonus g : FVec Ideal S4x8192x512 .f32) (p : FVec Ideal S4x8192x8192 .bf16)
  (x : FVec Ideal S4x8192x1024 .f32) (lng lnb : FVec Ideal S512 .f32) (cw : FVec Ideal S3x512 .f32) (wb : FVec Ideal S3x512x1024 .f32)
  (wo : FVec Ideal S1024x1024 .f32) (g1 : FVec Ideal S4x1024 .f32)

/-- The residual after the merge. -/
def residual : FVec Ideal S4x8192x1024 .f32 :=
  addf x (mulf (broadcastInDim S4x8192x1024 ![0, 1, 2] bcast_S4x1x1024_S4x8192x1024_0_1_2 (broadcastInDim S4x1x1024 ![0, 2] bcast_S4x1024_S4x1x1024_0_2 g1)) (Host.dotGeneral dot_S4x8192x1024_S1024x1024_S4x8192x1024_2_0_01_1_n_n none (addf (addf (mulf (extractStridedSlice S4x8192x1024 ![0, 0, 0] (gates p) slices_S4x8192x3072_S4x8192x1024_0_0_0) (Host.dotGeneral dot_S4x8192x512_S512x1024_S4x8192x1024_2_0_01_1_n_n none (extf .f32 a bitsLt_bf16_f32) (shapeCast _ (extractStridedSlice S1x512x1024 ![0, 0, 0] wb slices_S3x512x1024_S1x512x1024_0_0_0) shapeCasts_S1x512x1024_S512x1024))) (mulf (extractStridedSlice S4x8192x1024 ![0, 0, 1024] (gates p) slices_S4x8192x3072_S4x8192x1024_0_0_1024) (Host.dotGeneral dot_S4x8192x512_S512x1024_S4x8192x1024_2_0_01_1_n_n none (mulf (addf (addf (norm o0 lng lnb) (norm o1 lng lnb)) bonus) g) (shapeCast _ (extractStridedSlice S1x512x1024 ![1, 0, 0] wb slices_S3x512x1024_S1x512x1024_1_0_0) shapeCasts_S1x512x1024_S512x1024)))) (mulf (extractStridedSlice S4x8192x1024 ![0, 0, 2048] (gates p) slices_S4x8192x3072_S4x8192x1024_0_0_2048) (Host.dotGeneral dot_S4x8192x512_S512x1024_S4x8192x1024_2_0_01_1_n_n none (convolved p cw) (shapeCast _ (extractStridedSlice S1x512x1024 ![2, 0, 0] wb slices_S3x512x1024_S1x512x1024_2_0_0) shapeCasts_S1x512x1024_S512x1024)))) wo))

/-- The modulated norm of the residual. -/
def modulated (r : FVec Ideal S4x8192x1024 .f32) (n2 : FVec Ideal S1024 .f32) (sc sh : FVec Ideal S4x1024 .f32) : FVec Ideal S4x8192x1024 .f32 :=
  addf (mulf (mulf (mulf (r) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (r) (r)) (constant (F := Ideal) S_ .f32 0x00000000#32) reducesTo_S4x8192x1024_S4x8192_d2 h_S_)) (broadcastInDim S4x8192x1 ![] bcast_S_S4x8192x1 (constant (F := Ideal) S_ .f32 0x44800000#32))) (broadcastInDim S4x8192x1 ![] bcast_S_S4x8192x1 (constant (F := Ideal) S_ .f32 0x358637BD#32)))))) (broadcastInDim S4x8192x1024 ![0, 1, 2] bcast_S1x1x1024_S4x8192x1024_0_1_2 (broadcastInDim S1x1x1024 ![2] bcast_S1024_S1x1x1024_2 n2))) (broadcastInDim S4x8192x1024 ![0, 1, 2] bcast_S4x1x1024_S4x8192x1024_0_1_2 (addf (broadcastInDim S4x1x1024 ![] bcast_S_S4x1x1024 (constant (F := Ideal) S_ .f32 0x3F800000#32)) (broadcastInDim S4x1x1024 ![0, 2] bcast_S4x1024_S4x1x1024_0_2 sc)))) (broadcastInDim S4x8192x1024 ![0, 1, 2] bcast_S4x1x1024_S4x8192x1024_0_1_2 (broadcastInDim S4x1x1024 ![0, 2] bcast_S4x1024_S4x1x1024_0_2 sh))

variable (m : (ℓ : Loc nD τ sig) → Buf (Elt Ideal) ℓ) (c : Dev nD)

/-- The residual from the reference's arguments. -/
abbrev res : FVec Ideal S4x8192x1024 .f32 :=
  residual (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- What the reference computes first: the residual. -/
theorem res1_eq : Cert.Reference3Ideal.Value.res_main_v113 m c = res m c := rfl

/-- What the reference computes second: the modulated norm. -/
theorem res2_eq : Cert.Reference3Ideal.Value.res_main_v134 m c = modulated (res m c) (m ((c.tc : Thread nD τ).loc main_arg13)) (m ((c.tc : Thread nD τ).loc main_arg14)) (m ((c.tc : Thread nD τ).loc main_arg15)) := rfl

/-- What the reference computes third: the modulated norm, rounded. -/
theorem res3_eq : Cert.Reference3Ideal.Value.res_main_v135 m c
    = truncf .bf16 (modulated (res m c) (m ((c.tc : Thread nD τ).loc main_arg13)) (m ((c.tc : Thread nD τ).loc main_arg14)) (m ((c.tc : Thread nD τ).loc main_arg15))) bitsLt_bf16_f32 := rfl

end Cert.Reference3Ideal.Merge
end
-- ==== Proof.Merge.RefAt.lean ====
module

public import proofs.«01_k».proof.Proof.Merge.Ref

@[expose] public section

set_option maxRecDepth 16384

noncomputable section

namespace Cert.Reference3Ideal.Merge

open Cert.MergeSpec Cert.Reference3Ideal Cert.Reference3Ideal.Gen Idealize.ShloMosaic Idealize.ShloMosaic.TcCoe Idealize.SL.Sem

/-- An entry of a scan's rows by heads. -/
theorem heads_at (o : FVec Ideal S4x8448x512 .f32) (b : Fin 4) (s : Fin 8192) (h : Fin 8) (e : Fin 64) :
    heads o (ix4 b s h e) = o (ix3 b (past s) ⟨h.val * 64 + e.val, by omega⟩) := by
  pointwise [heads]

/-- An entry of the means. -/
theorem means_at (y : FVec Ideal S4x8192x8x64 .f32) (b : Fin 4) (s : Fin 8192) (h : Fin 8) :
    means y (ix4 b s h 0) = Ideal.div (∑ e : Fin 64, y (ix4 b s h e)) (Ideal.ofBits .f32 0x42800000#32) := by
  pointwise [means]

/-- An entry less its head's mean. -/
theorem centre_at (o : FVec Ideal S4x8448x512 .f32) (b : Fin 4) (s : Fin 8192) (h : Fin 8) (e : Fin 64) :
    centre o (ix4 b s h e) = heads o (ix4 b s h e) - means (heads o) (ix4 b s h 0) := by
  pointwise [centre]

/-- An entry of the normed rows, by head. -/
theorem norm_steps (o : FVec Ideal S4x8448x512 .f32) (lng lnb : FVec Ideal S512 .f32) (b : Fin 4) (s : Fin 8192) (k : Fin 512) :
    norm o lng lnb (ix3 b s k)
      = centre o (ix4 b s ⟨k.val / 64, by omega⟩ ⟨k.val % 64, by omega⟩)
          * Ideal.rsqrt (means (mulf (centre o) (centre o)) (ix4 b s ⟨k.val / 64, by omega⟩ 0) + Ideal.ofBits .f32 0x3A27C5AC#32)
          * lng (ix1 k) + lnb (ix1 k) := by
  pointwise [norm]

/-- An entry of the normed rows: the group norm of the row. -/
theorem norm_at (o : FVec Ideal S4x8448x512 .f32) (lng lnb : FVec Ideal S512 .f32) (b : Fin 4) (s : Fin 8192) (k : Fin 512) :
    norm o lng lnb (ix3 b s k) = gnorm (fun k => o (ix3 b (past s) k)) (fun k => lng (ix1 k)) (fun k => lnb (ix1 k)) k := by
  have hm : ∀ h : Fin 8, means (heads o) (ix4 b s h 0) = gmean (fun k => o (ix3 b (past s) k)) ⟨h.val * 64, by omega⟩ := fun h => by
    rw [means_at]
    unfold gmean
    simp only [heads_at]
    congr 1
    refine Finset.sum_congr rfl fun e _ => congrArg o (congrArg (ix3 b (past s)) (Fin.ext ?_))
    dsimp only
    omega
  have hg : ∀ (t : Fin 512 → EReal) (j : Fin 512) (h : Fin 8) (e : h.val = j.val / 64), gmean t ⟨h.val * 64, by omega⟩ = gmean t j := fun t j h e => by
    unfold gmean
    congr 1
    refine Finset.sum_congr rfl fun q _ => congrArg t (Fin.ext ?_)
    dsimp only
    omega
  have hc : ∀ (h : Fin 8) (e : Fin 64), centre o (ix4 b s h e) = centred (fun k => o (ix3 b (past s) k)) ⟨h.val * 64 + e.val, by omega⟩ := fun h e => by
    rw [centre_at, heads_at, hm]
    unfold centred
    rw [hg _ ⟨h.val * 64 + e.val, by omega⟩ h (by dsimp only; omega)]
  have hv : means (mulf (centre o) (centre o)) (ix4 b s ⟨k.val / 64, by omega⟩ 0)
      = gmean (fun k => centred (fun k => o (ix3 b (past s) k)) k * centred (fun k => o (ix3 b (past s) k)) k) k := by
    rw [means_at]
    unfold gmean
    congr 1
    refine Finset.sum_congr rfl fun e _ => ?_
    show centre o _ * centre o _ = _
    rw [hc]
  rw [norm_steps, hv, hc]
  unfold gnorm
  have hk : (⟨k.val / 64 * 64 + k.val % 64, by omega⟩ : Fin 512) = k := Fin.ext (by dsimp only; omega)
  dsimp only
  rw [hk]

/-- An entry of the gates. -/
theorem gates_at (p : FVec Ideal S4x8192x8192 .bf16) (b : Fin 4) (s : Fin 8192) (j : Fin 3072) :
    gates p (ix3 b s j) = sigma (p (ix3 b s ⟨5120 + j.val, by omega⟩)) := by
  rw [sigma_eq]
  pointwise [gates]

/-- An entry of the convolution's padded input. -/
theorem padded_at (p : FVec Ideal S4x8192x8192 .bf16) (b : Fin 4) (s : Fin 8194) (k : Fin 512) :
    padded p (ix3 b s k) = if h : s.val = 0 ∨ s.val = 8193 then 0 else input (fun s j => p (ix3 b s j)) k ⟨s.val - 1, by omega⟩ := by
  pointwise [padded, input]
  have z : (FloatOps.sitofp (F := Ideal) .f32 (0#32)) = (0 : EReal) := by simp [FloatOps.sitofp]
  by_cases h : s.val = 0 ∨ s.val = 8193
  · rw [dif_neg (by omega), dif_pos h]
    exact z
  · rw [dif_pos (by omega), dif_neg h]

/-- An entry of the gated convolution. -/
theorem convolved_steps (p : FVec Ideal S4x8192x8192 .bf16) (cw : FVec Ideal S3x512 .f32) (b : Fin 4) (s : Fin 8192) (k : Fin 512) :
    convolved p cw (ix3 b s k) = conv (p (ix3 b s ⟨3072 + k.val, by omega⟩)) (padded p (ix3 b ⟨s.val, by omega⟩ k)) (padded p (ix3 b ⟨1 + s.val, by omega⟩ k))
      (padded p (ix3 b ⟨2 + s.val, by omega⟩ k)) (cw (ix2 0 k)) (cw (ix2 1 k)) (cw (ix2 2 k)) := by
  pointwise [convolved, conv]

/-- An entry of the gated convolution: what the layer's formula gives. -/
theorem convolved_at (p : FVec Ideal S4x8192x8192 .bf16) (cw : FVec Ideal S3x512 .f32) (b : Fin 4) (s : Fin 8192) (k : Fin 512) :
    convolved p cw (ix3 b s k) = gated (fun s j => p (ix3 b s j)) (fun j k => cw (ix2 j k)) s k := by
  rw [convolved_steps, padded_at, padded_at, padded_at]
  unfold gated
  have e0 : (if h : s.val = 0 ∨ s.val = 8193 then (0 : EReal) else input (fun s j => p (ix3 b s j)) k ⟨s.val - 1, by omega⟩)
      = if h : s.val = 0 then 0 else input (fun s j => p (ix3 b s j)) k ⟨s.val - 1, by omega⟩ := by
    by_cases h : s.val = 0
    · rw [dif_pos (Or.inl h), dif_pos h]
    · rw [dif_neg (by omega), dif_neg h]
  have e1 : (if h : 1 + s.val = 0 ∨ 1 + s.val = 8193 then (0 : EReal) else input (fun s j => p (ix3 b s j)) k ⟨1 + s.val - 1, by omega⟩)
      = input (fun s j => p (ix3 b s j)) k s := by
    rw [dif_neg (by omega)]
    exact congrArg _ (Fin.ext (by dsimp only; omega))
  have e2 : (if h : 2 + s.val = 0 ∨ 2 + s.val = 8193 then (0 : EReal) else input (fun s j => p (ix3 b s j)) k ⟨2 + s.val - 1, by omega⟩)
      = if h : s.val = 8191 then 0 else input (fun s j => p (ix3 b s j)) k ⟨s.val + 1, by omega⟩ := by
    by_cases h : s.val = 8191
    · rw [dif_pos (by omega), dif_pos h]
    · rw [dif_neg (by omega), dif_neg h]
      exact congrArg _ (Fin.ext (by dsimp only; omega))
  dsimp only
  rw [e0, e1, e2]

variable (a : FVec Ideal S4x8192x512 .bf16) (o0 o1 : FVec Ideal S4x8448x512 .f32) (bonus g : FVec Ideal S4x8192x512 .f32) (p : FVec Ideal S4x8192x8192 .bf16)
  (x : FVec Ideal S4x8192x1024 .f32) (lng lnb : FVec Ideal S512 .f32) (cw : FVec Ideal S3x512 .f32) (wb : FVec Ideal S3x512x1024 .f32)
  (wo : FVec Ideal S1024x1024 .f32) (g1 : FVec Ideal S4x1024 .f32)

/-- An entry of the residual. -/
theorem residual_steps (b : Fin 4) (s : Fin 8192) (d : Fin 1024) :
    residual a o0 o1 bonus g p x lng lnb cw wb wo g1 (ix3 b s d)
      = x (ix3 b s d) + g1 (ix2 b d) * ∑ j : Fin 1024,
          (gates p (ix3 b s ⟨j.val, by omega⟩) * (∑ k : Fin 512, a (ix3 b s k) * wb (ix3 0 k j))
            + gates p (ix3 b s ⟨1024 + j.val, by omega⟩)
              * (∑ k : Fin 512, (norm o0 lng lnb (ix3 b s k) + norm o1 lng lnb (ix3 b s k) + bonus (ix3 b s k)) * g (ix3 b s k) * wb (ix3 1 k j))
            + gates p (ix3 b s ⟨2048 + j.val, by omega⟩) * (∑ k : Fin 512, convolved p cw (ix3 b s k) * wb (ix3 2 k j))) * wo (ix2 j d) := by
  pointwise [residual]

/-- An entry of the residual: what the layer's formula gives. -/
theorem residual_at (b : Fin 4) (s : Fin 8192) (d : Fin 1024) :
    residual a o0 o1 bonus g p x lng lnb cw wb wo g1 (ix3 b s d)
      = resid (x (ix3 b s d)) (g1 (ix2 b d))
        (merged (fun k => a (ix3 b s k))
          (readOut (fun k => o0 (ix3 b (past s) k)) (fun k => o1 (ix3 b (past s) k)) (fun k => lng (ix1 k)) (fun k => lnb (ix1 k))
            (fun k => bonus (ix3 b s k)) (fun k => g (ix3 b s k)))
          (fun s j => p (ix3 b s j)) (fun j k => cw (ix2 j k)) (fun n k j => wb (ix3 n k j)) s)
        (fun j => wo (ix2 j d)) := by
  rw [residual_steps]
  simp only [gates_at, norm_at, convolved_at]
  have hb : ∀ j : Fin 1024, (⟨5120 + (1024 + j.val), by omega⟩ : Fin 8192) = ⟨6144 + j.val, by omega⟩ := fun j => Fin.ext (by dsimp only; omega)
  have hc : ∀ j : Fin 1024, (⟨5120 + (2048 + j.val), by omega⟩ : Fin 8192) = ⟨7168 + j.val, by omega⟩ := fun j => Fin.ext (by dsimp only; omega)
  simp only [hb, hc]
  rfl

/-- An entry of the modulated norm. -/
theorem modulated_at (r : FVec Ideal S4x8192x1024 .f32) (n2 : FVec Ideal S1024 .f32) (sc sh : FVec Ideal S4x1024 .f32) (b : Fin 4) (s : Fin 8192) (d : Fin 1024) :
    modulated r n2 sc sh (ix3 b s d) = Cert.ProjSpec.mod (fun k => r (ix3 b s k)) (n2 (ix1 d)) (sc (ix2 b d)) (sh (ix2 b d)) d := by
  pointwise [modulated, Cert.ProjSpec.mod]

end Cert.Reference3Ideal.Merge
end
-- ==== Proof.Merge.Claim.lean ====
module

public import proofs.«01_k».proof.Defs
public import proofs.«01_k».proof.Proof.Merge.Final
public import proofs.«01_k».proof.Proof.Merge.RefAt
public import proofs.«01_k».proof.Proof.Gen.Pre_finite_scans
public import proofs.«01_k».proof.Proof.Attn.Finite
public import Idealize.ShloMosaic.Lib.Claim

@[expose] public section

set_option maxRecDepth 16384

noncomputable section

namespace Cert.MergeClaim

open Idealize.ShloMosaic Idealize.SL.Sem

instance : Cert.Kernel3Ideal.Facts := Cert.Kernel3Ideal.Gen.facts
instance : Cert.Reference3Ideal.Facts := Cert.Reference3Ideal.Gen.facts
instance : Cert.Pre_finite_scans.Facts := Cert.Pre_finite_scans.Gen.facts

/-- What the precondition says: the two scans hold real numbers. -/
theorem real_scans (m : (ℓ : Loc Cert.Kernel3Ideal.nD Cert.Kernel3Ideal.τ Cert.Kernel3Ideal.sig) → Buf (Elt Ideal) ℓ) (h : Cert.Pre_Kernel3Ideal_finite_scans m)
    (c : Dev Cert.Kernel3Ideal.nD) : Cert.Kernel3Ideal.Merge.RealScans m c := by
  have h0 := congrFun (h c) ix0
  obtain ⟨h1, h2⟩ := IntOp.andi_eq_one.1 h0
  exact ⟨fun i => Cert.AttnFinite.real_of_all _ _ _ _ _ h1 i, fun i => Cert.AttnFinite.real_of_all _ _ _ _ _ h2 i⟩

open Cert.Kernel3Ideal in
/-- The plain residual is the one the kernel computes, entry by entry. -/
theorem residual_target (a : FVec Ideal S4x8192x512 .bf16) (o0 o1 : FVec Ideal S4x8448x512 .f32) (bonus g : FVec Ideal S4x8192x512 .f32)
    (p : FVec Ideal S4x8192x8192 .bf16) (x : FVec Ideal S4x8192x1024 .f32) (lng lnb : FVec Ideal S512 .f32) (cw : FVec Ideal S3x512 .f32)
    (wb : FVec Ideal S3x512x1024 .f32) (wo : FVec Ideal S1024x1024 .f32) (g1 : FVec Ideal S4x1024 .f32) :
    Cert.Reference3Ideal.Merge.residual a o0 o1 bonus g p x lng lnb cw wb wo g1 = Cert.Kernel3Ideal.Merge.target1 a o0 o1 bonus g p x lng lnb cw wb wo g1 := by
  funext i
  idx_vars i
  exact Cert.Reference3Ideal.Merge.residual_at a o0 o1 bonus g p x lng lnb cw wb wo g1 i0 i1 i2

open Cert.Kernel3Ideal in
/-- The plain modulated norm is the one the kernel computes, entry by entry. -/
theorem modulated_target (r : FVec Ideal S4x8192x1024 .f32) (n2 : FVec Ideal S1024 .f32) (sc sh : FVec Ideal S4x1024 .f32) :
    Cert.Reference3Ideal.Merge.modulated r n2 sc sh = Cert.Kernel3Ideal.Merge.target2 r n2 sc sh := by
  funext i
  idx_vars i
  exact Cert.Reference3Ideal.Merge.modulated_at r n2 sc sh i0 i1 i2

open Cert.Kernel3Ideal in
/-- The kernel runs and leaves in its three results what the pipeline leaves there; its arguments are as they were. -/
theorem results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v15_0) = (Merge.dats m 0 c).arrAt 22 cfg0.N
      ∧ r.2.mem ((c.tc : Thread nD τ).loc main_v15_1) = (Merge.dats m 0 c).arrAt 23 cfg0.N
      ∧ r.2.mem ((c.tc : Thread nD τ).loc main_v15_2) = (Merge.dats m 0 c).arrAt 24 cfg0.N
      ∧ Merge.Kept m r.2.mem c) := by
  refine θ_run_mono (θ_run_and (Merge.run_main m g) (Merge.unchanged m g)) ?_
  intro r hr c
  exact ⟨(hr.1 c).1 22, (hr.1 c).1 23, (hr.1 c).1 24, hr.2 c⟩

open Cert.Kernel3Ideal in
/-- The same with the three results spelt out, when the scans hold real numbers. -/
theorem values (m : (ℓ : Loc nD τ sig) → Buf (Elt Ideal) ℓ) (g : Dev nD → PrngReg) (h : Cert.Pre_Kernel3Ideal_finite_scans m) :
    θ_run (defs (F := Ideal)) (onTc (τ := τ) (main (F := Ideal))) ⟨m, fun _ => 0, g⟩ (fun r => ∀ c : Dev nD,
      r.2.mem ((c.tc : Thread nD τ).loc main_v15_0) = Merge.res1 m c
      ∧ r.2.mem ((c.tc : Thread nD τ).loc main_v15_1) = Merge.res2 m c
      ∧ r.2.mem ((c.tc : Thread nD τ).loc main_v15_2) = Merge.target3 (Merge.res1 m c) (m ((c.tc : Thread nD τ).loc main_arg13)) (m ((c.tc : Thread nD τ).loc main_arg14)) (m ((c.tc : Thread nD τ).loc main_arg15))
      ∧ Merge.Kept m r.2.mem c) := by
  refine θ_run_mono (results m g) ?_
  intro r hr c
  obtain ⟨h0, h1, h2, h3⟩ := hr c
  exact ⟨h0.trans (Merge.final1 m c (real_scans m h c)), h1.trans (Merge.final2 m c (real_scans m h c)), h2.trans (Merge.final3 m c (real_scans m h c)), h3⟩

open Cert.Reference3Ideal in
/-- The reference's residual, from the kernel's arguments. -/
theorem reference_res (m : (ℓ : Loc Cert.Kernel3Ideal.nD Cert.Kernel3Ideal.τ Cert.Kernel3Ideal.sig) → Buf (Elt Ideal) ℓ)
    (m' : (ℓ : Loc nD τ sig) → Buf (Elt Ideal) ℓ) (c : Dev Cert.Kernel3Ideal.nD)
    (h0 : m' ((c.tc : Thread nD τ).loc main_arg0) = m ((c.tc : Thread Cert.Kernel3Ideal.nD Cert.Kernel3Ideal.τ).loc Cert.Kernel3Ideal.main_arg0))
    (h1 : m' ((c.tc : Thread nD τ).loc main_arg1) = m ((c.tc : Thread Cert.Kernel3Ideal.nD Cert.Kernel3Ideal.τ).loc Cert.Kernel3Ideal.main_arg1))
    (h2 : m' ((c.tc : Thread nD τ).loc main_arg2) = m ((c.tc : Thread Cert.Kernel3Ideal.nD Cert.Kernel3Ideal.τ).loc Cert.Kernel3Ideal.main_arg2))
    (h3 : m' ((c.tc : Thread nD τ).loc main_arg3) = m ((c.tc : Thread Cert.Kernel3Ideal.nD Cert.Kernel3Ideal.τ).loc Cert.Kernel3Ideal.main_arg3))
    (h4 : m' ((c.tc : Thread nD τ).loc main_arg4) = m ((c.tc : Thread Cert.Kernel3Ideal.nD Cert.Kernel3Ideal.τ).loc Cert.Kernel3Ideal.main_arg4))
    (h5 : m' ((c.tc : Thread nD τ).loc main_arg5) = m ((c.tc : Thread Cert.Kernel3Ideal.nD Cert.Kernel3Ideal.τ).loc Cert.Kernel3Ideal.main_arg5))
    (h6 : m' ((c.tc : Thread nD τ).loc main_arg6) = m ((c.tc : Thread Cert.Kernel3Ideal.nD Cert.Kernel3Ideal.τ).loc Cert.Kernel3Ideal.main_arg6))
    (h7 : m' ((c.tc : Thread nD τ).loc main_arg7) = m ((c.tc : Thread Cert.Kernel3Ideal.nD Cert.Kernel3Ideal.τ).loc Cert.Kernel3Ideal.main_arg7))
    (h8 : m' ((c.tc : Thread nD τ).loc main_arg8) = m ((c.tc : Thread Cert.Kernel3Ideal.nD Cert.Kernel3Ideal.τ).loc Cert.Kernel3Ideal.main_arg8))
    (h9 : m' ((c.tc : Thread nD τ).loc main_arg9) = m ((c.tc : Thread Cert.Kernel3Ideal.nD Cert.Kernel3Ideal.τ).loc Cert.Kernel3Ideal.main_arg9))
    (h10 : m' ((c.tc : Thread nD τ).loc main_arg10) = m ((c.tc : Thread Cert.Kernel3Ideal.nD Cert.Kernel3Ideal.τ).loc Cert.Kernel3Ideal.main_arg10))
    (h11 : m' ((c.tc : Thread nD τ).loc main_arg11) = m ((c.tc : Thread Cert.Kernel3Ideal.nD Cert.Kernel3Ideal.τ).loc Cert.Kernel3Ideal.main_arg11))
    (h12 : m' ((c.tc : Thread nD τ).loc main_arg12) = m ((c.tc : Thread Cert.Kernel3Ideal.nD Cert.Kernel3Ideal.τ).loc Cert.Kernel3Ideal.main_arg12)) :
    Merge.res m' c = Cert.Kernel3Ideal.Merge.res1 m c := by
  unfold Merge.res Cert.Kernel3Ideal.Merge.res1
  rw [h0, h1, h2, h3, h4, h5, h6, h7, h8, h9, h10, h11, h12]
  exact residual_target _ _ _ _ _ _ _ _ _ _ _ _ _

/-- The merge kernel and the plain merge, run from the same arguments with finite scans, end with the same three results. -/
theorem algebraic : Cert.algebraic_Kernel3Ideal_Reference3Ideal_pre_finite_scans := by
  intro m g m' g' hpre hagree
  refine ⟨_, _, _, values m g hpre, ?_⟩
  refine θ_run_mono (Cert.Reference3Ideal.Value.run m' g') ?_
  intro r hr c
  obtain ⟨h0, h1, h2, h3, h4, h5, h6, h7, h8, h9, h10, h11, h12, h13, h14, h15⟩ := hagree c
  obtain ⟨r0, r1, r2, r3⟩ := hr c
  have e := reference_res m m' c h0 h1 h2 h3 h4 h5 h6 h7 h8 h9 h10 h11 h12
  have e2 := r1.trans (Cert.Reference3Ideal.Merge.res2_eq m' c)
  have e3 := r2.trans (Cert.Reference3Ideal.Merge.res3_eq m' c)
  rw [e, h13, h14, h15, modulated_target] at e2 e3
  exact ⟨(r0.trans (Cert.Reference3Ideal.Merge.res1_eq m' c)).trans e, e2, e3, r3⟩

end Cert.MergeClaim

end
-- ==== Proof.Experts.BlockI.lean ====
module

public import proofs.«01_k».proof.Proof.Gen.Kernel4Ideal.Launch
public import proofs.«01_k».proof.Proof.Gen.Kernel4Ideal.Skeleton
public import Idealize.ShloMosaic.Lib.VecWindow

@[expose] public section

set_option maxRecDepth 16384

noncomputable section

namespace Cert.Kernel4Ideal.Experts

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rows of tokens' sums after one window of rows: under the condition the rows at the offsets are replaced by `p` of what they held, else nothing changes. -/
def BlkX (cond : BitVec 1) (off : Fin 2 → ℕ) (p : Vec F S128x1024 .f32 → Vec F S128x1024 .f32) (X X' : Vec F S1664x1024 .f32) : Prop :=
  (cond = 1#1 → ∃ inb : ∀ a, off a + S128x1024.size a ≤ S1664x1024.size a, X' = VecWindow.put X off S128x1024.size (p (VecWindow.window X off S128x1024.size inb)))
    ∧ (cond ≠ 1#1 → X' = X)

/-- The same of the sums of affinities. -/
def BlkG (cond : BitVec 1) (off : Fin 2 → ℕ) (p : Vec F S128x128 .f32 → Vec F S128x128 .f32) (X X' : Vec F S1664x128 .f32) : Prop :=
  (cond = 1#1 → ∃ inb : ∀ a, off a + S128x128.size a ≤ S1664x128.size a, X' = VecWindow.put X off S128x128.size (p (VecWindow.window X off S128x128.size inb)))
    ∧ (cond ≠ 1#1 → X' = X)

/-- The buffers that the gathering touches: positions, affinities, tokens, and the two running sums. -/
def Held (c : Dev nD) (arg4 : Memref sig .tc .vmem S1x1x1x2048 .i32) (arg5 : Memref sig .tc .vmem S1x1x1x2048 .f32)
    (arg6 : Memref sig .tc .vmem S1x2048x1024 .bf16) (arg11 : Memref sig .tc .vmem S1664x1024 .f32) (arg12 : Memref sig .tc .vmem S1664x128 .f32)
    (x0 : Vec F S1x1x1x2048 .i32) (x1 : Vec F S1x1x1x2048 .f32) (x2 : Vec F S1x2048x1024 .bf16) (X : Vec F S1664x1024 .f32) (G : Vec F S1664x128 .f32) :
    sProp (MT nD τ sig Unit (Elt F) ℕ (UR sig nD τ) ℕ) :=
  iprop(owns (c : Thread nD τ) arg4 fullShare x0 ∗ owns (c : Thread nD τ) arg5 fullShare x1 ∗ owns (c : Thread nD τ) arg6 fullShare x2
        ∗ owns (c : Thread nD τ) arg11 fullShare X ∗ owns (c : Thread nD τ) arg12 fullShare G)

set_option maxHeartbeats 1000000 in
/-- One conditional window of rows runs to its end and leaves the two sums as `BlkX` and `BlkG` say. -/
theorem wp_block {α : Type} (c : Dev nD) (E : Set ℕ)
    (arg4 : Memref sig .tc .vmem S1x1x1x2048 .i32) (harg4 : arg4.IsWhole) (arg5 : Memref sig .tc .vmem S1x1x1x2048 .f32) (harg5 : arg5.IsWhole)
    (arg6 : Memref sig .tc .vmem S1x2048x1024 .bf16) (harg6 : arg6.IsWhole)
    (arg11 : Memref sig .tc .vmem S1664x1024 .f32) (harg11 : arg11.IsWhole) (arg12 : Memref sig .tc .vmem S1664x128 .f32) (harg12 : arg12.IsWhole)
    (x0 : Vec F S1x1x1x2048 .i32) (x1 : Vec F S1x1x1x2048 .f32) (x2 : Vec F S1x2048x1024 .bf16) (X : Vec F S1664x1024 .f32) (G : Vec F S1664x128 .f32)
    (cond : BitVec 1) (offX offG : Fin 2 → ℕ) (offH : Fin 3 → ℕ)
    (inbX : cond = 1#1 → ∀ a, offX a + S128x1024.size a ≤ S1664x1024.size a) (inbG : cond = 1#1 → ∀ a, offG a + S128x128.size a ≤ S1664x128.size a)
    (inbH : ∀ a, offH a + S1x512x1024.size a ≤ S1x2048x1024.size a)
    (pX : Vec F S1x1x1x2048 .i32 → Vec F S128x1024 .f32 → Vec F S1x512x1024 .bf16 → Vec F S128x1024 .f32)
    (pG : Vec F S1x1x1x2048 .i32 → Vec F S1x1x1x2048 .f32 → Vec F S128x128 .f32 → Vec F S128x128 .f32)
    (jp : PUnit.{1} → Prog (TpuEff nD τ sig (Elt F) Λ₀ .tc) α) (K : α → sProp (MT nD τ sig Unit (Elt F) ℕ (UR sig nD τ) ℕ)) :
    iprop(Held c arg4 arg5 arg6 arg11 arg12 x0 x1 x2 X G
        ∗ (∀ X' G', ⌜BlkX cond offX (fun o => pX x0 o (VecWindow.window x2 offH S1x512x1024.size inbH)) X X'⌝ -∗ ⌜BlkG cond offG (fun o => pG x0 x1 o) G G'⌝
          -∗ Held c arg4 arg5 arg6 arg11 arg12 x0 x1 x2 X' G' -∗ wp frame (wpE (defs₀ (F := F)) Variants.none c none) E (jp ⟨⟩) K))
      ⊢ wp frame (wpE (defs₀ (F := F)) Variants.none c none) E
        (if h : cond = 1#1 then do
            let v290 : Vec F S1x1x1x2048 .i32 ← Prog.lift (.load arg4 (Rect.unit (s := S1x1x1x2048) ![0, 0, 0, 0] S1x1x1x2048.size inb_S1x1x1x2048_S1x1x1x2048_0_0_0_0).toLoadRect (View.loadsAt_vmem h_S1x1x1x2048))
            let v296 : Vec F S128x1024 .f32 ← Prog.lift (.load arg11 (Rect.unit (s := S1664x1024) offX S128x1024.size (inbX h)).toLoadRect (View.loadsAt_vmem h_S128x1024))
            let v300 : Vec F S1x512x1024 .bf16 ← Prog.lift (.load arg6 (Rect.unit (s := S1x2048x1024) offH S1x512x1024.size inbH).toLoadRect (View.loadsAt_vmem h_S1x512x1024))
            let v305 : Vec F S128x1024 .f32 ← Prog.lift (.load arg11 (Rect.unit (s := S1664x1024) offX S128x1024.size (inbX h)).toLoadRect (View.loadsAt_vmem h_S128x1024))
            Prog.lift (.store arg11 (Rect.unit (s := S1664x1024) offX S128x1024.size (inbX h)) (pX v290 v296 v300) Finset.univ (View.stores_vmem_bits_univ h_S128x1024 rfl) (.inl rfl))
            let v308 : Vec F S1x1x1x2048 .f32 ← Prog.lift (.load arg5 (Rect.unit (s := S1x1x1x2048) ![0, 0, 0, 0] S1x1x1x2048.size inb_S1x1x1x2048_S1x1x1x2048_0_0_0_0).toLoadRect (View.loadsAt_vmem h_S1x1x1x2048))
            let v318 : Vec F S128x128 .f32 ← Prog.lift (.load arg12 (Rect.unit (s := S1664x128) offG S128x128.size (inbG h)).toLoadRect (View.loadsAt_vmem h_S128x128))
            let v323 : Vec F S128x128 .f32 ← Prog.lift (.load arg12 (Rect.unit (s := S1664x128) offG S128x128.size (inbG h)).toLoadRect (View.loadsAt_vmem h_S128x128))
            Prog.lift (.store arg12 (Rect.unit (s := S1664x128) offG S128x128.size (inbG h)) (pG v290 v308 v318) Finset.univ (View.stores_vmem_bits_univ h_S128x128 rfl) (.inl rfl))
            jp ⟨⟩
          else do
            jp ⟨⟩ : Prog (TpuEff nD τ sig (Elt F) Λ₀ .tc) α) K := by
  unfold Held
  by_cases hc : cond = 1#1
  · simp only [hc, dite_true]
    unfold owns
    iintro ⟨⟨⟨%f0, %hf0, H0⟩, ⟨%f1, %hf1, H1⟩, ⟨%f2, %hf2, H2⟩, ⟨%f3, %hf3, H3⟩, ⟨%f4, %hf4, H4⟩⟩, Hk⟩
    have e0 := (View.readAt_full arg4.view f0 inb_S1x1x1x2048_S1x1x1x2048_0_0_0_0).trans hf0
    have e1 := (View.readAt_full arg5.view f1 inb_S1x1x1x2048_S1x1x1x2048_0_0_0_0).trans hf1
    have eX := View.readAt_unit arg11.view f3 (inbX hc) rfl (inbX hc)
    have eG := View.readAt_unit arg12.view f4 (inbG hc) rfl (inbG hc)
    have eH := View.readAt_unit arg6.view f2 inbH rfl inbH
    rw [hf3] at eX; rw [hf4] at eG; rw [hf2] at eH
    sl_exec
    iapply Hk $$ %_ %_ %⟨fun _ => ⟨inbX hc, rfl⟩, fun h => absurd rfl h⟩ %⟨fun _ => ⟨inbG hc, rfl⟩, fun h => absurd rfl h⟩
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr
      · ipureintro
        exact (View.read_writes_cons_put arg11.view f3 (inbX hc) _ [] rfl).trans (by
          rw [View.writes_nil, hf3])
      iexact H3
    iexists _; isplitr
    · ipureintro
      exact (View.read_writes_cons_put arg12.view f4 (inbG hc) _ [] rfl).trans (by
        rw [View.writes_nil, hf4])
    iexact H4
  · simp only [hc, dite_false]
    iintro ⟨H, Hk⟩
    iapply Hk $$ %_ %_ %⟨fun h => absurd h hc, fun _ => rfl⟩ %⟨fun h => absurd h hc, fun _ => rfl⟩
    iexact H

end Cert.Kernel4Ideal.Experts
end
-- ==== Proof.Experts.StepsI.lean ====
module

public import proofs.«01_k».proof.Proof.Experts.BlockI
public import proofs.«01_k».proof.Proof.Gen.Kernel4Ideal.Skeleton

@[expose] public section

set_option maxRecDepth 16384

noncomputable section

namespace Cert.Kernel4Ideal.Experts

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 1000000 in
/-- The conditional conversion of the three weight matrices. -/
theorem wp_cast {α : Type} (c : Dev nD) (E : Set ℕ) (arg7 : Memref sig .tc .vmem S1x1x1024x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole)
    (x3 : Vec F S1x1x1024x1024 .f32) (x4 : Vec F S1x1x1024x1024 .f32) (x5 : Vec F S1x1x1024x1024 .f32) (W1 : Vec F S1024x1024 .bf16) (W3 : Vec F S1024x1024 .bf16) (W2 : Vec F S1024x1024 .bf16) (cond : BitVec 1)
    (jp : PUnit.{1} → Prog (TpuEff nD τ sig (Elt F) Λ₀ .tc) α) (K : α → sProp (MT nD τ sig Unit (Elt F) ℕ (UR sig nD τ) ℕ)) :
    iprop(owns (c : Thread nD τ) arg7 fullShare x3 ∗ owns (c : Thread nD τ) arg8 fullShare x4 ∗ owns (c : Thread nD τ) arg9 fullShare x5 ∗ owns (c : Thread nD τ) arg13 fullShare W1 ∗ owns (c : Thread nD τ) arg14 fullShare W3 ∗ owns (c : Thread nD τ) arg15 fullShare W2
        ∗ (iprop(owns (c : Thread nD τ) arg7 fullShare x3 ∗ owns (c : Thread nD τ) arg8 fullShare x4 ∗ owns (c : Thread nD τ) arg9 fullShare x5 ∗ owns (c : Thread nD τ) arg13 fullShare (if cond = 1#1 then k0_pay10 x3 else W1) ∗ owns (c : Thread nD τ) arg14 fullShare (if cond = 1#1 then k0_pay11 x4 else W3) ∗ owns (c : Thread nD τ) arg15 fullShare (if cond = 1#1 then k0_pay12 x5 else W2)) -∗ wp frame (wpE (defs₀ (F := F)) Variants.none c none) E (jp ⟨⟩) K))
      ⊢ wp frame (wpE (defs₀ (F := F)) Variants.none c none) E
        (
  if h : cond = 1#1 then do
    let v287 : Vec F S1x1x1024x1024 .f32 ← Prog.lift (.load arg7 (Rect.unit (s := S1x1x1024x1024) ![0, 0, 0, 0] S1x1x1024x1024.size inb_S1x1x1024x1024_S1x1x1024x1024_0_0_0_0).toLoadRect (View.loadsAt_vmem h_S1x1x1024x1024))
    let v290 : Vec F S1024x1024 .bf16 ← Prog.lift (.load arg13 (Rect.unit (s := S1024x1024) ![0, 0] S1024x1024.size inb_S1024x1024_S1024x1024_0_0).toLoadRect (View.loadsAt_vmem h_S1024x1024))
    Prog.lift (.store arg13 (Rect.unit (s := S1024x1024) ![0, 0] S1024x1024.size inb_S1024x1024_S1024x1024_0_0) (k0_pay10 v287) Finset.univ (View.stores_vmem h_S1024x1024 (harg13.storeExact_slice rfl _ packedbf16_S1024x1024_S1024x1024_0_0) (fun _ => rfl)) (.inl rfl))
    let v293 : Vec F S1x1x1024x1024 .f32 ← Prog.lift (.load arg8 (Rect.unit (s := S1x1x1024x1024) ![0, 0, 0, 0] S1x1x1024x1024.size inb_S1x1x1024x1024_S1x1x1024x1024_0_0_0_0).toLoadRect (View.loadsAt_vmem h_S1x1x1024x1024))
    let v296 : Vec F S1024x1024 .bf16 ← Prog.lift (.load arg14 (Rect.unit (s := S1024x1024) ![0, 0] S1024x1024.size inb_S1024x1024_S1024x1024_0_0).toLoadRect (View.loadsAt_vmem h_S1024x1024))
    Prog.lift (.store arg14 (Rect.unit (s := S1024x1024) ![0, 0] S1024x1024.size inb_S1024x1024_S1024x1024_0_0) (k0_pay11 v293) Finset.univ (View.stores_vmem h_S1024x1024 (harg14.storeExact_slice rfl _ packedbf16_S1024x1024_S1024x1024_0_0) (fun _ => rfl)) (.inl rfl))
    let v299 : Vec F S1x1x1024x1024 .f32 ← Prog.lift (.load arg9 (Rect.unit (s := S1x1x1024x1024) ![0, 0, 0, 0] S1x1x1024x1024.size inb_S1x1x1024x1024_S1x1x1024x1024_0_0_0_0).toLoadRect (View.loadsAt_vmem h_S1x1x1024x1024))
    let v302 : Vec F S1024x1024 .bf16 ← Prog.lift (.load arg15 (Rect.unit (s := S1024x1024) ![0, 0] S1024x1024.size inb_S1024x1024_S1024x1024_0_0).toLoadRect (View.loadsAt_vmem h_S1024x1024))
    Prog.lift (.store arg15 (Rect.unit (s := S1024x1024) ![0, 0] S1024x1024.size inb_S1024x1024_S1024x1024_0_0) (k0_pay12 v299) Finset.univ (View.stores_vmem h_S1024x1024 (harg15.storeExact_slice rfl _ packedbf16_S1024x1024_S1024x1024_0_0) (fun _ => rfl)) (.inl rfl))
    jp ⟨⟩
  else do
    jp ⟨⟩ : Prog (TpuEff nD τ sig (Elt F) Λ₀ .tc) α) K := by
  by_cases hc : cond = 1#1
  · simp only [hc, dite_true, if_true]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    have e0 := (View.readAt_full arg7.view f0 inb_S1x1x1024x1024_S1x1x1024x1024_0_0_0_0).trans hf0
    have e1 := (View.readAt_full arg8.view f1 inb_S1x1x1024x1024_S1x1x1024x1024_0_0_0_0).trans hf1
    have e2 := (View.readAt_full arg9.view f2 inb_S1x1x1024x1024_S1x1x1024x1024_0_0_0_0).trans hf2
    sl_exec
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; swap
      · iexact H3
      · ipureintro; exact View.read_writes_full arg13.view _ inb_S1024x1024_S1024x1024_0_0 _ []
    isplitl [H4]
    · iexists _; isplitr; swap
      · iexact H4
      · ipureintro; exact View.read_writes_full arg14.view _ inb_S1024x1024_S1024x1024_0_0 _ []
    iexists _; isplitr; swap
    · iexact H5
    · ipureintro; exact View.read_writes_full arg15.view _ inb_S1024x1024_S1024x1024_0_0 _ []
  · simp only [hc, dite_false, if_false]
    iintro ⟨H0, H1, H2, H3, H4, H5, Hk⟩
    iapply Hk
    iframe

set_option maxHeartbeats 1000000 in
/-- The conditional clearing of the two running sums. -/
theorem wp_zero {α : Type} (c : Dev nD) (E : Set ℕ) (arg11 : Memref sig .tc .vmem S1664x1024 .f32) (harg11 : arg11.IsWhole) (arg12 : Memref sig .tc .vmem S1664x128 .f32) (harg12 : arg12.IsWhole)
    (X : Vec F S1664x1024 .f32) (G : Vec F S1664x128 .f32) (cond : BitVec 1)
    (jp : PUnit.{1} → Prog (TpuEff nD τ sig (Elt F) Λ₀ .tc) α) (K : α → sProp (MT nD τ sig Unit (Elt F) ℕ (UR sig nD τ) ℕ)) :
    iprop(owns (c : Thread nD τ) arg11 fullShare X ∗ owns (c : Thread nD τ) arg12 fullShare G
        ∗ (iprop(owns (c : Thread nD τ) arg11 fullShare (if cond = 1#1 then k0_pay13 else X) ∗ owns (c : Thread nD τ) arg12 fullShare (if cond = 1#1 then k0_pay14 else G)) -∗ wp frame (wpE (defs₀ (F := F)) Variants.none c none) E (jp ⟨⟩) K))
      ⊢ wp frame (wpE (defs₀ (F := F)) Variants.none c none) E
        (
  if h : cond = 1#1 then do
    let v288 : Vec F S1664x1024 .f32 ← Prog.lift (.load arg11 (Rect.unit (s := S1664x1024) ![0, 0] S1664x1024.size inb_S1664x1024_S1664x1024_0_0).toLoadRect (View.loadsAt_vmem h_S1664x1024))
    Prog.lift (.store arg11 (Rect.unit (s := S1664x1024) ![0, 0] S1664x1024.size inb_S1664x1024_S1664x1024_0_0) (k0_pay13 (F := F)) Finset.univ (View.stores_vmem_bits_univ h_S1664x1024 rfl) (.inl rfl))
    let v292 : Vec F S1664x128 .f32 ← Prog.lift (.load arg12 (Rect.unit (s := S1664x128) ![0, 0] S1664x128.size inb_S1664x128_S1664x128_0_0).toLoadRect (View.loadsAt_vmem h_S1664x128))
    Prog.lift (.store arg12 (Rect.unit (s := S1664x128) ![0, 0] S1664x128.size inb_S1664x128_S1664x128_0_0) (k0_pay14 (F := F)) Finset.univ (View.stores_vmem_bits_univ h_S1664x128 rfl) (.inl rfl))
    jp ⟨⟩
  else do
    jp ⟨⟩ : Prog (TpuEff nD τ sig (Elt F) Λ₀ .tc) α) K := by
  by_cases hc : cond = 1#1
  · simp only [hc, dite_true, if_true]
    unfold owns
    iintro ⟨⟨%f0, %hf0, H0⟩, ⟨%f1, %hf1, H1⟩, Hk⟩
    sl_exec
    iapply Hk
    isplitl [H0]
    · iexists _; isplitr; swap
      · iexact H0
      · ipureintro; exact View.read_writes_full arg11.view _ inb_S1664x1024_S1664x1024_0_0 _ []
    iexists _; isplitr; swap
    · iexact H1
    · ipureintro; exact View.read_writes_full arg12.view _ inb_S1664x128_S1664x128_0_0 _ []
  · simp only [hc, dite_false, if_false]
    iintro ⟨H0, H1, Hk⟩
    iapply Hk
    iframe

/-- The output block from the two sums and the converted weights: the two halves of the rows. -/
def outVal (Y : Vec F S1x1x1024x1024 .bf16) (X : Vec F S1664x1024 .f32) (G : Vec F S1664x128 .f32) (W1 W3 W2 : Vec F S1024x1024 .bf16) : Vec F S1x1x1024x1024 .bf16 :=
  VecWindow.put (VecWindow.put Y ![0, 0, 0, 0] S1x1x512x1024.size
      (k0_pay8 (VecWindow.window X ![0, 0] S512x1024.size inb_S1664x1024_S512x1024_0_0) W1 W3 W2 (VecWindow.window G ![0, 0] S512x1.size inb_S1664x128_S512x1_0_0)))
    ![0, 0, 512, 0] S1x1x512x1024.size
      (k0_pay7 (k0_pay9 (VecWindow.window X ![512, 0] S512x1024.size inb_S1664x1024_S512x1024_512_0) W1 W3 W2) (VecWindow.window G ![512, 0] S512x1.size inb_S1664x128_S512x1_512_0))

set_option maxHeartbeats 1000000 in
/-- The conditional feed-forward network on the gathered rows. -/
theorem wp_out (c : Dev nD) (E : Set ℕ) (i : grid0.Coords) (arg3 : Memref sig .tc .smem S1088 .i32) (harg3 : arg3.IsWhole) (arg4 : Memref sig .tc .vmem S1x1x1x2048 .i32) (harg4 : arg4.IsWhole) (arg5 : Memref sig .tc .vmem S1x1x1x2048 .f32) (harg5 : arg5.IsWhole) (arg6 : Memref sig .tc .vmem S1x2048x1024 .bf16) (harg6 : arg6.IsWhole) (arg7 : Memref sig .tc .vmem S1x1x1024x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .bf16) (harg10 : arg10.IsWhole) (arg11 : Memref sig .tc .vmem S1664x1024 .f32) (harg11 : arg11.IsWhole) (arg12 : Memref sig .tc .vmem S1664x128 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole)
    (Y : Vec F S1x1x1024x1024 .bf16) (X : Vec F S1664x1024 .f32) (G : Vec F S1664x128 .f32) (W1 : Vec F S1024x1024 .bf16) (W3 : Vec F S1024x1024 .bf16) (W2 : Vec F S1024x1024 .bf16) (cond : BitVec 1)
    (K : PUnit → sProp (MT nD τ sig Unit (Elt F) ℕ (UR sig nD τ) ℕ)) :
    iprop(owns (c : Thread nD τ) arg10 fullShare Y ∗ owns (c : Thread nD τ) arg11 fullShare X ∗ owns (c : Thread nD τ) arg12 fullShare G ∗ owns (c : Thread nD τ) arg13 fullShare W1 ∗ owns (c : Thread nD τ) arg14 fullShare W3 ∗ owns (c : Thread nD τ) arg15 fullShare W2
        ∗ (iprop(owns (c : Thread nD τ) arg10 fullShare (if cond = 1#1 then outVal Y X G W1 W3 W2 else Y) ∗ owns (c : Thread nD τ) arg11 fullShare X ∗ owns (c : Thread nD τ) arg12 fullShare G ∗ owns (c : Thread nD τ) arg13 fullShare W1 ∗ owns (c : Thread nD τ) arg14 fullShare W3 ∗ owns (c : Thread nD τ) arg15 fullShare W2) -∗ K ⟨⟩))
      ⊢ wp frame (wpE (defs₀ (F := F)) Variants.none c none) E
        (
  if h : cond = 1#1 then do
    let v317 : FVec F S512x1024 .f32 ← k0_part1 i arg3 harg3 arg4 harg4 arg5 harg5 arg6 harg6 arg7 harg7 arg8 harg8 arg9 harg9 arg10 harg10 arg11 harg11 arg12 harg12 arg13 harg13 arg14 harg14 arg15 harg15
    let v318 : Vec F S512x1 .f32 ← Prog.lift (.load arg12 (Rect.unit (s := S1664x128) ![512, 0] S512x1.size inb_S1664x128_S512x1_512_0).toLoadRect (View.loadsAt_vmem h_S512x1))
    let v322 : Vec F S1x1x512x1024 .bf16 ← Prog.lift (.load arg10 (Rect.unit (s := S1x1x1024x1024) ![0, 0, 512, 0] S1x1x512x1024.size inb_S1x1x1024x1024_S1x1x512x1024_0_0_512_0).toLoadRect (View.loadsAt_vmem h_S1x1x512x1024))
    Prog.lift (.store arg10 (Rect.unit (s := S1x1x1024x1024) ![0, 0, 512, 0] S1x1x512x1024.size inb_S1x1x1024x1024_S1x1x512x1024_0_0_512_0) (k0_pay7 v317 v318) Finset.univ (View.stores_vmem h_S1x1x512x1024 (harg10.storeExact_slice rfl _ packedbf16_S1x1x1024x1024_S1x1x512x1024_0_0_512_0) (fun _ => rfl)) (.inl rfl))
    pure ⟨⟩
  else do
    pure ⟨⟩ : Prog (TpuEff nD τ sig (Elt F) Λ₀ .tc) PUnit) K := by
  by_cases hc : cond = 1#1
  · simp only [hc, dite_true, if_true]
    simp only [k0_part1_eq_skeleton]
    unfold owns k0_part1_skel
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    have eX0 := View.readAt_unit arg11.view f1 inb_S1664x1024_S512x1024_0_0 rfl inb_S1664x1024_S512x1024_0_0
    have eX1 := View.readAt_unit arg11.view f1 inb_S1664x1024_S512x1024_512_0 rfl inb_S1664x1024_S512x1024_512_0
    have eG0 := View.readAt_unit arg12.view f2 inb_S1664x128_S512x1_0_0 rfl inb_S1664x128_S512x1_0_0
    have eG1 := View.readAt_unit arg12.view f2 inb_S1664x128_S512x1_512_0 rfl inb_S1664x128_S512x1_512_0
    have e3 := (View.readAt_full arg13.view f3 inb_S1024x1024_S1024x1024_0_0).trans hf3
    have e4 := (View.readAt_full arg14.view f4 inb_S1024x1024_S1024x1024_0_0).trans hf4
    have e5 := (View.readAt_full arg15.view f5 inb_S1024x1024_S1024x1024_0_0).trans hf5
    rw [hf1] at eX0 eX1; rw [hf2] at eG0 eG1
    sl_exec
    rw [wp_ret]
    imodintro
    iapply Hk
    isplitl [H0]
    · iexists _; isplitr; swap
      · iexact H0
      · ipureintro
        refine (View.read_writes_cons_put arg10.view f0 inb_S1x1x1024x1024_S1x1x512x1024_0_0_512_0 _ _ rfl).trans ?_
        rw [View.read_writes_cons_put arg10.view f0 inb_S1x1x1024x1024_S1x1x512x1024_0_0_0_0 _ [] rfl, View.writes_nil, hf0]
        rfl
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    iexists _; isplitr; · ipureintro; exact hf5
    iexact H5
  · simp only [hc, dite_false, if_false]
    rw [wp_pure]
    iintro ⟨H0, H1, H2, H3, H4, H5, Hk⟩
    imodintro
    iapply Hk
    iframe

end Cert.Kernel4Ideal.Experts
end
-- ==== Proof.Experts.CleanI.lean ====
module

public import proofs.«01_k».proof.Proof.Experts.StepsI
public import proofs.«01_k».proof.Proof.Gen.Kernel4Ideal.Skeleton

@[expose] public section

set_option maxRecDepth 16384

noncomputable section

namespace Cert.Kernel4Ideal.Experts

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One conditional window of rows, then what follows. -/
def blkK {α : Type} (arg4 : Memref sig .tc .vmem S1x1x1x2048 .i32) (harg4 : arg4.IsWhole) (arg5 : Memref sig .tc .vmem S1x1x1x2048 .f32) (harg5 : arg5.IsWhole) (arg6 : Memref sig .tc .vmem S1x2048x1024 .bf16) (harg6 : arg6.IsWhole) (arg11 : Memref sig .tc .vmem S1664x1024 .f32) (harg11 : arg11.IsWhole) (arg12 : Memref sig .tc .vmem S1664x128 .f32) (harg12 : arg12.IsWhole) (cond : BitVec 1) (offX offG : Fin 2 → ℕ) (offH : Fin 3 → ℕ)
    (inbX : cond = 1#1 → ∀ a, offX a + S128x1024.size a ≤ S1664x1024.size a) (inbG : cond = 1#1 → ∀ a, offG a + S128x128.size a ≤ S1664x128.size a)
    (inbH : ∀ a, offH a + S1x512x1024.size a ≤ S1x2048x1024.size a)
    (pX : Vec F S1x1x1x2048 .i32 → Vec F S128x1024 .f32 → Vec F S1x512x1024 .bf16 → Vec F S128x1024 .f32)
    (pG : Vec F S1x1x1x2048 .i32 → Vec F S1x1x1x2048 .f32 → Vec F S128x128 .f32 → Vec F S128x128 .f32)
    (jp : PUnit.{1} → Prog (TpuEff nD τ sig (Elt F) Λ₀ .tc) α) : Prog (TpuEff nD τ sig (Elt F) Λ₀ .tc) α :=
  if h : cond = 1#1 then do
            let v290 : Vec F S1x1x1x2048 .i32 ← Prog.lift (.load arg4 (Rect.unit (s := S1x1x1x2048) ![0, 0, 0, 0] S1x1x1x2048.size inb_S1x1x1x2048_S1x1x1x2048_0_0_0_0).toLoadRect (View.loadsAt_vmem h_S1x1x1x2048))
            let v296 : Vec F S128x1024 .f32 ← Prog.lift (.load arg11 (Rect.unit (s := S1664x1024) offX S128x1024.size (inbX h)).toLoadRect (View.loadsAt_vmem h_S128x1024))
            let v300 : Vec F S1x512x1024 .bf16 ← Prog.lift (.load arg6 (Rect.unit (s := S1x2048x1024) offH S1x512x1024.size inbH).toLoadRect (View.loadsAt_vmem h_S1x512x1024))
            let v305 : Vec F S128x1024 .f32 ← Prog.lift (.load arg11 (Rect.unit (s := S1664x1024) offX S128x1024.size (inbX h)).toLoadRect (View.loadsAt_vmem h_S128x1024))
            Prog.lift (.store arg11 (Rect.unit (s := S1664x1024) offX S128x1024.size (inbX h)) (pX v290 v296 v300) Finset.univ (View.stores_vmem_bits_univ h_S128x1024 rfl) (.inl rfl))
            let v308 : Vec F S1x1x1x2048 .f32 ← Prog.lift (.load arg5 (Rect.unit (s := S1x1x1x2048) ![0, 0, 0, 0] S1x1x1x2048.size inb_S1x1x1x2048_S1x1x1x2048_0_0_0_0).toLoadRect (View.loadsAt_vmem h_S1x1x1x2048))
            let v318 : Vec F S128x128 .f32 ← Prog.lift (.load arg12 (Rect.unit (s := S1664x128) offG S128x128.size (inbG h)).toLoadRect (View.loadsAt_vmem h_S128x128))
            let v323 : Vec F S128x128 .f32 ← Prog.lift (.load arg12 (Rect.unit (s := S1664x128) offG S128x128.size (inbG h)).toLoadRect (View.loadsAt_vmem h_S128x128))
            Prog.lift (.store arg12 (Rect.unit (s := S1664x128) offG S128x128.size (inbG h)) (pG v290 v308 v318) Finset.univ (View.stores_vmem_bits_univ h_S128x128 rfl) (.inl rfl))
            jp ⟨⟩
          else do
            jp ⟨⟩

/-- The conditional conversion of the weights, then what follows. -/
def castK {α : Type} (arg7 : Memref sig .tc .vmem S1x1x1024x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (cond : BitVec 1)
    (jp : PUnit.{1} → Prog (TpuEff nD τ sig (Elt F) Λ₀ .tc) α) : Prog (TpuEff nD τ sig (Elt F) Λ₀ .tc) α :=
  if h : cond = 1#1 then do
    let v287 : Vec F S1x1x1024x1024 .f32 ← Prog.lift (.load arg7 (Rect.unit (s := S1x1x1024x1024) ![0, 0, 0, 0] S1x1x1024x1024.size inb_S1x1x1024x1024_S1x1x1024x1024_0_0_0_0).toLoadRect (View.loadsAt_vmem h_S1x1x1024x1024))
    let v290 : Vec F S1024x1024 .bf16 ← Prog.lift (.load arg13 (Rect.unit (s := S1024x1024) ![0, 0] S1024x1024.size inb_S1024x1024_S1024x1024_0_0).toLoadRect (View.loadsAt_vmem h_S1024x1024))
    Prog.lift (.store arg13 (Rect.unit (s := S1024x1024) ![0, 0] S1024x1024.size inb_S1024x1024_S1024x1024_0_0) (k0_pay10 v287) Finset.univ (View.stores_vmem h_S1024x1024 (harg13.storeExact_slice rfl _ packedbf16_S1024x1024_S1024x1024_0_0) (fun _ => rfl)) (.inl rfl))
    let v293 : Vec F S1x1x1024x1024 .f32 ← Prog.lift (.load arg8 (Rect.unit (s := S1x1x1024x1024) ![0, 0, 0, 0] S1x1x1024x1024.size inb_S1x1x1024x1024_S1x1x1024x1024_0_0_0_0).toLoadRect (View.loadsAt_vmem h_S1x1x1024x1024))
    let v296 : Vec F S1024x1024 .bf16 ← Prog.lift (.load arg14 (Rect.unit (s := S1024x1024) ![0, 0] S1024x1024.size inb_S1024x1024_S1024x1024_0_0).toLoadRect (View.loadsAt_vmem h_S1024x1024))
    Prog.lift (.store arg14 (Rect.unit (s := S1024x1024) ![0, 0] S1024x1024.size inb_S1024x1024_S1024x1024_0_0) (k0_pay11 v293) Finset.univ (View.stores_vmem h_S1024x1024 (harg14.storeExact_slice rfl _ packedbf16_S1024x1024_S1024x1024_0_0) (fun _ => rfl)) (.inl rfl))
    let v299 : Vec F S1x1x1024x1024 .f32 ← Prog.lift (.load arg9 (Rect.unit (s := S1x1x1024x1024) ![0, 0, 0, 0] S1x1x1024x1024.size inb_S1x1x1024x1024_S1x1x1024x1024_0_0_0_0).toLoadRect (View.loadsAt_vmem h_S1x1x1024x1024))
    let v302 : Vec F S1024x1024 .bf16 ← Prog.lift (.load arg15 (Rect.unit (s := S1024x1024) ![0, 0] S1024x1024.size inb_S1024x1024_S1024x1024_0_0).toLoadRect (View.loadsAt_vmem h_S1024x1024))
    Prog.lift (.store arg15 (Rect.unit (s := S1024x1024) ![0, 0] S1024x1024.size inb_S1024x1024_S1024x1024_0_0) (k0_pay12 v299) Finset.univ (View.stores_vmem h_S1024x1024 (harg15.storeExact_slice rfl _ packedbf16_S1024x1024_S1024x1024_0_0) (fun _ => rfl)) (.inl rfl))
    jp ⟨⟩
  else do
    jp ⟨⟩

/-- The conditional clearing of the sums, then what follows. -/
def zeroK {α : Type} (arg11 : Memref sig .tc .vmem S1664x1024 .f32) (harg11 : arg11.IsWhole) (arg12 : Memref sig .tc .vmem S1664x128 .f32) (harg12 : arg12.IsWhole) (cond : BitVec 1)
    (jp : PUnit.{1} → Prog (TpuEff nD τ sig (Elt F) Λ₀ .tc) α) : Prog (TpuEff nD τ sig (Elt F) Λ₀ .tc) α :=
  if h : cond = 1#1 then do
    let v288 : Vec F S1664x1024 .f32 ← Prog.lift (.load arg11 (Rect.unit (s := S1664x1024) ![0, 0] S1664x1024.size inb_S1664x1024_S1664x1024_0_0).toLoadRect (View.loadsAt_vmem h_S1664x1024))
    Prog.lift (.store arg11 (Rect.unit (s := S1664x1024) ![0, 0] S1664x1024.size inb_S1664x1024_S1664x1024_0_0) (k0_pay13 (F := F)) Finset.univ (View.stores_vmem_bits_univ h_S1664x1024 rfl) (.inl rfl))
    let v292 : Vec F S1664x128 .f32 ← Prog.lift (.load arg12 (Rect.unit (s := S1664x128) ![0, 0] S1664x128.size inb_S1664x128_S1664x128_0_0).toLoadRect (View.loadsAt_vmem h_S1664x128))
    Prog.lift (.store arg12 (Rect.unit (s := S1664x128) ![0, 0] S1664x128.size inb_S1664x128_S1664x128_0_0) (k0_pay14 (F := F)) Finset.univ (View.stores_vmem_bits_univ h_S1664x128 rfl) (.inl rfl))
    jp ⟨⟩
  else do
    jp ⟨⟩

/-- A part of the body in terms of its blocks. -/
def k0_part2_skel_c (i : grid0.Coords) (arg3 : Memref sig .tc .smem S1088 .i32) (harg3 : arg3.IsWhole) (arg4 : Memref sig .tc .vmem S1x1x1x2048 .i32) (harg4 : arg4.IsWhole) (arg5 : Memref sig .tc .vmem S1x1x1x2048 .f32) (harg5 : arg5.IsWhole) (arg6 : Memref sig .tc .vmem S1x2048x1024 .bf16) (harg6 : arg6.IsWhole) (arg7 : Memref sig .tc .vmem S1x1x1024x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .bf16) (harg10 : arg10.IsWhole) (arg11 : Memref sig .tc .vmem S1664x1024 .f32) (harg11 : arg11.IsWhole) (arg12 : Memref sig .tc .vmem S1664x128 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) :
    Prog (TpuEff nD τ sig (Elt F) Λ₀ .tc) (Σ' (arg0 : BitVec 32) (arg1 : BitVec 32) (arg2 : BitVec 32) (v15 : Elt F .i32) (v18 : Elt F .i32) (k0_hw2 : k0_chk2 v15 v18), BitVec 32) := do
  let arg0 : BitVec 32 := BitVec.ofNat 32 (i 0).val
  let arg1 : BitVec 32 := BitVec.ofNat 32 (i 1).val
  let arg2 : BitVec 32 := BitVec.ofNat 32 (i 2).val
  let v0 : BitVec 1 := Scalar.cmpi .eq arg1 0#32
  let v1 : BitVec 1 := Scalar.cmpi .eq arg2 0#32
  let v2 : BitVec 1 := Scalar.andi v0 v1
  let v3 : BitVec 32 := Scalar.extui v2
  let v4 : BitVec 1 := Scalar.cmpi .ne v3 0#32
  castK arg7 harg7 arg8 harg8 arg9 harg9 arg13 harg13 arg14 harg14 arg15 harg15 (v4) fun _ => do
  let v5 : BitVec 1 := Scalar.cmpi .eq arg2 0#32
  let v6 : BitVec 32 := Scalar.extui v5
  let v7 : BitVec 1 := Scalar.cmpi .ne v6 0#32
  zeroK arg11 harg11 arg12 harg12 (v7) fun _ => do
  let v15 : Elt F .i32 ← smemLoad arg3 (Rect.unit (s := S1088) (k0_off1 i) S1.size (k0_off1_inb i)) numel1_S1 rfl
  have k0_hw1 : k0_chk1 v15 := (← Prog.lift (TpuEff.assume (k0_chk1 v15) (k0_chk1.dec v15))).down
  let v18 : Elt F .i32 ← smemLoad arg3 (Rect.unit (s := S1088) (k0_off2 i) S1.size (k0_off2_inb i)) numel1_S1 rfl
  have k0_hw2 : k0_chk2 v15 v18 := (← Prog.lift (TpuEff.assume (k0_chk2 v15 v18) (k0_chk2.dec v15 v18))).down
  let v19 : BitVec 32 := Scalar.divsi v15 8#32
  let v20 : BitVec 1 := Scalar.cmpi .sgt v15 0#32
  let v21 : BitVec 32 := Scalar.extui v20
  let v22 : BitVec 1 := Scalar.cmpi .slt v15 0#32
  let v23 : BitVec 32 := Scalar.extui v22
  let v24 : BitVec 32 := Scalar.subi v21 v23
  let v25 : BitVec 1 := Scalar.cmpi .sgt 8#32 0#32
  let v26 : BitVec 32 := Scalar.extui v25
  let v27 : BitVec 1 := Scalar.cmpi .slt 8#32 0#32
  let v28 : BitVec 32 := Scalar.extui v27
  let v29 : BitVec 32 := Scalar.subi v26 v28
  let v30 : BitVec 1 := Scalar.cmpi .ne v24 v29
  let v31 : BitVec 32 := Scalar.remsi v15 8#32
  let v32 : BitVec 1 := Scalar.cmpi .ne v31 0#32
  let v33 : BitVec 1 := Scalar.andi v30 v32
  let v34 : BitVec 32 := Scalar.subi v19 1#32
  let v35 : BitVec 32 := Scalar.select v33 v34 v19
  pure ⟨arg0, arg1, arg2, v15, v18, k0_hw2, v35⟩

/-- The printed text is this one. -/
theorem k0_part2_skel_c_eq : k0_part2_skel (F := F) = k0_part2_skel_c (F := F) := rfl

/-- A part of the body in terms of its blocks. -/
def k0_part3_skel_c (i : grid0.Coords) (arg3 : Memref sig .tc .smem S1088 .i32) (harg3 : arg3.IsWhole) (arg4 : Memref sig .tc .vmem S1x1x1x2048 .i32) (harg4 : arg4.IsWhole) (arg5 : Memref sig .tc .vmem S1x1x1x2048 .f32) (harg5 : arg5.IsWhole) (arg6 : Memref sig .tc .vmem S1x2048x1024 .bf16) (harg6 : arg6.IsWhole) (arg7 : Memref sig .tc .vmem S1x1x1024x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .bf16) (harg10 : arg10.IsWhole) (arg11 : Memref sig .tc .vmem S1664x1024 .f32) (harg11 : arg11.IsWhole) (arg12 : Memref sig .tc .vmem S1664x128 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (v15 : Elt F .i32) (v18 : Elt F .i32) (k0_hw2 : k0_chk2 v15 v18) (v35 : BitVec 32) :
    Prog (TpuEff nD τ sig (Elt F) Λ₀ .tc) (Σ' (v70 : BitVec 32) (v75 : BitVec 32), BitVec 32) := do
  let v36 : BitVec 32 := Scalar.muli v35 8#32
  blkK arg4 harg4 arg5 harg5 arg6 harg6 arg11 harg11 arg12 harg12 (k0_cond3 v15 v18) (k0_off3 v15) (k0_off4 v15) ![0, 0, 0] (fun h => k0_off3_inb v15 v18 k0_hw2 h) (fun h => k0_off4_inb v15 v18 k0_hw2 h) inb_S1x2048x1024_S1x512x1024_0_0_0
    (k0_pay16 v35) (k0_pay17 v35) fun _ => do
  blkK arg4 harg4 arg5 harg5 arg6 harg6 arg11 harg11 arg12 harg12 (k0_cond4 v15 v18) (k0_off5 v15) (k0_off6 v15) ![0, 0, 0] (fun h => k0_off5_inb v15 v18 k0_hw2 h) (fun h => k0_off6_inb v15 v18 k0_hw2 h) inb_S1x2048x1024_S1x512x1024_0_0_0
    (k0_pay19 v35) (k0_pay20 v35) fun _ => do
  blkK arg4 harg4 arg5 harg5 arg6 harg6 arg11 harg11 arg12 harg12 (k0_cond5 v15 v18) (k0_off7 v15) (k0_off8 v15) ![0, 0, 0] (fun h => k0_off7_inb v15 v18 k0_hw2 h) (fun h => k0_off8_inb v15 v18 k0_hw2 h) inb_S1x2048x1024_S1x512x1024_0_0_0
    (k0_pay22 v35) (k0_pay23 v35) fun _ => do
  blkK arg4 harg4 arg5 harg5 arg6 harg6 arg11 harg11 arg12 harg12 (k0_cond6 v15 v18) (k0_off9 v15) (k0_off10 v15) ![0, 0, 0] (fun h => k0_off9_inb v15 v18 k0_hw2 h) (fun h => k0_off10_inb v15 v18 k0_hw2 h) inb_S1x2048x1024_S1x512x1024_0_0_0
    (k0_pay25 v35) (k0_pay26 v35) fun _ => do
  let v69 : BitVec 32 := Scalar.addi v36 512#32
  let v70 : BitVec 32 := v69
  let v71 : BitVec 1 := Scalar.cmpi .slt v70 v18
  let v72 : BitVec 32 := Scalar.addi v70 128#32
  let v73 : BitVec 1 := Scalar.cmpi .sgt v72 v15
  let v74 : BitVec 1 := Scalar.andi v71 v73
  let v75 : BitVec 32 := Scalar.extui v74
  pure ⟨v70, v75, 0#32⟩

/-- The printed text is this one. -/
theorem k0_part3_skel_c_eq : k0_part3_skel (F := F) = k0_part3_skel_c (F := F) := rfl

/-- A part of the body in terms of its blocks. -/
def k0_part4_skel_c (i : grid0.Coords) (arg3 : Memref sig .tc .smem S1088 .i32) (harg3 : arg3.IsWhole) (arg4 : Memref sig .tc .vmem S1x1x1x2048 .i32) (harg4 : arg4.IsWhole) (arg5 : Memref sig .tc .vmem S1x1x1x2048 .f32) (harg5 : arg5.IsWhole) (arg6 : Memref sig .tc .vmem S1x2048x1024 .bf16) (harg6 : arg6.IsWhole) (arg7 : Memref sig .tc .vmem S1x1x1024x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .bf16) (harg10 : arg10.IsWhole) (arg11 : Memref sig .tc .vmem S1664x1024 .f32) (harg11 : arg11.IsWhole) (arg12 : Memref sig .tc .vmem S1664x128 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (arg0 : BitVec 32) (arg1 : BitVec 32) (arg2 : BitVec 32) (v15 : Elt F .i32) (v18 : Elt F .i32) (k0_hw2 : k0_chk2 v15 v18) (v70 : BitVec 32) (v75 : BitVec 32) (c0_i32_23 : BitVec 32) :
    Prog (TpuEff nD τ sig (Elt F) Λ₀ .tc) (Σ' (v84 : Elt F .i32) (v87 : Elt F .i32) (k0_hw4 : k0_chk4 v84 v87) (v105 : BitVec 32), BitVec 32) := do
  blkK arg4 harg4 arg5 harg5 arg6 harg6 arg11 harg11 arg12 harg12 (k0_cond7 v15 v18) (k0_off11 v15) (k0_off12 v15) ![0, 0, 0] (fun h => k0_off11_inb v15 v18 k0_hw2 h) (fun h => k0_off12_inb v15 v18 k0_hw2 h) inb_S1x2048x1024_S1x512x1024_0_0_0
    (k0_pay28 v70) (k0_pay29 v70) fun _ => do
  let v84 : Elt F .i32 ← smemLoad arg3 (Rect.unit (s := S1088) (k0_off13 i) S1.size (k0_off13_inb i)) numel1_S1 rfl
  have k0_hw3 : k0_chk3 v84 := (← Prog.lift (TpuEff.assume (k0_chk3 v84) (k0_chk3.dec v84))).down
  let v87 : Elt F .i32 ← smemLoad arg3 (Rect.unit (s := S1088) (k0_off14 i) S1.size (k0_off14_inb i)) numel1_S1 rfl
  have k0_hw4 : k0_chk4 v84 v87 := (← Prog.lift (TpuEff.assume (k0_chk4 v84 v87) (k0_chk4.dec v84 v87))).down
  let v88 : BitVec 32 := Scalar.divsi v84 8#32
  let v89 : BitVec 1 := Scalar.cmpi .sgt v84 0#32
  let v90 : BitVec 32 := Scalar.extui v89
  let v91 : BitVec 1 := Scalar.cmpi .slt v84 0#32
  let v92 : BitVec 32 := Scalar.extui v91
  let v93 : BitVec 32 := Scalar.subi v90 v92
  let v94 : BitVec 1 := Scalar.cmpi .sgt 8#32 0#32
  let v95 : BitVec 32 := Scalar.extui v94
  let v96 : BitVec 1 := Scalar.cmpi .slt 8#32 0#32
  let v97 : BitVec 32 := Scalar.extui v96
  let v98 : BitVec 32 := Scalar.subi v95 v97
  let v99 : BitVec 1 := Scalar.cmpi .ne v93 v98
  let v100 : BitVec 32 := Scalar.remsi v84 8#32
  let v101 : BitVec 1 := Scalar.cmpi .ne v100 0#32
  let v102 : BitVec 1 := Scalar.andi v99 v101
  let v103 : BitVec 32 := Scalar.subi v88 1#32
  let v104 : BitVec 32 := Scalar.select v102 v103 v88
  let v105 : BitVec 32 := Scalar.muli v104 8#32
  blkK arg4 harg4 arg5 harg5 arg6 harg6 arg11 harg11 arg12 harg12 (k0_cond8 v84 v87) (k0_off15 v84) (k0_off16 v84) ![0, 512, 0] (fun h => k0_off15_inb v84 v87 k0_hw4 h) (fun h => k0_off16_inb v84 v87 k0_hw4 h) inb_S1x2048x1024_S1x512x1024_0_512_0
    (k0_pay31 v84) (k0_pay32 v84) fun _ => do
  let v114 : BitVec 32 := Scalar.addi v105 128#32
  pure ⟨v84, v87, k0_hw4, v105, v114⟩

/-- The printed text is this one. -/
theorem k0_part4_skel_c_eq : k0_part4_skel (F := F) = k0_part4_skel_c (F := F) := rfl

/-- A part of the body in terms of its blocks. -/
def k0_part5_skel_c (i : grid0.Coords) (arg3 : Memref sig .tc .smem S1088 .i32) (harg3 : arg3.IsWhole) (arg4 : Memref sig .tc .vmem S1x1x1x2048 .i32) (harg4 : arg4.IsWhole) (arg5 : Memref sig .tc .vmem S1x1x1x2048 .f32) (harg5 : arg5.IsWhole) (arg6 : Memref sig .tc .vmem S1x2048x1024 .bf16) (harg6 : arg6.IsWhole) (arg7 : Memref sig .tc .vmem S1x1x1024x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .bf16) (harg10 : arg10.IsWhole) (arg11 : Memref sig .tc .vmem S1664x1024 .f32) (harg11 : arg11.IsWhole) (arg12 : Memref sig .tc .vmem S1664x128 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (arg0 : BitVec 32) (arg1 : BitVec 32) (arg2 : BitVec 32) (v84 : Elt F .i32) (v87 : Elt F .i32) (k0_hw4 : k0_chk4 v84 v87) (v105 : BitVec 32) (v114 : BitVec 32) :
    Prog (TpuEff nD τ sig (Elt F) Λ₀ .tc) (Σ' (v151 : BitVec 32) (v153 : Elt F .i32), BitVec 32) := do
  blkK arg4 harg4 arg5 harg5 arg6 harg6 arg11 harg11 arg12 harg12 (k0_cond9 v84 v87) (k0_off17 v84) (k0_off18 v84) ![0, 512, 0] (fun h => k0_off17_inb v84 v87 k0_hw4 h) (fun h => k0_off18_inb v84 v87 k0_hw4 h) inb_S1x2048x1024_S1x512x1024_0_512_0
    (k0_pay34 v114) (k0_pay35 v114) fun _ => do
  blkK arg4 harg4 arg5 harg5 arg6 harg6 arg11 harg11 arg12 harg12 (k0_cond10 v84 v87) (k0_off19 v84) (k0_off20 v84) ![0, 512, 0] (fun h => k0_off19_inb v84 v87 k0_hw4 h) (fun h => k0_off20_inb v84 v87 k0_hw4 h) inb_S1x2048x1024_S1x512x1024_0_512_0
    (k0_pay37 v105) (k0_pay38 v105) fun _ => do
  blkK arg4 harg4 arg5 harg5 arg6 harg6 arg11 harg11 arg12 harg12 (k0_cond11 v84 v87) (k0_off21 v84) (k0_off22 v84) ![0, 512, 0] (fun h => k0_off21_inb v84 v87 k0_hw4 h) (fun h => k0_off22_inb v84 v87 k0_hw4 h) inb_S1x2048x1024_S1x512x1024_0_512_0
    (k0_pay40 v105) (k0_pay41 v105) fun _ => do
  blkK arg4 harg4 arg5 harg5 arg6 harg6 arg11 harg11 arg12 harg12 (k0_cond12 v84 v87) (k0_off23 v84) (k0_off24 v84) ![0, 512, 0] (fun h => k0_off23_inb v84 v87 k0_hw4 h) (fun h => k0_off24_inb v84 v87 k0_hw4 h) inb_S1x2048x1024_S1x512x1024_0_512_0
    (k0_pay43 v105) (k0_pay44 v105) fun _ => do
  let v146 : BitVec 32 := Scalar.muli arg0 4#32
  let v147 : BitVec 32 := Scalar.addi v146 arg1
  let v148 : BitVec 32 := Scalar.muli v147 17#32
  let v149 : BitVec 32 := Scalar.muli arg2 4#32
  let v150 : BitVec 32 := Scalar.addi v148 v149
  let v151 : BitVec 32 := Scalar.addi v150 2#32
  let v153 : Elt F .i32 ← smemLoad arg3 (Rect.unit (s := S1088) (k0_off25 i) S1.size (k0_off25_inb i)) numel1_S1 rfl
  have k0_hw5 : k0_chk5 v153 := (← Prog.lift (TpuEff.assume (k0_chk5 v153) (k0_chk5.dec v153))).down
  pure ⟨v151, v153, 1#32⟩

/-- The printed text is this one. -/
theorem k0_part5_skel_c_eq : k0_part5_skel (F := F) = k0_part5_skel_c (F := F) := rfl

/-- A part of the body in terms of its blocks. -/
def k0_part6_skel_c (i : grid0.Coords) (arg3 : Memref sig .tc .smem S1088 .i32) (harg3 : arg3.IsWhole) (arg4 : Memref sig .tc .vmem S1x1x1x2048 .i32) (harg4 : arg4.IsWhole) (arg5 : Memref sig .tc .vmem S1x1x1x2048 .f32) (harg5 : arg5.IsWhole) (arg6 : Memref sig .tc .vmem S1x2048x1024 .bf16) (harg6 : arg6.IsWhole) (arg7 : Memref sig .tc .vmem S1x1x1024x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .bf16) (harg10 : arg10.IsWhole) (arg11 : Memref sig .tc .vmem S1664x1024 .f32) (harg11 : arg11.IsWhole) (arg12 : Memref sig .tc .vmem S1664x128 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (v151 : BitVec 32) (v153 : Elt F .i32) (c1_i32_55 : BitVec 32) :
    Prog (TpuEff nD τ sig (Elt F) Λ₀ .tc) (Σ' (v156 : Elt F .i32) (k0_hw6 : k0_chk6 v153 v156) (v174 : BitVec 32) (v192 : BitVec 32) (v193 : BitVec 1), BitVec 32) := do
  let v156 : Elt F .i32 ← smemLoad arg3 (Rect.unit (s := S1088) (k0_off26 i) S1.size (k0_off26_inb i)) numel1_S1 rfl
  have k0_hw6 : k0_chk6 v153 v156 := (← Prog.lift (TpuEff.assume (k0_chk6 v153 v156) (k0_chk6.dec v153 v156))).down
  let v157 : BitVec 32 := Scalar.divsi v153 8#32
  let v158 : BitVec 1 := Scalar.cmpi .sgt v153 0#32
  let v159 : BitVec 32 := Scalar.extui v158
  let v160 : BitVec 1 := Scalar.cmpi .slt v153 0#32
  let v161 : BitVec 32 := Scalar.extui v160
  let v162 : BitVec 32 := Scalar.subi v159 v161
  let v163 : BitVec 1 := Scalar.cmpi .sgt 8#32 0#32
  let v164 : BitVec 32 := Scalar.extui v163
  let v165 : BitVec 1 := Scalar.cmpi .slt 8#32 0#32
  let v166 : BitVec 32 := Scalar.extui v165
  let v167 : BitVec 32 := Scalar.subi v164 v166
  let v168 : BitVec 1 := Scalar.cmpi .ne v162 v167
  let v169 : BitVec 32 := Scalar.remsi v153 8#32
  let v170 : BitVec 1 := Scalar.cmpi .ne v169 0#32
  let v171 : BitVec 1 := Scalar.andi v168 v170
  let v172 : BitVec 32 := Scalar.subi v157 1#32
  let v173 : BitVec 32 := Scalar.select v171 v172 v157
  let v174 : BitVec 32 := Scalar.muli v173 8#32
  blkK arg4 harg4 arg5 harg5 arg6 harg6 arg11 harg11 arg12 harg12 (k0_cond13 v153 v156) (k0_off27 v153) (k0_off28 v153) ![0, 1024, 0] (fun h => k0_off27_inb v153 v156 k0_hw6 h) (fun h => k0_off28_inb v153 v156 k0_hw6 h) inb_S1x2048x1024_S1x512x1024_0_1024_0
    (k0_pay46 v153) (k0_pay47 v153) fun _ => do
  blkK arg4 harg4 arg5 harg5 arg6 harg6 arg11 harg11 arg12 harg12 (k0_cond14 v153 v156) (k0_off29 v153) (k0_off30 v153) ![0, 1024, 0] (fun h => k0_off29_inb v153 v156 k0_hw6 h) (fun h => k0_off30_inb v153 v156 k0_hw6 h) inb_S1x2048x1024_S1x512x1024_0_1024_0
    (k0_pay49 v153) (k0_pay50 v153) fun _ => do
  let v191 : BitVec 32 := Scalar.addi v174 256#32
  let v192 : BitVec 32 := v191
  let v193 : BitVec 1 := Scalar.cmpi .slt v192 v156
  let v194 : BitVec 32 := Scalar.addi v192 128#32
  pure ⟨v156, k0_hw6, v174, v192, v193, v194⟩

/-- The printed text is this one. -/
theorem k0_part6_skel_c_eq : k0_part6_skel (F := F) = k0_part6_skel_c (F := F) := rfl

/-- A part of the body in terms of its blocks. -/
def k0_part7_skel_c (i : grid0.Coords) (arg3 : Memref sig .tc .smem S1088 .i32) (harg3 : arg3.IsWhole) (arg4 : Memref sig .tc .vmem S1x1x1x2048 .i32) (harg4 : arg4.IsWhole) (arg5 : Memref sig .tc .vmem S1x1x1x2048 .f32) (harg5 : arg5.IsWhole) (arg6 : Memref sig .tc .vmem S1x2048x1024 .bf16) (harg6 : arg6.IsWhole) (arg7 : Memref sig .tc .vmem S1x1x1024x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .bf16) (harg10 : arg10.IsWhole) (arg11 : Memref sig .tc .vmem S1664x1024 .f32) (harg11 : arg11.IsWhole) (arg12 : Memref sig .tc .vmem S1664x128 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (arg0 : BitVec 32) (arg1 : BitVec 32) (arg2 : BitVec 32) (v153 : Elt F .i32) (v156 : Elt F .i32) (k0_hw6 : k0_chk6 v153 v156) (v174 : BitVec 32) (v192 : BitVec 32) (v193 : BitVec 1) (v194 : BitVec 32) :
    Prog (TpuEff nD τ sig (Elt F) Λ₀ .tc) (Σ' (v222 : Elt F .i32) (v225 : Elt F .i32) (k0_hw8 : k0_chk8 v222 v225) (c8_i32_83 : BitVec 32) (v226 : BitVec 32) (v231 : BitVec 32), BitVec 32) := do
  blkK arg4 harg4 arg5 harg5 arg6 harg6 arg11 harg11 arg12 harg12 (k0_cond15 v153 v156) (k0_off31 v153) (k0_off32 v153) ![0, 1024, 0] (fun h => k0_off31_inb v153 v156 k0_hw6 h) (fun h => k0_off32_inb v153 v156 k0_hw6 h) inb_S1x2048x1024_S1x512x1024_0_1024_0
    (k0_pay52 v192) (k0_pay53 v192) fun _ => do
  blkK arg4 harg4 arg5 harg5 arg6 harg6 arg11 harg11 arg12 harg12 (k0_cond16 v153 v156) (k0_off33 v153) (k0_off34 v153) ![0, 1024, 0] (fun h => k0_off33_inb v153 v156 k0_hw6 h) (fun h => k0_off34_inb v153 v156 k0_hw6 h) inb_S1x2048x1024_S1x512x1024_0_1024_0
    (k0_pay55 v174) (k0_pay56 v174) fun _ => do
  blkK arg4 harg4 arg5 harg5 arg6 harg6 arg11 harg11 arg12 harg12 (k0_cond17 v153 v156) (k0_off35 v153) (k0_off36 v153) ![0, 1024, 0] (fun h => k0_off35_inb v153 v156 k0_hw6 h) (fun h => k0_off36_inb v153 v156 k0_hw6 h) inb_S1x2048x1024_S1x512x1024_0_1024_0
    (k0_pay58 v174) (k0_pay59 v174) fun _ => do
  let v222 : Elt F .i32 ← smemLoad arg3 (Rect.unit (s := S1088) (k0_off37 i) S1.size (k0_off37_inb i)) numel1_S1 rfl
  have k0_hw7 : k0_chk7 v222 := (← Prog.lift (TpuEff.assume (k0_chk7 v222) (k0_chk7.dec v222))).down
  let v225 : Elt F .i32 ← smemLoad arg3 (Rect.unit (s := S1088) (k0_off38 i) S1.size (k0_off38_inb i)) numel1_S1 rfl
  have k0_hw8 : k0_chk8 v222 v225 := (← Prog.lift (TpuEff.assume (k0_chk8 v222 v225) (k0_chk8.dec v222 v225))).down
  let v226 : BitVec 32 := Scalar.divsi v222 8#32
  let v227 : BitVec 1 := Scalar.cmpi .sgt v222 0#32
  let v228 : BitVec 32 := Scalar.extui v227
  let v229 : BitVec 1 := Scalar.cmpi .slt v222 0#32
  let v230 : BitVec 32 := Scalar.extui v229
  let v231 : BitVec 32 := Scalar.subi v228 v230
  let v232 : BitVec 1 := Scalar.cmpi .sgt 8#32 0#32
  let v233 : BitVec 32 := Scalar.extui v232
  pure ⟨v222, v225, k0_hw8, 8#32, v226, v231, v233⟩

/-- The printed text is this one. -/
theorem k0_part7_skel_c_eq : k0_part7_skel (F := F) = k0_part7_skel_c (F := F) := rfl

/-- A part of the body in terms of its blocks. -/
def k0_part8_skel_c (i : grid0.Coords) (arg3 : Memref sig .tc .smem S1088 .i32) (harg3 : arg3.IsWhole) (arg4 : Memref sig .tc .vmem S1x1x1x2048 .i32) (harg4 : arg4.IsWhole) (arg5 : Memref sig .tc .vmem S1x1x1x2048 .f32) (harg5 : arg5.IsWhole) (arg6 : Memref sig .tc .vmem S1x2048x1024 .bf16) (harg6 : arg6.IsWhole) (arg7 : Memref sig .tc .vmem S1x1x1024x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .bf16) (harg10 : arg10.IsWhole) (arg11 : Memref sig .tc .vmem S1664x1024 .f32) (harg11 : arg11.IsWhole) (arg12 : Memref sig .tc .vmem S1664x128 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (v222 : Elt F .i32) (v225 : Elt F .i32) (k0_hw8 : k0_chk8 v222 v225) (c8_i32_83 : BitVec 32) (v226 : BitVec 32) (v231 : BitVec 32) (v233 : BitVec 32) :
    Prog (TpuEff nD τ sig (Elt F) Λ₀ .tc) (Σ' (v243 : BitVec 32) (v269 : BitVec 32) (v274 : BitVec 32), BitVec 32) := do
  let v234 : BitVec 1 := Scalar.cmpi .slt c8_i32_83 0#32
  let v235 : BitVec 32 := Scalar.extui v234
  let v236 : BitVec 32 := Scalar.subi v233 v235
  let v237 : BitVec 1 := Scalar.cmpi .ne v231 v236
  let v238 : BitVec 32 := Scalar.remsi v222 c8_i32_83
  let v239 : BitVec 1 := Scalar.cmpi .ne v238 0#32
  let v240 : BitVec 1 := Scalar.andi v237 v239
  let v241 : BitVec 32 := Scalar.subi v226 1#32
  let v242 : BitVec 32 := Scalar.select v240 v241 v226
  let v243 : BitVec 32 := Scalar.muli v242 8#32
  blkK arg4 harg4 arg5 harg5 arg6 harg6 arg11 harg11 arg12 harg12 (k0_cond18 v222 v225) (k0_off39 v222) (k0_off40 v222) ![0, 1536, 0] (fun h => k0_off39_inb v222 v225 k0_hw8 h) (fun h => k0_off40_inb v222 v225 k0_hw8 h) inb_S1x2048x1024_S1x512x1024_0_1536_0
    (k0_pay61 v222 c8_i32_83 v226 v231 v233) (k0_pay62 v222 c8_i32_83 v226 v231 v233) fun _ => do
  blkK arg4 harg4 arg5 harg5 arg6 harg6 arg11 harg11 arg12 harg12 (k0_cond19 v222 v225) (k0_off41 v222) (k0_off42 v222) ![0, 1536, 0] (fun h => k0_off41_inb v222 v225 k0_hw8 h) (fun h => k0_off42_inb v222 v225 k0_hw8 h) inb_S1x2048x1024_S1x512x1024_0_1536_0
    (k0_pay64 v222 c8_i32_83 v226 v231 v233) (k0_pay65 v222 c8_i32_83 v226 v231 v233) fun _ => do
  blkK arg4 harg4 arg5 harg5 arg6 harg6 arg11 harg11 arg12 harg12 (k0_cond20 v222 v225) (k0_off43 v222) (k0_off44 v222) ![0, 1536, 0] (fun h => k0_off43_inb v222 v225 k0_hw8 h) (fun h => k0_off44_inb v222 v225 k0_hw8 h) inb_S1x2048x1024_S1x512x1024_0_1536_0
    (k0_pay67 v222 c8_i32_83 v226 v231 v233) (k0_pay68 v222 c8_i32_83 v226 v231 v233) fun _ => do
  let v268 : BitVec 32 := Scalar.addi v243 384#32
  let v269 : BitVec 32 := v268
  let v270 : BitVec 1 := Scalar.cmpi .slt v269 v225
  let v271 : BitVec 32 := Scalar.addi v269 128#32
  let v272 : BitVec 1 := Scalar.cmpi .sgt v271 v222
  let v273 : BitVec 1 := Scalar.andi v270 v272
  let v274 : BitVec 32 := Scalar.extui v273
  pure ⟨v243, v269, v274, 0#32⟩

/-- The printed text is this one. -/
theorem k0_part8_skel_c_eq : k0_part8_skel (F := F) = k0_part8_skel_c (F := F) := rfl

/-- The body in terms of its blocks. -/
def cc0_expert_gather_ffn_skel_c (i : grid0.Coords) (arg3 : Memref sig .tc .smem S1088 .i32) (harg3 : arg3.IsWhole) (arg4 : Memref sig .tc .vmem S1x1x1x2048 .i32) (harg4 : arg4.IsWhole) (arg5 : Memref sig .tc .vmem S1x1x1x2048 .f32) (harg5 : arg5.IsWhole) (arg6 : Memref sig .tc .vmem S1x2048x1024 .bf16) (harg6 : arg6.IsWhole) (arg7 : Memref sig .tc .vmem S1x1x1024x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .bf16) (harg10 : arg10.IsWhole) (arg11 : Memref sig .tc .vmem S1664x1024 .f32) (harg11 : arg11.IsWhole) (arg12 : Memref sig .tc .vmem S1664x128 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) :
    Prog (TpuEff nD τ sig (Elt F) Λ₀ .tc) PUnit := do
  let ⟨arg0, arg1, arg2, v15, v18, k0_hw2, v35⟩ : Σ' (arg0 : BitVec 32) (arg1 : BitVec 32) (arg2 : BitVec 32) (v15 : Elt F .i32) (v18 : Elt F .i32) (k0_hw2 : k0_chk2 v15 v18), BitVec 32 ← k0_part2 i arg3 harg3 arg4 harg4 arg5 harg5 arg6 harg6 arg7 harg7 arg8 harg8 arg9 harg9 arg10 harg10 arg11 harg11 arg12 harg12 arg13 harg13 arg14 harg14 arg15 harg15
  let ⟨v70, v75, c0_i32_23⟩ : Σ' (v70 : BitVec 32) (v75 : BitVec 32), BitVec 32 ← k0_part3 i arg3 harg3 arg4 harg4 arg5 harg5 arg6 harg6 arg7 harg7 arg8 harg8 arg9 harg9 arg10 harg10 arg11 harg11 arg12 harg12 arg13 harg13 arg14 harg14 arg15 harg15 v15 v18 k0_hw2 v35
  let ⟨v84, v87, k0_hw4, v105, v114⟩ : Σ' (v84 : Elt F .i32) (v87 : Elt F .i32) (k0_hw4 : k0_chk4 v84 v87) (v105 : BitVec 32), BitVec 32 ← k0_part4 i arg3 harg3 arg4 harg4 arg5 harg5 arg6 harg6 arg7 harg7 arg8 harg8 arg9 harg9 arg10 harg10 arg11 harg11 arg12 harg12 arg13 harg13 arg14 harg14 arg15 harg15 arg0 arg1 arg2 v15 v18 k0_hw2 v70 v75 c0_i32_23
  let ⟨v151, v153, c1_i32_55⟩ : Σ' (v151 : BitVec 32) (v153 : Elt F .i32), BitVec 32 ← k0_part5 i arg3 harg3 arg4 harg4 arg5 harg5 arg6 harg6 arg7 harg7 arg8 harg8 arg9 harg9 arg10 harg10 arg11 harg11 arg12 harg12 arg13 harg13 arg14 harg14 arg15 harg15 arg0 arg1 arg2 v84 v87 k0_hw4 v105 v114
  let ⟨v156, k0_hw6, v174, v192, v193, v194⟩ : Σ' (v156 : Elt F .i32) (k0_hw6 : k0_chk6 v153 v156) (v174 : BitVec 32) (v192 : BitVec 32) (v193 : BitVec 1), BitVec 32 ← k0_part6 i arg3 harg3 arg4 harg4 arg5 harg5 arg6 harg6 arg7 harg7 arg8 harg8 arg9 harg9 arg10 harg10 arg11 harg11 arg12 harg12 arg13 harg13 arg14 harg14 arg15 harg15 v151 v153 c1_i32_55
  let ⟨v222, v225, k0_hw8, c8_i32_83, v226, v231, v233⟩ : Σ' (v222 : Elt F .i32) (v225 : Elt F .i32) (k0_hw8 : k0_chk8 v222 v225) (c8_i32_83 : BitVec 32) (v226 : BitVec 32) (v231 : BitVec 32), BitVec 32 ← k0_part7 i arg3 harg3 arg4 harg4 arg5 harg5 arg6 harg6 arg7 harg7 arg8 harg8 arg9 harg9 arg10 harg10 arg11 harg11 arg12 harg12 arg13 harg13 arg14 harg14 arg15 harg15 arg0 arg1 arg2 v153 v156 k0_hw6 v174 v192 v193 v194
  let ⟨v243, v269, v274, c0_i32_102⟩ : Σ' (v243 : BitVec 32) (v269 : BitVec 32) (v274 : BitVec 32), BitVec 32 ← k0_part8 i arg3 harg3 arg4 harg4 arg5 harg5 arg6 harg6 arg7 harg7 arg8 harg8 arg9 harg9 arg10 harg10 arg11 harg11 arg12 harg12 arg13 harg13 arg14 harg14 arg15 harg15 v222 v225 k0_hw8 c8_i32_83 v226 v231 v233
  blkK arg4 harg4 arg5 harg5 arg6 harg6 arg11 harg11 arg12 harg12 (k0_cond21 v222 v225) (k0_off45 v222) (k0_off46 v222) ![0, 1536, 0] (fun h => k0_off45_inb v222 v225 k0_hw8 h) (fun h => k0_off46_inb v222 v225 k0_hw8 h) inb_S1x2048x1024_S1x512x1024_0_1536_0
    (k0_pay2 v269) (k0_pay3 v269) fun _ => do
  blkK arg4 harg4 arg5 harg5 arg6 harg6 arg11 harg11 arg12 harg12 (k0_cond22 v222 v225) (k0_off47 v222) (k0_off48 v222) ![0, 1536, 0] (fun h => k0_off47_inb v222 v225 k0_hw8 h) (fun h => k0_off48_inb v222 v225 k0_hw8 h) inb_S1x2048x1024_S1x512x1024_0_1536_0
    (k0_pay5 v243) (k0_pay6 v243) fun _ => do
  if k0_h23 : k0_cond23 i = 1#1 then do
    let v317 : FVec F S512x1024 .f32 ← k0_part1 i arg3 harg3 arg4 harg4 arg5 harg5 arg6 harg6 arg7 harg7 arg8 harg8 arg9 harg9 arg10 harg10 arg11 harg11 arg12 harg12 arg13 harg13 arg14 harg14 arg15 harg15
    let v318 : Vec F S512x1 .f32 ← Prog.lift (.load arg12 (Rect.unit (s := S1664x128) ![512, 0] S512x1.size inb_S1664x128_S512x1_512_0).toLoadRect (View.loadsAt_vmem h_S512x1))
    let v322 : Vec F S1x1x512x1024 .bf16 ← Prog.lift (.load arg10 (Rect.unit (s := S1x1x1024x1024) ![0, 0, 512, 0] S1x1x512x1024.size inb_S1x1x1024x1024_S1x1x512x1024_0_0_512_0).toLoadRect (View.loadsAt_vmem h_S1x1x512x1024))
    Prog.lift (.store arg10 (Rect.unit (s := S1x1x1024x1024) ![0, 0, 512, 0] S1x1x512x1024.size inb_S1x1x1024x1024_S1x1x512x1024_0_0_512_0) (k0_pay7 v317 v318) Finset.univ (View.stores_vmem h_S1x1x512x1024 (harg10.storeExact_slice rfl _ packedbf16_S1x1x1024x1024_S1x1x512x1024_0_0_512_0) (fun _ => rfl)) (.inl rfl))
    pure ⟨⟩
  else do
    pure ⟨⟩
  pure ⟨⟩

/-- The printed text is this one. -/
theorem cc0_expert_gather_ffn_skel_c_eq : cc0_expert_gather_ffn_skel (F := F) = cc0_expert_gather_ffn_skel_c (F := F) := rfl

end Cert.Kernel4Ideal.Experts
end
-- ==== Proof.Experts.BodyI.lean ====
module

public import proofs.«01_k».proof.Proof.Experts.CleanI
public import proofs.«01_k».proof.Proof.Gen.Kernel4Ideal.Skeleton

@[expose] public section

set_option maxRecDepth 16384

noncomputable section

namespace Cert.Kernel4Ideal.Experts

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The first row of the windows of a tile whose first position is `s`: `s` rounded down to a multiple of eight. -/
def bs (s : BitVec 32) : BitVec 32 :=
  Scalar.muli (Scalar.select (Scalar.andi (Scalar.cmpi .ne (Scalar.subi (Scalar.extui (Scalar.cmpi .sgt s 0#32)) (Scalar.extui (Scalar.cmpi .slt s 0#32)))
      (Scalar.subi (Scalar.extui (Scalar.cmpi .sgt 8#32 0#32)) (Scalar.extui (Scalar.cmpi .slt 8#32 0#32)))) (Scalar.cmpi .ne (Scalar.remsi s 8#32) 0#32))
    (Scalar.subi (Scalar.divsi s 8#32) 1#32) (Scalar.divsi s 8#32)) 8#32

/-- The first row of the window `d` rows further on. -/
def wd (d s : BitVec 32) : BitVec 32 := Scalar.addi (bs s) d

/-- Whether that window of rows meets the tile's positions. -/
def cnd (d s e : BitVec 32) : BitVec 1 :=
  Scalar.cmpi .ne (Scalar.extui (Scalar.andi (Scalar.cmpi .slt (wd d s) e) (Scalar.cmpi .sgt (Scalar.addi (wd d s) 128#32) s))) 0#32

/-- Where that window lies. -/
def wof (d s : BitVec 32) : Fin 2 → ℕ := ![(Scalar.indexCast (wd d s)).toNat, 0]

/-- Which of the 512 tokens of the tile at `so` go to which of the 128 rows from `w` on. -/
def hit (so : Fin 2 → ℕ) (hs : S1x2048.Slices so S1x512) (w : BitVec 32) (x0 : Vec F S1x1x1x2048 .i32) : IVec S128x512 1 :=
  cmpi .eq (broadcastTo S128x512 (extractStridedSlice S1x512 so (shapeCast S1x2048 x0 shapeCasts_S1x1x1x2048_S1x2048) hs) broadcasts_S1x512_S128x512)
    (addi (broadcast S128x512 w) (iota .tc S128x512 32 [0] iota_S128x512_d0_w32))

/-- The rows with the tile's tokens added. -/
def addX (so : Fin 2 → ℕ) (hs : S1x2048.Slices so S1x512) (w : BitVec 32) (x0 : Vec F S1x1x1x2048 .i32) (o : Vec F S128x1024 .f32) (h : Vec F S1x512x1024 .bf16) : Vec F S128x1024 .f32 :=
  shapeCast S128x1024 (addf o (matmul dot_S128x512_S512x1024_S128x1024_1_0_0_1_n_n none
    (truncf .bf16 (sitofp .f32 (extui 32 (hit so hs w x0) natLt_1_32)) bitsLt_bf16_f32) (shapeCast S512x1024 h shapeCasts_S1x512x1024_S512x1024)
    (constant S128x1024 .f32 0x00000000#32))) shapeCasts_S128x1024_S128x1024

/-- The rows with the tile's affinities added. -/
def addG (so : Fin 2 → ℕ) (hs : S1x2048.Slices so S1x512) (w : BitVec 32) (x0 : Vec F S1x1x1x2048 .i32) (x1 : Vec F S1x1x1x2048 .f32) (o : Vec F S128x128 .f32) : Vec F S128x128 .f32 :=
  shapeCast S128x128 (addf o (broadcastTo S128x128 (shapeCast S128x1 (shapeCast S128x1 (multiReduction .add [1] S128
    (select (hit so hs w x0) (broadcastTo S128x512 (shapeCast S1x512 (extractStridedSlice S1x512 so (shapeCast S1x2048 x1 shapeCasts_S1x1x1x2048_S1x2048) hs) shapeCasts_S1x512_S1x512) broadcasts_S1x512_S128x512)
      (broadcast S128x512 (Scalar.ofBits .f32 0x00000000#32))) 0x00000000#32 reduces_S128x512_S128 (.inl rfl) rfl) shapeCasts_S128_S128x1) shapeCasts_S128x1_S128x1)
    broadcasts_S128x1_S128x128)) shapeCasts_S128x128_S128x128

/-- The sums of tokens after the five windows of one tile. -/
def TileX (so : Fin 2 → ℕ) (hs : S1x2048.Slices so S1x512) (s e : BitVec 32) (x0 : Vec F S1x1x1x2048 .i32) (h : Vec F S1x512x1024 .bf16) (X X' : Vec F S1664x1024 .f32) : Prop :=
  ∃ X1 X2 X3 X4, BlkX (cnd 0#32 s e) (wof 0#32 s) (fun o => addX so hs (wd 0#32 s) x0 o h) X X1
    ∧ BlkX (cnd 128#32 s e) (wof 128#32 s) (fun o => addX so hs (wd 128#32 s) x0 o h) X1 X2
    ∧ BlkX (cnd 256#32 s e) (wof 256#32 s) (fun o => addX so hs (wd 256#32 s) x0 o h) X2 X3
    ∧ BlkX (cnd 384#32 s e) (wof 384#32 s) (fun o => addX so hs (wd 384#32 s) x0 o h) X3 X4
    ∧ BlkX (cnd 512#32 s e) (wof 512#32 s) (fun o => addX so hs (wd 512#32 s) x0 o h) X4 X'

/-- The sums of affinities after the five windows of one tile. -/
def TileG (so : Fin 2 → ℕ) (hs : S1x2048.Slices so S1x512) (s e : BitVec 32) (x0 : Vec F S1x1x1x2048 .i32) (x1 : Vec F S1x1x1x2048 .f32) (X X' : Vec F S1664x128 .f32) : Prop :=
  ∃ X1 X2 X3 X4, BlkG (cnd 0#32 s e) (wof 0#32 s) (fun o => addG so hs (wd 0#32 s) x0 x1 o) X X1
    ∧ BlkG (cnd 128#32 s e) (wof 128#32 s) (fun o => addG so hs (wd 128#32 s) x0 x1 o) X1 X2
    ∧ BlkG (cnd 256#32 s e) (wof 256#32 s) (fun o => addG so hs (wd 256#32 s) x0 x1 o) X2 X3
    ∧ BlkG (cnd 384#32 s e) (wof 384#32 s) (fun o => addG so hs (wd 384#32 s) x0 x1 o) X3 X4
    ∧ BlkG (cnd 512#32 s e) (wof 512#32 s) (fun o => addG so hs (wd 512#32 s) x0 x1 o) X4 X'

/-- A word of the table. -/
def word (T : Vec F S1088 .i32) (off : Fin 1 → ℕ) (inb : ∀ a, off a + S1.size a ≤ S1088.size a) : BitVec 32 :=
  T ((Rect.unit (s := S1088) off S1.size inb).emb (Shape.Idx.first (numel1_S1.symm ▸ Nat.one_pos)))

/-- The sums of tokens after the four tiles of a grid point. -/
def StepX (i : grid0.Coords) (T : Vec F S1088 .i32) (x0 : Vec F S1x1x1x2048 .i32) (x2 : Vec F S1x2048x1024 .bf16) (X X' : Vec F S1664x1024 .f32) : Prop :=
  ∃ X1 X2 X3, TileX ![0, 0] slices_S1x2048_o0_0_S1x512 (word T (k0_off1 i) (k0_off1_inb i)) (word T (k0_off2 i) (k0_off2_inb i)) x0 (VecWindow.window x2 ![0, 0, 0] S1x512x1024.size inb_S1x2048x1024_S1x512x1024_0_0_0) X X1
    ∧ TileX ![0, 512] slices_S1x2048_o0_512_S1x512 (word T (k0_off13 i) (k0_off13_inb i)) (word T (k0_off14 i) (k0_off14_inb i)) x0 (VecWindow.window x2 ![0, 512, 0] S1x512x1024.size inb_S1x2048x1024_S1x512x1024_0_512_0) X1 X2
    ∧ TileX ![0, 1024] slices_S1x2048_o0_1024_S1x512 (word T (k0_off25 i) (k0_off25_inb i)) (word T (k0_off26 i) (k0_off26_inb i)) x0 (VecWindow.window x2 ![0, 1024, 0] S1x512x1024.size inb_S1x2048x1024_S1x512x1024_0_1024_0) X2 X3
    ∧ TileX ![0, 1536] slices_S1x2048_o0_1536_S1x512 (word T (k0_off37 i) (k0_off37_inb i)) (word T (k0_off38 i) (k0_off38_inb i)) x0 (VecWindow.window x2 ![0, 1536, 0] S1x512x1024.size inb_S1x2048x1024_S1x512x1024_0_1536_0) X3 X'

/-- The sums of affinities after the four tiles of a grid point. -/
def StepG (i : grid0.Coords) (T : Vec F S1088 .i32) (x0 : Vec F S1x1x1x2048 .i32) (x1 : Vec F S1x1x1x2048 .f32) (X X' : Vec F S1664x128 .f32) : Prop :=
  ∃ X1 X2 X3, TileG ![0, 0] slices_S1x2048_o0_0_S1x512 (word T (k0_off1 i) (k0_off1_inb i)) (word T (k0_off2 i) (k0_off2_inb i)) x0 x1 X X1
    ∧ TileG ![0, 512] slices_S1x2048_o0_512_S1x512 (word T (k0_off13 i) (k0_off13_inb i)) (word T (k0_off14 i) (k0_off14_inb i)) x0 x1 X1 X2
    ∧ TileG ![0, 1024] slices_S1x2048_o0_1024_S1x512 (word T (k0_off25 i) (k0_off25_inb i)) (word T (k0_off26 i) (k0_off26_inb i)) x0 x1 X2 X3
    ∧ TileG ![0, 1536] slices_S1x2048_o0_1536_S1x512 (word T (k0_off37 i) (k0_off37_inb i)) (word T (k0_off38 i) (k0_off38_inb i)) x0 x1 X3 X'

/-- One conditional window of rows, then what follows. -/
theorem wp_blkK {α : Type} (c : Dev nD) (E : Set ℕ)
    (arg4 : Memref sig .tc .vmem S1x1x1x2048 .i32) (harg4 : arg4.IsWhole) (arg5 : Memref sig .tc .vmem S1x1x1x2048 .f32) (harg5 : arg5.IsWhole)
    (arg6 : Memref sig .tc .vmem S1x2048x1024 .bf16) (harg6 : arg6.IsWhole)
    (arg11 : Memref sig .tc .vmem S1664x1024 .f32) (harg11 : arg11.IsWhole) (arg12 : Memref sig .tc .vmem S1664x128 .f32) (harg12 : arg12.IsWhole)
    (x0 : Vec F S1x1x1x2048 .i32) (x1 : Vec F S1x1x1x2048 .f32) (x2 : Vec F S1x2048x1024 .bf16) (X : Vec F S1664x1024 .f32) (G : Vec F S1664x128 .f32)
    (cond : BitVec 1) (offX offG : Fin 2 → ℕ) (offH : Fin 3 → ℕ)
    (inbX : cond = 1#1 → ∀ a, offX a + S128x1024.size a ≤ S1664x1024.size a) (inbG : cond = 1#1 → ∀ a, offG a + S128x128.size a ≤ S1664x128.size a)
    (inbH : ∀ a, offH a + S1x512x1024.size a ≤ S1x2048x1024.size a)
    (pX : Vec F S1x1x1x2048 .i32 → Vec F S128x1024 .f32 → Vec F S1x512x1024 .bf16 → Vec F S128x1024 .f32)
    (pG : Vec F S1x1x1x2048 .i32 → Vec F S1x1x1x2048 .f32 → Vec F S128x128 .f32 → Vec F S128x128 .f32)
    (jp : PUnit.{1} → Prog (TpuEff nD τ sig (Elt F) Λ₀ .tc) α) (K : α → sProp (MT nD τ sig Unit (Elt F) ℕ (UR sig nD τ) ℕ)) :
    iprop(Held c arg4 arg5 arg6 arg11 arg12 x0 x1 x2 X G
        ∗ (∀ X' G', ⌜BlkX cond offX (fun o => pX x0 o (VecWindow.window x2 offH S1x512x1024.size inbH)) X X'⌝ -∗ ⌜BlkG cond offG (fun o => pG x0 x1 o) G G'⌝
          -∗ Held c arg4 arg5 arg6 arg11 arg12 x0 x1 x2 X' G' -∗ wp frame (wpE (defs₀ (F := F)) Variants.none c none) E (jp ⟨⟩) K))
      ⊢ wp frame (wpE (defs₀ (F := F)) Variants.none c none) E
        (blkK arg4 harg4 arg5 harg5 arg6 harg6 arg11 harg11 arg12 harg12 cond offX offG offH inbX inbG inbH pX pG jp) K := by
  unfold blkK
  exact wp_block c E arg4 harg4 arg5 harg5 arg6 harg6 arg11 harg11 arg12 harg12 x0 x1 x2 X G cond offX offG offH inbX inbG inbH pX pG jp K

/-- The conversion of the weights, then what follows. -/
theorem wp_castK {α : Type} (c : Dev nD) (E : Set ℕ) (arg7 : Memref sig .tc .vmem S1x1x1024x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole)
    (x3 : Vec F S1x1x1024x1024 .f32) (x4 : Vec F S1x1x1024x1024 .f32) (x5 : Vec F S1x1x1024x1024 .f32) (W1 : Vec F S1024x1024 .bf16) (W3 : Vec F S1024x1024 .bf16) (W2 : Vec F S1024x1024 .bf16) (cond : BitVec 1)
    (jp : PUnit.{1} → Prog (TpuEff nD τ sig (Elt F) Λ₀ .tc) α) (K : α → sProp (MT nD τ sig Unit (Elt F) ℕ (UR sig nD τ) ℕ)) :
    iprop(owns (c : Thread nD τ) arg7 fullShare x3 ∗ owns (c : Thread nD τ) arg8 fullShare x4 ∗ owns (c : Thread nD τ) arg9 fullShare x5 ∗ owns (c : Thread nD τ) arg13 fullShare W1 ∗ owns (c : Thread nD τ) arg14 fullShare W3 ∗ owns (c : Thread nD τ) arg15 fullShare W2
        ∗ (iprop(owns (c : Thread nD τ) arg7 fullShare x3 ∗ owns (c : Thread nD τ) arg8 fullShare x4 ∗ owns (c : Thread nD τ) arg9 fullShare x5 ∗ owns (c : Thread nD τ) arg13 fullShare (if cond = 1#1 then k0_pay10 x3 else W1) ∗ owns (c : Thread nD τ) arg14 fullShare (if cond = 1#1 then k0_pay11 x4 else W3) ∗ owns (c : Thread nD τ) arg15 fullShare (if cond = 1#1 then k0_pay12 x5 else W2)) -∗ wp frame (wpE (defs₀ (F := F)) Variants.none c none) E (jp ⟨⟩) K))
      ⊢ wp frame (wpE (defs₀ (F := F)) Variants.none c none) E
        (castK arg7 harg7 arg8 harg8 arg9 harg9 arg13 harg13 arg14 harg14 arg15 harg15 cond jp) K := by
  unfold castK
  exact wp_cast c E arg7 harg7 arg8 harg8 arg9 harg9 arg13 harg13 arg14 harg14 arg15 harg15 x3 x4 x5 W1 W3 W2 cond jp K

/-- The clearing of the sums, then what follows. -/
theorem wp_zeroK {α : Type} (c : Dev nD) (E : Set ℕ) (arg11 : Memref sig .tc .vmem S1664x1024 .f32) (harg11 : arg11.IsWhole) (arg12 : Memref sig .tc .vmem S1664x128 .f32) (harg12 : arg12.IsWhole)
    (X : Vec F S1664x1024 .f32) (G : Vec F S1664x128 .f32) (cond : BitVec 1)
    (jp : PUnit.{1} → Prog (TpuEff nD τ sig (Elt F) Λ₀ .tc) α) (K : α → sProp (MT nD τ sig Unit (Elt F) ℕ (UR sig nD τ) ℕ)) :
    iprop(owns (c : Thread nD τ) arg11 fullShare X ∗ owns (c : Thread nD τ) arg12 fullShare G
        ∗ (iprop(owns (c : Thread nD τ) arg11 fullShare (if cond = 1#1 then k0_pay13 else X) ∗ owns (c : Thread nD τ) arg12 fullShare (if cond = 1#1 then k0_pay14 else G)) -∗ wp frame (wpE (defs₀ (F := F)) Variants.none c none) E (jp ⟨⟩) K))
      ⊢ wp frame (wpE (defs₀ (F := F)) Variants.none c none) E
        (zeroK arg11 harg11 arg12 harg12 cond jp) K := by
  unfold zeroK
  exact wp_zero c E arg11 harg11 arg12 harg12 X G cond jp K

/-- Reading a word of the table, then what follows. -/
theorem wp_wordK {α : Type} (c : Dev nD) (E : Set ℕ) (arg3 : Memref sig .tc .smem S1088 .i32) (q : PosShare TreeShare) (T : Vec F S1088 .i32)
    (off : Fin 1 → ℕ) (inb : ∀ a, off a + S1.size a ≤ S1088.size a) (jp : Elt F .i32 → Prog (TpuEff nD τ sig (Elt F) Λ₀ .tc) α)
    (K : α → sProp (MT nD τ sig Unit (Elt F) ℕ (UR sig nD τ) ℕ)) :
    iprop(owns (c : Thread nD τ) arg3 q T ∗ (owns (c : Thread nD τ) arg3 q T -∗ wp frame (wpE (defs₀ (F := F)) Variants.none c none) E (jp (word T off inb)) K))
      ⊢ wp frame (wpE (defs₀ (F := F)) Variants.none c none) E (smemLoad arg3 (Rect.unit (s := S1088) off S1.size inb) numel1_S1 rfl >>= jp) K := by
  refine BIBase.Entails.trans ?_ (Entails.of_eq (wp_bind _ _ _ _ _ _).symm)
  unfold owns
  iintro ⟨⟨%f0, %hf0, H0⟩, Hk⟩
  subst hf0
  sl_exec
  iapply Hk
  iexists _; isplitr; swap
  · iexact H0
  · ipureintro; rfl

/-- An assumed side condition that holds, then what follows. -/
theorem wp_sideK {α : Type} (c : Dev nD) (E : Set ℕ) {P : Prop} {d : Decidable P} (h : P) (jp : PLift P → Prog (TpuEff nD τ sig (Elt F) Λ₀ .tc) α)
    (K : α → sProp (MT nD τ sig Unit (Elt F) ℕ (UR sig nD τ) ℕ)) :
    wp frame (wpE (defs₀ (F := F)) Variants.none c none) E (jp ⟨h⟩) K ⊢ wp frame (wpE (defs₀ (F := F)) Variants.none c none) E (Prog.lift (TpuEff.assume P d) >>= jp) K :=
  wp_assume (c := (c : Thread nD τ)) Variants.none none E (k := jp) h

/-- A part, then what follows. -/
theorem wp_seqK {α β : Type} (c : Dev nD) (E : Set ℕ) (p : Prog (TpuEff nD τ sig (Elt F) Λ₀ .tc) β) (jp : β → Prog (TpuEff nD τ sig (Elt F) Λ₀ .tc) α)
    (K : α → sProp (MT nD τ sig Unit (Elt F) ℕ (UR sig nD τ) ℕ)) :
    wp frame (wpE (defs₀ (F := F)) Variants.none c none) E p (fun v => wp frame (wpE (defs₀ (F := F)) Variants.none c none) E (jp v) K) ⊢ wp frame (wpE (defs₀ (F := F)) Variants.none c none) E (p >>= jp) K :=
  Entails.of_eq (wp_bind _ _ _ _ _ _).symm

/-- The end of a part. -/
theorem wp_endK {α : Type} (c : Dev nD) (E : Set ℕ) (v : α)
    (K : α → sProp (MT nD τ sig Unit (Elt F) ℕ (UR sig nD τ) ℕ)) :
    K v ⊢ wp frame (wpE (defs₀ (F := F)) Variants.none c none) E (pure v : Prog (TpuEff nD τ sig (Elt F) Λ₀ .tc) α) K := by
  rw [wp_pure]
  iintro H
  imodintro
  iexact H

/-- Whether the weights are converted at this grid point: the first point of an expert. -/
def cast1 (i : grid0.Coords) : BitVec 1 := Scalar.cmpi .ne (Scalar.extui (Scalar.andi (Scalar.cmpi .eq (BitVec.ofNat 32 (i 1).val) 0#32) (Scalar.cmpi .eq (BitVec.ofNat 32 (i 2).val) 0#32))) 0#32

/-- Whether the sums are cleared at this grid point: the first group of tiles of a row of the batch. -/
def clear1 (i : grid0.Coords) : BitVec 1 := Scalar.cmpi .ne (Scalar.extui (Scalar.cmpi .eq (BitVec.ofNat 32 (i 2).val) 0#32)) 0#32

set_option maxHeartbeats 4000000 in
/-- The body at a grid point, on whole buffers: it runs to its end when the table's words satisfy the side conditions, and leaves the sums as
    `StepX` and `StepG` say and the output as `outVal` says. -/
theorem wp_body (c : Dev nD) (E : Set ℕ) (i : grid0.Coords) (arg3 : Memref sig .tc .smem S1088 .i32) (harg3 : arg3.IsWhole) (arg4 : Memref sig .tc .vmem S1x1x1x2048 .i32) (harg4 : arg4.IsWhole) (arg5 : Memref sig .tc .vmem S1x1x1x2048 .f32) (harg5 : arg5.IsWhole) (arg6 : Memref sig .tc .vmem S1x2048x1024 .bf16) (harg6 : arg6.IsWhole) (arg7 : Memref sig .tc .vmem S1x1x1024x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .bf16) (harg10 : arg10.IsWhole) (arg11 : Memref sig .tc .vmem S1664x1024 .f32) (harg11 : arg11.IsWhole) (arg12 : Memref sig .tc .vmem S1664x128 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole)
    (q : PosShare TreeShare) (T : Vec F S1088 .i32)
    (x0 : Vec F S1x1x1x2048 .i32) (x1 : Vec F S1x1x1x2048 .f32) (x2 : Vec F S1x2048x1024 .bf16) (x3 : Vec F S1x1x1024x1024 .f32) (x4 : Vec F S1x1x1024x1024 .f32) (x5 : Vec F S1x1x1024x1024 .f32) (Y : Vec F S1x1x1024x1024 .bf16) (X : Vec F S1664x1024 .f32) (G : Vec F S1664x128 .f32) (W1 : Vec F S1024x1024 .bf16) (W3 : Vec F S1024x1024 .bf16) (W2 : Vec F S1024x1024 .bf16)
    (hchk1 : ∀ off inb, k0_chk1 (word T off inb) ∧ k0_chk3 (word T off inb) ∧ k0_chk5 (word T off inb) ∧ k0_chk7 (word T off inb))
    (hchk2 : ∀ off inb off' inb', k0_chk2 (word T off inb) (word T off' inb') ∧ k0_chk4 (word T off inb) (word T off' inb') ∧ k0_chk6 (word T off inb) (word T off' inb') ∧ k0_chk8 (word T off inb) (word T off' inb'))
    (K : PUnit → sProp (MT nD τ sig Unit (Elt F) ℕ (UR sig nD τ) ℕ)) :
    iprop(owns (c : Thread nD τ) arg3 q T ∗ Held c arg4 arg5 arg6 arg11 arg12 x0 x1 x2 X G
        ∗ owns (c : Thread nD τ) arg7 fullShare x3 ∗ owns (c : Thread nD τ) arg8 fullShare x4 ∗ owns (c : Thread nD τ) arg9 fullShare x5 ∗ owns (c : Thread nD τ) arg10 fullShare Y ∗ owns (c : Thread nD τ) arg13 fullShare W1 ∗ owns (c : Thread nD τ) arg14 fullShare W3 ∗ owns (c : Thread nD τ) arg15 fullShare W2
        ∗ (∀ X' G', ⌜StepX i T x0 x2 (if clear1 i = 1#1 then k0_pay13 else X) X'⌝ -∗ ⌜StepG i T x0 x1 (if clear1 i = 1#1 then k0_pay14 else G) G'⌝
          -∗ owns (c : Thread nD τ) arg3 q T -∗ Held c arg4 arg5 arg6 arg11 arg12 x0 x1 x2 X' G'
          -∗ owns (c : Thread nD τ) arg7 fullShare x3 -∗ owns (c : Thread nD τ) arg8 fullShare x4 -∗ owns (c : Thread nD τ) arg9 fullShare x5
          -∗ owns (c : Thread nD τ) arg10 fullShare (if k0_cond23 i = 1#1 then outVal Y X' G' (if cast1 i = 1#1 then k0_pay10 x3 else W1) (if cast1 i = 1#1 then k0_pay11 x4 else W3) (if cast1 i = 1#1 then k0_pay12 x5 else W2) else Y)
          -∗ owns (c : Thread nD τ) arg13 fullShare (if cast1 i = 1#1 then k0_pay10 x3 else W1) -∗ owns (c : Thread nD τ) arg14 fullShare (if cast1 i = 1#1 then k0_pay11 x4 else W3) -∗ owns (c : Thread nD τ) arg15 fullShare (if cast1 i = 1#1 then k0_pay12 x5 else W2) -∗ K ⟨⟩))
      ⊢ wp frame (wpE (defs₀ (F := F)) Variants.none c none) E (cc0_expert_gather_ffn i arg3 harg3 arg4 harg4 arg5 harg5 arg6 harg6 arg7 harg7 arg8 harg8 arg9 harg9 arg10 harg10 arg11 harg11 arg12 harg12 arg13 harg13 arg14 harg14 arg15 harg15 : Prog (TpuEff nD τ sig (Elt F) Λ₀ .tc) PUnit) K := by
  iintro ⟨HT, HH, H7, H8, H9, H10, H13, H14, H15, Hk⟩
  rw [show (cc0_expert_gather_ffn (F := F)) = cc0_expert_gather_ffn_skel_c from cc0_expert_gather_ffn_eq_skeleton.trans cc0_expert_gather_ffn_skel_c_eq]
  unfold cc0_expert_gather_ffn_skel_c cast1
  iapply wp_seqK
  rw [show (k0_part2 (F := F)) = k0_part2_skel_c from k0_part2_eq_skeleton.trans k0_part2_skel_c_eq]
  unfold k0_part2_skel_c
  iapply wp_castK c E arg7 harg7 arg8 harg8 arg9 harg9 arg13 harg13 arg14 harg14 arg15 harg15 x3 x4 x5 W1 W3 W2
  isplitl [H7]; · iexact H7
  isplitl [H8]; · iexact H8
  isplitl [H9]; · iexact H9
  isplitl [H13]; · iexact H13
  isplitl [H14]; · iexact H14
  isplitl [H15]; · iexact H15
  iintro ⟨H7, H8, H9, H13, H14, H15⟩
  unfold Held
  icases HH with ⟨H4, H5, H6, H11, H12⟩
  iapply wp_zeroK c E arg11 harg11 arg12 harg12 X G
  isplitl [H11]; · iexact H11
  isplitl [H12]; · iexact H12
  iintro ⟨H11, H12⟩
  ihave HH : iprop(Held c arg4 arg5 arg6 arg11 arg12 x0 x1 x2 (if clear1 i = 1#1 then k0_pay13 else X) (if clear1 i = 1#1 then k0_pay14 else G)) $$ [H4 H5 H6 H11 H12]
  · unfold Held clear1; iframe
  iapply wp_wordK c E arg3 q T
  isplitl [HT]; · iexact HT
  iintro HT
  iapply wp_sideK c E (hchk1 (k0_off1 i) (k0_off1_inb i)).1
  iapply wp_wordK c E arg3 q T
  isplitl [HT]; · iexact HT
  iintro HT
  iapply wp_sideK c E (hchk2 (k0_off1 i) (k0_off1_inb i) (k0_off2 i) (k0_off2_inb i)).1
  iapply wp_endK
  dsimp only
  iapply wp_seqK
  rw [show (k0_part3 (F := F)) = k0_part3_skel_c from k0_part3_eq_skeleton.trans k0_part3_skel_c_eq]
  unfold k0_part3_skel_c
  iapply wp_blkK
  isplitl [HH]; · iexact HH
  iintro %X00 %G00 %hX00 %hG00 HH
  replace hX00 : BlkX (cnd 0#32 (word T (k0_off1 i) (k0_off1_inb i)) (word T (k0_off2 i) (k0_off2_inb i))) (wof 0#32 (word T (k0_off1 i) (k0_off1_inb i))) (fun o => addX ![0, 0] slices_S1x2048_o0_0_S1x512 (wd 0#32 (word T (k0_off1 i) (k0_off1_inb i))) x0 o (VecWindow.window x2 ![0, 0, 0] S1x512x1024.size inb_S1x2048x1024_S1x512x1024_0_0_0)) (if clear1 i = 1#1 then k0_pay13 else X) X00 := hX00
  replace hG00 : BlkG (cnd 0#32 (word T (k0_off1 i) (k0_off1_inb i)) (word T (k0_off2 i) (k0_off2_inb i))) (wof 0#32 (word T (k0_off1 i) (k0_off1_inb i))) (fun o => addG ![0, 0] slices_S1x2048_o0_0_S1x512 (wd 0#32 (word T (k0_off1 i) (k0_off1_inb i))) x0 x1 o) (if clear1 i = 1#1 then k0_pay14 else G) G00 := hG00
  iapply wp_blkK
  isplitl [HH]; · iexact HH
  iintro %X01 %G01 %hX01 %hG01 HH
  replace hX01 : BlkX (cnd 128#32 (word T (k0_off1 i) (k0_off1_inb i)) (word T (k0_off2 i) (k0_off2_inb i))) (wof 128#32 (word T (k0_off1 i) (k0_off1_inb i))) (fun o => addX ![0, 0] slices_S1x2048_o0_0_S1x512 (wd 128#32 (word T (k0_off1 i) (k0_off1_inb i))) x0 o (VecWindow.window x2 ![0, 0, 0] S1x512x1024.size inb_S1x2048x1024_S1x512x1024_0_0_0)) X00 X01 := hX01
  replace hG01 : BlkG (cnd 128#32 (word T (k0_off1 i) (k0_off1_inb i)) (word T (k0_off2 i) (k0_off2_inb i))) (wof 128#32 (word T (k0_off1 i) (k0_off1_inb i))) (fun o => addG ![0, 0] slices_S1x2048_o0_0_S1x512 (wd 128#32 (word T (k0_off1 i) (k0_off1_inb i))) x0 x1 o) G00 G01 := hG01
  iapply wp_blkK
  isplitl [HH]; · iexact HH
  iintro %X02 %G02 %hX02 %hG02 HH
  replace hX02 : BlkX (cnd 256#32 (word T (k0_off1 i) (k0_off1_inb i)) (word T (k0_off2 i) (k0_off2_inb i))) (wof 256#32 (word T (k0_off1 i) (k0_off1_inb i))) (fun o => addX ![0, 0] slices_S1x2048_o0_0_S1x512 (wd 256#32 (word T (k0_off1 i) (k0_off1_inb i))) x0 o (VecWindow.window x2 ![0, 0, 0] S1x512x1024.size inb_S1x2048x1024_S1x512x1024_0_0_0)) X01 X02 := hX02
  replace hG02 : BlkG (cnd 256#32 (word T (k0_off1 i) (k0_off1_inb i)) (word T (k0_off2 i) (k0_off2_inb i))) (wof 256#32 (word T (k0_off1 i) (k0_off1_inb i))) (fun o => addG ![0, 0] slices_S1x2048_o0_0_S1x512 (wd 256#32 (word T (k0_off1 i) (k0_off1_inb i))) x0 x1 o) G01 G02 := hG02
  iapply wp_blkK
  isplitl [HH]; · iexact HH
  iintro %X03 %G03 %hX03 %hG03 HH
  replace hX03 : BlkX (cnd 384#32 (word T (k0_off1 i) (k0_off1_inb i)) (word T (k0_off2 i) (k0_off2_inb i))) (wof 384#32 (word T (k0_off1 i) (k0_off1_inb i))) (fun o => addX ![0, 0] slices_S1x2048_o0_0_S1x512 (wd 384#32 (word T (k0_off1 i) (k0_off1_inb i))) x0 o (VecWindow.window x2 ![0, 0, 0] S1x512x1024.size inb_S1x2048x1024_S1x512x1024_0_0_0)) X02 X03 := hX03
  replace hG03 : BlkG (cnd 384#32 (word T (k0_off1 i) (k0_off1_inb i)) (word T (k0_off2 i) (k0_off2_inb i))) (wof 384#32 (word T (k0_off1 i) (k0_off1_inb i))) (fun o => addG ![0, 0] slices_S1x2048_o0_0_S1x512 (wd 384#32 (word T (k0_off1 i) (k0_off1_inb i))) x0 x1 o) G02 G03 := hG03
  iapply wp_endK
  dsimp only
  iapply wp_seqK
  rw [show (k0_part4 (F := F)) = k0_part4_skel_c from k0_part4_eq_skeleton.trans k0_part4_skel_c_eq]
  unfold k0_part4_skel_c
  iapply wp_blkK
  isplitl [HH]; · iexact HH
  iintro %X04 %G04 %hX04 %hG04 HH
  replace hX04 : BlkX (cnd 512#32 (word T (k0_off1 i) (k0_off1_inb i)) (word T (k0_off2 i) (k0_off2_inb i))) (wof 512#32 (word T (k0_off1 i) (k0_off1_inb i))) (fun o => addX ![0, 0] slices_S1x2048_o0_0_S1x512 (wd 512#32 (word T (k0_off1 i) (k0_off1_inb i))) x0 o (VecWindow.window x2 ![0, 0, 0] S1x512x1024.size inb_S1x2048x1024_S1x512x1024_0_0_0)) X03 X04 := hX04
  replace hG04 : BlkG (cnd 512#32 (word T (k0_off1 i) (k0_off1_inb i)) (word T (k0_off2 i) (k0_off2_inb i))) (wof 512#32 (word T (k0_off1 i) (k0_off1_inb i))) (fun o => addG ![0, 0] slices_S1x2048_o0_0_S1x512 (wd 512#32 (word T (k0_off1 i) (k0_off1_inb i))) x0 x1 o) G03 G04 := hG04
  iapply wp_wordK c E arg3 q T
  isplitl [HT]; · iexact HT
  iintro HT
  iapply wp_sideK c E (hchk1 (k0_off13 i) (k0_off13_inb i)).2.1
  iapply wp_wordK c E arg3 q T
  isplitl [HT]; · iexact HT
  iintro HT
  iapply wp_sideK c E (hchk2 (k0_off13 i) (k0_off13_inb i) (k0_off14 i) (k0_off14_inb i)).2.1
  iapply wp_blkK
  isplitl [HH]; · iexact HH
  iintro %X10 %G10 %hX10 %hG10 HH
  replace hX10 : BlkX (cnd 0#32 (word T (k0_off13 i) (k0_off13_inb i)) (word T (k0_off14 i) (k0_off14_inb i))) (wof 0#32 (word T (k0_off13 i) (k0_off13_inb i))) (fun o => addX ![0, 512] slices_S1x2048_o0_512_S1x512 (wd 0#32 (word T (k0_off13 i) (k0_off13_inb i))) x0 o (VecWindow.window x2 ![0, 512, 0] S1x512x1024.size inb_S1x2048x1024_S1x512x1024_0_512_0)) X04 X10 := hX10
  replace hG10 : BlkG (cnd 0#32 (word T (k0_off13 i) (k0_off13_inb i)) (word T (k0_off14 i) (k0_off14_inb i))) (wof 0#32 (word T (k0_off13 i) (k0_off13_inb i))) (fun o => addG ![0, 512] slices_S1x2048_o0_512_S1x512 (wd 0#32 (word T (k0_off13 i) (k0_off13_inb i))) x0 x1 o) G04 G10 := hG10
  iapply wp_endK
  dsimp only
  iapply wp_seqK
  rw [show (k0_part5 (F := F)) = k0_part5_skel_c from k0_part5_eq_skeleton.trans k0_part5_skel_c_eq]
  unfold k0_part5_skel_c
  iapply wp_blkK
  isplitl [HH]; · iexact HH
  iintro %X11 %G11 %hX11 %hG11 HH
  replace hX11 : BlkX (cnd 128#32 (word T (k0_off13 i) (k0_off13_inb i)) (word T (k0_off14 i) (k0_off14_inb i))) (wof 128#32 (word T (k0_off13 i) (k0_off13_inb i))) (fun o => addX ![0, 512] slices_S1x2048_o0_512_S1x512 (wd 128#32 (word T (k0_off13 i) (k0_off13_inb i))) x0 o (VecWindow.window x2 ![0, 512, 0] S1x512x1024.size inb_S1x2048x1024_S1x512x1024_0_512_0)) X10 X11 := hX11
  replace hG11 : BlkG (cnd 128#32 (word T (k0_off13 i) (k0_off13_inb i)) (word T (k0_off14 i) (k0_off14_inb i))) (wof 128#32 (word T (k0_off13 i) (k0_off13_inb i))) (fun o => addG ![0, 512] slices_S1x2048_o0_512_S1x512 (wd 128#32 (word T (k0_off13 i) (k0_off13_inb i))) x0 x1 o) G10 G11 := hG11
  iapply wp_blkK
  isplitl [HH]; · iexact HH
  iintro %X12 %G12 %hX12 %hG12 HH
  replace hX12 : BlkX (cnd 256#32 (word T (k0_off13 i) (k0_off13_inb i)) (word T (k0_off14 i) (k0_off14_inb i))) (wof 256#32 (word T (k0_off13 i) (k0_off13_inb i))) (fun o => addX ![0, 512] slices_S1x2048_o0_512_S1x512 (wd 256#32 (word T (k0_off13 i) (k0_off13_inb i))) x0 o (VecWindow.window x2 ![0, 512, 0] S1x512x1024.size inb_S1x2048x1024_S1x512x1024_0_512_0)) X11 X12 := hX12
  replace hG12 : BlkG (cnd 256#32 (word T (k0_off13 i) (k0_off13_inb i)) (word T (k0_off14 i) (k0_off14_inb i))) (wof 256#32 (word T (k0_off13 i) (k0_off13_inb i))) (fun o => addG ![0, 512] slices_S1x2048_o0_512_S1x512 (wd 256#32 (word T (k0_off13 i) (k0_off13_inb i))) x0 x1 o) G11 G12 := hG12
  iapply wp_blkK
  isplitl [HH]; · iexact HH
  iintro %X13 %G13 %hX13 %hG13 HH
  replace hX13 : BlkX (cnd 384#32 (word T (k0_off13 i) (k0_off13_inb i)) (word T (k0_off14 i) (k0_off14_inb i))) (wof 384#32 (word T (k0_off13 i) (k0_off13_inb i))) (fun o => addX ![0, 512] slices_S1x2048_o0_512_S1x512 (wd 384#32 (word T (k0_off13 i) (k0_off13_inb i))) x0 o (VecWindow.window x2 ![0, 512, 0] S1x512x1024.size inb_S1x2048x1024_S1x512x1024_0_512_0)) X12 X13 := hX13
  replace hG13 : BlkG (cnd 384#32 (word T (k0_off13 i) (k0_off13_inb i)) (word T (k0_off14 i) (k0_off14_inb i))) (wof 384#32 (word T (k0_off13 i) (k0_off13_inb i))) (fun o => addG ![0, 512] slices_S1x2048_o0_512_S1x512 (wd 384#32 (word T (k0_off13 i) (k0_off13_inb i))) x0 x1 o) G12 G13 := hG13
  iapply wp_blkK
  isplitl [HH]; · iexact HH
  iintro %X14 %G14 %hX14 %hG14 HH
  replace hX14 : BlkX (cnd 512#32 (word T (k0_off13 i) (k0_off13_inb i)) (word T (k0_off14 i) (k0_off14_inb i))) (wof 512#32 (word T (k0_off13 i) (k0_off13_inb i))) (fun o => addX ![0, 512] slices_S1x2048_o0_512_S1x512 (wd 512#32 (word T (k0_off13 i) (k0_off13_inb i))) x0 o (VecWindow.window x2 ![0, 512, 0] S1x512x1024.size inb_S1x2048x1024_S1x512x1024_0_512_0)) X13 X14 := hX14
  replace hG14 : BlkG (cnd 512#32 (word T (k0_off13 i) (k0_off13_inb i)) (word T (k0_off14 i) (k0_off14_inb i))) (wof 512#32 (word T (k0_off13 i) (k0_off13_inb i))) (fun o => addG ![0, 512] slices_S1x2048_o0_512_S1x512 (wd 512#32 (word T (k0_off13 i) (k0_off13_inb i))) x0 x1 o) G13 G14 := hG14
  iapply wp_wordK c E arg3 q T
  isplitl [HT]; · iexact HT
  iintro HT
  iapply wp_sideK c E (hchk1 (k0_off25 i) (k0_off25_inb i)).2.2.1
  iapply wp_endK
  dsimp only
  iapply wp_seqK
  rw [show (k0_part6 (F := F)) = k0_part6_skel_c from k0_part6_eq_skeleton.trans k0_part6_skel_c_eq]
  unfold k0_part6_skel_c
  iapply wp_wordK c E arg3 q T
  isplitl [HT]; · iexact HT
  iintro HT
  iapply wp_sideK c E (hchk2 (k0_off25 i) (k0_off25_inb i) (k0_off26 i) (k0_off26_inb i)).2.2.1
  iapply wp_blkK
  isplitl [HH]; · iexact HH
  iintro %X20 %G20 %hX20 %hG20 HH
  replace hX20 : BlkX (cnd 0#32 (word T (k0_off25 i) (k0_off25_inb i)) (word T (k0_off26 i) (k0_off26_inb i))) (wof 0#32 (word T (k0_off25 i) (k0_off25_inb i))) (fun o => addX ![0, 1024] slices_S1x2048_o0_1024_S1x512 (wd 0#32 (word T (k0_off25 i) (k0_off25_inb i))) x0 o (VecWindow.window x2 ![0, 1024, 0] S1x512x1024.size inb_S1x2048x1024_S1x512x1024_0_1024_0)) X14 X20 := hX20
  replace hG20 : BlkG (cnd 0#32 (word T (k0_off25 i) (k0_off25_inb i)) (word T (k0_off26 i) (k0_off26_inb i))) (wof 0#32 (word T (k0_off25 i) (k0_off25_inb i))) (fun o => addG ![0, 1024] slices_S1x2048_o0_1024_S1x512 (wd 0#32 (word T (k0_off25 i) (k0_off25_inb i))) x0 x1 o) G14 G20 := hG20
  iapply wp_blkK
  isplitl [HH]; · iexact HH
  iintro %X21 %G21 %hX21 %hG21 HH
  replace hX21 : BlkX (cnd 128#32 (word T (k0_off25 i) (k0_off25_inb i)) (word T (k0_off26 i) (k0_off26_inb i))) (wof 128#32 (word T (k0_off25 i) (k0_off25_inb i))) (fun o => addX ![0, 1024] slices_S1x2048_o0_1024_S1x512 (wd 128#32 (word T (k0_off25 i) (k0_off25_inb i))) x0 o (VecWindow.window x2 ![0, 1024, 0] S1x512x1024.size inb_S1x2048x1024_S1x512x1024_0_1024_0)) X20 X21 := hX21
  replace hG21 : BlkG (cnd 128#32 (word T (k0_off25 i) (k0_off25_inb i)) (word T (k0_off26 i) (k0_off26_inb i))) (wof 128#32 (word T (k0_off25 i) (k0_off25_inb i))) (fun o => addG ![0, 1024] slices_S1x2048_o0_1024_S1x512 (wd 128#32 (word T (k0_off25 i) (k0_off25_inb i))) x0 x1 o) G20 G21 := hG21
  iapply wp_endK
  dsimp only
  iapply wp_seqK
  rw [show (k0_part7 (F := F)) = k0_part7_skel_c from k0_part7_eq_skeleton.trans k0_part7_skel_c_eq]
  unfold k0_part7_skel_c
  iapply wp_blkK
  isplitl [HH]; · iexact HH
  iintro %X22 %G22 %hX22 %hG22 HH
  replace hX22 : BlkX (cnd 256#32 (word T (k0_off25 i) (k0_off25_inb i)) (word T (k0_off26 i) (k0_off26_inb i))) (wof 256#32 (word T (k0_off25 i) (k0_off25_inb i))) (fun o => addX ![0, 1024] slices_S1x2048_o0_1024_S1x512 (wd 256#32 (word T (k0_off25 i) (k0_off25_inb i))) x0 o (VecWindow.window x2 ![0, 1024, 0] S1x512x1024.size inb_S1x2048x1024_S1x512x1024_0_1024_0)) X21 X22 := hX22
  replace hG22 : BlkG (cnd 256#32 (word T (k0_off25 i) (k0_off25_inb i)) (word T (k0_off26 i) (k0_off26_inb i))) (wof 256#32 (word T (k0_off25 i) (k0_off25_inb i))) (fun o => addG ![0, 1024] slices_S1x2048_o0_1024_S1x512 (wd 256#32 (word T (k0_off25 i) (k0_off25_inb i))) x0 x1 o) G21 G22 := hG22
  iapply wp_blkK
  isplitl [HH]; · iexact HH
  iintro %X23 %G23 %hX23 %hG23 HH
  replace hX23 : BlkX (cnd 384#32 (word T (k0_off25 i) (k0_off25_inb i)) (word T (k0_off26 i) (k0_off26_inb i))) (wof 384#32 (word T (k0_off25 i) (k0_off25_inb i))) (fun o => addX ![0, 1024] slices_S1x2048_o0_1024_S1x512 (wd 384#32 (word T (k0_off25 i) (k0_off25_inb i))) x0 o (VecWindow.window x2 ![0, 1024, 0] S1x512x1024.size inb_S1x2048x1024_S1x512x1024_0_1024_0)) X22 X23 := hX23
  replace hG23 : BlkG (cnd 384#32 (word T (k0_off25 i) (k0_off25_inb i)) (word T (k0_off26 i) (k0_off26_inb i))) (wof 384#32 (word T (k0_off25 i) (k0_off25_inb i))) (fun o => addG ![0, 1024] slices_S1x2048_o0_1024_S1x512 (wd 384#32 (word T (k0_off25 i) (k0_off25_inb i))) x0 x1 o) G22 G23 := hG23
  iapply wp_blkK
  isplitl [HH]; · iexact HH
  iintro %X24 %G24 %hX24 %hG24 HH
  replace hX24 : BlkX (cnd 512#32 (word T (k0_off25 i) (k0_off25_inb i)) (word T (k0_off26 i) (k0_off26_inb i))) (wof 512#32 (word T (k0_off25 i) (k0_off25_inb i))) (fun o => addX ![0, 1024] slices_S1x2048_o0_1024_S1x512 (wd 512#32 (word T (k0_off25 i) (k0_off25_inb i))) x0 o (VecWindow.window x2 ![0, 1024, 0] S1x512x1024.size inb_S1x2048x1024_S1x512x1024_0_1024_0)) X23 X24 := hX24
  replace hG24 : BlkG (cnd 512#32 (word T (k0_off25 i) (k0_off25_inb i)) (word T (k0_off26 i) (k0_off26_inb i))) (wof 512#32 (word T (k0_off25 i) (k0_off25_inb i))) (fun o => addG ![0, 1024] slices_S1x2048_o0_1024_S1x512 (wd 512#32 (word T (k0_off25 i) (k0_off25_inb i))) x0 x1 o) G23 G24 := hG24
  iapply wp_wordK c E arg3 q T
  isplitl [HT]; · iexact HT
  iintro HT
  iapply wp_sideK c E (hchk1 (k0_off37 i) (k0_off37_inb i)).2.2.2
  iapply wp_wordK c E arg3 q T
  isplitl [HT]; · iexact HT
  iintro HT
  iapply wp_sideK c E (hchk2 (k0_off37 i) (k0_off37_inb i) (k0_off38 i) (k0_off38_inb i)).2.2.2
  iapply wp_endK
  dsimp only
  iapply wp_seqK
  rw [show (k0_part8 (F := F)) = k0_part8_skel_c from k0_part8_eq_skeleton.trans k0_part8_skel_c_eq]
  unfold k0_part8_skel_c
  iapply wp_blkK
  isplitl [HH]; · iexact HH
  iintro %X30 %G30 %hX30 %hG30 HH
  replace hX30 : BlkX (cnd 0#32 (word T (k0_off37 i) (k0_off37_inb i)) (word T (k0_off38 i) (k0_off38_inb i))) (wof 0#32 (word T (k0_off37 i) (k0_off37_inb i))) (fun o => addX ![0, 1536] slices_S1x2048_o0_1536_S1x512 (wd 0#32 (word T (k0_off37 i) (k0_off37_inb i))) x0 o (VecWindow.window x2 ![0, 1536, 0] S1x512x1024.size inb_S1x2048x1024_S1x512x1024_0_1536_0)) X24 X30 := hX30
  replace hG30 : BlkG (cnd 0#32 (word T (k0_off37 i) (k0_off37_inb i)) (word T (k0_off38 i) (k0_off38_inb i))) (wof 0#32 (word T (k0_off37 i) (k0_off37_inb i))) (fun o => addG ![0, 1536] slices_S1x2048_o0_1536_S1x512 (wd 0#32 (word T (k0_off37 i) (k0_off37_inb i))) x0 x1 o) G24 G30 := hG30
  iapply wp_blkK
  isplitl [HH]; · iexact HH
  iintro %X31 %G31 %hX31 %hG31 HH
  replace hX31 : BlkX (cnd 128#32 (word T (k0_off37 i) (k0_off37_inb i)) (word T (k0_off38 i) (k0_off38_inb i))) (wof 128#32 (word T (k0_off37 i) (k0_off37_inb i))) (fun o => addX ![0, 1536] slices_S1x2048_o0_1536_S1x512 (wd 128#32 (word T (k0_off37 i) (k0_off37_inb i))) x0 o (VecWindow.window x2 ![0, 1536, 0] S1x512x1024.size inb_S1x2048x1024_S1x512x1024_0_1536_0)) X30 X31 := hX31
  replace hG31 : BlkG (cnd 128#32 (word T (k0_off37 i) (k0_off37_inb i)) (word T (k0_off38 i) (k0_off38_inb i))) (wof 128#32 (word T (k0_off37 i) (k0_off37_inb i))) (fun o => addG ![0, 1536] slices_S1x2048_o0_1536_S1x512 (wd 128#32 (word T (k0_off37 i) (k0_off37_inb i))) x0 x1 o) G30 G31 := hG31
  iapply wp_blkK
  isplitl [HH]; · iexact HH
  iintro %X32 %G32 %hX32 %hG32 HH
  replace hX32 : BlkX (cnd 256#32 (word T (k0_off37 i) (k0_off37_inb i)) (word T (k0_off38 i) (k0_off38_inb i))) (wof 256#32 (word T (k0_off37 i) (k0_off37_inb i))) (fun o => addX ![0, 1536] slices_S1x2048_o0_1536_S1x512 (wd 256#32 (word T (k0_off37 i) (k0_off37_inb i))) x0 o (VecWindow.window x2 ![0, 1536, 0] S1x512x1024.size inb_S1x2048x1024_S1x512x1024_0_1536_0)) X31 X32 := hX32
  replace hG32 : BlkG (cnd 256#32 (word T (k0_off37 i) (k0_off37_inb i)) (word T (k0_off38 i) (k0_off38_inb i))) (wof 256#32 (word T (k0_off37 i) (k0_off37_inb i))) (fun o => addG ![0, 1536] slices_S1x2048_o0_1536_S1x512 (wd 256#32 (word T (k0_off37 i) (k0_off37_inb i))) x0 x1 o) G31 G32 := hG32
  iapply wp_endK
  dsimp only
  iapply wp_blkK
  isplitl [HH]; · iexact HH
  iintro %X33 %G33 %hX33 %hG33 HH
  replace hX33 : BlkX (cnd 384#32 (word T (k0_off37 i) (k0_off37_inb i)) (word T (k0_off38 i) (k0_off38_inb i))) (wof 384#32 (word T (k0_off37 i) (k0_off37_inb i))) (fun o => addX ![0, 1536] slices_S1x2048_o0_1536_S1x512 (wd 384#32 (word T (k0_off37 i) (k0_off37_inb i))) x0 o (VecWindow.window x2 ![0, 1536, 0] S1x512x1024.size inb_S1x2048x1024_S1x512x1024_0_1536_0)) X32 X33 := hX33
  replace hG33 : BlkG (cnd 384#32 (word T (k0_off37 i) (k0_off37_inb i)) (word T (k0_off38 i) (k0_off38_inb i))) (wof 384#32 (word T (k0_off37 i) (k0_off37_inb i))) (fun o => addG ![0, 1536] slices_S1x2048_o0_1536_S1x512 (wd 384#32 (word T (k0_off37 i) (k0_off37_inb i))) x0 x1 o) G32 G33 := hG33
  iapply wp_blkK
  isplitl [HH]; · iexact HH
  iintro %X34 %G34 %hX34 %hG34 HH
  replace hX34 : BlkX (cnd 512#32 (word T (k0_off37 i) (k0_off37_inb i)) (word T (k0_off38 i) (k0_off38_inb i))) (wof 512#32 (word T (k0_off37 i) (k0_off37_inb i))) (fun o => addX ![0, 1536] slices_S1x2048_o0_1536_S1x512 (wd 512#32 (word T (k0_off37 i) (k0_off37_inb i))) x0 o (VecWindow.window x2 ![0, 1536, 0] S1x512x1024.size inb_S1x2048x1024_S1x512x1024_0_1536_0)) X33 X34 := hX34
  replace hG34 : BlkG (cnd 512#32 (word T (k0_off37 i) (k0_off37_inb i)) (word T (k0_off38 i) (k0_off38_inb i))) (wof 512#32 (word T (k0_off37 i) (k0_off37_inb i))) (fun o => addG ![0, 1536] slices_S1x2048_o0_1536_S1x512 (wd 512#32 (word T (k0_off37 i) (k0_off37_inb i))) x0 x1 o) G33 G34 := hG34
  unfold Held
  icases HH with ⟨H4, H5, H6, H11, H12⟩
  iapply wp_out c E i arg3 harg3 arg4 harg4 arg5 harg5 arg6 harg6 arg7 harg7 arg8 harg8 arg9 harg9 arg10 harg10 arg11 harg11 arg12 harg12 arg13 harg13 arg14 harg14 arg15 harg15
  isplitl [H10]; · iexact H10
  isplitl [H11]; · iexact H11
  isplitl [H12]; · iexact H12
  isplitl [H13]; · iexact H13
  isplitl [H14]; · iexact H14
  isplitl [H15]; · iexact H15
  iintro ⟨H10, H11, H12, H13, H14, H15⟩
  iapply Hk $$ %_ %_ %⟨X04, X14, X24, ⟨X00, X01, X02, X03, hX00, hX01, hX02, hX03, hX04⟩, ⟨X10, X11, X12, X13, hX10, hX11, hX12, hX13, hX14⟩, ⟨X20, X21, X22, X23, hX20, hX21, hX22, hX23, hX24⟩, ⟨X30, X31, X32, X33, hX30, hX31, hX32, hX33, hX34⟩⟩ %⟨G04, G14, G24, ⟨G00, G01, G02, G03, hG00, hG01, hG02, hG03, hG04⟩, ⟨G10, G11, G12, G13, hG10, hG11, hG12, hG13, hG14⟩, ⟨G20, G21, G22, G23, hG20, hG21, hG22, hG23, hG24⟩, ⟨G30, G31, G32, G33, hG30, hG31, hG32, hG33, hG34⟩⟩ HT [H4 H5 H6 H11 H12] H7 H8 H9 H10 H13 H14 H15
  iframe

end Cert.Kernel4Ideal.Experts
end
-- ==== Proof.Experts.LaunchI.lean ====
module

public import proofs.«01_k».proof.Proof.Experts.BodyI
public import Idealize.ShloMosaic.Lib.Claim

@[expose] public section

set_option maxRecDepth 16384

noncomputable section

namespace Cert.Kernel4Ideal.Experts

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What core `c`'s buffers hold when the call begins: after the host operations. -/
abbrev V (c : Dev nD) (b : Ref sig .tc) : Buf (Elt F) ((c : Thread nD τ).loc b) := StableHlo.after hostOps0 (fun b => m (c, b)) b

/-- No host operation makes a buffer of its own. -/
theorem hostOps0_fresh : (hostOps0 : List (HloOp τ sig (Elt F))).Forall fun op => op.fresh = ∅ := by
  simp only [List.Forall]; repeat' constructor

set_option maxHeartbeats 800000 in
/-- The program is its host operations and then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The table of tile ends as the call finds it. -/
def tbl : pre0.Contents (Elt F) := fun k => V m (0 : Dev nD) (pre0.ref k)

/-- The table is admissible: no block depends on it. -/
def adm : (p : Fin 1) → (pcfgs (F := F) p).Adm := fun _ => ⟨tbl m, trivial⟩

/-- The pipeline at that table. -/
abbrev cfgM : Cfg sig Λ₀ := Pipeline.pin (pcfgs (F := F)) (adm m) 0

/-- A window's block at a grid point, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The class of facts that a step keeps of the two running sums and the three converted weights. -/
abbrev Facts4 (F : FTy → Type) : Type := Vec F S1664x1024 .f32 → Vec F S1664x128 .f32 → Vec F S1024x1024 .bf16 → Vec F S1024x1024 .bf16 → Vec F S1024x1024 .bf16 → Prop

variable (Inv : Dev nD → ℕ → Facts4 F) (out : (c : Dev nD) → (t : Fin (cfgM m).N) → Vec F S1x1x1024x1024 .bf16) (fg : Bool)

/-- What lies in the scratch buffers between steps, with the table. -/
def Phi (c : Dev nD) (n : ℕ) : sProp (MT nD τ sig Unit (Elt F) ℕ (UR sig nD τ) ℕ) :=
  iprop((∃ X G W1 W3 W2, ⌜Inv c n X G W1 W3 W2⌝ ∗ owns (c : Thread nD τ) (Memref.whole cc0_scratch0) fullShare X
      ∗ owns (c : Thread nD τ) (Memref.whole cc0_scratch1) fullShare G ∗ owns (c : Thread nD τ) (Memref.whole cc0_scratch2) fullShare W1
      ∗ owns (c : Thread nD τ) (Memref.whole cc0_scratch3) fullShare W3 ∗ owns (c : Thread nD τ) (Memref.whole cc0_scratch4) fullShare W2)
    ∗ (∃ r, prngReg c r) ∗ Pipeline.ΦT pre0 (tbl m) c)

/-- The proof data of the call. -/
def dats : (p : Fin 1) → (c : Dev nD) → Dat τ (Elt F) Unit ℕ (UR sig nD τ) ℕ (Pipeline.pin (pcfgs (F := F)) (adm m) p) c := fun _ c =>
  { A := fun w => V m c (Pipeline.arrRef spec0 w)
    after := fun w t => match w with
      | ⟨0, _⟩ => iblk m c 0 t
      | ⟨1, _⟩ => iblk m c 1 t
      | ⟨2, _⟩ => iblk m c 2 t
      | ⟨3, _⟩ => iblk m c 3 t
      | ⟨4, _⟩ => iblk m c 4 t
      | ⟨5, _⟩ => iblk m c 5 t
      | ⟨6, _⟩ => out c t
      | ⟨_ + 7, h⟩ => absurd h (Nat.not_lt.2 (Nat.le_add_left _ _))
    Φ := fun t => Phi m Inv c t.val
    q := fun _ => fullShare
    owed := fun _ => 0 }

/-- The arrays are as the host code leaves them. -/
theorem A_eq (c : Dev nD) (w : Fin (cfgM m).W) : (dats m Inv out 0 c).A w = V m c (Pipeline.arrRef spec0 w) := by
  dsimp only [dats]

/-- What window 0 holds after a step. -/
theorem after0_0 (c : Dev nD) (t : Fin (cfgM m).N) : (dats m Inv out 0 c).after 0 t = iblk m c 0 t := by dsimp only [dats]; try rfl
/-- What window 0 holds before a step. -/
theorem before0_0 (c : Dev nD) (t : Fin (cfgM m).N) (d) : (dats m Inv out 0 c).before 0 t d = iblk m c 0 t :=
  ((dats m Inv out 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- What window 1 holds after a step. -/
theorem after0_1 (c : Dev nD) (t : Fin (cfgM m).N) : (dats m Inv out 0 c).after 1 t = iblk m c 1 t := by dsimp only [dats]; try rfl
/-- What window 1 holds before a step. -/
theorem before0_1 (c : Dev nD) (t : Fin (cfgM m).N) (d) : (dats m Inv out 0 c).before 1 t d = iblk m c 1 t :=
  ((dats m Inv out 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- What window 2 holds after a step. -/
theorem after0_2 (c : Dev nD) (t : Fin (cfgM m).N) : (dats m Inv out 0 c).after 2 t = iblk m c 2 t := by dsimp only [dats]; try rfl
/-- What window 2 holds before a step. -/
theorem before0_2 (c : Dev nD) (t : Fin (cfgM m).N) (d) : (dats m Inv out 0 c).before 2 t d = iblk m c 2 t :=
  ((dats m Inv out 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- What window 3 holds after a step. -/
theorem after0_3 (c : Dev nD) (t : Fin (cfgM m).N) : (dats m Inv out 0 c).after 3 t = iblk m c 3 t := by dsimp only [dats]; try rfl
/-- What window 3 holds before a step. -/
theorem before0_3 (c : Dev nD) (t : Fin (cfgM m).N) (d) : (dats m Inv out 0 c).before 3 t d = iblk m c 3 t :=
  ((dats m Inv out 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- What window 4 holds after a step. -/
theorem after0_4 (c : Dev nD) (t : Fin (cfgM m).N) : (dats m Inv out 0 c).after 4 t = iblk m c 4 t := by dsimp only [dats]; try rfl
/-- What window 4 holds before a step. -/
theorem before0_4 (c : Dev nD) (t : Fin (cfgM m).N) (d) : (dats m Inv out 0 c).before 4 t d = iblk m c 4 t :=
  ((dats m Inv out 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- What window 5 holds after a step. -/
theorem after0_5 (c : Dev nD) (t : Fin (cfgM m).N) : (dats m Inv out 0 c).after 5 t = iblk m c 5 t := by dsimp only [dats]; try rfl
/-- What window 5 holds before a step. -/
theorem before0_5 (c : Dev nD) (t : Fin (cfgM m).N) (d) : (dats m Inv out 0 c).before 5 t d = iblk m c 5 t :=
  ((dats m Inv out 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
/-- What the result's window holds after a step. -/
theorem after0_6 (c : Dev nD) (t : Fin (cfgM m).N) : (dats m Inv out 0 c).after 6 t = out c t := by dsimp only [dats]; try rfl

/-- The body at grid point `t`, on what the pipeline calls it with. -/
abbrev bodyAt (t : Fin (cfgM m).N) : Prog (TpuEff nD τ sig (Elt F) Λ₀ .tc) PUnit :=
  cc0_expert_gather_ffn ((cfgM m).grid.coords t) (Memref.whole main_v4) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

set_option backward.isDefEq.respectTransparency.types false in
/-- The tables as the body holds them: the one table, at half its share. -/
theorem PhiT_eq (c : Dev nD) : (Pipeline.ΦT pre0 (tbl m) c : sProp (MT nD τ sig Unit (Elt F) ℕ (UR sig nD τ) ℕ))
    = owns (c : Thread nD τ) (Memref.whole main_v4) fullShare.right (tbl m 0) := by
  show Pipeline.prefHeld _ _ _ _ = _
  unfold Pipeline.prefHeld
  rw [bigSep_univ_eq_bigSepL [(0 : Fin 1)] (by decide) (by decide)]
  rw [owns_whole]
  rfl

/-- What the program keeps besides: the scratch buffers and the generator register. -/
theorem PhiA_eq (c : Dev nD) : (Pipeline.ΦA spec0 c : sProp (MT nD τ sig Unit (Elt F) ℕ (UR sig nD τ) ℕ))
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the claim wants of one step: it keeps `Inv`, and at the last step of an expert it leaves `out`. -/
def Steps : Prop := ∀ (c : Dev nD) (t : Fin (cfgM m).N) X G W1 W3 W2 X' G' Y, Inv c t.val X G W1 W3 W2
  → StepX ((cfgM m).grid.coords t) (tbl m 0) (iblk m c 0 t) (iblk m c 2 t) (if clear1 ((cfgM m).grid.coords t) = 1#1 then k0_pay13 else X) X'
  → StepG ((cfgM m).grid.coords t) (tbl m 0) (iblk m c 0 t) (iblk m c 1 t) (if clear1 ((cfgM m).grid.coords t) = 1#1 then k0_pay14 else G) G'
  → Inv c (t.val + 1) X' G' (if cast1 ((cfgM m).grid.coords t) = 1#1 then k0_pay10 (iblk m c 3 t) else W1) (if cast1 ((cfgM m).grid.coords t) = 1#1 then k0_pay11 (iblk m c 4 t) else W3) (if cast1 ((cfgM m).grid.coords t) = 1#1 then k0_pay12 (iblk m c 5 t) else W2)
    ∧ (fg = false → k0_cond23 ((cfgM m).grid.coords t) = 1#1 → outVal Y X' G' (if cast1 ((cfgM m).grid.coords t) = 1#1 then k0_pay10 (iblk m c 3 t) else W1) (if cast1 ((cfgM m).grid.coords t) = 1#1 then k0_pay11 (iblk m c 4 t) else W3) (if cast1 ((cfgM m).grid.coords t) = 1#1 then k0_pay12 (iblk m c 5 t) else W2) = out c t)

/-- What the body assumes of the words of the table. -/
def Words (T : Vec F S1088 .i32) : Prop :=
  (∀ off inb, k0_chk1 (word T off inb) ∧ k0_chk3 (word T off inb) ∧ k0_chk5 (word T off inb) ∧ k0_chk7 (word T off inb))
  ∧ (∀ off inb off' inb', k0_chk2 (word T off inb) (word T off' inb') ∧ k0_chk4 (word T off inb) (word T off' inb') ∧ k0_chk6 (word T off inb) (word T off' inb') ∧ k0_chk8 (word T off inb) (word T off' inb'))

set_option backward.isDefEq.respectTransparency.types false in
/-- One step from what the step before left. -/
theorem core (hT : Words (tbl m 0)) (hs : Steps m Inv out fg) (c : Dev nD) (t : Fin (cfgM m).N) (Y : Vec F S1x1x1024x1024 .bf16)
    (K : PUnit → sProp (MT nD τ sig Unit (Elt F) ℕ (UR sig nD τ) ℕ)) :
    iprop(Phi m Inv c t.val ∗ owns (c : Thread nD τ) (spec0_0.stage ((cfgM m).slots t 0)) fullShare (iblk m c 0 t) ∗ owns (c : Thread nD τ) (spec0_1.stage ((cfgM m).slots t 1)) fullShare (iblk m c 1 t) ∗ owns (c : Thread nD τ) (spec0_2.stage ((cfgM m).slots t 2)) fullShare (iblk m c 2 t) ∗ owns (c : Thread nD τ) (spec0_3.stage ((cfgM m).slots t 3)) fullShare (iblk m c 3 t) ∗ owns (c : Thread nD τ) (spec0_4.stage ((cfgM m).slots t 4)) fullShare (iblk m c 4 t) ∗ owns (c : Thread nD τ) (spec0_5.stage ((cfgM m).slots t 5)) fullShare (iblk m c 5 t) ∗ owns (c : Thread nD τ) (spec0_6.stage ((cfgM m).slots t 6)) fullShare Y
      ∗ (∀ Y', ⌜(fg = false → k0_cond23 ((cfgM m).grid.coords t) = 1#1 → Y' = out c t) ∧ (k0_cond23 ((cfgM m).grid.coords t) ≠ 1#1 → Y' = Y)⌝
        -∗ Phi m Inv c (t.val + 1) -∗ owns (c : Thread nD τ) (spec0_0.stage ((cfgM m).slots t 0)) fullShare (iblk m c 0 t) -∗ owns (c : Thread nD τ) (spec0_1.stage ((cfgM m).slots t 1)) fullShare (iblk m c 1 t) -∗ owns (c : Thread nD τ) (spec0_2.stage ((cfgM m).slots t 2)) fullShare (iblk m c 2 t) -∗ owns (c : Thread nD τ) (spec0_3.stage ((cfgM m).slots t 3)) fullShare (iblk m c 3 t) -∗ owns (c : Thread nD τ) (spec0_4.stage ((cfgM m).slots t 4)) fullShare (iblk m c 4 t) -∗ owns (c : Thread nD τ) (spec0_5.stage ((cfgM m).slots t 5)) fullShare (iblk m c 5 t) -∗ owns (c : Thread nD τ) (spec0_6.stage ((cfgM m).slots t 6)) fullShare Y' -∗ K ⟨⟩))
    ⊢ wp frame (wpE (defs₀ (F := F)) Variants.none c none) Set.univ (bodyAt m t) K := by
  unfold bodyAt Phi
  rw [PhiT_eq]
  iintro ⟨⟨⟨%X, %G, %W1, %W3, %W2, %hI, HX, HG, HW1, HW3, HW2⟩, Hr, HT⟩, H0, H1, H2, H3, H4, H5, H6, HK⟩
  iapply (wp_body c Set.univ ((cfgM m).grid.coords t) _ _ _ _ _ _ _ _ _ _ _ _ _ _ _ _ _ _ _ _ _ _ _ _ _ _ fullShare.right (tbl m 0) (iblk m c 0 t) (iblk m c 1 t) (iblk m c 2 t) (iblk m c 3 t) (iblk m c 4 t) (iblk m c 5 t) Y X G W1 W3 W2 hT.1 hT.2 K)
  isplitl [HT]; · iexact HT
  isplitl [H0 H1 H2 HX HG]
  · unfold Held
    isplitl [H0]; · iexact H0
    isplitl [H1]; · iexact H1
    isplitl [H2]; · iexact H2
    isplitl [HX]; · iexact HX
    iexact HG
  isplitl [H3]; · iexact H3
  isplitl [H4]; · iexact H4
  isplitl [H5]; · iexact H5
  isplitl [H6]; · iexact H6
  isplitl [HW1]; · iexact HW1
  isplitl [HW3]; · iexact HW3
  isplitl [HW2]; · iexact HW2
  iintro %X' %G' %hX %hG HT HH H3 H4 H5 H6 HW1 HW3 HW2
  unfold Held
  icases HH with ⟨H0, H1, H2, HX, HG⟩
  have hst := hs c t X G W1 W3 W2 X' G' Y hI hX hG
  iapply HK $$ %_ %(by
    refine ⟨fun h1 h2 => ?_, fun h2 => ?_⟩
    · rw [if_pos h2]; exact hst.2 h1 h2
    · rw [if_neg h2]) [HX HG HW1 HW3 HW2 Hr HT] H0 H1 H2 H3 H4 H5 H6
  isplitl [HX HG HW1 HW3 HW2]
  · iexists _, _, _, _, _
    isplitr
    swap
    · isplitl [HX]; · iexact HX
      isplitl [HG]; · iexact HG
      isplitl [HW1]; · iexact HW1
      isplitl [HW3]; · iexact HW3
      iexact HW2
    · ipureintro; exact hst.1
  isplitl [Hr]; · iexact Hr
  iexact HT

/-- Which windows nothing is said of: the result's, if `fg`. -/
def fgt : Fin (cfgM m).W → Bool := fun w => match w with
  | ⟨0, _⟩ => false | ⟨1, _⟩ => false | ⟨2, _⟩ => false | ⟨3, _⟩ => false | ⟨4, _⟩ => false | ⟨5, _⟩ => false | ⟨6, _⟩ => fg
  | ⟨_ + 7, h⟩ => absurd h (Nat.not_lt.2 (Nat.le_add_left _ _))

/-! Which windows nothing is said of, one by one. -/

/-- Window 0. -/
theorem fgt_0 : fgt m fg (show Fin (cfgM m).W from 0) = false := rfl
/-- Window 1. -/
theorem fgt_1 : fgt m fg (show Fin (cfgM m).W from 1) = false := rfl
/-- Window 2. -/
theorem fgt_2 : fgt m fg (show Fin (cfgM m).W from 2) = false := rfl
/-- Window 3. -/
theorem fgt_3 : fgt m fg (show Fin (cfgM m).W from 3) = false := rfl
/-- Window 4. -/
theorem fgt_4 : fgt m fg (show Fin (cfgM m).W from 4) = false := rfl
/-- Window 5. -/
theorem fgt_5 : fgt m fg (show Fin (cfgM m).W from 5) = false := rfl
/-- Window 6. -/
theorem fgt_6 : fgt m fg (show Fin (cfgM m).W from 6) = fg := rfl

set_option maxHeartbeats 4000000 in
/-- The result's block is written back exactly where the last branch is taken. -/
theorem flush6 : ∀ t : Fin grid0.N, Pipeline.Window.flushOf grid0 true cc0_transform_6 t = (k0_cond23 (grid0.coords t) == 1#1) := by
  decide +kernel

/-- The body at grid point `t` is called on that point's buffers. -/
theorem defs₀_row (t : Fin (cfgM m).N) :
    defs₀ (F := F) .tc (cfgM m).body ((cfgM m).bodyArgs t ((cfgM m).slots t)) = bodyAt m t := by
  unfold defs₀; rw [Defs.onTc_tc]

/-- What is carried between the steps. -/
theorem Phi_eq (c : Dev nD) (n : Fin ((cfgM m).N + 1)) : (dats m Inv out 0 c).Φ n = Phi m Inv c n.val := by dsimp only [dats]

set_option backward.isDefEq.respectTransparency.types false in
/-- The body meets what the pipeline asks of it at every grid point. -/
theorem body_obligation (hT : Words (tbl m 0)) (hs : Steps m Inv out fg) (c : Dev nD) :
    BodyObligation (dats m Inv out 0 c) (defs₀ (F := F)) Variants.none () Set.univ (fgt m fg) := fun t => by
  rw [bigSep_W0, bigSep_W0, defs₀_row]
  simp only [before0_0, before0_1, before0_2, before0_3, before0_4, before0_5, after0_0, after0_1, after0_2, after0_3, after0_4, after0_5, fgt_0, fgt_1, fgt_2, fgt_3, fgt_4, fgt_5, fgt_6]
  rw [Phi_eq, Phi_eq, Fin.val_castSucc, Fin.val_succ]
  cases fg with
  | true =>
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply (core m Inv out true hT hs c t _ _)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    iintro %Y' %hY' HΦ H0 H1 H2 H3 H4 H5 H6
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _
    iexact H6
  | false =>
    have hi : (cfgM m).idle 6 ((cfgM m).grid.coords t) = !(k0_cond23 ((cfgM m).grid.coords t) == 1#1) := rfl
    have hf : ((cfgM m).win 6).flush t = (k0_cond23 ((cfgM m).grid.coords t) == 1#1) := flush6 t
    by_cases hc : k0_cond23 ((cfgM m).grid.coords t) = 1#1
    · rw [show idle0 6 (((pcfgs 0).gridAt (adm m 0).1).coords t) = false from hi.trans (by rw [hc]; rfl)]
      dsimp only
      simp only [after0_6]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (core m Inv out false hT hs c t _ _)
      isplitl [HΦ]; · iexact HΦ
      isplitl [H0]; · iexact H0
      isplitl [H1]; · iexact H1
      isplitl [H2]; · iexact H2
      isplitl [H3]; · iexact H3
      isplitl [H4]; · iexact H4
      isplitl [H5]; · iexact H5
      isplitl [H6]; · iexact H6
      iintro %Y' %hY' HΦ H0 H1 H2 H3 H4 H5 H6
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [hY'.1 rfl hc]
      iexact H6
    · have hb : (k0_cond23 ((cfgM m).grid.coords t) == 1#1) = false := by simpa using hc
      rw [show idle0 6 (((pcfgs 0).gridAt (adm m 0).1).coords t) = true from hi.trans (by rw [hb]; rfl)]
      dsimp only
      iintro ⟨HΦ, Ho, ⟨%d0, H0⟩, ⟨%d1, H1⟩, ⟨%d2, H2⟩, ⟨%d3, H3⟩, ⟨%d4, H4⟩, ⟨%d5, H5⟩, ⟨%d6, H6⟩⟩
      iapply (core m Inv out false hT hs c t _ _)
      isplitl [HΦ]; · iexact HΦ
      isplitl [H0]; · iexact H0
      isplitl [H1]; · iexact H1
      isplitl [H2]; · iexact H2
      isplitl [H3]; · iexact H3
      isplitl [H4]; · iexact H4
      isplitl [H5]; · iexact H5
      isplitl [H6]; · iexact H6
      iintro %Y' %hY' HΦ H0 H1 H2 H3 H4 H5 H6
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [hY'.2 hc]
      split
      · iexists d6
        iexact H6
      · rename_i h
        exact absurd (h.symm.trans (hf.trans hb)) (by decide)

/-- The scratch and the table before the first step. -/
theorem hin (h0 : ∀ c X G W1 W3 W2, Inv c 0 X G W1 W3 W2) (c : Dev nD) :
    iprop(Pipeline.ΦA spec0 c ∗ Pipeline.ΦT pre0 (tbl m) c) ⊢ (dats m Inv out 0 c).Φ 0 := by
  rw [Phi_eq, PhiA_eq]
  unfold Phi
  iintro ⟨⟨⟨⟨%X, HX⟩, ⟨%G, HG⟩, ⟨%W1, H1⟩, ⟨%W3, H3⟩, ⟨%W2, H2⟩⟩, Hr⟩, HT⟩
  isplitl [HX HG H1 H3 H2]
  · iexists X, G, W1, W3, W2
    isplitr
    · ipureintro; exact h0 c X G W1 W3 W2
    isplitl [HX]; · iexact HX
    isplitl [HG]; · iexact HG
    isplitl [H1]; · iexact H1
    isplitl [H3]; · iexact H3
    iexact H2
  isplitl [Hr]; · iexact Hr
  iexact HT

/-- The scratch after the last step. -/
theorem hout (c : Dev nD) : (dats m Inv out 0 c).Φ (Fin.last (cfgM m).N) ⊢ Pipeline.ΦA spec0 c := by
  rw [Phi_eq, PhiA_eq]
  unfold Phi
  iintro ⟨⟨%X, %G, %W1, %W3, %W2, %hI, HX, HG, H1, H3, H2⟩, Hr, HT⟩
  isplitl [HX HG H1 H3 H2]
  · isplitl [HX]; · iexists _; iexact HX
    isplitl [HG]; · iexists _; iexact HG
    isplitl [H1]; · iexists _; iexact H1
    isplitl [H3]; · iexists _; iexact H3
    iexists _; iexact H2
  iexact Hr

/-- The table is as the host code leaves it. -/
theorem V_pre (c : Dev nD) (k : Fin pre0.K) : V m c (pre0.ref k) = tbl m k := by
  have : c = 0 := Subsingleton.elim _ _
  subst this; rfl

set_option backward.isDefEq.respectTransparency.types false in
/-- The program runs to its end, every semaphore counter at zero. -/
theorem run_forget (hT : Words (tbl m 0)) (h0 : ∀ c X G W1 W3 W2, Inv c 0 X G W1 W3 W2) (hs : Steps m Inv out fg) :
    θ_run defs (onTc (τ := τ) (main (F := F))) (s₀ m ρ) (fun r =>
      Pipeline.RDat.FramePost (cfgM m) (fun c => (dats m Inv out 0 c).toRForget (fgt m fg)) (V m) r ∧ r.2.sem = fun _ => 0) :=
  Pipeline.θ_run_frameP_track_forget (Q' := _) pcfgs (adm m) (dats m Inv out) (0 : Fin 1) launch0 defs₀ Variants.none (fgt m fg) m ρ main
    (hbody := fun c => (body_obligation m Inv out fg hT hs c).loose) (hshare := fun c => (dats m Inv out 0 c).share_full fun _ => rfl)
    (howed := fun _ _ => rfl) (V := V m) (hmain := hmain m Variants.none) (hA := A_eq m Inv out) (hpf := V_pre m)
    (hin := hin m Inv out h0) (hout := hout m Inv out) (hQ' := fun _ h => h)

end Cert.Kernel4Ideal.Experts

end
-- ==== Proof.Experts.ArithI.lean ====
module

public import proofs.«01_k».proof.Proof.Experts.LaunchI

@[expose] public section

set_option maxRecDepth 16384

namespace Cert.Kernel4Ideal.Experts

open Cert.Kernel4Ideal Cert.Kernel4Ideal.Gen Idealize.ShloMosaic Idealize.ShloMosaic.TcCoe

set_option maxHeartbeats 4000000 in
/-- The first rows of a tile's five windows, at every word that occurs. -/
theorem wd_table : ∀ n : Fin 1025, wd 0#32 (BitVec.ofNat 32 n.val) = BitVec.ofNat 32 (8 * (n.val / 8)) ∧ wd 128#32 (BitVec.ofNat 32 n.val) = BitVec.ofNat 32 (8 * (n.val / 8) + 128)
    ∧ wd 256#32 (BitVec.ofNat 32 n.val) = BitVec.ofNat 32 (8 * (n.val / 8) + 256) ∧ wd 384#32 (BitVec.ofNat 32 n.val) = BitVec.ofNat 32 (8 * (n.val / 8) + 384)
    ∧ wd 512#32 (BitVec.ofNat 32 n.val) = BitVec.ofNat 32 (8 * (n.val / 8) + 512) := by decide +kernel

/-- The first row of the window `128 k` rows on. -/
theorem wd_at (k : Fin 5) (s : BitVec 32) (hs : s.toNat ≤ 1024) : (wd (BitVec.ofNat 32 (128 * k.val)) s).toNat = 8 * (s.toNat / 8) + 128 * k.val := by
  have h := wd_table ⟨s.toNat, by omega⟩
  have e : BitVec.ofNat 32 (s.toNat) = s := by simp
  rw [show (BitVec.ofNat 32 (⟨s.toNat, by omega⟩ : Fin 1025).val) = s from e] at h
  obtain ⟨h0, h1, h2, h3, h4⟩ := h
  dsimp only at h0 h1 h2 h3 h4
  match k with
  | ⟨0, _⟩ => exact (congrArg BitVec.toNat h0).trans (by rw [BitVec.toNat_ofNat]; show _ = 8 * (s.toNat / 8) + 128 * 0; omega)
  | ⟨1, _⟩ => exact (congrArg BitVec.toNat h1).trans (by rw [BitVec.toNat_ofNat]; show _ = 8 * (s.toNat / 8) + 128 * 1; omega)
  | ⟨2, _⟩ => exact (congrArg BitVec.toNat h2).trans (by rw [BitVec.toNat_ofNat]; show _ = 8 * (s.toNat / 8) + 128 * 2; omega)
  | ⟨3, _⟩ => exact (congrArg BitVec.toNat h3).trans (by rw [BitVec.toNat_ofNat]; show _ = 8 * (s.toNat / 8) + 128 * 3; omega)
  | ⟨4, _⟩ => exact (congrArg BitVec.toNat h4).trans (by rw [BitVec.toNat_ofNat]; show _ = 8 * (s.toNat / 8) + 128 * 4; omega)

/-- Where the window lies. -/
theorem wof_at (k : Fin 5) (s : BitVec 32) (hs : s.toNat ≤ 1024) : wof (BitVec.ofNat 32 (128 * k.val)) s = ![8 * (s.toNat / 8) + 128 * k.val, 0] := by
  unfold wof
  have h := wd_at k s hs
  have e : (Scalar.indexCast (wd (BitVec.ofNat 32 (128 * k.val)) s)).toNat = (wd (BitVec.ofNat 32 (128 * k.val)) s).toNat := rfl
  rw [e, h]

/-- The window's multiple of eight. -/
theorem wd_dvd (k : Fin 5) (s : BitVec 32) (hs : s.toNat ≤ 1024) : 8 ∣ (wd (BitVec.ofNat 32 (128 * k.val)) s).toNat := by
  rw [wd_at k s hs]; omega

/-- The window of the token sums lies inside. -/
theorem inbX (k : Fin 5) (s : BitVec 32) (hs : s.toNat ≤ 1024) : ∀ a, wof (BitVec.ofNat 32 (128 * k.val)) s a + S128x1024.size a ≤ S1664x1024.size a := by
  rw [wof_at k s hs]
  intro a
  match a with
  | ⟨0, _⟩ => show 8 * (s.toNat / 8) + 128 * k.val + 128 ≤ 1664; omega
  | ⟨1, _⟩ => show 0 + 1024 ≤ 1024; omega

/-- The window of the affinity sums lies inside. -/
theorem inbG (k : Fin 5) (s : BitVec 32) (hs : s.toNat ≤ 1024) : ∀ a, wof (BitVec.ofNat 32 (128 * k.val)) s a + S128x128.size a ≤ S1664x128.size a := by
  rw [wof_at k s hs]
  intro a
  match a with
  | ⟨0, _⟩ => show 8 * (s.toNat / 8) + 128 * k.val + 128 ≤ 1664; omega
  | ⟨1, _⟩ => show 0 + 128 ≤ 128; omega

/-- A comparison with its sign, of small numbers. -/
theorem slt_small (a b : BitVec 32) (ha : a.toNat < 2147483648) (hb : b.toNat < 2147483648) : Scalar.cmpi .slt a b = if a.toNat < b.toNat then 1#1 else 0#1 := by
  show BitVec.ofBool (a.slt b) = _
  have e1 : a.toInt = a.toNat := by rw [BitVec.toInt_eq_toNat_cond, if_pos (by omega)]
  have e2 : b.toInt = b.toNat := by rw [BitVec.toInt_eq_toNat_cond, if_pos (by omega)]
  unfold BitVec.slt
  rw [e1, e2]
  by_cases q : a.toNat < b.toNat
  · simp [q]
  · simp [q]

/-- Whether a window is taken. -/
theorem cnd_at (k : Fin 5) (s e : BitVec 32) (hs : s.toNat ≤ 1024) (he : e.toNat ≤ 1024) :
    cnd (BitVec.ofNat 32 (128 * k.val)) s e = 1#1 ↔ (8 * (s.toNat / 8) + 128 * k.val < e.toNat ∧ s.toNat < 8 * (s.toNat / 8) + 128 * k.val + 128) := by
  have h := wd_at k s hs
  have h2 : (Scalar.addi (wd (BitVec.ofNat 32 (128 * k.val)) s) 128#32).toNat = 8 * (s.toNat / 8) + 128 * k.val + 128 := by
    show (_ + _ : BitVec 32).toNat = _
    rw [BitVec.toNat_add, h]
    have : (128#32).toNat = 128 := rfl
    omega
  unfold cnd
  rw [slt_small _ _ (by rw [h]; omega) (by omega),
    show Scalar.cmpi .sgt (Scalar.addi (wd (BitVec.ofNat 32 (128 * k.val)) s) 128#32) s = Scalar.cmpi .slt s (Scalar.addi (wd (BitVec.ofNat 32 (128 * k.val)) s) 128#32) from rfl,
    slt_small _ _ (by omega) (by rw [h2]; omega), h, h2]
  by_cases q1 : 8 * (s.toNat / 8) + 128 * k.val < e.toNat <;> by_cases q2 : s.toNat < 8 * (s.toNat / 8) + 128 * k.val + 128 <;> simp only [q1, q2, if_true, if_false, true_and, false_and, and_true, and_false, iff_true, iff_false] <;> decide

/-- Everything the body assumes of the table's words holds if none is above 1024. -/
theorem words_of {F : FTy → Type} [FloatOps F] (T : Vec F S1088 .i32) (h : ∀ off inb, (word T off inb).toNat ≤ 1024) : Words T := by
  refine ⟨fun off inb => ?_, fun off inb off' inb' => ?_⟩
  · have w := h off inb
    have D := fun k : Fin 5 => wd_dvd k _ w
    exact ⟨⟨D 0, D 1, D 2, D 3, D 4⟩, ⟨D 0, D 1, D 2, D 3, D 4⟩, ⟨D 0, D 1, D 2, D 3, D 4⟩, ⟨D 0, D 1, D 2, D 3, D 4⟩⟩
  · have w := h off inb
    have X := fun k : Fin 5 => inbX k _ w
    have G := fun k : Fin 5 => inbG k _ w
    exact ⟨⟨fun _ => X 0, fun _ => G 0, fun _ => X 1, fun _ => G 1, fun _ => X 2, fun _ => G 2, fun _ => X 3, fun _ => G 3, fun _ => X 4, fun _ => G 4⟩,
      ⟨fun _ => X 0, fun _ => G 0, fun _ => X 1, fun _ => G 1, fun _ => X 2, fun _ => G 2, fun _ => X 3, fun _ => G 3, fun _ => X 4, fun _ => G 4⟩,
      ⟨fun _ => X 0, fun _ => G 0, fun _ => X 1, fun _ => G 1, fun _ => X 2, fun _ => G 2, fun _ => X 3, fun _ => G 3, fun _ => X 4, fun _ => G 4⟩,
      ⟨fun _ => X 0, fun _ => G 0, fun _ => X 1, fun _ => G 1, fun _ => X 2, fun _ => G 2, fun _ => X 3, fun _ => G 3, fun _ => X 4, fun _ => G 4⟩⟩

end Cert.Kernel4Ideal.Experts

end
-- ==== Proof.Experts.Routed.lean ====
module

public import proofs.«01_k».proof.Pre_routed
public import proofs.«01_k».proof.Proof.Gen.Pre_routed
public import Idealize.ShloMosaic.Lib.Pointwise
public import Idealize.ShloMosaic.Lib.ReduceAll
public import Idealize.ShloMosaic.Lib.StableHlo.Predicate
public import Idealize.ShloMosaic.Lib.Claim

@[expose] public section

set_option maxRecDepth 16384

noncomputable section

namespace Cert.ExpertsRouted

open Idealize.ShloMosaic Cert.Pre_routed Cert.Pre_routed.Gen

/-- A conjunction that holds holds on both sides. -/
theorem and_split (a b : IVec S_ 1) (h : andi a b ix0 = 1#1) : a ix0 = 1#1 ∧ b ix0 = 1#1 := IntOp.andi_eq_one.1 h

/-- What the precondition says, test by test. -/
theorem tests {F : FTy → Type} [FloatOps F] (pos cnt : IVec S4x16x8192 32) (a2 : FVec F S4x16x8192 .f32) (a3 : FVec F S4x8192x1024 .bf16) (a4 a5 a6 : FVec F S4x16x1024x1024 .f32)
    (h : Cert.Pre_routed.fn (F := F) pos cnt a2 a3 a4 a5 a6 = fun _ => 1#1) :
    (∀ i, IntOp.ori (IntOp.cmpi .eq (pos i) (cnt i)) (IntOp.cmpi .eq (pos i) 4294967295#32) = 1#1) ∧ (∀ i, IntOp.cmpi .slt (pos i) 1024#32 = 1#1)
      ∧ (∀ (b : Fin 4) (e : Fin 16), IntOp.cmpi .eq (cnt (ix3 b e 0)) 0#32 = 1#1) ∧ (∀ i, IntOp.cmpi .sle (cnt i) 1024#32 = 1#1)
      ∧ (∀ (b : Fin 4) (e : Fin 16) (n : Fin 8191), IntOp.cmpi .eq (cnt (ix3 b e ⟨1 + n.val, by omega⟩))
          (cnt (ix3 b e ⟨n.val, by omega⟩) + (IntOp.cmpi .sge (pos (ix3 b e ⟨n.val, by omega⟩)) 0#32).setWidth 32) = 1#1) := by
  have h0 := congrFun h ix0
  obtain ⟨h0, h5⟩ := and_split _ _ h0
  obtain ⟨h0, h4⟩ := and_split _ _ h0
  obtain ⟨h0, h3⟩ := and_split _ _ h0
  obtain ⟨h1, h2⟩ := and_split _ _ h0
  refine ⟨fun i => Host.reduce_andi_all _ _ _ _ _ h1 i, fun i => Host.reduce_andi_all _ _ _ _ _ h2 i, fun b e => ?_, fun i => Host.reduce_andi_all _ _ _ _ _ h4 i, fun b e n => ?_⟩
  · refine Eq.trans ?_ (Host.reduce_andi_all _ _ _ _ _ h3 (ix2 b e))
    pointwise
  · refine Eq.trans ?_ (Host.reduce_andi_all _ _ _ _ _ h5 (ix3 b e n))
    pointwise
    try rfl

/-- What the precondition says of the two tables of numbers: `cnt` counts the kept tokens before each token, and `pos` is that count for a kept token and minus one for the others. -/
structure Good (pos cnt : IVec S4x16x8192 32) : Prop where
  le : ∀ (b : Fin 4) (e : Fin 16) (n : Fin 8192), (cnt (ix3 b e n)).toNat ≤ 1024
  step : ∀ (b : Fin 4) (e : Fin 16) (n : Fin 8192) (h : n.val + 1 < 8192), (cnt (ix3 b e ⟨n.val + 1, h⟩)).toNat = (cnt (ix3 b e n)).toNat + if pos (ix3 b e n) = 4294967295#32 then 0 else 1
  kept : ∀ (b : Fin 4) (e : Fin 16) (n : Fin 8192), pos (ix3 b e n) = 4294967295#32 ∨ (pos (ix3 b e n) = cnt (ix3 b e n) ∧ (cnt (ix3 b e n)).toNat < 1024)

/-- An equality test that holds. -/
theorem eq_of_cmpi (a b : BitVec 32) (h : IntOp.cmpi .eq a b = 1#1) : a = b :=
  StableHlo.Predicate.cmpi_eq_iff.1 h

/-- A comparison that holds. -/
theorem sle_of_cmpi (a b : BitVec 32) (h : IntOp.cmpi .sle a b = 1#1) : a.toInt ≤ b.toInt :=
  of_decide_eq_true ((StableHlo.Predicate.ofBool_eq_one_iff _).1 h)

/-- A strict comparison that holds. -/
theorem slt_of_cmpi (a b : BitVec 32) (h : IntOp.cmpi .slt a b = 1#1) : a.toInt < b.toInt :=
  of_decide_eq_true ((StableHlo.Predicate.ofBool_eq_one_iff _).1 h)

/-- A small number's value with its sign is its value without. -/
theorem toInt_small (a : BitVec 32) (h : a.toNat < 2147483648) : a.toInt = a.toNat := by
  rw [BitVec.toInt_eq_toNat_cond, if_pos (by omega)]

/-- The precondition gives that. -/
theorem good {F : FTy → Type} [FloatOps F] (pos cnt : IVec S4x16x8192 32) (a2 : FVec F S4x16x8192 .f32) (a3 : FVec F S4x8192x1024 .bf16) (a4 a5 a6 : FVec F S4x16x1024x1024 .f32)
    (h : Cert.Pre_routed.fn (F := F) pos cnt a2 a3 a4 a5 a6 = fun _ => 1#1) : Good pos cnt := by
  obtain ⟨h1, h2, h3, h4, h5⟩ := tests pos cnt a2 a3 a4 a5 a6 h
  have hor : ∀ i, pos i = cnt i ∨ pos i = 4294967295#32 := fun i => by
    have := h1 i
    by_cases q : pos i = cnt i
    · exact .inl q
    · right
      have q' : IntOp.cmpi .eq (pos i) (cnt i) = 0#1 := by
        show BitVec.ofBool (pos i == cnt i) = 0#1
        rw [beq_false_of_ne q]; rfl
      rw [q'] at this
      refine eq_of_cmpi _ _ ?_
      simpa [IntOp.ori] using this
  have key : ∀ (b : Fin 4) (e : Fin 16) (n : ℕ) (hn : n < 8192), (cnt (ix3 b e ⟨n, hn⟩)).toNat ≤ 1024
      ∧ ∀ hn' : n + 1 < 8192, (cnt (ix3 b e ⟨n + 1, hn'⟩)).toNat = (cnt (ix3 b e ⟨n, hn⟩)).toNat + if pos (ix3 b e ⟨n, hn⟩) = 4294967295#32 then 0 else 1 := by
    intro b e n
    have next : ∀ n (hn : n < 8192), (cnt (ix3 b e ⟨n, hn⟩)).toNat ≤ 1024 → ∀ hn' : n + 1 < 8192, (cnt (ix3 b e ⟨n + 1, hn'⟩)).toNat = (cnt (ix3 b e ⟨n, hn⟩)).toNat + if pos (ix3 b e ⟨n, hn⟩) = 4294967295#32 then 0 else 1 := by
      intro n hn hle hn'
      have e5 := eq_of_cmpi _ _ (h5 b e ⟨n, by omega⟩)
      dsimp only at e5
      rw [show (⟨1 + n, by omega⟩ : Fin 8192) = ⟨n + 1, hn'⟩ from Fin.ext (Nat.add_comm _ _)] at e5
      rw [e5]
      by_cases q : pos (ix3 b e ⟨n, hn⟩) = 4294967295#32
      · rw [if_pos q, q]
        have : (IntOp.cmpi .sge 4294967295#32 0#32).setWidth 32 = 0#32 := by decide
        rw [this]; simp
      · have q2 : pos (ix3 b e ⟨n, hn⟩) = cnt (ix3 b e ⟨n, hn⟩) := (hor _).resolve_right q
        rw [if_neg q, q2]
        have q3 : IntOp.cmpi .sge (cnt (ix3 b e ⟨n, hn⟩)) 0#32 = 1#1 := by
          have := toInt_small (cnt (ix3 b e ⟨n, hn⟩)) (by omega)
          simp only [IntOp.cmpi, BitVec.sle, this]
          simp
        rw [q3]
        have : (BitVec.setWidth 32 1#1) = 1#32 := by decide
        rw [this, BitVec.toNat_add]
        have : (1#32).toNat = 1 := rfl
        omega
    induction n with
    | zero =>
      intro hn
      have e3 : cnt (ix3 b e ⟨0, hn⟩) = 0#32 := eq_of_cmpi _ _ (h3 b e)
      have hle : (cnt (ix3 b e ⟨0, hn⟩)).toNat ≤ 1024 := by rw [e3]; decide
      exact ⟨hle, next 0 hn hle⟩
    | succ k ih =>
      intro hn
      obtain ⟨i1, i2⟩ := ih (by omega)
      have i2 := i2 hn
      have hle : (cnt (ix3 b e ⟨k + 1, hn⟩)).toNat ≤ 1024 := by
        have hs := sle_of_cmpi _ _ (h4 (ix3 b e ⟨k + 1, hn⟩))
        rw [toInt_small _ (by split_ifs at i2 <;> omega)] at hs
        have : (1024#32).toInt = 1024 := by decide
        omega
      exact ⟨hle, next _ hn hle⟩
  refine ⟨fun b e n => (key b e n.val n.isLt).1, fun b e n hn => (key b e n.val n.isLt).2 hn, fun b e n => ?_⟩
  rcases hor (ix3 b e n) with q | q
  · right
    refine ⟨q, ?_⟩
    have hs := slt_of_cmpi _ _ (h2 (ix3 b e n))
    have hk : (cnt (ix3 b e n)).toNat ≤ 1024 := (key b e n.val n.isLt).1
    rw [q, toInt_small _ (by omega)] at hs
    have : (1024#32).toInt = 1024 := by decide
    omega
  · exact .inl q

/-- The counts grow, by at most one a token. -/
theorem Good.between {pos cnt : IVec S4x16x8192 32} (g : Good pos cnt) (b : Fin 4) (e : Fin 16) (n : Fin 8192) (k : ℕ) (h : n.val + k < 8192) :
    (cnt (ix3 b e n)).toNat ≤ (cnt (ix3 b e ⟨n.val + k, h⟩)).toNat ∧ (cnt (ix3 b e ⟨n.val + k, h⟩)).toNat ≤ (cnt (ix3 b e n)).toNat + k := by
  induction k with
  | zero => exact ⟨le_refl _, le_refl _⟩
  | succ k ih =>
    have i := ih (by omega)
    have s := g.step b e ⟨n.val + k, by omega⟩ h
    have e' : (cnt (ix3 b e ⟨n.val + (k + 1), h⟩)).toNat = (cnt (ix3 b e ⟨n.val + k, by omega⟩)).toNat + _ := s
    rw [e']
    split_ifs <;> omega

/-- A tile of 512 tokens from token `a` on: a kept token's row lies from the tile's first count on, less than 512 rows further. -/
theorem Good.tile {pos cnt : IVec S4x16x8192 32} (g : Good pos cnt) (b : Fin 4) (e : Fin 16) (a j : ℕ) (hj : j < 512) (ha : a + 512 ≤ 8192) :
    pos (ix3 b e ⟨a + j, by omega⟩) = 4294967295#32 ∨ ((cnt (ix3 b e ⟨a, by omega⟩)).toNat ≤ (pos (ix3 b e ⟨a + j, by omega⟩)).toNat
      ∧ (pos (ix3 b e ⟨a + j, by omega⟩)).toNat < (cnt (ix3 b e ⟨a, by omega⟩)).toNat + 512 ∧ (pos (ix3 b e ⟨a + j, by omega⟩)).toNat < 1024
      ∧ ∀ h : a + 512 < 8192, (pos (ix3 b e ⟨a + j, by omega⟩)).toNat < (cnt (ix3 b e ⟨a + 512, h⟩)).toNat) := by
  by_cases q : pos (ix3 b e ⟨a + j, by omega⟩) = 4294967295#32
  · exact .inl q
  right
  obtain ⟨q1, q2⟩ := (g.kept b e ⟨a + j, by omega⟩).resolve_left q
  have bw := g.between b e ⟨a, by omega⟩ j (by show a + j < 8192; omega)
  dsimp only at bw
  rw [q1]
  refine ⟨bw.1, by omega, q2, fun h => ?_⟩
  have s := g.step b e ⟨a + j, by omega⟩ (by show a + j + 1 < 8192; omega)
  rw [if_neg q] at s
  have b2 := (g.between b e ⟨a + j + 1, by omega⟩ (511 - j) (by show a + j + 1 + (511 - j) < 8192; omega)).1
  have e' : (⟨a + j + 1 + (511 - j), by omega⟩ : Fin 8192) = ⟨a + 512, h⟩ := Fin.ext (by show a + j + 1 + (511 - j) = a + 512; omega)
  have s' : (cnt (ix3 b e ⟨a + j + 1, by omega⟩)).toNat = (cnt (ix3 b e ⟨a + j, by omega⟩)).toNat + 1 := s
  have b3 : (cnt (ix3 b e ⟨a + j + 1, by omega⟩)).toNat ≤ (cnt (ix3 b e ⟨a + j + 1 + (511 - j), by omega⟩)).toNat := b2
  rw [e', s'] at b3
  rw [q1]
  omega

end Cert.ExpertsRouted
end
-- ==== Proof.Experts.TableI.lean ====
module

public import proofs.«01_k».proof.Proof.Experts.ArithI
public import proofs.«01_k».proof.Proof.Experts.Routed
public import Idealize.ShloMosaic.Lib.Pointwise

@[expose] public section

set_option maxRecDepth 16384

noncomputable section

namespace Cert.Kernel4Ideal.Experts

open Cert.Kernel4Ideal Cert.Kernel4Ideal.Gen Idealize.ShloMosaic Idealize.ShloMosaic.TcCoe

variable {F : FTy → Type} [FloatOps F] (m : (ℓ : Loc nD τ sig) → Buf (Elt F) ℓ)

/-- The table of a tile's first counts, as the host makes it. -/
theorem tbl_eq : tbl m 0 = shapeCast S1088 (transpose S16x4x17 [1, 0, 2]
    (concatenate S4x16x17 2 [⟨S4x16x16, Host.slice S4x16x16 ![0, 0, 0] ![1, 1, 512] (m (((0 : Dev nD) : Thread nD τ).loc main_arg1)) slicesBy_S4x16x8192_S4x16x16_0s1_0s1_0s512⟩,
      ⟨S4x16x1, broadcastInDim S4x16x1 ![] bcast_S_S4x16x1 (constantI S_ 32 1024#32)⟩] concatenates_S4x16x16_S4x16x1_S4x16x17_d2 : IVec S4x16x17 32)
    transposes_S4x16x17_S16x4x17_1_0_2) shapeCasts_S16x4x17_S1088 := by
  show StableHlo.after hostOps0 (fun b => m ((0 : Dev nD), b)) (Proc.devRef .tc main_v4) = _
  after_results_simp
  rfl

/-- The word of expert `e`, example `b` and tile `k`: the count before the tile's first token. -/
theorem tbl_at (e : Fin 16) (b : Fin 4) (k : Fin 16) :
    tbl m 0 (ix1 ⟨68 * e.val + 17 * b.val + k.val, by omega⟩) = m (((0 : Dev nD) : Thread nD τ).loc main_arg1) (ix3 b e ⟨512 * k.val, by omega⟩) := by
  rw [tbl_eq]
  pointwise
  rw [dif_pos (by omega)]
  exact congrArg (fun j => m (((0 : Dev nD) : Thread nD τ).loc main_arg1) (ix3 b e j)) (Fin.ext (by show 512 * ((68 * e.val + 17 * b.val + k.val) % 17) = 512 * k.val; omega))

/-- The word after the last tile: the number of rows. -/
theorem tbl_last (e : Fin 16) (b : Fin 4) :
    tbl m 0 (ix1 ⟨68 * e.val + 17 * b.val + 16, by omega⟩) = 1024#32 := by
  rw [tbl_eq]
  pointwise
  rw [dif_neg (by omega)]

/-- A row of tokens with an axis of one entry. -/
theorem lift_at {α : Type} (x : S4x16x8192.Idx → α) (b : Fin 4) (e : Fin 16) (n : Fin 8192) :
    shapeCast S4x16x1x8192 x shapeCasts_S4x16x8192_S4x16x1x8192 (ix4 b e 0 n) = x (ix3 b e n) := by
  pointwise

/-- The tokens' rows as the kernel reads them. -/
theorem pos_at (c : Dev nD) (b : Fin 4) (e : Fin 16) (n : Fin 8192) : V m c main_v5 (ix4 b e 0 n) = m ((c : Thread nD τ).loc main_arg0) (ix3 b e n) := by
  have h : V m c main_v5 = shapeCast S4x16x1x8192 (m ((c : Thread nD τ).loc main_arg0)) shapeCasts_S4x16x8192_S4x16x1x8192 := by
    show StableHlo.after hostOps0 (fun b => m (c, b)) (Proc.devRef .tc main_v5) = _
    after_results_simp
    rfl
  rw [h]
  exact lift_at _ b e n

/-- The tokens' affinities as the kernel reads them. -/
theorem aff_at (c : Dev nD) (b : Fin 4) (e : Fin 16) (n : Fin 8192) : V m c main_v6 (ix4 b e 0 n) = m ((c : Thread nD τ).loc main_arg2) (ix3 b e n) := by
  have h : V m c main_v6 = shapeCast S4x16x1x8192 (m ((c : Thread nD τ).loc main_arg2)) shapeCasts_S4x16x8192_S4x16x1x8192 := by
    show StableHlo.after hostOps0 (fun b => m (c, b)) (Proc.devRef .tc main_v6) = _
    after_results_simp
    rfl
  rw [h]
  exact lift_at _ b e n

/-- No word of the table is above 1024. -/
theorem tbl_le (hg : ExpertsRouted.Good (m (((0 : Dev nD) : Thread nD τ).loc main_arg0)) (m (((0 : Dev nD) : Thread nD τ).loc main_arg1))) (i : Fin 1088) : (tbl m 0 (ix1 i)).toNat ≤ 1024 := by
  by_cases q : i.val % 17 = 16
  · have h := tbl_last m ⟨i.val / 68, by omega⟩ ⟨i.val / 17 % 4, by omega⟩
    rw [show (⟨68 * (i.val / 68) + 17 * (i.val / 17 % 4) + 16, by omega⟩ : Fin 1088) = i from Fin.ext (by show 68 * (i.val / 68) + 17 * (i.val / 17 % 4) + 16 = i.val; omega)] at h
    rw [h]; decide
  · have h := tbl_at m ⟨i.val / 68, by omega⟩ ⟨i.val / 17 % 4, by omega⟩ ⟨i.val % 17, by omega⟩
    rw [show (⟨68 * (i.val / 68) + 17 * (i.val / 17 % 4) + i.val % 17, by omega⟩ : Fin 1088) = i from Fin.ext (by show 68 * (i.val / 68) + 17 * (i.val / 17 % 4) + i.val % 17 = i.val; omega)] at h
    rw [h]
    exact hg.le _ _ _

/-- What the body assumes of the table's words holds. -/
theorem words (hg : ExpertsRouted.Good (m (((0 : Dev nD) : Thread nD τ).loc main_arg0)) (m (((0 : Dev nD) : Thread nD τ).loc main_arg1))) : Words (tbl m 0) :=
  words_of _ fun off inb => by
    unfold word
    generalize Shape.Idx.first _ = y
    exact (congrArg (fun i => (tbl m 0 i).toNat ≤ 1024) (funext fun a => Fin.ext (by match a with | ⟨0, _⟩ => rfl))).mpr (tbl_le m hg ((Rect.unit (s := S1088) off S1.size inb).emb y 0))

end Cert.Kernel4Ideal.Experts
end
-- ==== Proof.Experts.FrameI.lean ====
module

public import proofs.«01_k».proof.Proof.Experts.TableI

@[expose] public section

set_option maxRecDepth 16384

noncomputable section

namespace Cert.Kernel4Ideal.Experts

open Cert.Kernel4Ideal Cert.Kernel4Ideal.Gen Idealize.ShloMosaic Idealize.ShloMosaic.TcCoe
open Idealize.SL Idealize.SL.RA Idealize.SL.Sem

variable {F : FTy → Type} [FloatOps F] (m : (ℓ : Loc nD τ sig) → Buf (Elt F) ℓ) (ρ : Dev nD → PrngReg)
variable (Inv : Dev nD → ℕ → Facts4 F) (out : (c : Dev nD) → (t : Fin (cfgM m).N) → Vec F S1x1x1024x1024 .bf16) (fg : Bool)

/-- The host operations leave an array alone that none of them writes. -/
theorem V_of (c : Dev nD) (a : Ref sig .tc) (h : ∀ b ∈ ([main_c, main_v0, main_v1, main_v2, main_v3, main_v4, main_v5, main_v6] : List (Ref sig .tc)), a ≠ b) :
    V m c a = m ((c : Thread nD τ).loc a) :=
  StableHlo.after_of_forall_not_mem (b := Proc.devRef .tc a) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (h _ (by decide))))

/-- The host operations leave `main_arg0` alone. -/
theorem V_main_arg0 (c : Dev nD) : V m c main_arg0 = m ((c : Thread nD τ).loc main_arg0) := V_of m c main_arg0 (by decide)

/-- The host operations leave `main_arg1` alone. -/
theorem V_main_arg1 (c : Dev nD) : V m c main_arg1 = m ((c : Thread nD τ).loc main_arg1) := V_of m c main_arg1 (by decide)

/-- The host operations leave `main_arg2` alone. -/
theorem V_main_arg2 (c : Dev nD) : V m c main_arg2 = m ((c : Thread nD τ).loc main_arg2) := V_of m c main_arg2 (by decide)

/-- The host operations leave `main_arg3` alone. -/
theorem V_main_arg3 (c : Dev nD) : V m c main_arg3 = m ((c : Thread nD τ).loc main_arg3) := V_of m c main_arg3 (by decide)

/-- The host operations leave `main_arg4` alone. -/
theorem V_main_arg4 (c : Dev nD) : V m c main_arg4 = m ((c : Thread nD τ).loc main_arg4) := V_of m c main_arg4 (by decide)

/-- The host operations leave `main_arg5` alone. -/
theorem V_main_arg5 (c : Dev nD) : V m c main_arg5 = m ((c : Thread nD τ).loc main_arg5) := V_of m c main_arg5 (by decide)

/-- The host operations leave `main_arg6` alone. -/
theorem V_main_arg6 (c : Dev nD) : V m c main_arg6 = m ((c : Thread nD τ).loc main_arg6) := V_of m c main_arg6 (by decide)

/-- The argument arrays hold in the one memory what they hold in the other. -/
abbrev Kept (m m' : (ℓ : Loc nD τ sig) → Buf (Elt F) ℓ) (c : Dev nD) : Prop :=
  m' ((c.tc : Thread nD τ).loc main_arg0) = m ((c.tc : Thread nD τ).loc main_arg0)
      ∧ m' ((c.tc : Thread nD τ).loc main_arg1) = m ((c.tc : Thread nD τ).loc main_arg1)
      ∧ m' ((c.tc : Thread nD τ).loc main_arg2) = m ((c.tc : Thread nD τ).loc main_arg2)
      ∧ m' ((c.tc : Thread nD τ).loc main_arg3) = m ((c.tc : Thread nD τ).loc main_arg3)
      ∧ m' ((c.tc : Thread nD τ).loc main_arg4) = m ((c.tc : Thread nD τ).loc main_arg4)
      ∧ m' ((c.tc : Thread nD τ).loc main_arg5) = m ((c.tc : Thread nD τ).loc main_arg5)
      ∧ m' ((c.tc : Thread nD τ).loc main_arg6) = m ((c.tc : Thread nD τ).loc main_arg6)

/-- An array that is only read ends as the host operations left it. -/
theorem in_of (c : Dev nD) (w : Fin (cfgM m).W) (hin : ((cfgM m).win w).isOut = false) (hf : fgt m fg w = false) (A) (h : ((dats m Inv out 0 c).toRForget (fgt m fg)).ArrAt w (cfgM m).N A) :
    A = V m c (Pipeline.arrRef spec0 w) :=
  (((dats m Inv out 0 c).toRForget_arrAt_iff hf _ _).1 h).trans (((dats m Inv out 0 c).arrAt_in w hin _).trans (A_eq m Inv out c w))

set_option maxHeartbeats 2000000 in
/-- From the pipeline's end to the arguments: they are as they were. -/
theorem args_of (r) (h : Pipeline.RDat.FramePost (cfgM m) (fun c => (dats m Inv out 0 c).toRForget (fgt m fg)) (V m) r) (c : Dev nD) : Kept m r.2.mem c := by
  obtain ⟨X1, X2⟩ := h c
  refine ⟨?_, ?_, ?_, ?_, ?_, ?_, ?_⟩
  · exact ((X2 main_arg0 (by show main_arg0 ∈ Pipeline.restRefs sig spec0; decide)).trans (V_main_arg0 m c))
  · exact ((X2 main_arg1 (by show main_arg1 ∈ Pipeline.restRefs sig spec0; decide)).trans (V_main_arg1 m c))
  · exact ((X2 main_arg2 (by show main_arg2 ∈ Pipeline.restRefs sig spec0; decide)).trans (V_main_arg2 m c))
  · exact (in_of m Inv out fg c 2 rfl (fgt_2 m fg) _ (X1 2)).trans (V_main_arg3 m c)
  · exact (in_of m Inv out fg c 3 rfl (fgt_3 m fg) _ (X1 3)).trans (V_main_arg4 m c)
  · exact (in_of m Inv out fg c 4 rfl (fgt_4 m fg) _ (X1 4)).trans (V_main_arg5 m c)
  · exact (in_of m Inv out fg c 5 rfl (fgt_5 m fg) _ (X1 5)).trans (V_main_arg6 m c)

/-- Under the precondition the program runs to its end, the arguments unchanged and every semaphore counter at zero. -/
theorem frame (hg : ExpertsRouted.Good (m (((0 : Dev nD) : Thread nD τ).loc main_arg0)) (m (((0 : Dev nD) : Thread nD τ).loc main_arg1))) :
    θ_run defs (onTc (τ := τ) (main (F := F))) ⟨m, fun _ => 0, ρ⟩ (fun r => (∀ c : Dev nD, Kept m r.2.mem c) ∧ r.2.sem = fun _ => 0) :=
  (θ_run defs _ _).mono (fun r h => ⟨args_of m (fun _ _ _ _ _ _ _ => True) (fun _ _ => constant S1x1x1024x1024 .bf16 0x0000#16) true r h.1, h.2⟩)
    (run_forget m ρ (fun _ _ _ _ _ _ _ => True) (fun _ _ => constant S1x1x1024x1024 .bf16 0x0000#16) true (words m hg) (fun _ _ _ _ _ _ => trivial)
      (fun _ _ _ _ _ _ _ _ _ _ _ _ _ => ⟨trivial, fun h => absurd h (by decide)⟩))

end Cert.Kernel4Ideal.Experts
end
-- ==== Proof.Experts.Spec.lean ====
module

public import Idealize.ShloMosaic.Lib.Pointwise

@[expose] public section

noncomputable section

namespace Cert.ExpertSpec

open Idealize.ShloMosaic

/-- One if the bit is set, else zero. -/
def pick (b : BitVec 1) : EReal := if b = 1#1 then 1 else 0

/-- An entry of an expert's row: the gated linear unit of the gathered row `x`, projected back, times the affinity `g`. -/
def ffn (x : Fin 1024 → EReal) (w1 w3 w2 : Fin 1024 → Fin 1024 → EReal) (g : EReal) (d : Fin 1024) : EReal :=
  (∑ f : Fin 1024, (((∑ k : Fin 1024, x k * w1 k f) * Ideal.logistic (∑ k : Fin 1024, x k * w1 k f)) * ∑ k : Fin 1024, x k * w3 k f) * w2 f d) * g

/-- A bit as a number. -/
theorem sitofp_bit : ∀ b : BitVec 1, FloatOps.sitofp (F := Ideal) .f32 (BitVec.setWidth 32 b) = pick b := by
  intro b
  have h : b = 0#1 ∨ b = 1#1 := by revert b; decide
  rcases h with rfl | rfl
  · show (((BitVec.setWidth 32 0#1).toInt : ℝ) : EReal) = _
    simp [pick]
  · show (((BitVec.setWidth 32 1#1).toInt : ℝ) : EReal) = _
    have : (BitVec.setWidth 32 1#1).toInt = 1 := by decide
    rw [this]; simp [pick]

/-- A bit as a number, read without a sign. -/
theorem uitofp_bit : ∀ b : BitVec 1, FloatOps.uitofp (F := Ideal) .f32 b = pick b := by
  intro b
  have h : b = 0#1 ∨ b = 1#1 := by revert b; decide
  rcases h with rfl | rfl
  · show (((0#1).toNat : ℝ) : EReal) = _
    simp [pick]
  · show (((1#1).toNat : ℝ) : EReal) = _
    simp [pick]

end Cert.ExpertSpec
end
-- ==== Proof.Experts.PayI.lean ====
module

public import proofs.«01_k».proof.Proof.Experts.BodyI
public import proofs.«01_k».proof.Proof.Experts.Spec
public import Idealize.ShloMosaic.Lib.Pipeline.ValueKit
public import Idealize.ShloMosaic.Lib.Pointwise

@[expose] public section

set_option maxRecDepth 16384

noncomputable section

namespace Cert.Kernel4Ideal.Experts

open Cert.ExpertSpec Cert.Kernel4Ideal Cert.Kernel4Ideal.Gen Idealize.ShloMosaic Idealize.ShloMosaic.TcCoe Idealize.SL.Sem

/-- The rows with a tile's tokens added, an entry. -/
theorem addX_at (o : ℕ) (ho : o + 512 ≤ 2048) (hs : S1x2048.Slices ![0, o] S1x512) (w : BitVec 32) (x0 : Vec Ideal S1x1x1x2048 .i32) (X : FVec Ideal S128x1024 .f32) (h : FVec Ideal S1x512x1024 .bf16)
    (i : Fin 128) (d : Fin 1024) :
    addX ![0, o] hs w x0 X h (ix2 i d) = X (ix2 i d) + ∑ j : Fin 512,
      pick (IntOp.cmpi .eq (x0 (ix4 0 0 0 ⟨o + j.val, by omega⟩)) (w + BitVec.ofNat 32 i.val)) * h (ix3 0 j d) := by
  pointwise [addX, hit]
  refine congrArg (X (ix2 i d) + ·) (Finset.sum_congr rfl fun j _ => congrArg (· * h (ix3 0 j d)) ?_)
  exact sitofp_bit _

/-- The rows with a tile's affinities added, an entry. -/
theorem addG_at (o : ℕ) (ho : o + 512 ≤ 2048) (hs : S1x2048.Slices ![0, o] S1x512) (w : BitVec 32) (x0 : Vec Ideal S1x1x1x2048 .i32) (x1 : FVec Ideal S1x1x1x2048 .f32) (X : FVec Ideal S128x128 .f32)
    (i : Fin 128) (d : Fin 128) :
    addG ![0, o] hs w x0 x1 X (ix2 i d) = X (ix2 i d) + ∑ j : Fin 512,
      (if IntOp.cmpi .eq (x0 (ix4 0 0 0 ⟨o + j.val, by omega⟩)) (w + BitVec.ofNat 32 i.val) = 1#1 then x1 (ix4 0 0 0 ⟨o + j.val, by omega⟩) else 0) := by
  pointwise [addG, hit]
  rfl

/-- An entry of the first half of the result's block. -/
theorem pay8_at (X : FVec Ideal S512x1024 .f32) (W1 W3 W2 : FVec Ideal S1024x1024 .bf16) (G : FVec Ideal S512x1 .f32) (r : Fin 512) (d : Fin 1024) :
    k0_pay8 (F := Ideal) X W1 W3 W2 G (ix4 0 0 r d) = ffn (fun k => X (ix2 r k)) (fun a b => W1 (ix2 a b)) (fun a b => W3 (ix2 a b)) (fun a b => W2 (ix2 a b)) (G (ix2 r 0)) d := by
  pointwise [k0_pay8, ffn]

/-- An entry of the second half of the result's block. -/
theorem pay7_at (X : FVec Ideal S512x1024 .f32) (W1 W3 W2 : FVec Ideal S1024x1024 .bf16) (G : FVec Ideal S512x1 .f32) (r : Fin 512) (d : Fin 1024) :
    k0_pay7 (F := Ideal) (k0_pay9 X W1 W3 W2) G (ix4 0 0 r d) = ffn (fun k => X (ix2 r k)) (fun a b => W1 (ix2 a b)) (fun a b => W3 (ix2 a b)) (fun a b => W2 (ix2 a b)) (G (ix2 r 0)) d := by
  pointwise [k0_pay7, k0_pay9, ffn]

/-- The first weights as the kernel keeps them. -/
theorem pay10_at (X : FVec Ideal S1x1x1024x1024 .f32) (r : Fin 1024) (d : Fin 1024) :
    k0_pay10 (F := Ideal) X (ix2 r d) = X (ix4 0 0 r d) := by
  pointwise [k0_pay10]
/-- The second weights as the kernel keeps them. -/
theorem pay11_at (X : FVec Ideal S1x1x1024x1024 .f32) (r : Fin 1024) (d : Fin 1024) :
    k0_pay11 (F := Ideal) X (ix2 r d) = X (ix4 0 0 r d) := by
  pointwise [k0_pay11]
/-- The third weights as the kernel keeps them. -/
theorem pay12_at (X : FVec Ideal S1x1x1024x1024 .f32) (r : Fin 1024) (d : Fin 1024) :
    k0_pay12 (F := Ideal) X (ix2 r d) = X (ix4 0 0 r d) := by
  pointwise [k0_pay12]
/-- The sums of tokens begin with zero. -/
theorem pay13_at (r : Fin 1664) (d : Fin 1024) :
    k0_pay13 (F := Ideal) (ix2 r d) = 0 := by
  pointwise [k0_pay13]
/-- The sums of affinities begin with zero. -/
theorem pay14_at (r : Fin 1664) (d : Fin 128) :
    k0_pay14 (F := Ideal) (ix2 r d) = 0 := by
  pointwise [k0_pay14]

end Cert.Kernel4Ideal.Experts
end
-- ==== Proof.Experts.TileI.lean ====
module

public import proofs.«01_k».proof.Proof.Experts.ArithI
public import proofs.«01_k».proof.Proof.Experts.PayI

@[expose] public section

set_option maxRecDepth 16384

noncomputable section

namespace Cert.Kernel4Ideal.Experts

open Cert.ExpertSpec Cert.Kernel4Ideal Cert.Kernel4Ideal.Gen Idealize.ShloMosaic Idealize.ShloMosaic.TcCoe

/-- One window of rows of the token sums: its rows get their addend if the window is taken, all others stay. -/
theorem blkX_at (cond : BitVec 1) (o : ℕ) (p : Vec Ideal S128x1024 .f32 → Vec Ideal S128x1024 .f32) (X X' : Vec Ideal S1664x1024 .f32) (S : ℕ → Fin 1024 → EReal)
    (hp : ∀ Y i d, p Y (ix2 i d) = Y (ix2 i d) + S (o + i.val) d) (h : BlkX (F := Ideal) cond ![o, 0] p X X') (r : Fin 1664) (d : Fin 1024) :
    X' (ix2 r d) = X (ix2 r d) + if cond = 1#1 ∧ o ≤ r.val ∧ r.val < o + 128 then S r.val d else 0 := by
  by_cases hc : cond = 1#1
  · obtain ⟨inb, e⟩ := h.1 hc
    rw [e]
    by_cases hr : o ≤ r.val ∧ r.val < o + 128
    · rw [if_pos ⟨hc, hr⟩]
      have hin : ∀ a : Fin 2, (![o, 0] : Fin 2 → ℕ) a ≤ ((ix2 r d : S1664x1024.Idx) a).val ∧ ((ix2 r d : S1664x1024.Idx) a).val < (![o, 0] : Fin 2 → ℕ) a + S128x1024.size a := fun a => by
        match a with
        | ⟨0, _⟩ => exact hr
        | ⟨1, _⟩ => exact ⟨Nat.zero_le _, by show d.val < 0 + 1024; omega⟩
      refine (dif_pos hin).trans ?_
      have hl : (Rect.unitLocal (s := S1664x1024) (off := ![o, 0]) (size := S128x1024.size) (ix2 r d) hin : S128x1024.Idx) = ix2 (⟨r.val - o, by omega⟩ : Fin 128) d := funext fun a => Fin.ext (by
        match a with
        | ⟨0, _⟩ => rfl
        | ⟨1, _⟩ => rfl)
      refine (congrArg (p (VecWindow.window X ![o, 0] S128x1024.size inb)) hl).trans ((hp _ _ _).trans ?_)
      have e1 : o + (r.val - o) = r.val := by omega
      refine congrArg₂ (· + ·) ?_ (congrArg (fun n => S n d) e1)
      refine congrArg X (funext fun a => Fin.ext ?_)
      match a with
      | ⟨0, _⟩ => show o + 1 * (r.val - o) = r.val; omega
      | ⟨1, _⟩ => show 0 + 1 * d.val = d.val; omega
    · rw [if_neg (fun q => hr q.2), add_zero]
      exact dif_neg fun q => hr (q 0)
  · rw [h.2 hc, if_neg (fun q => hc q.1), add_zero]

/-- One window of rows of the affinity sums: its rows get their addend if the window is taken, all others stay. -/
theorem blkG_at (cond : BitVec 1) (o : ℕ) (p : Vec Ideal S128x128 .f32 → Vec Ideal S128x128 .f32) (X X' : Vec Ideal S1664x128 .f32) (S : ℕ → EReal)
    (hp : ∀ Y i d, p Y (ix2 i d) = Y (ix2 i d) + S (o + i.val)) (h : BlkG (F := Ideal) cond ![o, 0] p X X') (r : Fin 1664) (d : Fin 128) :
    X' (ix2 r d) = X (ix2 r d) + if cond = 1#1 ∧ o ≤ r.val ∧ r.val < o + 128 then S r.val else 0 := by
  by_cases hc : cond = 1#1
  · obtain ⟨inb, e⟩ := h.1 hc
    rw [e]
    by_cases hr : o ≤ r.val ∧ r.val < o + 128
    · rw [if_pos ⟨hc, hr⟩]
      have hin : ∀ a : Fin 2, (![o, 0] : Fin 2 → ℕ) a ≤ ((ix2 r d : S1664x128.Idx) a).val ∧ ((ix2 r d : S1664x128.Idx) a).val < (![o, 0] : Fin 2 → ℕ) a + S128x128.size a := fun a => by
        match a with
        | ⟨0, _⟩ => exact hr
        | ⟨1, _⟩ => exact ⟨Nat.zero_le _, by show d.val < 0 + 128; omega⟩
      refine (dif_pos hin).trans ?_
      have hl : (Rect.unitLocal (s := S1664x128) (off := ![o, 0]) (size := S128x128.size) (ix2 r d) hin : S128x128.Idx) = ix2 (⟨r.val - o, by omega⟩ : Fin 128) d := funext fun a => Fin.ext (by
        match a with
        | ⟨0, _⟩ => rfl
        | ⟨1, _⟩ => rfl)
      refine (congrArg (p (VecWindow.window X ![o, 0] S128x128.size inb)) hl).trans ((hp _ _ _).trans ?_)
      have e1 : o + (r.val - o) = r.val := by omega
      refine congrArg₂ (· + ·) ?_ (congrArg S e1)
      refine congrArg X (funext fun a => Fin.ext ?_)
      match a with
      | ⟨0, _⟩ => show o + 1 * (r.val - o) = r.val; omega
      | ⟨1, _⟩ => show 0 + 1 * d.val = d.val; omega
    · rw [if_neg (fun q => hr q.2), add_zero]
      exact dif_neg fun q => hr (q 0)
  · rw [h.2 hc, if_neg (fun q => hc q.1), add_zero]

/-- Five windows of 128 rows from the eighth row at or below `s`: together they give every row its addend, when the addend is zero outside the rows from `s` to below `e`, less than 512 further. -/
theorem five (s e : BitVec 32) (hs : s.toNat ≤ 1024) (he : e.toNat ≤ 1024) (r : ℕ) (x S : EReal)
    (hz : (r < s.toNat ∨ e.toNat ≤ r ∨ s.toNat + 512 ≤ r) → S = 0) :
    x + (if cnd 0#32 s e = 1#1 ∧ 8 * (s.toNat / 8) + 128 * 0 ≤ r ∧ r < 8 * (s.toNat / 8) + 128 * 0 + 128 then S else 0)
      + (if cnd 128#32 s e = 1#1 ∧ 8 * (s.toNat / 8) + 128 * 1 ≤ r ∧ r < 8 * (s.toNat / 8) + 128 * 1 + 128 then S else 0)
      + (if cnd 256#32 s e = 1#1 ∧ 8 * (s.toNat / 8) + 128 * 2 ≤ r ∧ r < 8 * (s.toNat / 8) + 128 * 2 + 128 then S else 0)
      + (if cnd 384#32 s e = 1#1 ∧ 8 * (s.toNat / 8) + 128 * 3 ≤ r ∧ r < 8 * (s.toNat / 8) + 128 * 3 + 128 then S else 0)
      + (if cnd 512#32 s e = 1#1 ∧ 8 * (s.toNat / 8) + 128 * 4 ≤ r ∧ r < 8 * (s.toNat / 8) + 128 * 4 + 128 then S else 0) = x + S := by
  have c0 : cnd 0#32 s e = 1#1 ↔ (8 * (s.toNat / 8) + 128 * 0 < e.toNat ∧ s.toNat < 8 * (s.toNat / 8) + 128 * 0 + 128) := cnd_at 0 s e hs he
  have c1 : cnd 128#32 s e = 1#1 ↔ (8 * (s.toNat / 8) + 128 * 1 < e.toNat ∧ s.toNat < 8 * (s.toNat / 8) + 128 * 1 + 128) := cnd_at 1 s e hs he
  have c2 : cnd 256#32 s e = 1#1 ↔ (8 * (s.toNat / 8) + 128 * 2 < e.toNat ∧ s.toNat < 8 * (s.toNat / 8) + 128 * 2 + 128) := cnd_at 2 s e hs he
  have c3 : cnd 384#32 s e = 1#1 ↔ (8 * (s.toNat / 8) + 128 * 3 < e.toNat ∧ s.toNat < 8 * (s.toNat / 8) + 128 * 3 + 128) := cnd_at 3 s e hs he
  have c4 : cnd 512#32 s e = 1#1 ↔ (8 * (s.toNat / 8) + 128 * 4 < e.toNat ∧ s.toNat < 8 * (s.toNat / 8) + 128 * 4 + 128) := cnd_at 4 s e hs he
  simp only [c0, c1, c2, c3, c4]
  by_cases q : r < s.toNat ∨ e.toNat ≤ r ∨ s.toNat + 512 ≤ r
  · rw [hz q]; simp only [ite_self, add_zero]
  · have hk : (r - 8 * (s.toNat / 8)) / 128 = 0 ∨ (r - 8 * (s.toNat / 8)) / 128 = 1 ∨ (r - 8 * (s.toNat / 8)) / 128 = 2 ∨ (r - 8 * (s.toNat / 8)) / 128 = 3 ∨ (r - 8 * (s.toNat / 8)) / 128 = 4 := by omega
    rcases hk with k | k | k | k | k
    · rw [if_pos (by omega), if_neg (by omega), if_neg (by omega), if_neg (by omega), if_neg (by omega)]; simp only [add_zero]
    · rw [if_neg (by omega), if_pos (by omega), if_neg (by omega), if_neg (by omega), if_neg (by omega)]; simp only [add_zero]
    · rw [if_neg (by omega), if_neg (by omega), if_pos (by omega), if_neg (by omega), if_neg (by omega)]; simp only [add_zero]
    · rw [if_neg (by omega), if_neg (by omega), if_neg (by omega), if_pos (by omega), if_neg (by omega)]; simp only [add_zero]
    · rw [if_neg (by omega), if_neg (by omega), if_neg (by omega), if_neg (by omega), if_pos (by omega)]; simp only [add_zero]

/-- What a tile of 512 tokens adds to row `r` of the token sums. -/
def tokX (x0 : Vec Ideal S1x1x1x2048 .i32) (o : ℕ) (ho : o + 512 ≤ 2048) (h : FVec Ideal S1x512x1024 .bf16) (r : ℕ) (d : Fin 1024) : EReal :=
  ∑ j : Fin 512, pick (IntOp.cmpi .eq (x0 (ix4 0 0 0 ⟨o + j.val, by omega⟩)) (BitVec.ofNat 32 r)) * h (ix3 0 j d)

/-- What a tile of 512 tokens adds to row `r` of the affinity sums. -/
def tokG (x0 : Vec Ideal S1x1x1x2048 .i32) (x1 : FVec Ideal S1x1x1x2048 .f32) (o : ℕ) (ho : o + 512 ≤ 2048) (r : ℕ) : EReal :=
  ∑ j : Fin 512, if IntOp.cmpi .eq (x0 (ix4 0 0 0 ⟨o + j.val, by omega⟩)) (BitVec.ofNat 32 r) = 1#1 then x1 (ix4 0 0 0 ⟨o + j.val, by omega⟩) else 0

/-- The tile's tokens lie in the rows from `s` to below `e`, less than 512 further. -/
def Within (x0 : Vec Ideal S1x1x1x2048 .i32) (o : ℕ) (ho : o + 512 ≤ 2048) (s e : BitVec 32) : Prop :=
  ∀ j : Fin 512, x0 (ix4 0 0 0 ⟨o + j.val, by omega⟩) = 4294967295#32 ∨ (s.toNat ≤ (x0 (ix4 0 0 0 ⟨o + j.val, by omega⟩)).toNat
    ∧ (x0 (ix4 0 0 0 ⟨o + j.val, by omega⟩)).toNat < e.toNat ∧ (x0 (ix4 0 0 0 ⟨o + j.val, by omega⟩)).toNat < s.toNat + 512)

/-- No token of the tile lies in a row outside. -/
theorem outside (x0 : Vec Ideal S1x1x1x2048 .i32) (o : ℕ) (ho : o + 512 ≤ 2048) (s e : BitVec 32) (hw : Within x0 o ho s e) (r : ℕ) (hr : r < 1664)
    (q : r < s.toNat ∨ e.toNat ≤ r ∨ s.toNat + 512 ≤ r) (j : Fin 512) : IntOp.cmpi .eq (x0 (ix4 0 0 0 ⟨o + j.val, by omega⟩)) (BitVec.ofNat 32 r) = 0#1 := by
  have hne : x0 (ix4 0 0 0 ⟨o + j.val, by omega⟩) ≠ BitVec.ofNat 32 r := fun h => by
    have hn : (BitVec.ofNat 32 r).toNat = r := by rw [BitVec.toNat_ofNat]; omega
    rcases hw j with w | w
    · rw [h] at w
      have : (4294967295#32).toNat = r := (congrArg BitVec.toNat w).symm.trans hn
      have : (4294967295#32).toNat = 4294967295 := rfl
      omega
    · rw [h, hn] at w; omega
  show BitVec.ofBool (x0 (ix4 0 0 0 ⟨o + j.val, by omega⟩) == BitVec.ofNat 32 r) = 0#1
  rw [beq_false_of_ne hne]; rfl

/-- The row after the window's first. -/
theorem row_word (w : BitVec 32) (o i : ℕ) (hw : w.toNat = o) : w + BitVec.ofNat 32 i = BitVec.ofNat 32 (o + i) := by
  subst hw
  apply BitVec.eq_of_toNat_eq
  rw [BitVec.toNat_add, BitVec.toNat_ofNat, BitVec.toNat_ofNat]
  omega

/-- A tile adds to every row of the token sums what its tokens give. -/
theorem tileX_at (o : ℕ) (ho : o + 512 ≤ 2048) (hsl : S1x2048.Slices ![0, o] S1x512) (s e : BitVec 32) (hs : s.toNat ≤ 1024) (he : e.toNat ≤ 1024)
    (x0 : Vec Ideal S1x1x1x2048 .i32) (h : FVec Ideal S1x512x1024 .bf16) (hw : Within x0 o ho s e) (X X' : Vec Ideal S1664x1024 .f32)
    (ht : TileX (F := Ideal) ![0, o] hsl s e x0 h X X') (r : Fin 1664) (d : Fin 1024) : X' (ix2 r d) = X (ix2 r d) + tokX x0 o ho h r.val d := by
  obtain ⟨X1, X2, X3, X4, t0, t1, t2, t3, t4⟩ := ht
  have P : ∀ (k : Fin 5) Y i d, addX (F := Ideal) ![0, o] hsl (wd (BitVec.ofNat 32 (128 * k.val)) s) x0 Y h (ix2 i d) = Y (ix2 i d) + tokX x0 o ho h (8 * (s.toNat / 8) + 128 * k.val + i.val) d := fun k Y i d => by
    rw [addX_at o ho, row_word _ _ _ (wd_at k s hs)]; rfl
  have W := fun k => wof_at k s hs
  have E0 := blkX_at _ (8 * (s.toNat / 8) + 128 * 0) _ X X1 (tokX x0 o ho h) (P 0) ((show wof 0#32 s = _ from W 0) ▸ t0) r d
  have E1 := blkX_at _ (8 * (s.toNat / 8) + 128 * 1) _ X1 X2 (tokX x0 o ho h) (P 1) ((show wof 128#32 s = _ from W 1) ▸ t1) r d
  have E2 := blkX_at _ (8 * (s.toNat / 8) + 128 * 2) _ X2 X3 (tokX x0 o ho h) (P 2) ((show wof 256#32 s = _ from W 2) ▸ t2) r d
  have E3 := blkX_at _ (8 * (s.toNat / 8) + 128 * 3) _ X3 X4 (tokX x0 o ho h) (P 3) ((show wof 384#32 s = _ from W 3) ▸ t3) r d
  have E4 := blkX_at _ (8 * (s.toNat / 8) + 128 * 4) _ X4 X' (tokX x0 o ho h) (P 4) ((show wof 512#32 s = _ from W 4) ▸ t4) r d
  rw [E4, E3, E2, E1, E0]
  refine five s e hs he r.val _ _ fun q => ?_
  unfold tokX
  refine Finset.sum_eq_zero fun j _ => ?_
  rw [outside x0 o ho s e hw r.val r.isLt q j]
  exact zero_mul _

/-- A tile adds to every row of the affinity sums what its tokens give. -/
theorem tileG_at (o : ℕ) (ho : o + 512 ≤ 2048) (hsl : S1x2048.Slices ![0, o] S1x512) (s e : BitVec 32) (hs : s.toNat ≤ 1024) (he : e.toNat ≤ 1024)
    (x0 : Vec Ideal S1x1x1x2048 .i32) (x1 : FVec Ideal S1x1x1x2048 .f32) (hw : Within x0 o ho s e) (X X' : Vec Ideal S1664x128 .f32)
    (ht : TileG (F := Ideal) ![0, o] hsl s e x0 x1 X X') (r : Fin 1664) (d : Fin 128) : X' (ix2 r d) = X (ix2 r d) + tokG x0 x1 o ho r.val := by
  obtain ⟨X1, X2, X3, X4, t0, t1, t2, t3, t4⟩ := ht
  have P : ∀ (k : Fin 5) Y i d, addG (F := Ideal) ![0, o] hsl (wd (BitVec.ofNat 32 (128 * k.val)) s) x0 x1 Y (ix2 i d) = Y (ix2 i d) + tokG x0 x1 o ho (8 * (s.toNat / 8) + 128 * k.val + i.val) := fun k Y i d => by
    rw [addG_at o ho, row_word _ _ _ (wd_at k s hs)]; rfl
  have W := fun k => wof_at k s hs
  have E0 := blkG_at _ (8 * (s.toNat / 8) + 128 * 0) _ X X1 (tokG x0 x1 o ho) (P 0) ((show wof 0#32 s = _ from W 0) ▸ t0) r d
  have E1 := blkG_at _ (8 * (s.toNat / 8) + 128 * 1) _ X1 X2 (tokG x0 x1 o ho) (P 1) ((show wof 128#32 s = _ from W 1) ▸ t1) r d
  have E2 := blkG_at _ (8 * (s.toNat / 8) + 128 * 2) _ X2 X3 (tokG x0 x1 o ho) (P 2) ((show wof 256#32 s = _ from W 2) ▸ t2) r d
  have E3 := blkG_at _ (8 * (s.toNat / 8) + 128 * 3) _ X3 X4 (tokG x0 x1 o ho) (P 3) ((show wof 384#32 s = _ from W 3) ▸ t3) r d
  have E4 := blkG_at _ (8 * (s.toNat / 8) + 128 * 4) _ X4 X' (tokG x0 x1 o ho) (P 4) ((show wof 512#32 s = _ from W 4) ▸ t4) r d
  rw [E4, E3, E2, E1, E0]
  refine five s e hs he r.val _ _ fun q => ?_
  unfold tokG
  refine Finset.sum_eq_zero fun j _ => ?_
  rw [outside x0 o ho s e hw r.val r.isLt q j]
  exact if_neg (by decide)

end Cert.Kernel4Ideal.Experts
end
-- ==== Proof.Experts.ReadsI.lean ====
module

public import proofs.«01_k».proof.Proof.Experts.FrameI
public import proofs.«01_k».proof.Proof.Experts.TileI
public import Idealize.ShloMosaic.Lib.Pipeline.ValueKit
public import Idealize.ShloMosaic.Lib.Pointwise

@[expose] public section

set_option maxRecDepth 16384

noncomputable section

namespace Cert.Kernel4Ideal.Experts

open Cert.ExpertSpec Cert.Kernel4Ideal Cert.Kernel4Ideal.Gen Idealize.ShloMosaic Idealize.ShloMosaic.TcCoe

variable (m : (ℓ : Loc nD τ sig) → Buf (Elt Ideal) ℓ) (c : Dev nD)

/-- Which block every window reads or writes at each grid point. -/
theorem idx : ∀ t : Fin grid0.N, cc0_transform_0 (grid0.coords t) = ![t.val / 4 % 4, t.val / 16, 0, t.val % 4] ∧ cc0_transform_1 (grid0.coords t) = ![t.val / 4 % 4, t.val / 16, 0, t.val % 4]
    ∧ cc0_transform_2 (grid0.coords t) = ![t.val / 4 % 4, t.val % 4, 0] ∧ cc0_transform_3 (grid0.coords t) = ![0, t.val / 16, 0, 0]
    ∧ cc0_transform_4 (grid0.coords t) = ![0, t.val / 16, 0, 0] ∧ cc0_transform_5 (grid0.coords t) = ![0, t.val / 16, 0, 0] ∧ cc0_transform_6 (grid0.coords t) = ![t.val / 16, t.val / 4 % 4, 0, 0] := by
  decide +kernel

/-- Which words of the table a grid point reads. -/
theorem offs : ∀ t : Fin grid0.N, k0_off1 (grid0.coords t) 0 = 68 * (t.val / 16) + 17 * (t.val / 4 % 4) + 4 * (t.val % 4) ∧ k0_off2 (grid0.coords t) 0 = 68 * (t.val / 16) + 17 * (t.val / 4 % 4) + (4 * (t.val % 4) + 1)
    ∧ k0_off13 (grid0.coords t) 0 = 68 * (t.val / 16) + 17 * (t.val / 4 % 4) + (4 * (t.val % 4) + 1) ∧ k0_off14 (grid0.coords t) 0 = 68 * (t.val / 16) + 17 * (t.val / 4 % 4) + (4 * (t.val % 4) + 2)
    ∧ k0_off25 (grid0.coords t) 0 = 68 * (t.val / 16) + 17 * (t.val / 4 % 4) + (4 * (t.val % 4) + 2) ∧ k0_off26 (grid0.coords t) 0 = 68 * (t.val / 16) + 17 * (t.val / 4 % 4) + (4 * (t.val % 4) + 3)
    ∧ k0_off37 (grid0.coords t) 0 = 68 * (t.val / 16) + 17 * (t.val / 4 % 4) + (4 * (t.val % 4) + 3) ∧ k0_off38 (grid0.coords t) 0 = 68 * (t.val / 16) + 17 * (t.val / 4 % 4) + (4 * (t.val % 4) + 4) := by
  decide +kernel

/-- At which grid points the sums are cleared, the weights converted and the output written. -/
theorem conds : ∀ t : Fin grid0.N, (clear1 (grid0.coords t) = 1#1 ↔ t.val % 4 = 0) ∧ (cast1 (grid0.coords t) = 1#1 ↔ t.val % 16 = 0) ∧ (k0_cond23 (grid0.coords t) = 1#1 ↔ t.val % 4 = 3) := by
  decide +kernel

/-- A word of the table by its place. -/
theorem word_at {F : FTy → Type} [FloatOps F] (T : Vec F S1088 .i32) (off : Fin 1 → ℕ) (inb) (n : ℕ) (hn : n < 1088) (h : off 0 = n) : word (F := F) T off inb = T (ix1 ⟨n, hn⟩) := by
  unfold word
  refine congrArg T (funext fun a => Fin.ext ?_)
  match a with
  | ⟨0, _⟩ =>
    show off 0 + 1 * (Shape.Idx.first (s := S1) _ 0).val = n
    have : (Shape.Idx.first (s := S1) (numel1_S1.symm ▸ Nat.one_pos) 0).val < 1 := (Shape.Idx.first (s := S1) _ 0).isLt
    omega

/-- The number of grid points. -/
theorem t_lt (t : Fin (cfgM m).N) : t.val < 256 := lt_of_lt_of_eq t.isLt (show (cfgM m).N = 256 from N_0)

/-- The expert of a grid point. -/
def eOf (t : Fin (cfgM m).N) : Fin 16 := ⟨t.val / 16, by have := t_lt m t; omega⟩
/-- The batch entry of a grid point. -/
def bOf (t : Fin (cfgM m).N) : Fin 4 := ⟨t.val / 4 % 4, by omega⟩
/-- The token of a grid point's place `q`. -/
def nOf (t : Fin (cfgM m).N) (q : Fin 2048) : Fin 8192 := ⟨t.val % 4 * 2048 + q.val, by omega⟩

/-- The rows of a block's tokens. -/
theorem pos_read (t : Fin (cfgM m).N) (q : Fin 2048) : iblk m c 0 t (ix4 0 0 0 q) = m ((c : Thread nD τ).loc main_arg0) (ix3 (bOf m t) (eOf m t) (nOf m t q)) := by
  refine Eq.trans ?_ (pos_at m c (bOf m t) (eOf m t) (nOf m t q))
  unfold iblk
  refine congrArg (V m c main_v5) (funext fun a => Fin.ext ?_)
  have i := (idx t).1
  match a with
  | ⟨0, _⟩ => exact (show _ = cc0_transform_0 (grid0.coords t) 0 * 1 + 1 * 0 from rfl).trans (by rw [i]; show t.val / 4 % 4 * 1 + 1 * 0 = t.val / 4 % 4; omega)
  | ⟨1, _⟩ => exact (show _ = cc0_transform_0 (grid0.coords t) 1 * 1 + 1 * 0 from rfl).trans (by rw [i]; show t.val / 16 * 1 + 1 * 0 = t.val / 16; omega)
  | ⟨2, _⟩ => exact (show _ = cc0_transform_0 (grid0.coords t) 2 * 1 + 1 * 0 from rfl).trans (by rw [i]; show 0 * 1 + 1 * 0 = 0; omega)
  | ⟨3, _⟩ => exact (show _ = cc0_transform_0 (grid0.coords t) 3 * 2048 + 1 * q.val from rfl).trans (by rw [i]; show t.val % 4 * 2048 + 1 * q.val = t.val % 4 * 2048 + q.val; omega)

/-- The affinities of a block's tokens. -/
theorem aff_read (t : Fin (cfgM m).N) (q : Fin 2048) : iblk m c 1 t (ix4 0 0 0 q) = m ((c : Thread nD τ).loc main_arg2) (ix3 (bOf m t) (eOf m t) (nOf m t q)) := by
  refine Eq.trans ?_ (aff_at m c (bOf m t) (eOf m t) (nOf m t q))
  unfold iblk
  refine congrArg (V m c main_v6) (funext fun a => Fin.ext ?_)
  have i := (idx t).2.1
  match a with
  | ⟨0, _⟩ => exact (show _ = cc0_transform_1 (grid0.coords t) 0 * 1 + 1 * 0 from rfl).trans (by rw [i]; show t.val / 4 % 4 * 1 + 1 * 0 = t.val / 4 % 4; omega)
  | ⟨1, _⟩ => exact (show _ = cc0_transform_1 (grid0.coords t) 1 * 1 + 1 * 0 from rfl).trans (by rw [i]; show t.val / 16 * 1 + 1 * 0 = t.val / 16; omega)
  | ⟨2, _⟩ => exact (show _ = cc0_transform_1 (grid0.coords t) 2 * 1 + 1 * 0 from rfl).trans (by rw [i]; show 0 * 1 + 1 * 0 = 0; omega)
  | ⟨3, _⟩ => exact (show _ = cc0_transform_1 (grid0.coords t) 3 * 2048 + 1 * q.val from rfl).trans (by rw [i]; show t.val % 4 * 2048 + 1 * q.val = t.val % 4 * 2048 + q.val; omega)

/-- A block's tokens. -/
theorem tok_read (t : Fin (cfgM m).N) (q : Fin 2048) (d : Fin 1024) : iblk m c 2 t (ix3 0 q d) = m ((c : Thread nD τ).loc main_arg3) (ix3 (bOf m t) (nOf m t q) d) := by
  rw [← V_main_arg3 m c]
  unfold iblk
  refine congrArg (V m c main_arg3) (funext fun a => Fin.ext ?_)
  have i := (idx t).2.2.1
  match a with
  | ⟨0, _⟩ => exact (show _ = cc0_transform_2 (grid0.coords t) 0 * 1 + 1 * 0 from rfl).trans (by rw [i]; show t.val / 4 % 4 * 1 + 1 * 0 = t.val / 4 % 4; omega)
  | ⟨1, _⟩ => exact (show _ = cc0_transform_2 (grid0.coords t) 1 * 2048 + 1 * q.val from rfl).trans (by rw [i]; show t.val % 4 * 2048 + 1 * q.val = t.val % 4 * 2048 + q.val; omega)
  | ⟨2, _⟩ => exact (show _ = cc0_transform_2 (grid0.coords t) 2 * 1024 + 1 * d.val from rfl).trans (by rw [i]; show 0 * 1024 + 1 * d.val = d.val; omega)

/-- The expert's first weights. -/
theorem w1_read (t : Fin (cfgM m).N) (r : Fin 1024) (d : Fin 1024) : iblk m c 3 t (ix4 0 0 r d) = m ((c : Thread nD τ).loc main_arg4) (ix4 0 (eOf m t) r d) := by
  rw [← V_main_arg4 m c]
  unfold iblk
  refine congrArg (V m c main_arg4) (funext fun a => Fin.ext ?_)
  have i := (idx t).2.2.2.1
  match a with
  | ⟨0, _⟩ => exact (show _ = cc0_transform_3 (grid0.coords t) 0 * 1 + 1 * 0 from rfl).trans (by rw [i]; rfl)
  | ⟨1, _⟩ => exact (show _ = cc0_transform_3 (grid0.coords t) 1 * 1 + 1 * 0 from rfl).trans (by rw [i]; show t.val / 16 * 1 + 1 * 0 = t.val / 16; omega)
  | ⟨2, _⟩ => exact (show _ = cc0_transform_3 (grid0.coords t) 2 * 1024 + 1 * r.val from rfl).trans (by rw [i]; show 0 * 1024 + 1 * r.val = r.val; omega)
  | ⟨3, _⟩ => exact (show _ = cc0_transform_3 (grid0.coords t) 3 * 1024 + 1 * d.val from rfl).trans (by rw [i]; show 0 * 1024 + 1 * d.val = d.val; omega)

/-- The expert's second weights. -/
theorem w3_read (t : Fin (cfgM m).N) (r : Fin 1024) (d : Fin 1024) : iblk m c 4 t (ix4 0 0 r d) = m ((c : Thread nD τ).loc main_arg5) (ix4 0 (eOf m t) r d) := by
  rw [← V_main_arg5 m c]
  unfold iblk
  refine congrArg (V m c main_arg5) (funext fun a => Fin.ext ?_)
  have i := (idx t).2.2.2.2.1
  match a with
  | ⟨0, _⟩ => exact (show _ = cc0_transform_4 (grid0.coords t) 0 * 1 + 1 * 0 from rfl).trans (by rw [i]; rfl)
  | ⟨1, _⟩ => exact (show _ = cc0_transform_4 (grid0.coords t) 1 * 1 + 1 * 0 from rfl).trans (by rw [i]; show t.val / 16 * 1 + 1 * 0 = t.val / 16; omega)
  | ⟨2, _⟩ => exact (show _ = cc0_transform_4 (grid0.coords t) 2 * 1024 + 1 * r.val from rfl).trans (by rw [i]; show 0 * 1024 + 1 * r.val = r.val; omega)
  | ⟨3, _⟩ => exact (show _ = cc0_transform_4 (grid0.coords t) 3 * 1024 + 1 * d.val from rfl).trans (by rw [i]; show 0 * 1024 + 1 * d.val = d.val; omega)

/-- The expert's third weights. -/
theorem w2_read (t : Fin (cfgM m).N) (r : Fin 1024) (d : Fin 1024) : iblk m c 5 t (ix4 0 0 r d) = m ((c : Thread nD τ).loc main_arg6) (ix4 0 (eOf m t) r d) := by
  rw [← V_main_arg6 m c]
  unfold iblk
  refine congrArg (V m c main_arg6) (funext fun a => Fin.ext ?_)
  have i := (idx t).2.2.2.2.2.1
  match a with
  | ⟨0, _⟩ => exact (show _ = cc0_transform_5 (grid0.coords t) 0 * 1 + 1 * 0 from rfl).trans (by rw [i]; rfl)
  | ⟨1, _⟩ => exact (show _ = cc0_transform_5 (grid0.coords t) 1 * 1 + 1 * 0 from rfl).trans (by rw [i]; show t.val / 16 * 1 + 1 * 0 = t.val / 16; omega)
  | ⟨2, _⟩ => exact (show _ = cc0_transform_5 (grid0.coords t) 2 * 1024 + 1 * r.val from rfl).trans (by rw [i]; show 0 * 1024 + 1 * r.val = r.val; omega)
  | ⟨3, _⟩ => exact (show _ = cc0_transform_5 (grid0.coords t) 3 * 1024 + 1 * d.val from rfl).trans (by rw [i]; show 0 * 1024 + 1 * d.val = d.val; omega)

end Cert.Kernel4Ideal.Experts
end
-- ==== Proof.Experts.SumsI.lean ====
module

public import proofs.«01_k».proof.Proof.Experts.ReadsI

@[expose] public section

set_option maxRecDepth 16384

noncomputable section

namespace Cert.Kernel4Ideal.Experts

open Cert.ExpertSpec Cert.ExpertsRouted Cert.Kernel4Ideal Cert.Kernel4Ideal.Gen Idealize.ShloMosaic Idealize.ShloMosaic.TcCoe

variable (m : (ℓ : Loc nD τ sig) → Buf (Elt Ideal) ℓ) (c : Dev nD)

/-- What token `n` gives to row `r` of the token sums of an expert and a batch entry. -/
def fX (b : Fin 4) (e : Fin 16) (r : ℕ) (d : Fin 1024) (n : ℕ) : EReal :=
  if h : n < 8192 then pick (IntOp.cmpi .eq ((m ((c : Thread nD τ).loc main_arg0) : IVec S4x16x8192 32) (ix3 b e ⟨n, h⟩)) (BitVec.ofNat 32 r)) * (m ((c : Thread nD τ).loc main_arg3) : FVec Ideal S4x8192x1024 .bf16) (ix3 b ⟨n, h⟩ d) else 0

/-- What token `n` gives to row `r` of the affinity sums. -/
def fG (b : Fin 4) (e : Fin 16) (r : ℕ) (n : ℕ) : EReal :=
  if h : n < 8192 then (if IntOp.cmpi .eq ((m ((c : Thread nD τ).loc main_arg0) : IVec S4x16x8192 32) (ix3 b e ⟨n, h⟩)) (BitVec.ofNat 32 r) = 1#1 then (m ((c : Thread nD τ).loc main_arg2) : FVec Ideal S4x16x8192 .f32) (ix3 b e ⟨n, h⟩) else 0) else 0

/-- The precondition's facts of the memory the program starts in. -/
abbrev GoodM : Prop := Good (m (((0 : Dev nD) : Thread nD τ).loc main_arg0)) (m (((0 : Dev nD) : Thread nD τ).loc main_arg1))

/-- A tile's tokens lie in the rows its two words of the table bound. -/
theorem within (hg : GoodM m) (t : Fin (cfgM m).N) (k : Fin 4) (o : ℕ) (ho : o = 512 * k.val) :
    Within (iblk m c 0 t) o (by omega) (tbl m 0 (ix1 ⟨68 * (t.val / 16) + 17 * (t.val / 4 % 4) + (4 * (t.val % 4) + k.val), by have := t_lt m t; omega⟩))
      (tbl m 0 (ix1 ⟨68 * (t.val / 16) + 17 * (t.val / 4 % 4) + (4 * (t.val % 4) + k.val + 1), by have := t_lt m t; omega⟩)) := by
  obtain rfl : c = 0 := Subsingleton.elim _ _
  intro j
  have ht := t_lt m t
  have hs := tbl_at m (eOf m t) (bOf m t) ⟨4 * (t.val % 4) + k.val, by omega⟩
  have hs' : tbl m 0 (ix1 ⟨68 * (t.val / 16) + 17 * (t.val / 4 % 4) + (4 * (t.val % 4) + k.val), by omega⟩)
    = m (((0 : Dev nD) : Thread nD τ).loc main_arg1) (ix3 (bOf m t) (eOf m t) ⟨512 * (4 * (t.val % 4) + k.val), by omega⟩) := hs
  have hp := pos_read m 0 t ⟨o + j.val, by omega⟩
  have hn : nOf m t ⟨o + j.val, by omega⟩ = ⟨512 * (4 * (t.val % 4) + k.val) + j.val, by omega⟩ := Fin.ext (by show t.val % 4 * 2048 + (o + j.val) = 512 * (4 * (t.val % 4) + k.val) + j.val; omega)
  rw [hn] at hp
  rw [hs']
  have tile := hg.tile (bOf m t) (eOf m t) (512 * (4 * (t.val % 4) + k.val)) j.val j.isLt (by omega)
  rw [← hp] at tile
  rcases tile with q | ⟨q1, q2, q3, q4⟩
  · exact .inl q
  · refine .inr ⟨q1, ?_, q2⟩
    by_cases hl : 4 * (t.val % 4) + k.val + 1 < 16
    · have he : tbl m 0 (ix1 ⟨68 * (t.val / 16) + 17 * (t.val / 4 % 4) + (4 * (t.val % 4) + k.val + 1), by omega⟩)
        = m (((0 : Dev nD) : Thread nD τ).loc main_arg1) (ix3 (bOf m t) (eOf m t) ⟨512 * (4 * (t.val % 4) + k.val + 1), by omega⟩) := tbl_at m (eOf m t) (bOf m t) ⟨4 * (t.val % 4) + k.val + 1, hl⟩
      rw [he]
      have q5 := q4 (by omega)
      rw [← hp] at q5
      exact q5
    · have he : tbl m 0 (ix1 ⟨68 * (t.val / 16) + 17 * (t.val / 4 % 4) + (4 * (t.val % 4) + k.val + 1), by omega⟩) = 1024#32 := by
        have hl' : 4 * (t.val % 4) + k.val + 1 = 16 := by omega
        have := tbl_last m (eOf m t) (bOf m t)
        rw [← this]
        exact congrArg (fun i => tbl m 0 (ix1 i)) (Fin.ext (by show 68 * (t.val / 16) + 17 * (t.val / 4 % 4) + (4 * (t.val % 4) + k.val + 1) = 68 * (t.val / 16) + 17 * (t.val / 4 % 4) + 16; omega))
      rw [he]
      exact q3

/-- A tile of a grid point adds to the token sums what its tokens give. -/
theorem tileX_t (hg : GoodM m) (t : Fin (cfgM m).N) (k : Fin 4) (o : ℕ) (ho : o = 512 * k.val) (hsl : S1x2048.Slices ![0, o] S1x512) (s e : BitVec 32)
    (h1 : s = tbl m 0 (ix1 ⟨68 * (t.val / 16) + 17 * (t.val / 4 % 4) + (4 * (t.val % 4) + k.val), by have := t_lt m t; omega⟩)) (h2 : e = tbl m 0 (ix1 ⟨68 * (t.val / 16) + 17 * (t.val / 4 % 4) + (4 * (t.val % 4) + k.val + 1), by have := t_lt m t; omega⟩))
    (inbw : ∀ a, (![0, o, 0] : Fin 3 → ℕ) a + S1x512x1024.size a ≤ S1x2048x1024.size a) (X X' : Vec Ideal S1664x1024 .f32)
    (ht : TileX (F := Ideal) ![0, o] hsl s e (iblk m c 0 t) (VecWindow.window (s := S1x2048x1024) (iblk m c 2 t) ![0, o, 0] S1x512x1024.size inbw) X X')
    (r : Fin 1664) (d : Fin 1024) :
    X' (ix2 r d) = X (ix2 r d) + ∑ j ∈ Finset.range 512, fX m c (bOf m t) (eOf m t) r.val d (t.val % 4 * 2048 + (o + j)) := by
  have htl := t_lt m t
  subst h1 h2
  rw [tileX_at o (by omega) hsl _ _ (tbl_le m hg _) (tbl_le m hg _) _ _ (within m c hg t k o ho) X X' ht r d]
  refine congrArg (X (ix2 r d) + ·) ?_
  rw [← Fin.sum_univ_eq_sum_range (fun j => fX m c (bOf m t) (eOf m t) r.val d (t.val % 4 * 2048 + (o + j))) 512]
  refine Finset.sum_congr rfl fun j _ => ?_
  have hq : t.val % 4 * 2048 + (o + j.val) < 8192 := by omega
  refine Eq.trans ?_ (dif_pos hq).symm
  refine congrArg₂ (· * ·) (congrArg (fun p => pick (IntOp.cmpi .eq p (BitVec.ofNat 32 r.val))) (pos_read m c t ⟨o + j.val, by omega⟩)) ?_
  refine Eq.trans ?_ (tok_read m c t ⟨o + j.val, by omega⟩ d)
  refine congrArg (iblk m c 2 t) (funext fun a => Fin.ext ?_)
  match a with
  | ⟨0, _⟩ => rfl
  | ⟨1, _⟩ => show o + 1 * j.val = o + j.val; omega
  | ⟨2, _⟩ => show 0 + 1 * d.val = d.val; omega

/-- A tile of a grid point adds to the affinity sums what its tokens give. -/
theorem tileG_t (hg : GoodM m) (t : Fin (cfgM m).N) (k : Fin 4) (o : ℕ) (ho : o = 512 * k.val) (hsl : S1x2048.Slices ![0, o] S1x512) (s e : BitVec 32)
    (h1 : s = tbl m 0 (ix1 ⟨68 * (t.val / 16) + 17 * (t.val / 4 % 4) + (4 * (t.val % 4) + k.val), by have := t_lt m t; omega⟩)) (h2 : e = tbl m 0 (ix1 ⟨68 * (t.val / 16) + 17 * (t.val / 4 % 4) + (4 * (t.val % 4) + k.val + 1), by have := t_lt m t; omega⟩))
    (X X' : Vec Ideal S1664x128 .f32)
    (ht : TileG (F := Ideal) ![0, o] hsl s e (iblk m c 0 t) (iblk m c 1 t) X X')
    (r : Fin 1664) (d : Fin 128) :
    X' (ix2 r d) = X (ix2 r d) + ∑ j ∈ Finset.range 512, fG m c (bOf m t) (eOf m t) r.val (t.val % 4 * 2048 + (o + j)) := by
  have htl := t_lt m t
  subst h1 h2
  rw [tileG_at o (by omega) hsl _ _ (tbl_le m hg _) (tbl_le m hg _) _ _ (within m c hg t k o ho) X X' ht r d]
  refine congrArg (X (ix2 r d) + ·) ?_
  rw [← Fin.sum_univ_eq_sum_range (fun j => fG m c (bOf m t) (eOf m t) r.val (t.val % 4 * 2048 + (o + j))) 512]
  refine Finset.sum_congr rfl fun j _ => ?_
  have hq : t.val % 4 * 2048 + (o + j.val) < 8192 := by omega
  refine Eq.trans ?_ (dif_pos hq).symm
  rw [show (iblk m c 0 t : Vec Ideal S1x1x1x2048 .i32) (ix4 0 0 0 ⟨o + j.val, by omega⟩) = _ from pos_read m c t ⟨o + j.val, by omega⟩,
    show (iblk m c 1 t : FVec Ideal S1x1x1x2048 .f32) (ix4 0 0 0 ⟨o + j.val, by omega⟩) = _ from aff_read m c t ⟨o + j.val, by omega⟩]
  rfl

/-- Four tiles make a group. -/
theorem four (f : ℕ → EReal) (x : EReal) : x + ∑ j ∈ Finset.range 512, f (0 + j) + ∑ j ∈ Finset.range 512, f (512 + j) + ∑ j ∈ Finset.range 512, f (1024 + j) + ∑ j ∈ Finset.range 512, f (1536 + j)
    = x + ∑ j ∈ Finset.range 2048, f j := by
  rw [show (2048 : ℕ) = 512 + 512 + 512 + 512 from rfl, Finset.sum_range_add, Finset.sum_range_add, Finset.sum_range_add]
  show _ = x + (∑ j ∈ Finset.range 512, f j + ∑ j ∈ Finset.range 512, f (512 + j) + ∑ j ∈ Finset.range 512, f (1024 + j) + ∑ j ∈ Finset.range 512, f (1536 + j))
  simp only [zero_add]
  rw [← add_assoc, ← add_assoc, ← add_assoc]

/-- A grid point adds to the token sums what its tokens give. -/
theorem stepX_at (hg : GoodM m) (t : Fin (cfgM m).N) (X X' : Vec Ideal S1664x1024 .f32)
    (h : StepX (F := Ideal) (grid0.coords t) (tbl m 0) (iblk m c 0 t) (iblk m c 2 t) X X') (r : Fin 1664) (d : Fin 1024) :
    X' (ix2 r d) = X (ix2 r d) + ∑ j ∈ Finset.range 2048, fX m c (bOf m t) (eOf m t) r.val d (t.val % 4 * 2048 + j) := by
  obtain ⟨X1, X2, X3, t0, t1, t2, t3⟩ := h
  obtain ⟨o1, o2, o3, o4, o5, o6, o7, o8⟩ := offs t
  rw [tileX_t m c hg t 3 1536 rfl _ _ _ (word_at (F := Ideal) _ _ _ _ _ o7) (word_at (F := Ideal) _ _ _ _ _ o8) _ X3 X' t3 r d, tileX_t m c hg t 2 1024 rfl _ _ _ (word_at (F := Ideal) _ _ _ _ _ o5) (word_at (F := Ideal) _ _ _ _ _ o6) _ X2 X3 t2 r d,
    tileX_t m c hg t 1 512 rfl _ _ _ (word_at (F := Ideal) _ _ _ _ _ o3) (word_at (F := Ideal) _ _ _ _ _ o4) _ X1 X2 t1 r d, tileX_t m c hg t 0 0 rfl _ _ _ (word_at (F := Ideal) _ _ _ _ _ o1) (word_at (F := Ideal) _ _ _ _ _ o2) _ X X1 t0 r d]
  exact four (fun j => fX m c (bOf m t) (eOf m t) r.val d (t.val % 4 * 2048 + j)) _

/-- A grid point adds to the affinity sums what its tokens give. -/
theorem stepG_at (hg : GoodM m) (t : Fin (cfgM m).N) (X X' : Vec Ideal S1664x128 .f32)
    (h : StepG (F := Ideal) (grid0.coords t) (tbl m 0) (iblk m c 0 t) (iblk m c 1 t) X X') (r : Fin 1664) (d : Fin 128) :
    X' (ix2 r d) = X (ix2 r d) + ∑ j ∈ Finset.range 2048, fG m c (bOf m t) (eOf m t) r.val (t.val % 4 * 2048 + j) := by
  obtain ⟨X1, X2, X3, t0, t1, t2, t3⟩ := h
  obtain ⟨o1, o2, o3, o4, o5, o6, o7, o8⟩ := offs t
  rw [tileG_t m c hg t 3 1536 rfl _ _ _ (word_at (F := Ideal) _ _ _ _ _ o7) (word_at (F := Ideal) _ _ _ _ _ o8) X3 X' t3 r d, tileG_t m c hg t 2 1024 rfl _ _ _ (word_at (F := Ideal) _ _ _ _ _ o5) (word_at (F := Ideal) _ _ _ _ _ o6) X2 X3 t2 r d,
    tileG_t m c hg t 1 512 rfl _ _ _ (word_at (F := Ideal) _ _ _ _ _ o3) (word_at (F := Ideal) _ _ _ _ _ o4) X1 X2 t1 r d, tileG_t m c hg t 0 0 rfl _ _ _ (word_at (F := Ideal) _ _ _ _ _ o1) (word_at (F := Ideal) _ _ _ _ _ o2) X X1 t0 r d]
  exact four (fun j => fG m c (bOf m t) (eOf m t) r.val (t.val % 4 * 2048 + j)) _

end Cert.Kernel4Ideal.Experts
end
-- ==== Proof.Experts.InvI.lean ====
module

public import proofs.«01_k».proof.Proof.Experts.SumsI

@[expose] public section

set_option maxRecDepth 16384

noncomputable section

namespace Cert.Kernel4Ideal.Experts

open Cert.ExpertSpec Cert.ExpertsRouted Cert.Kernel4Ideal Cert.Kernel4Ideal.Gen Idealize.ShloMosaic Idealize.ShloMosaic.TcCoe

/-- The experts' rows, every entry of them. -/
def target (pos : IVec S4x16x8192 32) (aff : FVec Ideal S4x16x8192 .f32) (h : FVec Ideal S4x8192x1024 .bf16) (w1 w3 w2 : FVec Ideal S4x16x1024x1024 .f32) : FVec Ideal S16x4x1024x1024 .bf16 :=
  fun i => ffn (fun k => ∑ n : Fin 8192, pick (IntOp.cmpi .eq (pos (ix3 (i 1) (i 0) n)) (BitVec.ofNat 32 (i 2).val)) * h (ix3 (i 1) n k)) (fun x y => w1 (ix4 0 (i 0) x y)) (fun x y => w3 (ix4 0 (i 0) x y)) (fun x y => w2 (ix4 0 (i 0) x y))
    (∑ n : Fin 8192, (if IntOp.cmpi .eq (pos (ix3 (i 1) (i 0) n)) (BitVec.ofNat 32 (i 2).val) = 1#1 then aff (ix3 (i 1) (i 0) n) else 0)) (i 3)

/-- An entry of the output block from the sums and the weights. -/
theorem outVal_at (Y : Vec Ideal S1x1x1024x1024 .bf16) (X : Vec Ideal S1664x1024 .f32) (G : Vec Ideal S1664x128 .f32) (W1 W3 W2 : Vec Ideal S1024x1024 .bf16) (r : Fin 1024) (d : Fin 1024) :
    outVal (F := Ideal) Y X G W1 W3 W2 (ix4 0 0 r d)
      = ffn (fun k => X (ix2 (⟨r.val, by omega⟩ : Fin 1664) k)) (fun a b => W1 (ix2 a b)) (fun a b => W3 (ix2 a b)) (fun a b => W2 (ix2 a b)) (G (ix2 (⟨r.val, by omega⟩ : Fin 1664) 0)) d := by
  unfold outVal
  by_cases hr : r.val < 512
  · refine (dif_neg fun q => absurd (q 2).1 (by show ¬ 512 ≤ r.val; omega)).trans ?_
    have hin : ∀ a : Fin 4, (![0, 0, 0, 0] : Fin 4 → ℕ) a ≤ ((ix4 0 0 r d : S1x1x1024x1024.Idx) a).val ∧ ((ix4 0 0 r d : S1x1x1024x1024.Idx) a).val < (![0, 0, 0, 0] : Fin 4 → ℕ) a + S1x1x512x1024.size a := fun a => by
      match a with
      | ⟨0, _⟩ => exact ⟨Nat.le_refl _, by show 0 < 0 + 1; omega⟩
      | ⟨1, _⟩ => exact ⟨Nat.le_refl _, by show 0 < 0 + 1; omega⟩
      | ⟨2, _⟩ => exact ⟨Nat.zero_le _, by show r.val < 0 + 512; omega⟩
      | ⟨3, _⟩ => exact ⟨Nat.zero_le _, by show d.val < 0 + 1024; omega⟩
    refine (dif_pos hin).trans ?_
    have hl : (Rect.unitLocal (s := S1x1x1024x1024) (off := ![0, 0, 0, 0]) (size := S1x1x512x1024.size) (ix4 0 0 r d) hin : S1x1x512x1024.Idx) = ix4 0 0 (⟨r.val, by omega⟩ : Fin 512) d := funext fun a => Fin.ext (by
      match a with
      | ⟨0, _⟩ => rfl
      | ⟨1, _⟩ => rfl
      | ⟨2, _⟩ => rfl
      | ⟨3, _⟩ => rfl)
    refine (congrArg (k0_pay8 (F := Ideal) _ W1 W3 W2 _) hl).trans ((pay8_at _ _ _ _ _ _ _).trans ?_)
    have e1 : (fun k : Fin 1024 => VecWindow.window X ![0, 0] S512x1024.size inb_S1664x1024_S512x1024_0_0 (ix2 (⟨r.val, by omega⟩ : Fin 512) k)) = fun k => X (ix2 (⟨r.val, by omega⟩ : Fin 1664) k) :=
      funext fun k => congrArg X (funext fun a => Fin.ext (by
        match a with
        | ⟨0, _⟩ => show 0 + 1 * r.val = r.val; omega
        | ⟨1, _⟩ => show 0 + 1 * k.val = k.val; omega))
    have e2 : VecWindow.window G ![0, 0] S512x1.size inb_S1664x128_S512x1_0_0 (ix2 (⟨r.val, by omega⟩ : Fin 512) 0) = G (ix2 (⟨r.val, by omega⟩ : Fin 1664) 0) :=
      congrArg G (funext fun a => Fin.ext (by
        match a with
        | ⟨0, _⟩ => show 0 + 1 * r.val = r.val; omega
        | ⟨1, _⟩ => rfl))
    exact congrArg₂ (fun x g => ffn x (fun a b => W1 (ix2 a b)) (fun a b => W3 (ix2 a b)) (fun a b => W2 (ix2 a b)) g d) e1 e2
  · have hin : ∀ a : Fin 4, (![0, 0, 512, 0] : Fin 4 → ℕ) a ≤ ((ix4 0 0 r d : S1x1x1024x1024.Idx) a).val ∧ ((ix4 0 0 r d : S1x1x1024x1024.Idx) a).val < (![0, 0, 512, 0] : Fin 4 → ℕ) a + S1x1x512x1024.size a := fun a => by
      match a with
      | ⟨0, _⟩ => exact ⟨Nat.le_refl _, by show 0 < 0 + 1; omega⟩
      | ⟨1, _⟩ => exact ⟨Nat.le_refl _, by show 0 < 0 + 1; omega⟩
      | ⟨2, _⟩ => exact ⟨by show 512 ≤ r.val; omega, by show r.val < 512 + 512; omega⟩
      | ⟨3, _⟩ => exact ⟨Nat.zero_le _, by show d.val < 0 + 1024; omega⟩
    refine (dif_pos hin).trans ?_
    have hl : (Rect.unitLocal (s := S1x1x1024x1024) (off := ![0, 0, 512, 0]) (size := S1x1x512x1024.size) (ix4 0 0 r d) hin : S1x1x512x1024.Idx) = ix4 0 0 (⟨r.val - 512, by omega⟩ : Fin 512) d := funext fun a => Fin.ext (by
      match a with
      | ⟨0, _⟩ => rfl
      | ⟨1, _⟩ => rfl
      | ⟨2, _⟩ => rfl
      | ⟨3, _⟩ => rfl)
    refine (congrArg (k0_pay7 (F := Ideal) _ _) hl).trans ((pay7_at _ _ _ _ _ _ _).trans ?_)
    have e1 : (fun k : Fin 1024 => VecWindow.window X ![512, 0] S512x1024.size inb_S1664x1024_S512x1024_512_0 (ix2 (⟨r.val - 512, by omega⟩ : Fin 512) k)) = fun k => X (ix2 (⟨r.val, by omega⟩ : Fin 1664) k) :=
      funext fun k => congrArg X (funext fun a => Fin.ext (by
        match a with
        | ⟨0, _⟩ => show 512 + 1 * (r.val - 512) = r.val; omega
        | ⟨1, _⟩ => show 0 + 1 * k.val = k.val; omega))
    have e2 : VecWindow.window G ![512, 0] S512x1.size inb_S1664x128_S512x1_512_0 (ix2 (⟨r.val - 512, by omega⟩ : Fin 512) 0) = G (ix2 (⟨r.val, by omega⟩ : Fin 1664) 0) :=
      congrArg G (funext fun a => Fin.ext (by
        match a with
        | ⟨0, _⟩ => show 512 + 1 * (r.val - 512) = r.val; omega
        | ⟨1, _⟩ => rfl))
    exact congrArg₂ (fun x g => ffn x (fun a b => W1 (ix2 a b)) (fun a b => W3 (ix2 a b)) (fun a b => W2 (ix2 a b)) g d) e1 e2

variable (m : (ℓ : Loc nD τ sig) → Buf (Elt Ideal) ℓ) (c : Dev nD)

/-- The experts' rows of the arguments. -/
abbrev targetM : FVec Ideal S16x4x1024x1024 .bf16 :=
  target (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))

/-- The block of them a grid point belongs to. -/
def outT (c : Dev nD) (t : Fin (cfgM m).N) : Vec Ideal S1x1x1024x1024 .bf16 := fun i => targetM m c (ix4 (eOf m t) (bOf m t) (i 2) (i 3))

/-- After a grid point the sums hold what the tokens up to its group give, and the weights are the expert's. -/
def Inv (c : Dev nD) (n : ℕ) : Facts4 Ideal := fun X G W1 W3 W2 => ∀ t : Fin (cfgM m).N, t.val + 1 = n →
  (∀ (r : Fin 1664) (d : Fin 1024), X (ix2 r d) = ∑ j ∈ Finset.range (t.val % 4 * 2048 + 2048), fX m c (bOf m t) (eOf m t) r.val d j)
  ∧ (∀ (r : Fin 1664) (d : Fin 128), G (ix2 r d) = ∑ j ∈ Finset.range (t.val % 4 * 2048 + 2048), fG m c (bOf m t) (eOf m t) r.val j)
  ∧ (∀ x y : Fin 1024, W1 (ix2 x y) = m ((c : Thread nD τ).loc main_arg4) (ix4 0 (eOf m t) x y))
  ∧ (∀ x y : Fin 1024, W3 (ix2 x y) = m ((c : Thread nD τ).loc main_arg5) (ix4 0 (eOf m t) x y))
  ∧ (∀ x y : Fin 1024, W2 (ix2 x y) = m ((c : Thread nD τ).loc main_arg6) (ix4 0 (eOf m t) x y))

/-- The grid point before one that is not its expert's first belongs to the same expert. -/
theorem eOf_pred (t t' : Fin (cfgM m).N) (h : t'.val + 1 = t.val) (hm : t.val % 16 ≠ 0) : eOf m t' = eOf m t := Fin.ext (by show t'.val / 16 = t.val / 16; omega)

/-- The grid point before one that does not clear the sums belongs to the same batch entry. -/
theorem bOf_pred (t t' : Fin (cfgM m).N) (h : t'.val + 1 = t.val) (hm : t.val % 4 ≠ 0) : bOf m t' = bOf m t := Fin.ext (by show t'.val / 4 % 4 = t.val / 4 % 4; omega)

/-- A step keeps the token sums. -/
theorem keepX (hg : GoodM m) (t : Fin (cfgM m).N) (X X' : Vec Ideal S1664x1024 .f32) (G W1 W3 W2) (hi : Inv m c t.val X G W1 W3 W2)
    (h : StepX (F := Ideal) (grid0.coords t) (tbl m 0) (iblk m c 0 t) (iblk m c 2 t) (if clear1 (grid0.coords t) = 1#1 then k0_pay13 (F := Ideal) else X) X') (r : Fin 1664) (d : Fin 1024) :
    X' (ix2 r d) = ∑ j ∈ Finset.range (t.val % 4 * 2048 + 2048), fX m c (bOf m t) (eOf m t) r.val d j := by
  rw [stepX_at m c hg t _ X' h r d, Finset.sum_range_add]
  refine congrArg (· + _) ?_
  by_cases q : t.val % 4 = 0
  · rw [if_pos ((conds t).1.2 q), pay13_at, q]
    exact (Finset.sum_range_zero _).symm
  · rw [if_neg fun p => q ((conds t).1.1 p)]
    have htl := t.isLt
    have hi := (hi ⟨t.val - 1, by omega⟩ (by show t.val - 1 + 1 = t.val; omega)).1 r d
    rw [hi, bOf_pred m t ⟨t.val - 1, by omega⟩ (by show t.val - 1 + 1 = t.val; omega) q, eOf_pred m t ⟨t.val - 1, by omega⟩ (by show t.val - 1 + 1 = t.val; omega) (by omega)]
    exact congrArg (fun n => ∑ j ∈ Finset.range n, fX m c (bOf m t) (eOf m t) r.val d j) (by show (t.val - 1) % 4 * 2048 + 2048 = t.val % 4 * 2048; omega)

/-- A step keeps the affinity sums. -/
theorem keepG (hg : GoodM m) (t : Fin (cfgM m).N) (X G G' W1 W3 W2) (hi : Inv m c t.val X G W1 W3 W2)
    (h : StepG (F := Ideal) (grid0.coords t) (tbl m 0) (iblk m c 0 t) (iblk m c 1 t) (if clear1 (grid0.coords t) = 1#1 then k0_pay14 (F := Ideal) else G) G') (r : Fin 1664) (d : Fin 128) :
    G' (ix2 r d) = ∑ j ∈ Finset.range (t.val % 4 * 2048 + 2048), fG m c (bOf m t) (eOf m t) r.val j := by
  rw [stepG_at m c hg t _ G' h r d, Finset.sum_range_add]
  refine congrArg (· + _) ?_
  by_cases q : t.val % 4 = 0
  · rw [if_pos ((conds t).1.2 q), pay14_at, q]
    exact (Finset.sum_range_zero _).symm
  · rw [if_neg fun p => q ((conds t).1.1 p)]
    have htl := t.isLt
    have hi := (hi ⟨t.val - 1, by omega⟩ (by show t.val - 1 + 1 = t.val; omega)).2.1 r d
    rw [hi, bOf_pred m t ⟨t.val - 1, by omega⟩ (by show t.val - 1 + 1 = t.val; omega) q, eOf_pred m t ⟨t.val - 1, by omega⟩ (by show t.val - 1 + 1 = t.val; omega) (by omega)]
    exact congrArg (fun n => ∑ j ∈ Finset.range n, fG m c (bOf m t) (eOf m t) r.val j) (by show (t.val - 1) % 4 * 2048 + 2048 = t.val % 4 * 2048; omega)

/-- A step keeps the converted weights. -/
theorem keepW (t : Fin (cfgM m).N) (X G W1 W3 W2) (hi : Inv m c t.val X G W1 W3 W2) (x y : Fin 1024) :
    (if cast1 (grid0.coords t) = 1#1 then k0_pay10 (F := Ideal) (iblk m c 3 t) else W1) (ix2 x y) = m ((c : Thread nD τ).loc main_arg4) (ix4 0 (eOf m t) x y)
    ∧ (if cast1 (grid0.coords t) = 1#1 then k0_pay11 (F := Ideal) (iblk m c 4 t) else W3) (ix2 x y) = m ((c : Thread nD τ).loc main_arg5) (ix4 0 (eOf m t) x y)
    ∧ (if cast1 (grid0.coords t) = 1#1 then k0_pay12 (F := Ideal) (iblk m c 5 t) else W2) (ix2 x y) = m ((c : Thread nD τ).loc main_arg6) (ix4 0 (eOf m t) x y) := by
  by_cases q : t.val % 16 = 0
  · rw [if_pos ((conds t).2.1.2 q), if_pos ((conds t).2.1.2 q), if_pos ((conds t).2.1.2 q)]
    exact ⟨(pay10_at _ _ _).trans (w1_read m c t x y), (pay11_at _ _ _).trans (w3_read m c t x y), (pay12_at _ _ _).trans (w2_read m c t x y)⟩
  · rw [if_neg fun p => q ((conds t).2.1.1 p), if_neg fun p => q ((conds t).2.1.1 p), if_neg fun p => q ((conds t).2.1.1 p)]
    have htl := t.isLt
    have hi := (hi ⟨t.val - 1, by omega⟩ (by show t.val - 1 + 1 = t.val; omega)).2.2
    rw [eOf_pred m t ⟨t.val - 1, by omega⟩ (by show t.val - 1 + 1 = t.val; omega) q] at hi
    exact ⟨hi.1 x y, hi.2.1 x y, hi.2.2 x y⟩

/-- All tokens' share of a row of the token sums. -/
theorem allX (b : Fin 4) (e : Fin 16) (r : ℕ) (d : Fin 1024) : ∑ j ∈ Finset.range 8192, fX m c b e r d j
    = ∑ n : Fin 8192, pick (IntOp.cmpi .eq ((m ((c : Thread nD τ).loc main_arg0) : IVec S4x16x8192 32) (ix3 b e n)) (BitVec.ofNat 32 r)) * (m ((c : Thread nD τ).loc main_arg3) : FVec Ideal S4x8192x1024 .bf16) (ix3 b n d) := by
  rw [← Fin.sum_univ_eq_sum_range (fun j => fX m c b e r d j) 8192]
  exact Finset.sum_congr rfl fun n _ => dif_pos n.isLt

/-- All tokens' share of a row of the affinity sums. -/
theorem allG (b : Fin 4) (e : Fin 16) (r : ℕ) : ∑ j ∈ Finset.range 8192, fG m c b e r j
    = ∑ n : Fin 8192, @ite EReal (IntOp.cmpi .eq ((m ((c : Thread nD τ).loc main_arg0) : IVec S4x16x8192 32) (ix3 b e n)) (BitVec.ofNat 32 r) = 1#1) _ ((m ((c : Thread nD τ).loc main_arg2) : FVec Ideal S4x16x8192 .f32) (ix3 b e n)) 0 := by
  rw [← Fin.sum_univ_eq_sum_range (fun j => fG m c b e r j) 8192]
  exact Finset.sum_congr rfl fun n _ => dif_pos n.isLt

/-- What the last step of an expert and a batch entry writes out. -/
theorem out_of (t : Fin (cfgM m).N) (h3 : t.val % 4 = 3) (X G W1 W3 W2) (hi : Inv m c (t.val + 1) X G W1 W3 W2) (Y : Vec Ideal S1x1x1024x1024 .bf16) :
    outVal (F := Ideal) Y X G W1 W3 W2 = outT m c t := by
  obtain ⟨i1, i2, i3, i4, i5⟩ := hi t rfl
  funext y
  have key : ∀ (r d : Fin 1024), outVal (F := Ideal) Y X G W1 W3 W2 (ix4 0 0 r d) = outT m c t (ix4 0 0 r d) := fun r d => by
    rw [outVal_at]
    have e8 : t.val % 4 * 2048 + 2048 = 8192 := by omega
    have e1 : (fun k : Fin 1024 => X (ix2 (⟨r.val, by omega⟩ : Fin 1664) k)) = _ := funext fun k => (i1 ⟨r.val, by omega⟩ k).trans ((congrArg (fun n => ∑ j ∈ Finset.range n, fX m c (bOf m t) (eOf m t) r.val k j) e8).trans (allX m c _ _ _ _))
    have e2 : G (ix2 (⟨r.val, by omega⟩ : Fin 1664) 0) = _ := (i2 ⟨r.val, by omega⟩ 0).trans ((congrArg (fun n => ∑ j ∈ Finset.range n, fG m c (bOf m t) (eOf m t) r.val j) e8).trans (allG m c _ _ _))
    rw [e1, e2, show (fun a b : Fin 1024 => W1 (ix2 a b)) = _ from funext fun a => funext fun b => i3 a b, show (fun a b : Fin 1024 => W3 (ix2 a b)) = _ from funext fun a => funext fun b => i4 a b,
      show (fun a b : Fin 1024 => W2 (ix2 a b)) = _ from funext fun a => funext fun b => i5 a b]
    rfl
  have hy : y = ix4 0 0 (y 2) (y 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  rw [hy]
  exact key _ _

/-- Every step does what the claim wants of it. -/
theorem steps (hg : GoodM m) : Steps m (Inv m) (outT m) false := by
  intro c t X G W1 W3 W2 X' G' Y hi hX hG
  have inv : Inv m c (t.val + 1) X' G' _ _ _ := fun t' ht' => by
    obtain rfl : t' = t := Fin.ext (by omega)
    exact ⟨keepX m c hg t' X X' G W1 W3 W2 hi hX, keepG m c hg t' X G G' W1 W3 W2 hi hG, fun x y => (keepW m c t' X G W1 W3 W2 hi x y).1,
      fun x y => (keepW m c t' X G W1 W3 W2 hi x y).2.1, fun x y => (keepW m c t' X G W1 W3 W2 hi x y).2.2⟩
  exact ⟨inv, fun _ h => out_of m c t ((conds t).2.2.1 h) _ _ _ _ _ inv Y⟩

end Cert.Kernel4Ideal.Experts
end
-- ==== Proof.Experts.FinalI.lean ====
module

public import proofs.«01_k».proof.Proof.Experts.InvI

@[expose] public section

set_option maxRecDepth 16384

noncomputable section

namespace Cert.Kernel4Ideal.Experts

open Cert.ExpertSpec Cert.ExpertsRouted Cert.Kernel4Ideal Cert.Kernel4Ideal.Gen Idealize.ShloMosaic Idealize.ShloMosaic.TcCoe

variable (m : (ℓ : Loc nD τ sig) → Buf (Elt Ideal) ℓ) (c : Dev nD)

/-- The written-back blocks fill the result: one of them for each expert and batch entry. -/
theorem filled : ∀ (e : Fin 16) (b : Fin 4), ∃ t : Fin grid0.N, Pipeline.Window.flushOf grid0 true cc0_transform_6 t = true ∧ cc0_transform_6 (grid0.coords t) = ![e.val, b.val, 0, 0] := by
  decide +kernel

/-- The blocks of the result that are written back cover it. -/
theorem covers : ((cfgM m).win 6).Covers := by
  refine ⟨fun a => by match a with | ⟨0, _⟩ => exact (by decide : 0 < 1) | ⟨1, _⟩ => exact (by decide : 0 < 1) | ⟨2, _⟩ => exact (by decide : 0 < 1024) | ⟨3, _⟩ => exact (by decide : 0 < 1024), fun β => ?_⟩
  have b0 : (β (0 : Fin 4)).val < 16 := lt_of_lt_of_eq (β (0 : Fin 4)).isLt (show (16 + 1 - 1) / 1 = 16 from by decide)
  have b1 : (β (1 : Fin 4)).val < 4 := lt_of_lt_of_eq (β (1 : Fin 4)).isLt (show (4 + 1 - 1) / 1 = 4 from by decide)
  have b2 : (β (2 : Fin 4)).val < 1 := lt_of_lt_of_eq (β (2 : Fin 4)).isLt (show (1024 + 1024 - 1) / 1024 = 1 from by decide)
  have b3 : (β (3 : Fin 4)).val < 1 := lt_of_lt_of_eq (β (3 : Fin 4)).isLt (show (1024 + 1024 - 1) / 1024 = 1 from by decide)
  obtain ⟨t, hf, ht⟩ := filled ⟨(β (0 : Fin 4)).val, b0⟩ ⟨(β (1 : Fin 4)).val, b1⟩
  refine ⟨t, hf, fun a => ⟨?_, Or.inl rfl⟩⟩
  match a with
  | ⟨0, _⟩ => exact congrFun ht 0
  | ⟨1, _⟩ => exact congrFun ht 1
  | ⟨2, _⟩ => exact (congrFun ht 2).trans (by show 0 = (β (2 : Fin 4)).val; omega)
  | ⟨3, _⟩ => exact (congrFun ht 3).trans (by show 0 = (β (3 : Fin 4)).val; omega)

/-- The kernel's result, every entry of it. -/
theorem final : (dats m (Inv m) (outT m) 0 c).arrAt 6 (cfgM m).N = targetM m c := by
  refine (dats m (Inv m) (outT m) 0 c).arrAt_eq_of_covers 6 _ (covers m) fun t hf y => ?_
  blk_simp
  rw [after0_6]
  have := t_lt m t
  have i := (idx t).2.2.2.2.2.2
  unfold outT
  refine congrArg (targetM m c) ?_
  blk_ext
  · exact (congrFun i 0).symm
  · exact (congrFun i 1).symm
  · exact (by have q : _ = 0 := congrFun i 2; show (y (2 : Fin 4)).val = cc0_transform_6 (grid0.coords t) 2 * 1024 + (y (2 : Fin 4)).val; rw [q]; omega)
  · exact (by have q : _ = 0 := congrFun i 3; show (y (3 : Fin 4)).val = cc0_transform_6 (grid0.coords t) 3 * 1024 + (y (3 : Fin 4)).val; rw [q]; omega)

end Cert.Kernel4Ideal.Experts
end
-- ==== Proof.Experts.Ref.lean ====
module

public import proofs.«01_k».proof.Proof.Gen.Reference4Ideal.Run
public import proofs.«01_k».proof.Proof.Experts.Spec

@[expose] public section

set_option maxRecDepth 16384

noncomputable section

namespace Cert.Reference4Ideal.Experts

open Cert.ExpertSpec Cert.Reference4Ideal Cert.Reference4Ideal.Gen Idealize.ShloMosaic Idealize.ShloMosaic.TcCoe Idealize.SL.Sem

/-- Which token goes to which row of which expert. -/
def chosen (pos : IVec S4x16x8192 32) : IVec S4x16x1024x8192 1 :=
  (cmpi .eq (broadcastInDim S4x16x1024x8192 ![0, 1, 2, 3] bcast_S4x16x1x8192_S4x16x1024x8192_0_1_2_3 (broadcastInDim S4x16x1x8192 ![0, 1, 3] bcast_S4x16x8192_S4x16x1x8192_0_1_3 pos)) (broadcastInDim S4x16x1024x8192 ![0, 1, 2, 3] bcast_S1x1x1024x1_S4x16x1024x8192_0_1_2_3 (broadcastInDim S1x1x1024x1 ![2, 3] bcast_S1024x1_S1x1x1024x1_2_3 (broadcastInDim S1024x1 ![0] bcast_S1024_S1024x1_0 (iotaInDim S1024 32 0)))))

/-- The gathered rows. -/
def gathered (pos : IVec S4x16x8192 32) (h : FVec Ideal S4x8192x1024 .bf16) : FVec Ideal S4x16x1024x1024 .f32 :=
  (Host.dotGeneral dot_S4x16x1024x8192_S4x8192x1024_S4x16x1024x1024_3_1_12_2_0_0 none (uitofp .f32 (chosen pos)) (extf .f32 h bitsLt_bf16_f32))

/-- The affinities of the gathered rows. -/
def gates (pos : IVec S4x16x8192 32) (aff : FVec Ideal S4x16x8192 .f32) : FVec Ideal S4x16x1024 .f32 :=
  (Host.reduceAdd (select (chosen pos) (broadcastInDim S4x16x1024x8192 ![0, 1, 2, 3] bcast_S4x16x1x8192_S4x16x1024x8192_0_1_2_3 (broadcastInDim S4x16x1x8192 ![0, 1, 3] bcast_S4x16x8192_S4x16x1x8192_0_1_3 aff)) (broadcastInDim S4x16x1024x8192 ![] bcast_S_S4x16x1024x8192 (id (constant S_ .f32 0x00000000#32)))) (constant S_ .f32 0x00000000#32) reducesTo_S4x16x1024x8192_S4x16x1024_d3 h_S_)

/-- Rows times an expert's weights. -/
def product (x : FVec Ideal S4x16x1024x1024 .f32) (w : FVec Ideal S4x16x1024x1024 .f32) : FVec Ideal S4x16x1024x1024 .f32 :=
  (transpose S4x16x1024x1024 [2, 0, 3, 1] (Host.dotGeneral dot_S16x1024x1024_S4x16x1024x1024_S16x1024x4x1024_1_3_2_02_0_1 none (shapeCast _ (extractStridedSlice S1x16x1024x1024 ![0, 0, 0, 0] w slices_S4x16x1024x1024_S1x16x1024x1024_0_0_0_0) shapeCasts_S1x16x1024x1024_S16x1024x1024) x) transposes_S16x1024x4x1024_S4x16x1024x1024_2_0_3_1)

/-- The gated linear unit. -/
def hidden (up lin : FVec Ideal S4x16x1024x1024 .f32) : FVec Ideal S4x16x1024x1024 .f32 :=
  (mulf (mulf up (Host.divf (broadcastInDim S4x16x1024x1024 ![] bcast_S_S4x16x1024x1024 (constant S_ .f32 0x3F800000#32)) (addf (broadcastInDim S4x16x1024x1024 ![] bcast_S_S4x16x1024x1024 (constant S_ .f32 0x3F800000#32)) (Host.exp (Host.negf up))))) lin)

/-- The rows times their affinities, the experts in front. -/
def weighted (back : FVec Ideal S4x16x1024x1024 .f32) (gate : FVec Ideal S4x16x1024 .f32) : FVec Ideal S16x4x1024x1024 .bf16 :=
  truncf .bf16 (transpose S16x4x1024x1024 [1, 0, 2, 3] (mulf back (broadcastInDim S4x16x1024x1024 ![0, 1, 2, 3] bcast_S4x16x1024x1_S4x16x1024x1024_0_1_2_3 (broadcastInDim S4x16x1024x1 ![0, 1, 2] bcast_S4x16x1024_S4x16x1024x1_0_1_2 gate))) transposes_S4x16x1024x1024_S16x4x1024x1024_1_0_2_3) bitsLt_bf16_f32

/-- The experts' part of the layer. -/
def result (pos : IVec S4x16x8192 32) (aff : FVec Ideal S4x16x8192 .f32) (h : FVec Ideal S4x8192x1024 .bf16) (w1 w3 w2 : FVec Ideal S4x16x1024x1024 .f32) : FVec Ideal S16x4x1024x1024 .bf16 :=
  weighted (product (hidden (product (gathered pos h) w1) (product (gathered pos h) w3)) w2) (gates pos aff)

/-- What the reference computes, by its steps. -/
theorem res_eq (m : (ℓ : Loc nD τ sig) → Buf (Elt Ideal) ℓ) (c : Dev nD) :
    Cert.Reference4Ideal.Value.res_main_v37 m c
      = result (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-- Whether a token goes to a row. -/
theorem chosen_at (pos : IVec S4x16x8192 32) (b : Fin 4) (e : Fin 16) (r : Fin 1024) (n : Fin 8192) :
    chosen pos (ix4 b e r n) = IntOp.cmpi .eq (pos (ix3 b e n)) (BitVec.ofNat 32 r.val) := by
  pointwise [chosen]

/-- A gathered row, an entry. -/
theorem gathered_at (pos : IVec S4x16x8192 32) (h : FVec Ideal S4x8192x1024 .bf16) (b : Fin 4) (e : Fin 16) (r : Fin 1024) (d : Fin 1024) :
    gathered pos h (ix4 b e r d) = ∑ n : Fin 8192, pick (IntOp.cmpi .eq (pos (ix3 b e n)) (BitVec.ofNat 32 r.val)) * h (ix3 b n d) := by
  pointwise [gathered, chosen]
  exact Finset.sum_congr rfl fun n _ => congrArg (· * h (ix3 b n d)) (uitofp_bit _)

/-- The affinity of a row. -/
theorem gates_at (pos : IVec S4x16x8192 32) (aff : FVec Ideal S4x16x8192 .f32) (b : Fin 4) (e : Fin 16) (r : Fin 1024) :
    gates pos aff (ix3 b e r) = ∑ n : Fin 8192, (if IntOp.cmpi .eq (pos (ix3 b e n)) (BitVec.ofNat 32 r.val) = 1#1 then aff (ix3 b e n) else 0) := by
  have hz : (constant (F := Ideal) S_ .f32 0x00000000#32) ix0 = 0 := by pointwise
  pointwise [gates, chosen]
  refine Finset.sum_congr rfl fun n _ => ?_
  unfold Scalar.select
  exact congrArg (fun z => if IntOp.cmpi CmpIPredicate.eq (pos (ix3 b e n)) (BitVec.ofNat 32 r.val) = 1#1 then aff (ix3 b e n) else z) hz

/-- A product, an entry. -/
theorem product_at (x : FVec Ideal S4x16x1024x1024 .f32) (w : FVec Ideal S4x16x1024x1024 .f32) (b : Fin 4) (e : Fin 16) (r : Fin 1024) (f : Fin 1024) :
    product x w (ix4 b e r f) = ∑ k : Fin 1024, x (ix4 b e r k) * w (ix4 0 e k f) := by
  pointwise [product]
  exact Finset.sum_congr rfl fun k _ => mul_comm _ _

/-- The gated linear unit, an entry. -/
theorem hidden_at (up lin : FVec Ideal S4x16x1024x1024 .f32) (b : Fin 4) (e : Fin 16) (r : Fin 1024) (f : Fin 1024) :
    hidden up lin (ix4 b e r f) = up (ix4 b e r f) * Ideal.logistic (up (ix4 b e r f)) * lin (ix4 b e r f) := by
  pointwise [hidden]
  rfl

/-- The result from its last step, an entry. -/
theorem weighted_at (back : FVec Ideal S4x16x1024x1024 .f32) (gate : FVec Ideal S4x16x1024 .f32) (b : Fin 4) (e : Fin 16) (r : Fin 1024) (d : Fin 1024) :
    weighted back gate (ix4 e b r d) = back (ix4 b e r d) * gate (ix3 b e r) := by
  pointwise [weighted]

/-- An entry of the reference's result. -/
theorem value (pos : IVec S4x16x8192 32) (aff : FVec Ideal S4x16x8192 .f32) (h : FVec Ideal S4x8192x1024 .bf16) (w1 w3 w2 : FVec Ideal S4x16x1024x1024 .f32)
    (b : Fin 4) (e : Fin 16) (r : Fin 1024) (d : Fin 1024) :
    result pos aff h w1 w3 w2 (ix4 e b r d)
      = ffn (fun k => ∑ n : Fin 8192, pick (IntOp.cmpi .eq (pos (ix3 b e n)) (BitVec.ofNat 32 r.val)) * h (ix3 b n k))
          (fun x y => w1 (ix4 0 e x y)) (fun x y => w3 (ix4 0 e x y)) (fun x y => w2 (ix4 0 e x y))
          (∑ n : Fin 8192, (if IntOp.cmpi .eq (pos (ix3 b e n)) (BitVec.ofNat 32 r.val) = 1#1 then aff (ix3 b e n) else 0)) d := by
  unfold result ffn
  rw [weighted_at, product_at, gates_at]
  simp only [hidden_at, product_at, gathered_at]

end Cert.Reference4Ideal.Experts
end
-- ==== Proof.Experts.Claim.lean ====
module

public import proofs.«01_k».proof.Defs
public import proofs.«01_k».proof.Proof.Experts.FinalI
public import proofs.«01_k».proof.Proof.Experts.FrameI
public import proofs.«01_k».proof.Proof.Experts.FrameB
public import proofs.«01_k».proof.Proof.Experts.Ref
public import proofs.«01_k».proof.Proof.Experts.Routed
public import proofs.«01_k».proof.Proof.Gen.Pre_routed
public import Idealize.ShloMosaic.Lib.Claim
public import Idealize.ShloMosaic.Lib.Quiescent
public import Idealize.ShloMosaic.Adequacy

@[expose] public section

set_option maxRecDepth 16384

noncomputable section

namespace Cert.ExpertsClaim

open Idealize.ShloMosaic Idealize.SL.Sem

instance : Cert.Kernel4.Facts := Cert.Kernel4.Gen.facts
instance : Cert.Kernel4Ideal.Facts := Cert.Kernel4Ideal.Gen.facts
instance : Cert.Reference4Ideal.Facts := Cert.Reference4Ideal.Gen.facts
instance : Cert.Pre_routed.Facts := Cert.Pre_routed.Gen.facts

/-- The experts' kernel runs and leaves its arguments and every counter as they were. -/
theorem kernelFrame : Cert.quiescent_Kernel4 := fun m g h =>
  Cert.Kernel4.Experts.frame m g (Cert.ExpertsRouted.good _ _ _ _ _ _ _ (h 0))

/-- So does its idealization. -/
theorem idealFrame : Cert.quiescent_Kernel4Ideal := fun m g h =>
  Cert.Kernel4Ideal.Experts.frame m g (Cert.ExpertsRouted.good _ _ _ _ _ _ _ (h 0))

/-- The plain experts run and leave their arguments and every counter as they were. -/
theorem referenceFrame : Cert.quiescent_Reference4Ideal := by
  intro m g _
  exact (θ_run _ _ _).mono (fun _ h => ⟨fun c => (h c).2, sem_eq_zero_of_no_sems (sig := Cert.Reference4Ideal.sig) (by decide) _⟩)
    (Cert.Reference4Ideal.Value.run m g)

open Cert.Kernel4Ideal in
/-- The kernel runs, its result is the experts' rows and its arguments are as they were. -/
theorem values (m : (ℓ : Loc nD τ sig) → Buf (Elt Ideal) ℓ) (g : Dev nD → PrngReg) (hg : Experts.GoodM m) :
    θ_run (defs (F := Ideal)) (onTc (τ := τ) (main (F := Ideal))) ⟨m, fun _ => 0, g⟩ (fun r => ∀ c : Dev nD,
      r.2.mem ((c.tc : Thread nD τ).loc main_v7) = Experts.targetM m c
      ∧ Experts.Kept m r.2.mem c) := by
  refine θ_run_mono (Experts.run_forget m g (Experts.Inv m) (Experts.outT m) false (Experts.words m hg) (fun _ _ _ _ _ _ => fun t h => by omega) (Experts.steps m hg)) ?_
  intro r hr c
  exact ⟨((((Experts.dats m (Experts.Inv m) (Experts.outT m) 0 c).toRForget_arrAt_iff (Experts.fgt_6 m false) _ _).1 ((hr.1 c).1 6))).trans (Experts.final m c),
    Experts.args_of m (Experts.Inv m) (Experts.outT m) false r hr.1 c⟩

/-- The plain experts compute the kernel's rows, entry by entry. -/
theorem result_target (pos : IVec Cert.Kernel4Ideal.S4x16x8192 32) (aff : FVec Ideal Cert.Kernel4Ideal.S4x16x8192 .f32) (h : FVec Ideal Cert.Kernel4Ideal.S4x8192x1024 .bf16)
    (w1 w3 w2 : FVec Ideal Cert.Kernel4Ideal.S4x16x1024x1024 .f32) :
    Cert.Reference4Ideal.Experts.result pos aff h w1 w3 w2 = Cert.Kernel4Ideal.Experts.target pos aff h w1 w3 w2 := by
  funext i
  idx_vars i
  exact Cert.Reference4Ideal.Experts.value pos aff h w1 w3 w2 i1 i0 i2 i3

open Cert.Reference4Ideal in
/-- The reference's result, from the kernel's arguments. -/
theorem reference_value (m : (ℓ : Loc Cert.Kernel4Ideal.nD Cert.Kernel4Ideal.τ Cert.Kernel4Ideal.sig) → Buf (Elt Ideal) ℓ)
    (m' : (ℓ : Loc nD τ sig) → Buf (Elt Ideal) ℓ) (c : Dev Cert.Kernel4Ideal.nD)
    (h0 : m' ((c.tc : Thread nD τ).loc main_arg0) = m ((c.tc : Thread Cert.Kernel4Ideal.nD Cert.Kernel4Ideal.τ).loc Cert.Kernel4Ideal.main_arg0))
    (h2 : m' ((c.tc : Thread nD τ).loc main_arg2) = m ((c.tc : Thread Cert.Kernel4Ideal.nD Cert.Kernel4Ideal.τ).loc Cert.Kernel4Ideal.main_arg2))
    (h3 : m' ((c.tc : Thread nD τ).loc main_arg3) = m ((c.tc : Thread Cert.Kernel4Ideal.nD Cert.Kernel4Ideal.τ).loc Cert.Kernel4Ideal.main_arg3))
    (h4 : m' ((c.tc : Thread nD τ).loc main_arg4) = m ((c.tc : Thread Cert.Kernel4Ideal.nD Cert.Kernel4Ideal.τ).loc Cert.Kernel4Ideal.main_arg4))
    (h5 : m' ((c.tc : Thread nD τ).loc main_arg5) = m ((c.tc : Thread Cert.Kernel4Ideal.nD Cert.Kernel4Ideal.τ).loc Cert.Kernel4Ideal.main_arg5))
    (h6 : m' ((c.tc : Thread nD τ).loc main_arg6) = m ((c.tc : Thread Cert.Kernel4Ideal.nD Cert.Kernel4Ideal.τ).loc Cert.Kernel4Ideal.main_arg6)) :
    Value.res_main_v37 m' c = Cert.Kernel4Ideal.Experts.targetM m c := by
  rw [Experts.res_eq, h0, h2, h3, h4, h5, h6]
  exact result_target _ _ _ _ _ _

/-- The experts' kernel and the plain experts, run from the same routed arguments, end with the same rows. -/
theorem algebraic : Cert.algebraic_Kernel4Ideal_Reference4Ideal := by
  intro m g m' g' hpre hagree
  refine ⟨_, values m g (Cert.ExpertsRouted.good _ _ _ _ _ _ _ (hpre 0)), ?_⟩
  refine θ_run_mono (Cert.Reference4Ideal.Value.run m' g') ?_
  intro r hr c
  obtain ⟨h0, h1, h2, h3, h4, h5, h6⟩ := hagree c
  exact ⟨(hr c).1.trans (reference_value m m' c h0 h2 h3 h4 h5 h6), (hr c).2⟩

end Cert.ExpertsClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame.Runs
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.Runs
public import proofs.«01_k».proof.Proof.Gen.Reference3Ideal.Run
public import proofs.«01_k».proof.Proof.Gen.Reference3Ideal
public import proofs.«01_k».proof.Proof.Gen.Pre_finite_scans
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal.Run
public import proofs.«01_k».proof.Proof.Gen.Reference4Ideal
public import proofs.«01_k».proof.Proof.Gen.Pre_routed
public import proofs.«01_k».proof.Proof.Attn.Claim
public import proofs.«01_k».proof.Proof.Proj.Claim
public import proofs.«01_k».proof.Proof.Merge.Claim
public import proofs.«01_k».proof.Proof.Merge.LaunchB
public import proofs.«01_k».proof.Proof.Experts.Claim
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The plain attention runs and leaves its arguments and every counter as they were. -/
theorem referenceFrame : Cert.quiescent_ReferenceIdeal := by
  intro m g _
  exact (θ_run _ _ _).mono (fun _ h => ⟨fun c => (h c).2, sem_eq_zero_of_no_sems (sig := Cert.ReferenceIdeal.sig) (by decide) _⟩)
    (Cert.ReferenceIdeal.Value.run m g)

/-- The plain projection runs and leaves its arguments and every counter as they were. -/
theorem reference2Frame : Cert.quiescent_Reference2Ideal := by
  intro m g _
  exact (θ_run _ _ _).mono (fun _ h => ⟨fun c => (h c).2, sem_eq_zero_of_no_sems (sig := Cert.Reference2Ideal.sig) (by decide) _⟩)
    (Cert.Reference2Ideal.Value.run m g)

/-- The plain merge runs and leaves its arguments and every counter as they were. -/
theorem reference3Frame : Cert.quiescent_Reference3Ideal := by
  intro m g _
  exact (θ_run _ _ _).mono (fun _ h => ⟨fun c => (h c).2.2.2, sem_eq_zero_of_no_sems (sig := Cert.Reference3Ideal.sig) (by decide) _⟩)
    (Cert.Reference3Ideal.Value.run m g)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.Pre_finite_scans.Gen.facts, Cert.Pre_routed.Gen.facts,
  fun m g _ => Cert.Kernel.Gen.frame m g,
  fun m g _ => Cert.KernelIdeal.Gen.frame m g,
  fun m g _ => Cert.KernelIdeal.Gen.frame m g,
  referenceFrame,
  fun m g _ => referenceFrame m g trivial,
  fun m g _ => Cert.Kernel2.Gen.frame m g,
  fun m g _ => Cert.Kernel2Ideal.Gen.frame m g,
  reference2Frame,
  fun m g _ => Cert.Kernel3.Merge.frame m g,
  fun m g _ => Cert.Kernel3Ideal.Merge.frame m g,
  fun m g _ => Cert.Kernel3Ideal.Merge.frame m g,
  reference3Frame,
  fun m g _ => reference3Frame m g trivial,
  Cert.ExpertsClaim.kernelFrame,
  Cert.ExpertsClaim.idealFrame,
  Cert.ExpertsClaim.referenceFrame,
  fun m g _ => Cert.ExpertsClaim.referenceFrame m g trivial,
  IdealRules.named_const.statement Cert.KernelIdeal.κ "scale_log2e" .f32 0x3E38AA3B#32 (((8 * (Real.log 2))⁻¹ : ℝ) : EReal) rfl,
  Cert.AttnClaim.algebraic,
  trivial,
  Cert.ProjClaim.algebraic,
  trivial,
  Cert.MergeClaim.algebraic,
  trivial,
  Cert.ExpertsClaim.algebraic⟩

end Cert.Proof

end
